-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_qk [hPre_finite_qk : Cert.Pre_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_qk [hPre_finite_qk : Cert.Pre_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_merge [hPre_finite_merge : Cert.Pre_finite_merge.Facts] (m : (ℓ : Loc Cert.MergeIdeal.nD Cert.MergeIdeal.τ Cert.MergeIdeal.sig) → Buf (Elt Ideal) ℓ) : Prop :=
  ∀ c : Dev Cert.MergeIdeal.nD,
    (Cert.Pre_finite_merge.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_merge [hPre_finite_merge : Cert.Pre_finite_merge.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_merge.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_prepared_inproj [hPre_prepared_inproj : Cert.Pre_prepared_inproj.Facts] (m : (ℓ : Loc Cert.InprojIdeal.nD Cert.InprojIdeal.τ Cert.InprojIdeal.sig) → Buf (Elt Ideal) ℓ) : Prop :=
  ∀ c : Dev Cert.InprojIdeal.nD,
    (Cert.Pre_prepared_inproj.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5)) (m ((c.tc : Thread Cert.InprojIdeal.nD Cert.InprojIdeal.τ).loc Cert.InprojIdeal.main_arg6)) (m ((c.tc : Thread Cert.InprojIdeal.nD Cert.InprojIdeal.τ).loc Cert.InprojIdeal.main_arg7))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_prepared_inproj [hPre_prepared_inproj : Cert.Pre_prepared_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_prepared_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5)) (m ((c.tc : Thread Cert.InprojRefIdeal.nD Cert.InprojRefIdeal.τ).loc Cert.InprojRefIdeal.main_arg6)) (m ((c.tc : Thread Cert.InprojRefIdeal.nD Cert.InprojRefIdeal.τ).loc Cert.InprojRefIdeal.main_arg7))) = (fun _ => 1#1)

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsRefIdeal (m : (ℓ : Loc Cert.WeightsRefIdeal.nD Cert.WeightsRefIdeal.τ Cert.WeightsRefIdeal.sig) → Buf (Elt Ideal) ℓ) : Prop :=
  True

def Pre_Fnet (m : (ℓ : Loc Cert.Fnet.nD Cert.Fnet.τ Cert.Fnet.sig) → Buf (Elt Bits) ℓ) : Prop :=
  True

def Pre_FnetIdeal (m : (ℓ : Loc Cert.FnetIdeal.nD Cert.FnetIdeal.τ Cert.FnetIdeal.sig) → Buf (Elt Ideal) ℓ) : Prop :=
  True

def Pre_FnetIdeal_finite_fnet [hPre_finite_fnet : Cert.Pre_finite_fnet.Facts] (m : (ℓ : Loc Cert.FnetIdeal.nD Cert.FnetIdeal.τ Cert.FnetIdeal.sig) → Buf (Elt Ideal) ℓ) : Prop :=
  ∀ c : Dev Cert.FnetIdeal.nD,
    (Cert.Pre_finite_fnet.fn (F := Ideal) (m ((c.tc : Thread Cert.FnetIdeal.nD Cert.FnetIdeal.τ).loc Cert.FnetIdeal.main_arg0)) (m ((c.tc : Thread Cert.FnetIdeal.nD Cert.FnetIdeal.τ).loc Cert.FnetIdeal.main_arg1)) (m ((c.tc : Thread Cert.FnetIdeal.nD Cert.FnetIdeal.τ).loc Cert.FnetIdeal.main_arg2)) (m ((c.tc : Thread Cert.FnetIdeal.nD Cert.FnetIdeal.τ).loc Cert.FnetIdeal.main_arg3))) = (fun _ => 1#1)

def Pre_FnetRefIdeal (m : (ℓ : Loc Cert.FnetRefIdeal.nD Cert.FnetRefIdeal.τ Cert.FnetRefIdeal.sig) → Buf (Elt Ideal) ℓ) : Prop :=
  True

def Pre_FnetRefIdeal_finite_fnet [hPre_finite_fnet : Cert.Pre_finite_fnet.Facts] (m : (ℓ : Loc Cert.FnetRefIdeal.nD Cert.FnetRefIdeal.τ Cert.FnetRefIdeal.sig) → Buf (Elt Ideal) ℓ) : Prop :=
  ∀ c : Dev Cert.FnetRefIdeal.nD,
    (Cert.Pre_finite_fnet.fn (F := Ideal) (m ((c.tc : Thread Cert.FnetRefIdeal.nD Cert.FnetRefIdeal.τ).loc Cert.FnetRefIdeal.main_arg0)) (m ((c.tc : Thread Cert.FnetRefIdeal.nD Cert.FnetRefIdeal.τ).loc Cert.FnetRefIdeal.main_arg1)) (m ((c.tc : Thread Cert.FnetRefIdeal.nD Cert.FnetRefIdeal.τ).loc Cert.FnetRefIdeal.main_arg2)) (m ((c.tc : Thread Cert.FnetRefIdeal.nD Cert.FnetRefIdeal.τ).loc Cert.FnetRefIdeal.main_arg3))) = (fun _ => 1#1)

def Pre_Table (m : (ℓ : Loc Cert.Table.nD Cert.Table.τ Cert.Table.sig) → Buf (Elt Bits) ℓ) : Prop :=
  True

def Pre_TableIdeal (m : (ℓ : Loc Cert.TableIdeal.nD Cert.TableIdeal.τ Cert.TableIdeal.sig) → Buf (Elt Ideal) ℓ) : Prop :=
  True

def Pre_TableRefIdeal (m : (ℓ : Loc Cert.TableRefIdeal.nD Cert.TableRefIdeal.τ Cert.TableRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_qk [hMlaIdeal : Cert.MlaIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_qk [hMlaRefIdeal : Cert.MlaRefIdeal.Facts] [hPre_finite_qk : Cert.Pre_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeIdeal_pre_finite_merge [hMergeIdeal : Cert.MergeIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_merge m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_MergeRefIdeal_pre_finite_merge [hMergeRefIdeal : Cert.MergeRefIdeal.Facts] [hPre_finite_merge : Cert.Pre_finite_merge.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_merge m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojIdeal_pre_prepared_inproj [hInprojIdeal : Cert.InprojIdeal.Facts] [hPre_prepared_inproj : Cert.Pre_prepared_inproj.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_prepared_inproj m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_InprojRefIdeal_pre_prepared_inproj [hInprojRefIdeal : Cert.InprojRefIdeal.Facts] [hPre_prepared_inproj : Cert.Pre_prepared_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_prepared_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ r.2.sem = fun _ => 0)

def quiescent_WeightsRefIdeal [hWeightsRefIdeal : Cert.WeightsRefIdeal.Facts] : Prop :=
  ∀ (m : (ℓ : Loc Cert.WeightsRefIdeal.nD Cert.WeightsRefIdeal.τ Cert.WeightsRefIdeal.sig) → Buf (Elt Ideal) ℓ) (g : Dev Cert.WeightsRefIdeal.nD → PrngReg), Pre_WeightsRefIdeal m →
    θ_run (Cert.WeightsRefIdeal.defs (F := Ideal)) (onTc (τ := Cert.WeightsRefIdeal.τ) (Cert.WeightsRefIdeal.main (F := Ideal))) ⟨m, fun _ => 0, g⟩ (fun r => (∀ c : Dev Cert.WeightsRefIdeal.nD,
      r.2.mem ((c.tc : Thread Cert.WeightsRefIdeal.nD Cert.WeightsRefIdeal.τ).loc Cert.WeightsRefIdeal.main_arg0) = m ((c.tc : Thread Cert.WeightsRefIdeal.nD Cert.WeightsRefIdeal.τ).loc Cert.WeightsRefIdeal.main_arg0))
      ∧ r.2.sem = fun _ => 0)

def quiescent_Fnet [hFnet : Cert.Fnet.Facts] : Prop :=
  ∀ (m : (ℓ : Loc Cert.Fnet.nD Cert.Fnet.τ Cert.Fnet.sig) → Buf (Elt Bits) ℓ) (g : Dev Cert.Fnet.nD → PrngReg), Pre_Fnet m →
    θ_run (Cert.Fnet.defs (F := Bits)) (onTc (τ := Cert.Fnet.τ) (Cert.Fnet.main (F := Bits))) ⟨m, fun _ => 0, g⟩ (fun r => (∀ c : Dev Cert.Fnet.nD,
      r.2.mem ((c.tc : Thread Cert.Fnet.nD Cert.Fnet.τ).loc Cert.Fnet.main_arg0) = m ((c.tc : Thread Cert.Fnet.nD Cert.Fnet.τ).loc Cert.Fnet.main_arg0)
      ∧ r.2.mem ((c.tc : Thread Cert.Fnet.nD Cert.Fnet.τ).loc Cert.Fnet.main_arg1) = m ((c.tc : Thread Cert.Fnet.nD Cert.Fnet.τ).loc Cert.Fnet.main_arg1)
      ∧ r.2.mem ((c.tc : Thread Cert.Fnet.nD Cert.Fnet.τ).loc Cert.Fnet.main_arg2) = m ((c.tc : Thread Cert.Fnet.nD Cert.Fnet.τ).loc Cert.Fnet.main_arg2)
      ∧ r.2.mem ((c.tc : Thread Cert.Fnet.nD Cert.Fnet.τ).loc Cert.Fnet.main_arg3) = m ((c.tc : Thread Cert.Fnet.nD Cert.Fnet.τ).loc Cert.Fnet.main_arg3))
      ∧ r.2.sem = fun _ => 0)

def quiescent_FnetIdeal [hFnetIdeal : Cert.FnetIdeal.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
      ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
      ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2)
      ∧ r.2.mem ((c.tc : Thread Cert.FnetIdeal.nD Cert.FnetIdeal.τ).loc Cert.FnetIdeal.main_arg3) = m ((c.tc : Thread Cert.FnetIdeal.nD Cert.FnetIdeal.τ).loc Cert.FnetIdeal.main_arg3))
      ∧ r.2.sem = fun _ => 0)

def quiescent_FnetIdeal_pre_finite_fnet [hFnetIdeal : Cert.FnetIdeal.Facts] [hPre_finite_fnet : Cert.Pre_finite_fnet.Facts] : Prop :=
  ∀ (m : (ℓ : Loc Cert.FnetIdeal.nD Cert.FnetIdeal.τ Cert.FnetIdeal.sig) → Buf (Elt Ideal) ℓ) (g : Dev Cert.FnetIdeal.nD → PrngReg), Pre_FnetIdeal_finite_fnet m →
    θ_run (Cert.FnetIdeal.defs (F := Ideal)) (onTc (τ := Cert.FnetIdeal.τ) (Cert.FnetIdeal.main (F := Ideal))) ⟨m, fun _ => 0, g⟩ (fun r => (∀ c : Dev Cert.FnetIdeal.nD,
      r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
      ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
      ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2)
      ∧ r.2.mem ((c.tc : Thread Cert.FnetIdeal.nD Cert.FnetIdeal.τ).loc Cert.FnetIdeal.main_arg3) = m ((c.tc : Thread Cert.FnetIdeal.nD Cert.FnetIdeal.τ).loc Cert.FnetIdeal.main_arg3))
      ∧ r.2.sem = fun _ => 0)

def quiescent_FnetRefIdeal [hFnetRefIdeal : Cert.FnetRefIdeal.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0)
      ∧ r.2.mem ((c.tc : Thread Cert.FnetRefIdeal.nD Cert.FnetRefIdeal.τ).loc Cert.FnetRefIdeal.main_arg1) = m ((c.tc : Thread Cert.FnetRefIdeal.nD Cert.FnetRefIdeal.τ).loc Cert.FnetRefIdeal.main_arg1)
      ∧ r.2.mem ((c.tc : Thread Cert.FnetRefIdeal.nD Cert.FnetRefIdeal.τ).loc Cert.FnetRefIdeal.main_arg2) = m ((c.tc : Thread Cert.FnetRefIdeal.nD Cert.FnetRefIdeal.τ).loc Cert.FnetRefIdeal.main_arg2)
      ∧ r.2.mem ((c.tc : Thread Cert.FnetRefIdeal.nD Cert.FnetRefIdeal.τ).loc Cert.FnetRefIdeal.main_arg3) = m ((c.tc : Thread Cert.FnetRefIdeal.nD Cert.FnetRefIdeal.τ).loc Cert.FnetRefIdeal.main_arg3))
      ∧ r.2.sem = fun _ => 0)

def quiescent_FnetRefIdeal_pre_finite_fnet [hFnetRefIdeal : Cert.FnetRefIdeal.Facts] [hPre_finite_fnet : Cert.Pre_finite_fnet.Facts] : Prop :=
  ∀ (m : (ℓ : Loc Cert.FnetRefIdeal.nD Cert.FnetRefIdeal.τ Cert.FnetRefIdeal.sig) → Buf (Elt Ideal) ℓ) (g : Dev Cert.FnetRefIdeal.nD → PrngReg), Pre_FnetRefIdeal_finite_fnet m →
    θ_run (Cert.FnetRefIdeal.defs (F := Ideal)) (onTc (τ := Cert.FnetRefIdeal.τ) (Cert.FnetRefIdeal.main (F := Ideal))) ⟨m, fun _ => 0, g⟩ (fun r => (∀ c : Dev Cert.FnetRefIdeal.nD,
      r.2.mem ((c.tc : Thread Cert.FnetRefIdeal.nD Cert.FnetRefIdeal.τ).loc Cert.FnetRefIdeal.main_arg0) = m ((c.tc : Thread Cert.FnetRefIdeal.nD Cert.FnetRefIdeal.τ).loc Cert.FnetRefIdeal.main_arg0)
      ∧ r.2.mem ((c.tc : Thread Cert.FnetRefIdeal.nD Cert.FnetRefIdeal.τ).loc Cert.FnetRefIdeal.main_arg1) = m ((c.tc : Thread Cert.FnetRefIdeal.nD Cert.FnetRefIdeal.τ).loc Cert.FnetRefIdeal.main_arg1)
      ∧ r.2.mem ((c.tc : Thread Cert.FnetRefIdeal.nD Cert.FnetRefIdeal.τ).loc Cert.FnetRefIdeal.main_arg2) = m ((c.tc : Thread Cert.FnetRefIdeal.nD Cert.FnetRefIdeal.τ).loc Cert.FnetRefIdeal.main_arg2)
      ∧ r.2.mem ((c.tc : Thread Cert.FnetRefIdeal.nD Cert.FnetRefIdeal.τ).loc Cert.FnetRefIdeal.main_arg3) = m ((c.tc : Thread Cert.FnetRefIdeal.nD Cert.FnetRefIdeal.τ).loc Cert.FnetRefIdeal.main_arg3))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      True)
      ∧ r.2.sem = fun _ => 0)

def quiescent_TableIdeal [hTableIdeal : Cert.TableIdeal.Facts] : Prop :=
  ∀ (m : (ℓ : Loc Cert.TableIdeal.nD Cert.TableIdeal.τ Cert.TableIdeal.sig) → Buf (Elt Ideal) ℓ) (g : Dev Cert.TableIdeal.nD → PrngReg), Pre_TableIdeal m →
    θ_run (Cert.TableIdeal.defs (F := Ideal)) (onTc (τ := Cert.TableIdeal.τ) (Cert.TableIdeal.main (F := Ideal))) ⟨m, fun _ => 0, g⟩ (fun r => (∀ c : Dev Cert.TableIdeal.nD,
      True)
      ∧ r.2.sem = fun _ => 0)

def quiescent_TableRefIdeal [hTableRefIdeal : Cert.TableRefIdeal.Facts] : Prop :=
  ∀ (m : (ℓ : Loc Cert.TableRefIdeal.nD Cert.TableRefIdeal.τ Cert.TableRefIdeal.sig) → Buf (Elt Ideal) ℓ) (g : Dev Cert.TableRefIdeal.nD → PrngReg), Pre_TableRefIdeal m →
    θ_run (Cert.TableRefIdeal.defs (F := Ideal)) (onTc (τ := Cert.TableRefIdeal.τ) (Cert.TableRefIdeal.main (F := Ideal))) ⟨m, fun _ => 0, g⟩ (fun r => (∀ c : Dev Cert.TableRefIdeal.nD,
      True)
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      True)
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      True)
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      True)
      ∧ r.2.sem = fun _ => 0)

def preserves_Mla_MlaIdeal : Prop :=
  True

def algebraic_MlaIdeal_MlaRefIdeal_pre_finite_qk [hMlaIdeal : Cert.MlaIdeal.Facts] [hMlaRefIdeal : Cert.MlaRefIdeal.Facts] [hPre_finite_qk : Cert.Pre_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v24) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Merge_MergeIdeal : Prop :=
  True

def algebraic_MergeIdeal_MergeRefIdeal_pre_finite_merge [hMergeIdeal : Cert.MergeIdeal.Facts] [hMergeRefIdeal : Cert.MergeRefIdeal.Facts] [hPre_finite_merge : Cert.Pre_finite_merge.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_merge m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v7_0)) (v1 : (c : Dev Cert.MergeIdeal.nD) → Buf (Elt Ideal) ((c.tc : Thread Cert.MergeIdeal.nD Cert.MergeIdeal.τ).loc Cert.MergeIdeal.main_v7_1)) (v2 : (c : Dev Cert.MergeIdeal.nD) → Buf (Elt Ideal) ((c.tc : Thread Cert.MergeIdeal.nD Cert.MergeIdeal.τ).loc Cert.MergeIdeal.main_v7_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7_0) = v0 c
          ∧ r.2.mem ((c.tc : Thread Cert.MergeIdeal.nD Cert.MergeIdeal.τ).loc Cert.MergeIdeal.main_v7_1) = v1 c
          ∧ r.2.mem ((c.tc : Thread Cert.MergeIdeal.nD Cert.MergeIdeal.τ).loc Cert.MergeIdeal.main_v7_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_v56) = v1 c
          ∧ r.2.mem ((c.tc : Thread Cert.MergeRefIdeal.nD Cert.MergeRefIdeal.τ).loc Cert.MergeRefIdeal.main_v57) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v16) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Inproj_InprojIdeal : Prop :=
  True

def algebraic_InprojIdeal_InprojRefIdeal_pre_prepared_inproj [hInprojIdeal : Cert.InprojIdeal.Facts] [hInprojRefIdeal : Cert.InprojRefIdeal.Facts] [hPre_prepared_inproj : Cert.Pre_prepared_inproj.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_prepared_inproj m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v79_0)) (v1 : (c : Dev Cert.InprojIdeal.nD) → Buf (Elt Ideal) ((c.tc : Thread Cert.InprojIdeal.nD Cert.InprojIdeal.τ).loc Cert.InprojIdeal.main_v79_1)) (v2 : (c : Dev Cert.InprojIdeal.nD) → Buf (Elt Ideal) ((c.tc : Thread Cert.InprojIdeal.nD Cert.InprojIdeal.τ).loc Cert.InprojIdeal.main_v79_2)) (v3 : (c : Dev Cert.InprojIdeal.nD) → Buf (Elt Ideal) ((c.tc : Thread Cert.InprojIdeal.nD Cert.InprojIdeal.τ).loc Cert.InprojIdeal.main_v79_3)) (v4 : (c : Dev Cert.InprojIdeal.nD) → Buf (Elt Ideal) ((c.tc : Thread Cert.InprojIdeal.nD Cert.InprojIdeal.τ).loc Cert.InprojIdeal.main_v79_4)) (v5 : (c : Dev Cert.InprojIdeal.nD) → Buf (Elt Ideal) ((c.tc : Thread Cert.InprojIdeal.nD Cert.InprojIdeal.τ).loc Cert.InprojIdeal.main_v79_5)) (v6 : (c : Dev Cert.InprojIdeal.nD) → Buf (Elt Ideal) ((c.tc : Thread Cert.InprojIdeal.nD Cert.InprojIdeal.τ).loc Cert.InprojIdeal.main_v79_6)) (v7 : (c : Dev Cert.InprojIdeal.nD) → Buf (Elt Ideal) ((c.tc : Thread Cert.InprojIdeal.nD Cert.InprojIdeal.τ).loc Cert.InprojIdeal.main_v79_7)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v79_0) = v0 c
          ∧ r.2.mem ((c.tc : Thread Cert.InprojIdeal.nD Cert.InprojIdeal.τ).loc Cert.InprojIdeal.main_v79_1) = v1 c
          ∧ r.2.mem ((c.tc : Thread Cert.InprojIdeal.nD Cert.InprojIdeal.τ).loc Cert.InprojIdeal.main_v79_2) = v2 c
          ∧ r.2.mem ((c.tc : Thread Cert.InprojIdeal.nD Cert.InprojIdeal.τ).loc Cert.InprojIdeal.main_v79_3) = v3 c
          ∧ r.2.mem ((c.tc : Thread Cert.InprojIdeal.nD Cert.InprojIdeal.τ).loc Cert.InprojIdeal.main_v79_4) = v4 c
          ∧ r.2.mem ((c.tc : Thread Cert.InprojIdeal.nD Cert.InprojIdeal.τ).loc Cert.InprojIdeal.main_v79_5) = v5 c
          ∧ r.2.mem ((c.tc : Thread Cert.InprojIdeal.nD Cert.InprojIdeal.τ).loc Cert.InprojIdeal.main_v79_6) = v6 c
          ∧ r.2.mem ((c.tc : Thread Cert.InprojIdeal.nD Cert.InprojIdeal.τ).loc Cert.InprojIdeal.main_v79_7) = v7 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v127) = v0 c
          ∧ r.2.mem ((c.tc : Thread Cert.InprojRefIdeal.nD Cert.InprojRefIdeal.τ).loc Cert.InprojRefIdeal.main_v128) = v1 c
          ∧ r.2.mem ((c.tc : Thread Cert.InprojRefIdeal.nD Cert.InprojRefIdeal.τ).loc Cert.InprojRefIdeal.main_v129) = v2 c
          ∧ r.2.mem ((c.tc : Thread Cert.InprojRefIdeal.nD Cert.InprojRefIdeal.τ).loc Cert.InprojRefIdeal.main_v130) = v3 c
          ∧ r.2.mem ((c.tc : Thread Cert.InprojRefIdeal.nD Cert.InprojRefIdeal.τ).loc Cert.InprojRefIdeal.main_v131) = v4 c
          ∧ r.2.mem ((c.tc : Thread Cert.InprojRefIdeal.nD Cert.InprojRefIdeal.τ).loc Cert.InprojRefIdeal.main_v132) = v5 c
          ∧ r.2.mem ((c.tc : Thread Cert.InprojRefIdeal.nD Cert.InprojRefIdeal.τ).loc Cert.InprojRefIdeal.main_v134) = v6 c
          ∧ r.2.mem ((c.tc : Thread Cert.InprojRefIdeal.nD Cert.InprojRefIdeal.τ).loc Cert.InprojRefIdeal.main_v136) = v7 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7))

def preserves_Weights_WeightsIdeal : Prop :=
  True

def algebraic_WeightsIdeal_WeightsRefIdeal [hWeightsIdeal : Cert.WeightsIdeal.Facts] [hWeightsRefIdeal : Cert.WeightsRefIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsRefIdeal.nD Cert.WeightsRefIdeal.τ Cert.WeightsRefIdeal.sig) → Buf (Elt Ideal) ℓ) (g' : Dev Cert.WeightsRefIdeal.nD → PrngReg), Pre_WeightsIdeal m →
    (∀ c : Dev Cert.WeightsIdeal.nD,
      m' ((c.tc : Thread Cert.WeightsRefIdeal.nD Cert.WeightsRefIdeal.τ).loc Cert.WeightsRefIdeal.main_arg0) = m ((c.tc : Thread Cert.WeightsIdeal.nD Cert.WeightsIdeal.τ).loc Cert.WeightsIdeal.main_arg0)) →
    ∃ (v0 : (c : Dev Cert.WeightsIdeal.nD) → Buf (Elt Ideal) ((c.tc : Thread Cert.WeightsIdeal.nD Cert.WeightsIdeal.τ).loc Cert.WeightsIdeal.main_v1_0)) (v1 : (c : Dev Cert.WeightsIdeal.nD) → Buf (Elt Ideal) ((c.tc : Thread Cert.WeightsIdeal.nD Cert.WeightsIdeal.τ).loc Cert.WeightsIdeal.main_v1_1)) (v2 : (c : Dev Cert.WeightsIdeal.nD) → Buf (Elt Ideal) ((c.tc : Thread Cert.WeightsIdeal.nD Cert.WeightsIdeal.τ).loc Cert.WeightsIdeal.main_v1_2)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v1_0) = v0 c
          ∧ r.2.mem ((c.tc : Thread Cert.WeightsIdeal.nD Cert.WeightsIdeal.τ).loc Cert.WeightsIdeal.main_v1_1) = v1 c
          ∧ r.2.mem ((c.tc : Thread Cert.WeightsIdeal.nD Cert.WeightsIdeal.τ).loc Cert.WeightsIdeal.main_v1_2) = v2 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0))
      ∧ θ_run (Cert.WeightsRefIdeal.defs (F := Ideal)) (onTc (τ := Cert.WeightsRefIdeal.τ) (Cert.WeightsRefIdeal.main (F := Ideal))) ⟨m', fun _ => 0, g'⟩ (fun r => ∀ c : Dev Cert.WeightsRefIdeal.nD,
          r.2.mem ((c.tc : Thread Cert.WeightsRefIdeal.nD Cert.WeightsRefIdeal.τ).loc Cert.WeightsRefIdeal.main_v10) = v0 c
          ∧ r.2.mem ((c.tc : Thread Cert.WeightsRefIdeal.nD Cert.WeightsRefIdeal.τ).loc Cert.WeightsRefIdeal.main_v12) = v1 c
          ∧ r.2.mem ((c.tc : Thread Cert.WeightsRefIdeal.nD Cert.WeightsRefIdeal.τ).loc Cert.WeightsRefIdeal.main_v14) = v2 c
          ∧ r.2.mem ((c.tc : Thread Cert.WeightsRefIdeal.nD Cert.WeightsRefIdeal.τ).loc Cert.WeightsRefIdeal.main_arg0) = m' ((c.tc : Thread Cert.WeightsRefIdeal.nD Cert.WeightsRefIdeal.τ).loc Cert.WeightsRefIdeal.main_arg0))

def preserves_Fnet_FnetIdeal : Prop :=
  True

def algebraic_FnetIdeal_FnetRefIdeal_pre_finite_fnet [hFnetIdeal : Cert.FnetIdeal.Facts] [hFnetRefIdeal : Cert.FnetRefIdeal.Facts] [hPre_finite_fnet : Cert.Pre_finite_fnet.Facts] : Prop :=
  ∀ (m : (ℓ : Loc Cert.FnetIdeal.nD Cert.FnetIdeal.τ Cert.FnetIdeal.sig) → Buf (Elt Ideal) ℓ) (g : Dev Cert.FnetIdeal.nD → PrngReg)
    (m' : (ℓ : Loc Cert.FnetRefIdeal.nD Cert.FnetRefIdeal.τ Cert.FnetRefIdeal.sig) → Buf (Elt Ideal) ℓ) (g' : Dev Cert.FnetRefIdeal.nD → PrngReg), Pre_FnetIdeal_finite_fnet m →
    (∀ c : Dev Cert.FnetIdeal.nD,
      m' ((c.tc : Thread Cert.FnetRefIdeal.nD Cert.FnetRefIdeal.τ).loc Cert.FnetRefIdeal.main_arg0) = m ((c.tc : Thread Cert.FnetIdeal.nD Cert.FnetIdeal.τ).loc Cert.FnetIdeal.main_arg0)
      ∧ m' ((c.tc : Thread Cert.FnetRefIdeal.nD Cert.FnetRefIdeal.τ).loc Cert.FnetRefIdeal.main_arg1) = m ((c.tc : Thread Cert.FnetIdeal.nD Cert.FnetIdeal.τ).loc Cert.FnetIdeal.main_arg1)
      ∧ m' ((c.tc : Thread Cert.FnetRefIdeal.nD Cert.FnetRefIdeal.τ).loc Cert.FnetRefIdeal.main_arg2) = m ((c.tc : Thread Cert.FnetIdeal.nD Cert.FnetIdeal.τ).loc Cert.FnetIdeal.main_arg2)
      ∧ m' ((c.tc : Thread Cert.FnetRefIdeal.nD Cert.FnetRefIdeal.τ).loc Cert.FnetRefIdeal.main_arg3) = m ((c.tc : Thread Cert.FnetIdeal.nD Cert.FnetIdeal.τ).loc Cert.FnetIdeal.main_arg3)) →
    ∃ (v0 : (c : Dev Cert.FnetIdeal.nD) → Buf (Elt Ideal) ((c.tc : Thread Cert.FnetIdeal.nD Cert.FnetIdeal.τ).loc Cert.FnetIdeal.main_v0)),
      θ_run (Cert.FnetIdeal.defs (F := Ideal)) (onTc (τ := Cert.FnetIdeal.τ) (Cert.FnetIdeal.main (F := Ideal))) ⟨m, fun _ => 0, g⟩ (fun r => ∀ c : Dev Cert.FnetIdeal.nD,
          r.2.mem ((c.tc : Thread Cert.FnetIdeal.nD Cert.FnetIdeal.τ).loc Cert.FnetIdeal.main_v0) = v0 c
          ∧ r.2.mem ((c.tc : Thread Cert.FnetIdeal.nD Cert.FnetIdeal.τ).loc Cert.FnetIdeal.main_arg0) = m ((c.tc : Thread Cert.FnetIdeal.nD Cert.FnetIdeal.τ).loc Cert.FnetIdeal.main_arg0)
          ∧ r.2.mem ((c.tc : Thread Cert.FnetIdeal.nD Cert.FnetIdeal.τ).loc Cert.FnetIdeal.main_arg1) = m ((c.tc : Thread Cert.FnetIdeal.nD Cert.FnetIdeal.τ).loc Cert.FnetIdeal.main_arg1)
          ∧ r.2.mem ((c.tc : Thread Cert.FnetIdeal.nD Cert.FnetIdeal.τ).loc Cert.FnetIdeal.main_arg2) = m ((c.tc : Thread Cert.FnetIdeal.nD Cert.FnetIdeal.τ).loc Cert.FnetIdeal.main_arg2)
          ∧ r.2.mem ((c.tc : Thread Cert.FnetIdeal.nD Cert.FnetIdeal.τ).loc Cert.FnetIdeal.main_arg3) = m ((c.tc : Thread Cert.FnetIdeal.nD Cert.FnetIdeal.τ).loc Cert.FnetIdeal.main_arg3))
      ∧ θ_run (Cert.FnetRefIdeal.defs (F := Ideal)) (onTc (τ := Cert.FnetRefIdeal.τ) (Cert.FnetRefIdeal.main (F := Ideal))) ⟨m', fun _ => 0, g'⟩ (fun r => ∀ c : Dev Cert.FnetRefIdeal.nD,
          r.2.mem ((c.tc : Thread Cert.FnetRefIdeal.nD Cert.FnetRefIdeal.τ).loc Cert.FnetRefIdeal.main_v30) = v0 c
          ∧ r.2.mem ((c.tc : Thread Cert.FnetRefIdeal.nD Cert.FnetRefIdeal.τ).loc Cert.FnetRefIdeal.main_arg0) = m' ((c.tc : Thread Cert.FnetRefIdeal.nD Cert.FnetRefIdeal.τ).loc Cert.FnetRefIdeal.main_arg0)
          ∧ r.2.mem ((c.tc : Thread Cert.FnetRefIdeal.nD Cert.FnetRefIdeal.τ).loc Cert.FnetRefIdeal.main_arg1) = m' ((c.tc : Thread Cert.FnetRefIdeal.nD Cert.FnetRefIdeal.τ).loc Cert.FnetRefIdeal.main_arg1)
          ∧ r.2.mem ((c.tc : Thread Cert.FnetRefIdeal.nD Cert.FnetRefIdeal.τ).loc Cert.FnetRefIdeal.main_arg2) = m' ((c.tc : Thread Cert.FnetRefIdeal.nD Cert.FnetRefIdeal.τ).loc Cert.FnetRefIdeal.main_arg2)
          ∧ r.2.mem ((c.tc : Thread Cert.FnetRefIdeal.nD Cert.FnetRefIdeal.τ).loc Cert.FnetRefIdeal.main_arg3) = m' ((c.tc : Thread Cert.FnetRefIdeal.nD Cert.FnetRefIdeal.τ).loc Cert.FnetRefIdeal.main_arg3))

def preserves_Table_TableIdeal : Prop :=
  True

def algebraic_TableIdeal_TableRefIdeal [hTableIdeal : Cert.TableIdeal.Facts] [hTableRefIdeal : Cert.TableRefIdeal.Facts] : Prop :=
  ∀ (m : (ℓ : Loc Cert.TableIdeal.nD Cert.TableIdeal.τ Cert.TableIdeal.sig) → Buf (Elt Ideal) ℓ) (g : Dev Cert.TableIdeal.nD → PrngReg)
    (m' : (ℓ : Loc Cert.TableRefIdeal.nD Cert.TableRefIdeal.τ Cert.TableRefIdeal.sig) → Buf (Elt Ideal) ℓ) (g' : Dev Cert.TableRefIdeal.nD → PrngReg), Pre_TableIdeal m →
    (∀ c : Dev Cert.TableIdeal.nD,
      True) →
    ∃ (v0 : (c : Dev Cert.TableIdeal.nD) → Buf (Elt Ideal) ((c.tc : Thread Cert.TableIdeal.nD Cert.TableIdeal.τ).loc Cert.TableIdeal.main_v70)),
      θ_run (Cert.TableIdeal.defs (F := Ideal)) (onTc (τ := Cert.TableIdeal.τ) (Cert.TableIdeal.main (F := Ideal))) ⟨m, fun _ => 0, g⟩ (fun r => ∀ c : Dev Cert.TableIdeal.nD,
          r.2.mem ((c.tc : Thread Cert.TableIdeal.nD Cert.TableIdeal.τ).loc Cert.TableIdeal.main_v70) = v0 c)
      ∧ θ_run (Cert.TableRefIdeal.defs (F := Ideal)) (onTc (τ := Cert.TableRefIdeal.τ) (Cert.TableRefIdeal.main (F := Ideal))) ⟨m', fun _ => 0, g'⟩ (fun r => ∀ c : Dev Cert.TableRefIdeal.nD,
          r.2.mem ((c.tc : Thread Cert.TableRefIdeal.nD Cert.TableRefIdeal.τ).loc Cert.TableRefIdeal.main_v42) = v0 c)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      True) →
    ∃ (v0 : (c : Dev Cert.ConvIdeal.nD) → Buf (Elt Ideal) ((c.tc : Thread Cert.ConvIdeal.nD Cert.ConvIdeal.τ).loc Cert.ConvIdeal.main_v70)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v70) = v0 c)
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v32) = v0 c)

def Claim : Prop :=
  ∃ (hMla : Cert.Mla.Facts) (hMlaIdeal : Cert.MlaIdeal.Facts) (hMlaRefIdeal : Cert.MlaRefIdeal.Facts) (hMerge : Cert.Merge.Facts) (hMergeIdeal : Cert.MergeIdeal.Facts) (hMergeRefIdeal : Cert.MergeRefIdeal.Facts) (hExperts : Cert.Experts.Facts) (hExpertsIdeal : Cert.ExpertsIdeal.Facts) (hExpertsRefIdeal : Cert.ExpertsRefIdeal.Facts) (hInproj : Cert.Inproj.Facts) (hInprojIdeal : Cert.InprojIdeal.Facts) (hInprojRefIdeal : Cert.InprojRefIdeal.Facts) (hWeights : Cert.Weights.Facts) (hWeightsIdeal : Cert.WeightsIdeal.Facts) (hWeightsRefIdeal : Cert.WeightsRefIdeal.Facts) (hFnet : Cert.Fnet.Facts) (hFnetIdeal : Cert.FnetIdeal.Facts) (hFnetRefIdeal : Cert.FnetRefIdeal.Facts) (hTable : Cert.Table.Facts) (hTableIdeal : Cert.TableIdeal.Facts) (hTableRefIdeal : Cert.TableRefIdeal.Facts) (hConv : Cert.Conv.Facts) (hConvIdeal : Cert.ConvIdeal.Facts) (hConvRefIdeal : Cert.ConvRefIdeal.Facts) (hPre_finite_qk : Cert.Pre_finite_qk.Facts) (hPre_finite_merge : Cert.Pre_finite_merge.Facts) (hPre_prepared_inproj : Cert.Pre_prepared_inproj.Facts) (hPre_finite_fnet : Cert.Pre_finite_fnet.Facts),
    quiescent_Mla (hMla := hMla)
    ∧ quiescent_MlaIdeal (hMlaIdeal := hMlaIdeal)
    ∧ quiescent_MlaIdeal_pre_finite_qk (hMlaIdeal := hMlaIdeal) (hPre_finite_qk := hPre_finite_qk)
    ∧ quiescent_MlaRefIdeal (hMlaRefIdeal := hMlaRefIdeal)
    ∧ quiescent_MlaRefIdeal_pre_finite_qk (hMlaRefIdeal := hMlaRefIdeal) (hPre_finite_qk := hPre_finite_qk)
    ∧ quiescent_Merge (hMerge := hMerge)
    ∧ quiescent_MergeIdeal (hMergeIdeal := hMergeIdeal)
    ∧ quiescent_MergeIdeal_pre_finite_merge (hMergeIdeal := hMergeIdeal) (hPre_finite_merge := hPre_finite_merge)
    ∧ quiescent_MergeRefIdeal (hMergeRefIdeal := hMergeRefIdeal)
    ∧ quiescent_MergeRefIdeal_pre_finite_merge (hMergeRefIdeal := hMergeRefIdeal) (hPre_finite_merge := hPre_finite_merge)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Inproj (hInproj := hInproj)
    ∧ quiescent_InprojIdeal (hInprojIdeal := hInprojIdeal)
    ∧ quiescent_InprojIdeal_pre_prepared_inproj (hInprojIdeal := hInprojIdeal) (hPre_prepared_inproj := hPre_prepared_inproj)
    ∧ quiescent_InprojRefIdeal (hInprojRefIdeal := hInprojRefIdeal)
    ∧ quiescent_InprojRefIdeal_pre_prepared_inproj (hInprojRefIdeal := hInprojRefIdeal) (hPre_prepared_inproj := hPre_prepared_inproj)
    ∧ quiescent_Weights (hWeights := hWeights)
    ∧ quiescent_WeightsIdeal (hWeightsIdeal := hWeightsIdeal)
    ∧ quiescent_WeightsRefIdeal (hWeightsRefIdeal := hWeightsRefIdeal)
    ∧ quiescent_Fnet (hFnet := hFnet)
    ∧ quiescent_FnetIdeal (hFnetIdeal := hFnetIdeal)
    ∧ quiescent_FnetIdeal_pre_finite_fnet (hFnetIdeal := hFnetIdeal) (hPre_finite_fnet := hPre_finite_fnet)
    ∧ quiescent_FnetRefIdeal (hFnetRefIdeal := hFnetRefIdeal)
    ∧ quiescent_FnetRefIdeal_pre_finite_fnet (hFnetRefIdeal := hFnetRefIdeal) (hPre_finite_fnet := hPre_finite_fnet)
    ∧ quiescent_Table (hTable := hTable)
    ∧ quiescent_TableIdeal (hTableIdeal := hTableIdeal)
    ∧ quiescent_TableRefIdeal (hTableRefIdeal := hTableRefIdeal)
    ∧ quiescent_Conv (hConv := hConv)
    ∧ quiescent_ConvIdeal (hConvIdeal := hConvIdeal)
    ∧ quiescent_ConvRefIdeal (hConvRefIdeal := hConvRefIdeal)
    ∧ preserves_Mla_MlaIdeal
    ∧ algebraic_MlaIdeal_MlaRefIdeal_pre_finite_qk (hMlaIdeal := hMlaIdeal) (hMlaRefIdeal := hMlaRefIdeal) (hPre_finite_qk := hPre_finite_qk)
    ∧ preserves_Merge_MergeIdeal
    ∧ algebraic_MergeIdeal_MergeRefIdeal_pre_finite_merge (hMergeIdeal := hMergeIdeal) (hMergeRefIdeal := hMergeRefIdeal) (hPre_finite_merge := hPre_finite_merge)
    ∧ preserves_Experts_ExpertsIdeal
    ∧ algebraic_ExpertsIdeal_ExpertsRefIdeal (hExpertsIdeal := hExpertsIdeal) (hExpertsRefIdeal := hExpertsRefIdeal)
    ∧ preserves_Inproj_InprojIdeal
    ∧ algebraic_InprojIdeal_InprojRefIdeal_pre_prepared_inproj (hInprojIdeal := hInprojIdeal) (hInprojRefIdeal := hInprojRefIdeal) (hPre_prepared_inproj := hPre_prepared_inproj)
    ∧ preserves_Weights_WeightsIdeal
    ∧ algebraic_WeightsIdeal_WeightsRefIdeal (hWeightsIdeal := hWeightsIdeal) (hWeightsRefIdeal := hWeightsRefIdeal)
    ∧ preserves_Fnet_FnetIdeal
    ∧ algebraic_FnetIdeal_FnetRefIdeal_pre_finite_fnet (hFnetIdeal := hFnetIdeal) (hFnetRefIdeal := hFnetRefIdeal) (hPre_finite_fnet := hPre_finite_fnet)
    ∧ preserves_Table_TableIdeal
    ∧ algebraic_TableIdeal_TableRefIdeal (hTableIdeal := hTableIdeal) (hTableRefIdeal := hTableRefIdeal)
    ∧ preserves_Conv_ConvIdeal
    ∧ algebraic_ConvIdeal_ConvRefIdeal (hConvIdeal := hConvIdeal) (hConvRefIdeal := hConvRefIdeal)
-- ==== Pre_finite_fnet.lean ====
abbrev S16384x256 : Shape := ⟨2, ![16384, 256]⟩
abbrev S1024x4096 : Shape := ⟨2, ![1024, 4096]⟩
abbrev S256x256 : Shape := ⟨2, ![256, 256]⟩
abbrev S_ : Shape := ⟨0, ![]⟩
abbrev S1 : Shape := ⟨1, ![1]⟩
abbrev S4 : Shape := ⟨1, ![4]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  concatenates_S1_S1_S1_S1_S4_d0 : Shape.Concatenates [S1, S1, S1, S1] S4 0

variable [Facts]

def fn_part1 {F : FTy → Type} [FloatOps F] (main_arg2 : FVec F S256x256 .bf16) (main_arg3 : FVec F S256x256 .bf16) (main_v5 : IVec S_ 1) (main_v13 : IVec S_ 1) (main_v16 : IVec S256x256 1) : IVec S4 1 :=
  let main_v17 : FVec F S256x256 .f32 := (extf .f32 · bitsLt_bf16_f32) main_arg2
  let main_cst_5 : FVec F S_ .f32 := constant S_ .f32 0xFF800000#32
  let main_v18 : FVec F S256x256 .f32 := broadcastInDim S256x256 ![] bcast_S_S256x256 main_cst_5
  let main_v19 : IVec S256x256 1 := cmpf .ogt main_v17 main_v18
  let main_v20 : IVec S256x256 1 := andi main_v16 main_v19
  let main_c_6 : IVec S_ 1 := constantI S_ 1 1#1
  let main_v21 : IVec S_ 1 := (fun x v => Host.reduce IntOp.andi x v reducesTo_S256x256_S_d0_1 h_S_) main_v20 main_c_6
  let main_v22 : FVec F S256x256 .f32 := (extf .f32 · bitsLt_bf16_f32) main_arg3
  let main_cst_7 : FVec F S_ .f32 := constant S_ .f32 0x7F800000#32
  let main_v23 : FVec F S256x256 .f32 := broadcastInDim S256x256 ![] bcast_S_S256x256 main_cst_7
  let main_v24 : IVec S256x256 1 := cmpf .olt main_v22 main_v23
  let main_v25 : FVec F S256x256 .f32 := (extf .f32 · bitsLt_bf16_f32) main_arg3
  let main_cst_8 : FVec F S_ .f32 := constant S_ .f32 0xFF800000#32
  let main_v26 : FVec F S256x256 .f32 := broadcastInDim S256x256 ![] bcast_S_S256x256 main_cst_8
  let main_v27 : IVec S256x256 1 := cmpf .ogt main_v25 main_v26
  let main_v28 : IVec S256x256 1 := andi main_v24 main_v27
  let main_c_9 : IVec S_ 1 := constantI S_ 1 1#1
  let main_v29 : IVec S_ 1 := (fun x v => Host.reduce IntOp.andi x v reducesTo_S256x256_S_d0_1 h_S_) main_v28 main_c_9
  let main_v30 : IVec S1 1 := broadcastInDim S1 ![] bcast_S_S1 main_v5
  let main_v31 : IVec S1 1 := broadcastInDim S1 ![] bcast_S_S1 main_v13
  let main_v32 : IVec S1 1 := broadcastInDim S1 ![] bcast_S_S1 main_v21
  let main_v33 : IVec S1 1 := broadcastInDim S1 ![] bcast_S_S1 main_v29
  let main_v34 : IVec S4 1 := concatenate S4 0 [⟨S1, main_v30⟩, ⟨S1, main_v31⟩, ⟨S1, main_v32⟩, ⟨S1, main_v33⟩] concatenates_S1_S1_S1_S1_S4_d0
  main_v34

def fn {F : FTy → Type} [FloatOps F] (main_arg0 : FVec F S16384x256 .f32) (main_arg1 : FVec F S1024x4096 .bf16) (main_arg2 : FVec F S256x256 .bf16) (main_arg3 : FVec F S256x256 .bf16) : IVec S4 1 :=
  let main_cst : FVec F S_ .f32 := constant S_ .f32 0x7F800000#32
  let main_v0 : FVec F S16384x256 .f32 := broadcastInDim S16384x256 ![] bcast_S_S16384x256 main_cst
  let main_v1 : IVec S16384x256 1 := cmpf .olt main_arg0 main_v0
  let main_cst_0 : FVec F S_ .f32 := constant S_ .f32 0xFF800000#32
  let main_v2 : FVec F S16384x256 .f32 := broadcastInDim S16384x256 ![] bcast_S_S16384x256 main_cst_0
  let main_v3 : IVec S16384x256 1 := cmpf .ogt main_arg0 main_v2
  let main_v4 : IVec S16384x256 1 := andi main_v1 main_v3
  let main_c : IVec S_ 1 := constantI S_ 1 1#1
  let main_v5 : IVec S_ 1 := (fun x v => Host.reduce IntOp.andi x v reducesTo_S16384x256_S_d0_1 h_S_) main_v4 main_c
  let main_v6 : FVec F S1024x4096 .f32 := (extf .f32 · bitsLt_bf16_f32) main_arg1
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S1024x4096 .f32 := (extf .f32 · bitsLt_bf16_f32) main_arg1
  let main_cst_2 : FVec F S_ .f32 := constant S_ .f32 0xFF800000#32
  let main_v10 : FVec F S1024x4096 .f32 := broadcastInDim S1024x4096 ![] bcast_S_S1024x4096 main_cst_2
  let main_v11 : IVec S1024x4096 1 := cmpf .ogt main_v9 main_v10
  let main_v12 : IVec S1024x4096 1 := andi main_v8 main_v11
  let main_c_3 : IVec S_ 1 := constantI S_ 1 1#1
  let main_v13 : IVec S_ 1 := (fun x v => Host.reduce IntOp.andi x v reducesTo_S1024x4096_S_d0_1 h_S_) main_v12 main_c_3
  let main_v14 : FVec F S256x256 .f32 := (extf .f32 · bitsLt_bf16_f32) main_arg2
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg3 main_v5 main_v13 main_v16
-- ==== Pre_finite_merge.lean ====
abbrev S16384x1024 : Shape := ⟨2, ![16384, 1024]⟩
abbrev S1024 : Shape := ⟨1, ![1024]⟩
abbrev S16384x256 : Shape := ⟨2, ![16384, 256]⟩
abbrev S4096x1024 : Shape := ⟨2, ![4096, 1024]⟩
abbrev S4096 : Shape := ⟨1, ![4096]⟩
abbrev S4x256x1024 : Shape := ⟨3, ![4, 256, 1024]⟩
abbrev S1024x1024 : Shape := ⟨2, ![1024, 1024]⟩
abbrev S1024x16 : Shape := ⟨2, ![1024, 16]⟩
abbrev S_ : Shape := ⟨0, ![]⟩
abbrev S1 : Shape := ⟨1, ![1]⟩
abbrev S12 : Shape := ⟨1, ![12]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x16 : S_.BroadcastsInDim S1024x16 (![] : Fin 0 → Fin S1024x16.rank)
  reducesTo_S1024x16_S_d0_1 : S1024x16.ReducesTo [0, 1] S_
  bcast_S_S1 : S_.BroadcastsInDim S1 (![] : Fin 0 → Fin S1.rank)
  concatenates_S1_S1_S1_S1_S1_S1_S1_S1_S1_S1_S1_S1_S12_d0 : Shape.Concatenates [S1, S1, S1, S1, S1, S1, S1, S1, S1, S1, S1, S1] S12 0

variable [Facts]

def fn_part5 {F : FTy → Type} [FloatOps F] (main_v19 : IVec S_ 1) (main_v27 : IVec S_ 1) (main_v35 : IVec S_ 1) (main_v43 : IVec S_ 1) (main_v51 : IVec S_ 1) (main_v57 : IVec S_ 1) (main_v63 : IVec S_ 1) (main_v69 : IVec S_ 1) (main_v75 : IVec S_ 1) (main_v81 : IVec S_ 1) (main_v82 : IVec S1 1) (main_v83 : IVec S1 1) : IVec S12 1 :=
  let main_v84 : IVec S1 1 := broadcastInDim S1 ![] bcast_S_S1 main_v19
  let main_v85 : IVec S1 1 := broadcastInDim S1 ![] bcast_S_S1 main_v27
  let main_v86 : IVec S1 1 := broadcastInDim S1 ![] bcast_S_S1 main_v35
  let main_v87 : IVec S1 1 := broadcastInDim S1 ![] bcast_S_S1 main_v43
  let main_v88 : IVec S1 1 := broadcastInDim S1 ![] bcast_S_S1 main_v51
  let main_v89 : IVec S1 1 := broadcastInDim S1 ![] bcast_S_S1 main_v57
  let main_v90 : IVec S1 1 := broadcastInDim S1 ![] bcast_S_S1 main_v63
  let main_v91 : IVec S1 1 := broadcastInDim S1 ![] bcast_S_S1 main_v69
  let main_v92 : IVec S1 1 := broadcastInDim S1 ![] bcast_S_S1 main_v75
  let main_v93 : IVec S1 1 := broadcastInDim S1 ![] bcast_S_S1 main_v81
  let main_v94 : IVec S12 1 := concatenate S12 0 [⟨S1, main_v82⟩, ⟨S1, main_v83⟩, ⟨S1, main_v84⟩, ⟨S1, main_v85⟩, ⟨S1, main_v86⟩, ⟨S1, main_v87⟩, ⟨S1, main_v88⟩, ⟨S1, main_v89⟩, ⟨S1, main_v90⟩, ⟨S1, main_v91⟩, ⟨S1, main_v92⟩, ⟨S1, main_v93⟩] concatenates_S1_S1_S1_S1_S1_S1_S1_S1_S1_S1_S1_S1_S12_d0
  main_v94

def fn_part4 {F : FTy → Type} [FloatOps F] (main_arg9 : FVec F S1024x1024 .f32) (main_arg10 : FVec F S1024 .f32) (main_arg11 : FVec F S1024x16 .f32) (main_v5 : IVec S_ 1) (main_v11 : IVec S_ 1) (main_v19 : IVec S_ 1) (main_v27 : IVec S_ 1) (main_v35 : IVec S_ 1) (main_v43 : IVec S_ 1) (main_v51 : IVec S_ 1) (main_v57 : IVec S_ 1) (main_v63 : IVec S_ 1) (main_v65 : IVec S1024x1024 1) (main_v66 : FVec F S1024x1024 .f32) : IVec S12 1 :=
  let main_v67 : IVec S1024x1024 1 := cmpf .ogt main_arg9 main_v66
  let main_v68 : IVec S1024x1024 1 := andi main_v65 main_v67
  let main_c_27 : IVec S_ 1 := constantI S_ 1 1#1
  let main_v69 : IVec S_ 1 := (fun x v => Host.reduce IntOp.andi x v reducesTo_S1024x1024_S_d0_1 h_S_) main_v68 main_c_27
  let main_cst_28 : FVec F S_ .f32 := constant S_ .f32 0x7F800000#32
  let main_v70 : FVec F S1024 .f32 := broadcastInDim S1024 ![] bcast_S_S1024 main_cst_28
  let main_v71 : IVec S1024 1 := cmpf .olt main_arg10 main_v70
  let main_cst_29 : FVec F S_ .f32 := constant S_ .f32 0xFF800000#32
  let main_v72 : FVec F S1024 .f32 := broadcastInDim S1024 ![] bcast_S_S1024 main_cst_29
  let main_v73 : IVec S1024 1 := cmpf .ogt main_arg10 main_v72
  let main_v74 : IVec S1024 1 := andi main_v71 main_v73
  let main_c_30 : IVec S_ 1 := constantI S_ 1 1#1
  let main_v75 : IVec S_ 1 := (fun x v => Host.reduce IntOp.andi x v reducesTo_S1024_S_d0 h_S_) main_v74 main_c_30
  let main_cst_31 : FVec F S_ .f32 := constant S_ .f32 0x7F800000#32
  let main_v76 : FVec F S1024x16 .f32 := broadcastInDim S1024x16 ![] bcast_S_S1024x16 main_cst_31
  let main_v77 : IVec S1024x16 1 := cmpf .olt main_arg11 main_v76
  let main_cst_32 : FVec F S_ .f32 := constant S_ .f32 0xFF800000#32
  let main_v78 : FVec F S1024x16 .f32 := broadcastInDim S1024x16 ![] bcast_S_S1024x16 main_cst_32
  let main_v79 : IVec S1024x16 1 := cmpf .ogt main_arg11 main_v78
  let main_v80 : IVec S1024x16 1 := andi main_v77 main_v79
  let main_c_33 : IVec S_ 1 := constantI S_ 1 1#1
  let main_v81 : IVec S_ 1 := (fun x v => Host.reduce IntOp.andi x v reducesTo_S1024x16_S_d0_1 h_S_) main_v80 main_c_33
  let main_v82 : IVec S1 1 := broadcastInDim S1 ![] bcast_S_S1 main_v5
  let main_v83 : IVec S1 1 := broadcastInDim S1 ![] bcast_S_S1 main_v11
  fn_part5 (F := F) main_v19 main_v27 main_v35 main_v43 main_v51 main_v57 main_v63 main_v69 main_v75 main_v81 main_v82 main_v83

def fn_part3 {F : FTy → Type} [FloatOps F] (main_arg7 : FVec F S4096 .f32) (main_arg8 : FVec F S4x256x1024 .f32) (main_arg9 : FVec F S1024x1024 .f32) (main_arg10 : FVec F S1024 .f32) (main_arg11 : FVec F S1024x16 .f32) (main_v5 : IVec S_ 1) (main_v11 : IVec S_ 1) (main_v19 : IVec S_ 1) (main_v27 : IVec S_ 1) (main_v35 : IVec S_ 1) (main_v43 : IVec S_ 1) (main_v50 : IVec S4096x1024 1) (main_c_18 : IVec S_ 1) : IVec S12 1 :=
  let main_v51 : IVec S_ 1 := (fun x v => Host.reduce IntOp.andi x v reducesTo_S4096x1024_S_d0_1 h_S_) main_v50 main_c_18
  let main_cst_19 : FVec F S_ .f32 := constant S_ .f32 0x7F800000#32
  let main_v52 : FVec F S4096 .f32 := broadcastInDim S4096 ![] bcast_S_S4096 main_cst_19
  let main_v53 : IVec S4096 1 := cmpf .olt main_arg7 main_v52
  let main_cst_20 : FVec F S_ .f32 := constant S_ .f32 0xFF800000#32
  let main_v54 : FVec F S4096 .f32 := broadcastInDim S4096 ![] bcast_S_S4096 main_cst_20
  let main_v55 : IVec S4096 1 := cmpf .ogt main_arg7 main_v54
  let main_v56 : IVec S4096 1 := andi main_v53 main_v55
  let main_c_21 : IVec S_ 1 := constantI S_ 1 1#1
  let main_v57 : IVec S_ 1 := (fun x v => Host.reduce IntOp.andi x v reducesTo_S4096_S_d0 h_S_) main_v56 main_c_21
  let main_cst_22 : FVec F S_ .f32 := constant S_ .f32 0x7F800000#32
  let main_v58 : FVec F S4x256x1024 .f32 := broadcastInDim S4x256x1024 ![] bcast_S_S4x256x1024 main_cst_22
  let main_v59 : IVec S4x256x1024 1 := cmpf .olt main_arg8 main_v58
  let main_cst_23 : FVec F S_ .f32 := constant S_ .f32 0xFF800000#32
  let main_v60 : FVec F S4x256x1024 .f32 := broadcastInDim S4x256x1024 ![] bcast_S_S4x256x1024 main_cst_23
  let main_v61 : IVec S4x256x1024 1 := cmpf .ogt main_arg8 main_v60
  let main_v62 : IVec S4x256x1024 1 := andi main_v59 main_v61
  let main_c_24 : IVec S_ 1 := constantI S_ 1 1#1
  let main_v63 : IVec S_ 1 := (fun x v => Host.reduce IntOp.andi x v reducesTo_S4x256x1024_S_d0_1_2 h_S_) main_v62 main_c_24
  let main_cst_25 : FVec F S_ .f32 := constant S_ .f32 0x7F800000#32
  let main_v64 : FVec F S1024x1024 .f32 := broadcastInDim S1024x1024 ![] bcast_S_S1024x1024 main_cst_25
  let main_v65 : IVec S1024x1024 1 := cmpf .olt main_arg9 main_v64
  let main_cst_26 : FVec F S_ .f32 := constant S_ .f32 0xFF800000#32
  let main_v66 : FVec F S1024x1024 .f32 := broadcastInDim S1024x1024 ![] bcast_S_S1024x1024 main_cst_26
  fn_part4 (F := F) main_arg9 main_arg10 main_arg11 main_v5 main_v11 main_v19 main_v27 main_v35 main_v43 main_v51 main_v57 main_v63 main_v65 main_v66

def fn_part2 {F : FTy → Type} [FloatOps F] (main_arg5 : FVec F S16384x256 .bf16) (main_arg6 : FVec F S4096x1024 .bf16) (main_arg7 : FVec F S4096 .f32) (main_arg8 : FVec F S4x256x1024 .f32) (main_arg9 : FVec F S1024x1024 .f32) (main_arg10 : FVec F S1024 .f32) (main_arg11 : FVec F S1024x16 .f32) (main_v5 : IVec S_ 1) (main_v11 : IVec S_ 1) (main_v19 : IVec S_ 1) (main_v27 : IVec S_ 1) (main_v30 : IVec S16384x256 1) (main_v33 : IVec S16384x256 1) : IVec S12 1 :=
  let main_v34 : IVec S16384x256 1 := andi main_v30 main_v33
  let main_c_12 : IVec S_ 1 := constantI S_ 1 1#1
  let main_v35 : IVec S_ 1 := (fun x v => Host.reduce IntOp.andi x v reducesTo_S16384x256_S_d0_1 h_S_) main_v34 main_c_12
  let main_v36 : FVec F S16384x256 .f32 := (extf .f32 · bitsLt_bf16_f32) main_arg5
  let main_cst_13 : FVec F S_ .f32 := constant S_ .f32 0x7F800000#32
  let main_v37 : FVec F S16384x256 .f32 := broadcastInDim S16384x256 ![] bcast_S_S16384x256 main_cst_13
  let main_v38 : IVec S16384x256 1 := cmpf .olt main_v36 main_v37
  let main_v39 : FVec F S16384x256 .f32 := (extf .f32 · bitsLt_bf16_f32) main_arg5
  let main_cst_14 : FVec F S_ .f32 := constant S_ .f32 0xFF800000#32
  let main_v40 : FVec F S16384x256 .f32 := broadcastInDim S16384x256 ![] bcast_S_S16384x256 main_cst_14
  let main_v41 : IVec S16384x256 1 := cmpf .ogt main_v39 main_v40
  let main_v42 : IVec S16384x256 1 := andi main_v38 main_v41
  let main_c_15 : IVec S_ 1 := constantI S_ 1 1#1
  let main_v43 : IVec S_ 1 := (fun x v => Host.reduce IntOp.andi x v reducesTo_S16384x256_S_d0_1 h_S_) main_v42 main_c_15
  let main_v44 : FVec F S4096x1024 .f32 := (extf .f32 · bitsLt_bf16_f32) main_arg6
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_v47 : FVec F S4096x1024 .f32 := (extf .f32 · bitsLt_bf16_f32) main_arg6
  let main_cst_17 : FVec F S_ .f32 := constant S_ .f32 0xFF800000#32
  let main_v48 : FVec F S4096x1024 .f32 := broadcastInDim S4096x1024 ![] bcast_S_S4096x1024 main_cst_17
  let main_v49 : IVec S4096x1024 1 := cmpf .ogt main_v47 main_v48
  let main_v50 : IVec S4096x1024 1 := andi main_v46 main_v49
  let main_c_18 : IVec S_ 1 := constantI S_ 1 1#1
  fn_part3 (F := F) main_arg7 main_arg8 main_arg9 main_arg10 main_arg11 main_v5 main_v11 main_v19 main_v27 main_v35 main_v43 main_v50 main_c_18

def fn_part1 {F : FTy → Type} [FloatOps F] (main_arg3 : FVec F S16384x256 .bf16) (main_arg4 : FVec F S16384x256 .bf16) (main_arg5 : FVec F S16384x256 .bf16) (main_arg6 : FVec F S4096x1024 .bf16) (main_arg7 : FVec F S4096 .f32) (main_arg8 : FVec F S4x256x1024 .f32) (main_arg9 : FVec F S1024x1024 .f32) (main_arg10 : FVec F S1024 .f32) (main_arg11 : FVec F S1024x16 .f32) (main_v5 : IVec S_ 1) (main_v11 : IVec S_ 1) (main_v14 : IVec S16384x256 1) (main_v15 : FVec F S16384x256 .f32) (main_cst_5 : FVec F S_ .f32) : IVec S12 1 :=
  let main_v16 : FVec F S16384x256 .f32 := broadcastInDim S16384x256 ![] bcast_S_S16384x256 main_cst_5
  let main_v17 : IVec S16384x256 1 := cmpf .ogt main_v15 main_v16
  let main_v18 : IVec S16384x256 1 := andi main_v14 main_v17
  let main_c_6 : IVec S_ 1 := constantI S_ 1 1#1
  let main_v19 : IVec S_ 1 := (fun x v => Host.reduce IntOp.andi x v reducesTo_S16384x256_S_d0_1 h_S_) main_v18 main_c_6
  let main_v20 : FVec F S16384x256 .f32 := (extf .f32 · bitsLt_bf16_f32) main_arg3
  let main_cst_7 : FVec F S_ .f32 := constant S_ .f32 0x7F800000#32
  let main_v21 : FVec F S16384x256 .f32 := broadcastInDim S16384x256 ![] bcast_S_S16384x256 main_cst_7
  let main_v22 : IVec S16384x256 1 := cmpf .olt main_v20 main_v21
  let main_v23 : FVec F S16384x256 .f32 := (extf .f32 · bitsLt_bf16_f32) main_arg3
  let main_cst_8 : FVec F S_ .f32 := constant S_ .f32 0xFF800000#32
  let main_v24 : FVec F S16384x256 .f32 := broadcastInDim S16384x256 ![] bcast_S_S16384x256 main_cst_8
  let main_v25 : IVec S16384x256 1 := cmpf .ogt main_v23 main_v24
  let main_v26 : IVec S16384x256 1 := andi main_v22 main_v25
  let main_c_9 : IVec S_ 1 := constantI S_ 1 1#1
  let main_v27 : IVec S_ 1 := (fun x v => Host.reduce IntOp.andi x v reducesTo_S16384x256_S_d0_1 h_S_) main_v26 main_c_9
  let main_v28 : FVec F S16384x256 .f32 := (extf .f32 · bitsLt_bf16_f32) main_arg4
  let main_cst_10 : FVec F S_ .f32 := constant S_ .f32 0x7F800000#32
  let main_v29 : FVec F S16384x256 .f32 := broadcastInDim S16384x256 ![] bcast_S_S16384x256 main_cst_10
  let main_v30 : IVec S16384x256 1 := cmpf .olt main_v28 main_v29
  let main_v31 : FVec F S16384x256 .f32 := (extf .f32 · bitsLt_bf16_f32) main_arg4
  let main_cst_11 : FVec F S_ .f32 := constant S_ .f32 0xFF800000#32
  let main_v32 : FVec F S16384x256 .f32 := broadcastInDim S16384x256 ![] bcast_S_S16384x256 main_cst_11
  let main_v33 : IVec S16384x256 1 := cmpf .ogt main_v31 main_v32
  fn_part2 (F := F) main_arg5 main_arg6 main_arg7 main_arg8 main_arg9 main_arg10 main_arg11 main_v5 main_v11 main_v19 main_v27 main_v30 main_v33

def fn {F : FTy → Type} [FloatOps F] (main_arg0 : FVec F S16384x1024 .f32) (main_arg1 : FVec F S1024 .f32) (main_arg2 : FVec F S16384x256 .bf16) (main_arg3 : FVec F S16384x256 .bf16) (main_arg4 : FVec F S16384x256 .bf16) (main_arg5 : FVec F S16384x256 .bf16) (main_arg6 : FVec F S4096x1024 .bf16) (main_arg7 : FVec F S4096 .f32) (main_arg8 : FVec F S4x256x1024 .f32) (main_arg9 : FVec F S1024x1024 .f32) (main_arg10 : FVec F S1024 .f32) (main_arg11 : FVec F S1024x16 .f32) : IVec S12 1 :=
  let main_cst : FVec F S_ .f32 := constant S_ .f32 0x7F800000#32
  let main_v0 : FVec F S16384x1024 .f32 := broadcastInDim S16384x1024 ![] bcast_S_S16384x1024 main_cst
  let main_v1 : IVec S16384x1024 1 := cmpf .olt main_arg0 main_v0
  let main_cst_0 : FVec F S_ .f32 := constant S_ .f32 0xFF800000#32
  let main_v2 : FVec F S16384x1024 .f32 := broadcastInDim S16384x1024 ![] bcast_S_S16384x1024 main_cst_0
  let main_v3 : IVec S16384x1024 1 := cmpf .ogt main_arg0 main_v2
  let main_v4 : IVec S16384x1024 1 := andi main_v1 main_v3
  let main_c : IVec S_ 1 := constantI S_ 1 1#1
  let main_v5 : IVec S_ 1 := (fun x v => Host.reduce IntOp.andi x v reducesTo_S16384x1024_S_d0_1 h_S_) main_v4 main_c
  let main_cst_1 : FVec F S_ .f32 := constant S_ .f32 0x7F800000#32
  let main_v6 : FVec F S1024 .f32 := broadcastInDim S1024 ![] bcast_S_S1024 main_cst_1
  let main_v7 : IVec S1024 1 := cmpf .olt main_arg1 main_v6
  let main_cst_2 : FVec F S_ .f32 := constant S_ .f32 0xFF800000#32
  let main_v8 : FVec F S1024 .f32 := broadcastInDim S1024 ![] bcast_S_S1024 main_cst_2
  let main_v9 : IVec S1024 1 := cmpf .ogt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : FVec F S16384x256 .f32 := (extf .f32 · bitsLt_bf16_f32) main_arg2
  let main_cst_4 : FVec F S_ .f32 := constant S_ .f32 0x7F800000#32
  let main_v13 : FVec F S16384x256 .f32 := broadcastInDim S16384x256 ![] bcast_S_S16384x256 main_cst_4
  let main_v14 : IVec S16384x256 1 := cmpf .olt main_v12 main_v13
  let main_v15 : FVec F S16384x256 .f32 := (extf .f32 · bitsLt_bf16_f32) main_arg2
  let main_cst_5 : FVec F S_ .f32 := constant S_ .f32 0xFF800000#32
  fn_part1 (F := F) main_arg3 main_arg4 main_arg5 main_arg6 main_arg7 main_arg8 main_arg9 main_arg10 main_arg11 main_v5 main_v11 main_v14 main_v15 main_cst_5
-- ==== Pre_finite_qk.lean ====
abbrev S16384x512 : Shape := ⟨2, ![16384, 512]⟩
abbrev S8x256x2048 : Shape := ⟨3, ![8, 256, 2048]⟩
abbrev S_ : Shape := ⟨0, ![]⟩
abbrev S1 : Shape := ⟨1, ![1]⟩
abbrev S2 : Shape := ⟨1, ![2]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1 : S_.BroadcastsInDim S1 (![] : Fin 0 → Fin S1.rank)
  concatenates_S1_S1_S2_d0 : Shape.Concatenates [S1, S1] S2 0

variable [Facts]

def fn_part1 {F : FTy → Type} [FloatOps F] (main_v16 : IVec S1 1) (main_v17 : IVec S1 1) : IVec S2 1 :=
  let main_v18 : IVec S2 1 := (fun a b => concatenate S2 0 [⟨S1, a⟩, ⟨S1, b⟩] concatenates_S1_S1_S2_d0) main_v16 main_v17
  main_v18

def fn {F : FTy → Type} [FloatOps F] (main_arg0 : FVec F S16384x512 .bf16) (main_arg1 : FVec F S16384x512 .bf16) (main_arg2 : FVec F S8x256x2048 .bf16) : IVec S2 1 :=
  let main_v0 : FVec F S16384x512 .f32 := (extf .f32 · bitsLt_bf16_f32) main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x512 .f32 := (extf .f32 · bitsLt_bf16_f32) main_arg0
  let main_cst_0 : FVec F S_ .f32 := constant S_ .f32 0xFF800000#32
  let main_v4 : FVec F S16384x512 .f32 := broadcastInDim S16384x512 ![] bcast_S_S16384x512 main_cst_0
  let main_v5 : IVec S16384x512 1 := cmpf .ogt main_v3 main_v4
  let main_v6 : IVec S16384x512 1 := andi main_v2 main_v5
  let main_c : IVec S_ 1 := constantI S_ 1 1#1
  let main_v7 : IVec S_ 1 := (fun x v => Host.reduce IntOp.andi x v reducesTo_S16384x512_S_d0_1 h_S_) main_v6 main_c
  let main_v8 : FVec F S16384x512 .f32 := (extf .f32 · bitsLt_bf16_f32) main_arg1
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  let main_v11 : FVec F S16384x512 .f32 := (extf .f32 · bitsLt_bf16_f32) main_arg1
  let main_cst_2 : FVec F S_ .f32 := constant S_ .f32 0xFF800000#32
  let main_v12 : FVec F S16384x512 .f32 := broadcastInDim S16384x512 ![] bcast_S_S16384x512 main_cst_2
  let main_v13 : IVec S16384x512 1 := cmpf .ogt main_v11 main_v12
  let main_v14 : IVec S16384x512 1 := andi main_v10 main_v13
  let main_c_3 : IVec S_ 1 := constantI S_ 1 1#1
  let main_v15 : IVec S_ 1 := (fun x v => Host.reduce IntOp.andi x v reducesTo_S16384x512_S_d0_1 h_S_) main_v14 main_c_3
  let main_v16 : IVec S1 1 := broadcastInDim S1 ![] bcast_S_S1 main_v7
  let main_v17 : IVec S1 1 := broadcastInDim S1 ![] bcast_S_S1 main_v15
  fn_part1 (F := F) main_v16 main_v17
-- ==== Pre_prepared_inproj.lean ====
abbrev S16384x1024 : Shape := ⟨2, ![16384, 1024]⟩
abbrev S1024 : Shape := ⟨1, ![1024]⟩
abbrev S1536x1024 : Shape := ⟨2, ![1536, 1024]⟩
abbrev S768x1024 : Shape := ⟨2, ![768, 1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S1 : Shape := ⟨1, ![1]⟩
abbrev S5 : Shape := ⟨1, ![5]⟩
abbrev S16x1024 : Shape := ⟨2, ![16, 1024]⟩
abbrev S2 : Shape := ⟨1, ![2]⟩
abbrev S7 : Shape := ⟨1, ![7]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1536x1024 : S_.BroadcastsInDim S1536x1024 (![] : Fin 0 → Fin S1536x1024.rank)
  reducesTo_S1536x1024_S_d0_1 : S1536x1024.ReducesTo [0, 1] S_
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_
  bcast_S_S1 : S_.BroadcastsInDim S1 (![] : Fin 0 → Fin S1.rank)
  concatenates_S1_S1_S1_S1_S1_S5_d0 : Shape.Concatenates [S1, S1, S1, S1, S1] S5 0
  slices_S1536x1024_S16x1024_1440_0 : S1536x1024.Slices ![1440, 0] S16x1024
  slices_S1536x1024_S16x1024_1424_0 : S1536x1024.Slices ![1424, 0] S16x1024
  reducesTo_S16x1024_S_d0_1 : S16x1024.ReducesTo [0, 1] S_
  slices_S1536x1024_S16x1024_1456_0 : S1536x1024.Slices ![1456, 0] S16x1024
  slices_S1536x1024_S16x1024_1408_0 : S1536x1024.Slices ![1408, 0] S16x1024
  concatenates_S1_S1_S2_d0 : Shape.Concatenates [S1, S1] S2 0
  concatenates_S5_S2_S7_d0 : Shape.Concatenates [S5, S2] S7 0

variable [Facts]

def fn_part2 {F : FTy → Type} [FloatOps F] (main_v0 : FVec F S1536x1024 .f32) (main_v6 : IVec S_ 1) (main_v12 : IVec S_ 1) (main_v20 : IVec S_ 1) (main_v26 : IVec S_ 1) (main_v32 : IVec S_ 1) : IVec S7 1 :=
  let main_v33 : IVec S1 1 := broadcastInDim S1 ![] bcast_S_S1 main_v6
  let main_v34 : IVec S1 1 := broadcastInDim S1 ![] bcast_S_S1 main_v12
  let main_v35 : IVec S1 1 := broadcastInDim S1 ![] bcast_S_S1 main_v20
  let main_v36 : IVec S1 1 := broadcastInDim S1 ![] bcast_S_S1 main_v26
  let main_v37 : IVec S1 1 := broadcastInDim S1 ![] bcast_S_S1 main_v32
  let main_v38 : IVec S5 1 := concatenate S5 0 [⟨S1, main_v33⟩, ⟨S1, main_v34⟩, ⟨S1, main_v35⟩, ⟨S1, main_v36⟩, ⟨S1, main_v37⟩] concatenates_S1_S1_S1_S1_S1_S5_d0
  let main_v39 : FVec F S16x1024 .f32 := (extractStridedSlice S16x1024 ![1440, 0] · slices_S1536x1024_S16x1024_1440_0) main_v0
  let main_v40 : FVec F S16x1024 .f32 := (extractStridedSlice S16x1024 ![1424, 0] · slices_S1536x1024_S16x1024_1424_0) main_v0
  let main_v41 : FVec F S16x1024 .f32 := Host.negf main_v40
  let main_v42 : IVec S16x1024 1 := cmpf .oeq main_v39 main_v41
  let main_c_13 : IVec S_ 1 := constantI S_ 1 1#1
  let main_v43 : IVec S_ 1 := (fun x v => Host.reduce IntOp.andi x v reducesTo_S16x1024_S_d0_1 h_S_) main_v42 main_c_13
  let main_v44 : FVec F S16x1024 .f32 := (extractStridedSlice S16x1024 ![1456, 0] · slices_S1536x1024_S16x1024_1456_0) main_v0
  let main_v45 : FVec F S16x1024 .f32 := (extractStridedSlice S16x1024 ![1408, 0] · slices_S1536x1024_S16x1024_1408_0) main_v0
  let main_v46 : IVec S16x1024 1 := cmpf .oeq main_v44 main_v45
  let main_c_14 : IVec S_ 1 := constantI S_ 1 1#1
  let main_v47 : IVec S_ 1 := (fun x v => Host.reduce IntOp.andi x v reducesTo_S16x1024_S_d0_1 h_S_) main_v46 main_c_14
  let main_v48 : IVec S1 1 := broadcastInDim S1 ![] bcast_S_S1 main_v43
  let main_v49 : IVec S1 1 := broadcastInDim S1 ![] bcast_S_S1 main_v47
  let main_v50 : IVec S2 1 := (fun a b => concatenate S2 0 [⟨S1, a⟩, ⟨S1, b⟩] concatenates_S1_S1_S2_d0) main_v48 main_v49
  let main_v51 : IVec S7 1 := (fun a b => concatenate S7 0 [⟨S5, a⟩, ⟨S2, b⟩] concatenates_S5_S2_S7_d0) main_v38 main_v50
  main_v51

def fn_part1 {F : FTy → Type} [FloatOps F] (main_arg4 : FVec F S256 .f32) (main_arg5 : FVec F S256x384 .f32) (main_v0 : FVec F S1536x1024 .f32) (main_v6 : IVec S_ 1) (main_v12 : IVec S_ 1) (main_v15 : IVec S1536x1024 1) (main_v16 : FVec F S1536x1024 .f32) : IVec S7 1 :=
  let main_cst_5 : FVec F S_ .f32 := constant S_ .f32 0xFF800000#32
  let main_v17 : FVec F S1536x1024 .f32 := broadcastInDim S1536x1024 ![] bcast_S_S1536x1024 main_cst_5
  let main_v18 : IVec S1536x1024 1 := cmpf .ogt main_v16 main_v17
  let main_v19 : IVec S1536x1024 1 := andi main_v15 main_v18
  let main_c_6 : IVec S_ 1 := constantI S_ 1 1#1
  let main_v20 : IVec S_ 1 := (fun x v => Host.reduce IntOp.andi x v reducesTo_S1536x1024_S_d0_1 h_S_) main_v19 main_c_6
  let main_cst_7 : FVec F S_ .f32 := constant S_ .f32 0x7F800000#32
  let main_v21 : FVec F S256 .f32 := broadcastInDim S256 ![] bcast_S_S256 main_cst_7
  let main_v22 : IVec S256 1 := cmpf .olt main_arg4 main_v21
  let main_cst_8 : FVec F S_ .f32 := constant S_ .f32 0xFF800000#32
  let main_v23 : FVec F S256 .f32 := broadcastInDim S256 ![] bcast_S_S256 main_cst_8
  let main_v24 : IVec S256 1 := cmpf .ogt main_arg4 main_v23
  let main_v25 : IVec S256 1 := andi main_v22 main_v24
  let main_c_9 : IVec S_ 1 := constantI S_ 1 1#1
  let main_v26 : IVec S_ 1 := (fun x v => Host.reduce IntOp.andi x v reducesTo_S256_S_d0 h_S_) main_v25 main_c_9
  let main_cst_10 : FVec F S_ .f32 := constant S_ .f32 0x7F800000#32
  let main_v27 : FVec F S256x384 .f32 := broadcastInDim S256x384 ![] bcast_S_S256x384 main_cst_10
  let main_v28 : IVec S256x384 1 := cmpf .olt main_arg5 main_v27
  let main_cst_11 : FVec F S_ .f32 := constant S_ .f32 0xFF800000#32
  let main_v29 : FVec F S256x384 .f32 := broadcastInDim S256x384 ![] bcast_S_S256x384 main_cst_11
  let main_v30 : IVec S256x384 1 := cmpf .ogt main_arg5 main_v29
  let main_v31 : IVec S256x384 1 := andi main_v28 main_v30
  let main_c_12 : IVec S_ 1 := constantI S_ 1 1#1
  let main_v32 : IVec S_ 1 := (fun x v => Host.reduce IntOp.andi x v reducesTo_S256x384_S_d0_1 h_S_) main_v31 main_c_12
  fn_part2 (F := F) main_v0 main_v6 main_v12 main_v20 main_v26 main_v32

def fn {F : FTy → Type} [FloatOps F] (main_arg0 : FVec F S16384x1024 .f32) (main_arg1 : FVec F S1024 .f32) (main_arg2 : FVec F S1536x1024 .bf16) (main_arg3 : FVec F S768x1024 .bf16) (main_arg4 : FVec F S256 .f32) (main_arg5 : FVec F S256x384 .f32) (main_arg6 : FVec F S128 .f32) (main_arg7 : FVec F S128x512 .f32) : IVec S7 1 :=
  let main_v0 : FVec F S1536x1024 .f32 := (extf .f32 · bitsLt_bf16_f32) main_arg2
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_arg0 main_v1
  let main_cst_0 : FVec F S_ .f32 := constant S_ .f32 0xFF800000#32
  let main_v3 : FVec F S16384x1024 .f32 := broadcastInDim S16384x1024 ![] bcast_S_S16384x1024 main_cst_0
  let main_v4 : IVec S16384x1024 1 := cmpf .ogt main_arg0 main_v3
  let main_v5 : IVec S16384x1024 1 := andi main_v2 main_v4
  let main_c : IVec S_ 1 := constantI S_ 1 1#1
  let main_v6 : IVec S_ 1 := (fun x v => Host.reduce IntOp.andi x v reducesTo_S16384x1024_S_d0_1 h_S_) main_v5 main_c
  let main_cst_1 : FVec F S_ .f32 := constant S_ .f32 0x7F800000#32
  let main_v7 : FVec F S1024 .f32 := broadcastInDim S1024 ![] bcast_S_S1024 main_cst_1
  let main_v8 : IVec S1024 1 := cmpf .olt main_arg1 main_v7
  let main_cst_2 : FVec F S_ .f32 := constant S_ .f32 0xFF800000#32
  let main_v9 : FVec F S1024 .f32 := broadcastInDim S1024 ![] bcast_S_S1024 main_cst_2
  let main_v10 : IVec S1024 1 := cmpf .ogt main_arg1 main_v9
  let main_v11 : IVec S1024 1 := andi main_v8 main_v10
  let main_c_3 : IVec S_ 1 := constantI S_ 1 1#1
  let main_v12 : IVec S_ 1 := (fun x v => Host.reduce IntOp.andi x v reducesTo_S1024_S_d0 h_S_) main_v11 main_c_3
  let main_v13 : FVec F S1536x1024 .f32 := (extf .f32 · bitsLt_bf16_f32) main_arg2
  let main_cst_4 : FVec F S_ .f32 := constant S_ .f32 0x7F800000#32
  let main_v14 : FVec F S1536x1024 .f32 := broadcastInDim S1536x1024 ![] bcast_S_S1536x1024 main_cst_4
  let main_v15 : IVec S1536x1024 1 := cmpf .olt main_v13 main_v14
  let main_v16 : FVec F S1536x1024 .f32 := (extf .f32 · bitsLt_bf16_f32) main_arg2
  fn_part1 (F := F) main_arg4 main_arg5 main_v0 main_v6 main_v12 main_v15 main_v16
-- ==== Mla.lean ====
abbrev S16384x512 : Shape := ⟨2, ![16384, 512]⟩
abbrev S8x256x2048 : Shape := ⟨3, ![8, 256, 2048]⟩
abbrev S16384x256 : Shape := ⟨2, ![16384, 256]⟩
abbrev S1024x512 : Shape := ⟨2, ![1024, 512]⟩
abbrev S2048x512 : Shape := ⟨2, ![2048, 512]⟩
abbrev S1x256x2048 : Shape := ⟨3, ![1, 256, 2048]⟩
abbrev S1024x256 : Shape := ⟨2, ![1024, 256]⟩
abbrev S2048x128 : Shape := ⟨2, ![2048, 128]⟩
abbrev S1024x128 : Shape := ⟨2, ![1024, 128]⟩
abbrev S2048x1024 : Shape := ⟨2, ![2048, 1024]⟩
abbrev S1024 : Shape := ⟨1, ![1024]⟩
abbrev S1x1024 : Shape := ⟨2, ![1, 1024]⟩
abbrev S1x64x2048 : Shape := ⟨3, ![1, 64, 2048]⟩
abbrev S64x2048 : Shape := ⟨2, ![64, 2048]⟩
abbrev S64x1024 : Shape := ⟨2, ![64, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x256x2048, .bf16⟩
  | .hbm, ⟨3, _⟩ => ⟨S16384x256, .bf16⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1x256x2048, .bf16⟩
  | .local _ .vmem, ⟨5, _⟩ => ⟨S1x256x2048, .bf16⟩
  | .local _ .vmem, ⟨6, _⟩ => ⟨S1024x256, .bf16⟩
  | .local _ .vmem, ⟨7, _⟩ => ⟨S1024x256, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaRefIdeal.lean ====
abbrev S16384x512 : Shape := ⟨2, ![16384, 512]⟩
abbrev S8x256x2048 : Shape := ⟨3, ![8, 256, 2048]⟩
abbrev S8x2048x4x128 : Shape := ⟨4, ![8, 2048, 4, 128]⟩
abbrev S8x4x64x2048 : Shape := ⟨4, ![8, 4, 64, 2048]⟩
abbrev S8x4x2048x2048 : Shape := ⟨4, ![8, 4, 2048, 2048]⟩
abbrev S_ : Shape := ⟨0, ![]⟩
abbrev S8x4x2048 : Shape := ⟨3, ![8, 4, 2048]⟩
abbrev S8x4x2048x1 : Shape := ⟨4, ![8, 4, 2048, 1]⟩
abbrev S8x2048x4x64 : Shape := ⟨4, ![8, 2048, 4, 64]⟩
abbrev S16384x256 : Shape := ⟨2, ![16384, 256]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S8x256x2048, .bf16⟩
  | .hbm, ⟨3, _⟩ => ⟨S16384x512, .f32⟩
  | .hbm, ⟨4, _⟩ => ⟨S8x2048x4x128, .f32⟩
  | .hbm, ⟨5, _⟩ => ⟨S16384x512, .f32⟩
  | .hbm, ⟨6, _⟩ => ⟨S8x2048x4x128, .f32⟩
  | .hbm, ⟨7, _⟩ => ⟨S8x256x2048, .f32⟩
  | .hbm, ⟨8, _⟩ => ⟨S8x4x64x2048, .f32⟩
  | .hbm, ⟨9, _⟩ => ⟨S8x4x2048x2048, .f32⟩
  | .hbm, ⟨10, _⟩ => ⟨S_, .f32⟩
  | .hbm, ⟨11, _⟩ => ⟨S_, .f32⟩
  | .hbm, ⟨12, _⟩ => ⟨S8x4x2048x2048, .f32⟩
  | .hbm, ⟨13, _⟩ => ⟨S8x4x2048x2048, .f32⟩
  | .hbm, ⟨14, _⟩ => ⟨S_, .f32⟩
  | .hbm, ⟨15, _⟩ => ⟨S8x4x2048, .f32⟩
  | .hbm, ⟨16, _⟩ => ⟨S_, .f32⟩
  | .hbm, ⟨17, _⟩ => ⟨S8x4x2048, .f32⟩
  | .hbm, ⟨18, _⟩ => ⟨S8x4x2048, .f32⟩
  | .hbm, ⟨19, _⟩ => ⟨S8x4x2048x1, .f32⟩
  | .hbm, ⟨20, _⟩ => ⟨S8x4x2048x2048, .f32⟩
  | .hbm, ⟨21, _⟩ => ⟨S8x4x2048x2048, .f32⟩
  | .hbm, ⟨22, _⟩ => ⟨S8x4x2048x2048, .f32⟩
  | .hbm, ⟨23, _⟩ => ⟨S_, .f32⟩
  | .hbm, ⟨24, _⟩ => ⟨S8x4x2048, .f32⟩
  | .hbm, ⟨25, _⟩ => ⟨S8x4x2048x1, .f32⟩
  | .hbm, ⟨26, _⟩ => ⟨S8x4x2048x2048, .f32⟩
  | .hbm, ⟨27, _⟩ => ⟨S8x4x2048x2048, .f32⟩
  | .hbm, ⟨28, _⟩ => ⟨S8x4x64x2048, .f32⟩
  | .hbm, ⟨29, _⟩ => ⟨S8x2048x4x64, .f32⟩
  | .hbm, ⟨30, _⟩ => ⟨S16384x256, .f32⟩
  | .hbm, ⟨31, _⟩ => ⟨S16384x256, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S16384x256 : Shape := ⟨2, ![16384, 256]⟩
abbrev S4096x1024 : Shape := ⟨2, ![4096, 1024]⟩
abbrev S4096 : Shape := ⟨1, ![4096]⟩
abbrev S4x256x1024 : Shape := ⟨3, ![4, 256, 1024]⟩
abbrev S1024x1024 : Shape := ⟨2, ![1024, 1024]⟩
abbrev S1024x16 : Shape := ⟨2, ![1024, 16]⟩
abbrev S16x1024 : Shape := ⟨2, ![16, 1024]⟩
abbrev S_ : Shape := ⟨0, ![]⟩
abbrev S128x1024 : Shape := ⟨2, ![128, 1024]⟩
abbrev S1x1024 : Shape := ⟨2, ![1, 1024]⟩
abbrev S1x4096 : Shape := ⟨2, ![1, 4096]⟩
abbrev S8x16x2048 : Shape := ⟨3, ![8, 16, 2048]⟩
abbrev S1024x256 : Shape := ⟨2, ![1024, 256]⟩
abbrev S1x16x1024 : Shape := ⟨3, ![1, 16, 1024]⟩
abbrev S1024x1 : Shape := ⟨2, ![1024, 1]⟩
abbrev S1x256x1024 : Shape := ⟨3, ![1, 256, 1024]⟩
abbrev S256x1024 : Shape := ⟨2, ![256, 1024]⟩

abbrev nBuf : Space → Nat
  | .hbm => 24
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .bf16⟩
  | .hbm, ⟨6, _⟩ => ⟨S4096x1024, .bf16⟩
  | .hbm, ⟨7, _⟩ => ⟨S4096, .f32⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S16x1024, .f32⟩
  | .hbm, ⟨13, _⟩ => ⟨S_, .i32⟩
  | .hbm, ⟨14, _⟩ => ⟨S_, .f32⟩
  | .hbm, ⟨15, _⟩ => ⟨S128x1024, .f32⟩
  | .hbm, ⟨16, _⟩ => ⟨S1x1024, .f32⟩
  | .hbm, ⟨17, _⟩ => ⟨S1x4096, .f32⟩
  | .hbm, ⟨18, _⟩ => ⟨S4x256x1024, .bf16⟩
  | .hbm, ⟨19, _⟩ => ⟨S1024x1024, .bf16⟩
  | .hbm, ⟨20, _⟩ => ⟨S1x1024, .f32⟩
  | .hbm, ⟨21, _⟩ => ⟨S16384x1024, .f32⟩
  | .hbm, ⟨22, _⟩ => ⟨S16384x1024, .bf16⟩
  | .hbm, ⟨23, _⟩ => ⟨S8x16x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S4096x1024, .bf16⟩
  | .local _ .vmem, ⟨12, _⟩ => ⟨S1x4096, .f32⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S128x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1x16x1024, .f32⟩
  | .local _ .vmem, ⟨22, _⟩ => ⟨S1x16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S1024 : Shape := ⟨1, ![1024]⟩
abbrev S16384x256 : Shape := ⟨2, ![16384, 256]⟩
abbrev S4096x1024 : Shape := ⟨2, ![4096, 1024]⟩
abbrev S4096 : Shape := ⟨1, ![4096]⟩
abbrev S4x256x1024 : Shape := ⟨3, ![4, 256, 1024]⟩
abbrev S1024x1024 : Shape := ⟨2, ![1024, 1024]⟩
abbrev S1024x16 : Shape := ⟨2, ![1024, 16]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x4096 : Shape := ⟨2, ![1024, 4096]⟩
abbrev S16384x4096 : Shape := ⟨2, ![16384, 4096]⟩
abbrev S16384x1x256 : Shape := ⟨3, ![16384, 1, 256]⟩
abbrev S16384x4x256 : Shape := ⟨3, ![16384, 4, 256]⟩
abbrev S4x1024x16384 : Shape := ⟨3, ![4, 1024, 16384]⟩
abbrev S16384x4x1024 : Shape := ⟨3, ![16384, 4, 1024]⟩
abbrev S1x4096 : Shape := ⟨2, ![1, 4096]⟩
abbrev S8x2048x1024 : Shape := ⟨3, ![8, 2048, 1024]⟩
abbrev S8x2048x16 : Shape := ⟨3, ![8, 2048, 16]⟩
abbrev S8x16x2048 : Shape := ⟨3, ![8, 16, 2048]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .bf16⟩
  | .hbm, ⟨6, _⟩ => ⟨S4096x1024, .bf16⟩
  | .hbm, ⟨7, _⟩ => ⟨S4096, .f32⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x16, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S4096x1024, .f32⟩
  | .hbm, ⟨29, _⟩ => ⟨S1024x4096, .f32⟩
  | .hbm, ⟨30, _⟩ => ⟨S16384x4096, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x256, .f32⟩
  | .hbm, ⟨35, _⟩ => ⟨S16384x1x256, .f32⟩
  | .hbm, ⟨36, _⟩ => ⟨S16384x1x256, .f32⟩
  | .hbm, ⟨37, _⟩ => ⟨S16384x1x256, .f32⟩
  | .hbm, ⟨38, _⟩ => ⟨S16384x1x256, .f32⟩
  | .hbm, ⟨39, _⟩ => ⟨S16384x4x256, .f32⟩
  | .hbm, ⟨40, _⟩ => ⟨S4x1024x16384, .f32⟩
  | .hbm, ⟨41, _⟩ => ⟨S16384x4x1024, .f32⟩
  | .hbm, ⟨42, _⟩ => ⟨S1x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S16384x4096, .f32⟩
  | .hbm, ⟨47, _⟩ => ⟨S_, .f32⟩
  | .hbm, ⟨48, _⟩ => ⟨S16384x4096, .f32⟩
  | .hbm, ⟨49, _⟩ => ⟨S16384x4096, .f32⟩
  | .hbm, ⟨50, _⟩ => ⟨S_, .f32⟩
  | .hbm, ⟨51, _⟩ => ⟨S16384x4096, .f32⟩
  | .hbm, ⟨52, _⟩ => ⟨S16384x4096, .f32⟩
  | .hbm, ⟨53, _⟩ => ⟨S16384x4x1024, .f32⟩
  | .hbm, ⟨54, _⟩ => ⟨S16384x4x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S_, .f32⟩
  | .hbm, ⟨61, _⟩ => ⟨S16384, .f32⟩
  | .hbm, ⟨62, _⟩ => ⟨S16384x1, .f32⟩
  | .hbm, ⟨63, _⟩ => ⟨S_, .f32⟩
  | .hbm, ⟨64, _⟩ => ⟨S16384x1, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S8x2048x1024, .f32⟩
  | .hbm, ⟨76, _⟩ => ⟨S8x2048x16, .f32⟩
  | .hbm, ⟨77, _⟩ => ⟨S16384x1024, .bf16⟩
  | .hbm, ⟨78, _⟩ => ⟨S8x16x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Experts.lean ====
abbrev S16x8x256x1024 : Shape := ⟨4, ![16, 8, 256, 1024]⟩
abbrev S16x8x256x128 : Shape := ⟨4, ![16, 8, 256, 128]⟩
abbrev S2x16x1024x1024 : Shape := ⟨4, ![2, 16, 1024, 1024]⟩
abbrev S16x2048x1024 : Shape := ⟨3, ![16, 2048, 1024]⟩
abbrev S16x2048x128 : Shape := ⟨3, ![16, 2048, 128]⟩
abbrev S1x1024x1024 : Shape := ⟨3, ![1, 1024, 1024]⟩
abbrev S1x1024x128 : Shape := ⟨3, ![1, 1024, 128]⟩
abbrev S1x1x1024x1024 : Shape := ⟨4, ![1, 1, 1024, 1024]⟩
abbrev S2x1024x1024 : Shape := ⟨3, ![2, 1024, 1024]⟩
abbrev S1x1x512x1024 : Shape := ⟨4, ![1, 1, 512, 1024]⟩
abbrev S512x1024 : Shape := ⟨2, ![512, 1024]⟩
abbrev S1x512x1024 : Shape := ⟨3, ![1, 512, 1024]⟩
abbrev S1024x1024 : Shape := ⟨2, ![1024, 1024]⟩
abbrev S1x1024x1 : Shape := ⟨3, ![1, 1024, 1]⟩
abbrev S1024x1 : Shape := ⟨2, ![1024, 1]⟩

abbrev nBuf : Space → Nat
  | .hbm => 8
  | .vmem => 15
  | .smem => 0
  | _ => 0

abbrev bufTy : (tb : Table) → Fin (tcTables nBuf tb) → BufTy
  | .hbm, ⟨0, _⟩ => ⟨S16x8x256x1024, .bf16⟩
  | .hbm, ⟨1, _⟩ => ⟨S16x8x256x128, .f32⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S16x2048x1024, .bf16⟩
  | .hbm, ⟨6, _⟩ => ⟨S16x2048x128, .f32⟩
  | .hbm, ⟨7, _⟩ => ⟨S16x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S2x1024x1024, .bf16⟩
  | .local _ .vmem, ⟨13, _⟩ => ⟨S2x1024x1024, .bf16⟩
  | .local _ .vmem, ⟨14, _⟩ => ⟨S2x1024x1024, .bf16⟩
  | _, _ => ⟨S16x8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![17, 2], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 4 → Nat :=
  let c0 : Index := 0#32
  let c0_3 : Index := 0#32
  let arg1 : BitVec 32 := BitVec.ofNat 32 (i 1).val
  let c512_i32 : BitVec 32 := 512#32
  let v0 : BitVec 32 := Scalar.muli arg1 c512_i32
  let v1 : BitVec 32 := v0
  let v12 : Index := Scalar.indexCast v1
  let c0_4 : Index := 0#32
  ![0, 0, v12.toNat, 0]
def k0_off2 (i : grid0.Coords) : Fin 3 → Nat :=
  let arg0 : BitVec 32 := BitVec.ofNat 32 (i 0).val
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v16 : Index := Scalar.indexCast v11
  let arg1 : BitVec 32 := BitVec.ofNat 32 (i 1).val
  let c512_i32 : BitVec 32 := 512#32
  let v0 : BitVec 32 := Scalar.muli arg1 c512_i32
  let v1 : BitVec 32 := v0
  let v17 : Index := Scalar.indexCast v1
  let c0_5 : Index := 0#32
  ![v16.toNat, v17.toNat, 0]
def k0_cond1 (i : grid0.Coords) : BitVec 1 :=
  let arg0 : BitVec 32 := BitVec.ofNat 32 (i 0).val
  let c0_i32_14 : BitVec 32 := 0#32
  let v39 : BitVec 1 := Scalar.cmpi .sgt arg0 c0_i32_14
  let v40 : BitVec 32 := Scalar.extui v39
  let c0_i32_15 : BitVec 32 := 0#32
  let v41 : BitVec 1 := Scalar.cmpi .ne v40 c0_i32_15
  v41

def k0_off3 (i : grid0.Coords) : Fin 3 → Nat :=
  let arg0 : BitVec 32 := BitVec.ofNat 32 (i 0).val
  let c1_i32_16 : BitVec 32 := 1#32
  let v42 : BitVec 32 := Scalar.addi arg0 c1_i32_16
  let c2_i32_17 : BitVec 32 := 2#32
  let c0_i32_18 : BitVec 32 := 0#32
  let v43 : BitVec 1 := Scalar.cmpi .eq c2_i32_17 c0_i32_18
  let c1_i32_19 : BitVec 32 := 1#32
  let v44 : BitVec 32 := Scalar.select v43 c1_i32_19 c2_i32_17
  let v45 : BitVec 32 := Scalar.remsi v42 v44
  let c0_i32_21 : BitVec 32 := 0#32
  let v47 : BitVec 1 := Scalar.cmpi .slt v45 c0_i32_21
  let c0_i32_22 : BitVec 32 := 0#32
  let v48 : BitVec 1 := Scalar.cmpi .slt v44 c0_i32_22
  let v49 : BitVec 1 := Scalar.xori v47 v48
  let c0_i32_20 : BitVec 32 := 0#32
  let v46 : BitVec 1 := Scalar.cmpi .ne v45 c0_i32_20
  let v50 : BitVec 1 := Scalar.andi v49 v46
  let v51 : BitVec 32 := Scalar.addi v45 v44
  let v52 : BitVec 32 := Scalar.select v50 v51 v45
  let v55 : Index := Scalar.indexCast v52
  let c0_26 : Index := 0#32
  let c0_27 : Index := 0#32
  ![v55.toNat, 0, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  let c0_i32_3 : BitVec 32 := 0#32
  ![v1.toNat, v3.toNat, c0_i32_2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ExpertsRefIdeal.lean ====
abbrev S16x8x256x1024 : Shape := ⟨4, ![16, 8, 256, 1024]⟩
abbrev S16x8x256x128 : Shape := ⟨4, ![16, 8, 256, 128]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S_ : Shape := ⟨0, ![]⟩
abbrev S16x8x256x1 : Shape := ⟨4, ![16, 8, 256, 1]⟩
abbrev S16x2048x1024 : Shape := ⟨3, ![16, 2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16x8x256x1024, .bf16⟩
  | .hbm, ⟨1, _⟩ => ⟨S16x8x256x128, .f32⟩
  | .hbm, ⟨2, _⟩ => ⟨S2x16x1024x1024, .f32⟩
  | .hbm, ⟨3, _⟩ => ⟨S2x16x1024x1024, .f32⟩
  | .hbm, ⟨4, _⟩ => ⟨S2x16x1024x1024, .f32⟩
  | .hbm, ⟨5, _⟩ => ⟨S16x8x256x1024, .f32⟩
  | .hbm, ⟨6, _⟩ => ⟨S1x16x1024x1024, .f32⟩
  | .hbm, ⟨7, _⟩ => ⟨S16x1024x1024, .f32⟩
  | .hbm, ⟨8, _⟩ => ⟨S16x8x256x1024, .f32⟩
  | .hbm, ⟨9, _⟩ => ⟨S1x16x1024x1024, .f32⟩
  | .hbm, ⟨10, _⟩ => ⟨S16x1024x1024, .f32⟩
  | .hbm, ⟨11, _⟩ => ⟨S16x8x256x1024, .f32⟩
  | .hbm, ⟨12, _⟩ => ⟨S16x8x256x1024, .f32⟩
  | .hbm, ⟨13, _⟩ => ⟨S16x8x256x1024, .f32⟩
  | .hbm, ⟨14, _⟩ => ⟨S_, .f32⟩
  | .hbm, ⟨15, _⟩ => ⟨S16x8x256x1024, .f32⟩
  | .hbm, ⟨16, _⟩ => ⟨S16x8x256x1024, .f32⟩
  | .hbm, ⟨17, _⟩ => ⟨S_, .f32⟩
  | .hbm, ⟨18, _⟩ => ⟨S16x8x256x1024, .f32⟩
  | .hbm, ⟨19, _⟩ => ⟨S16x8x256x1024, .f32⟩
  | .hbm, ⟨20, _⟩ => ⟨S16x8x256x1024, .f32⟩
  | .hbm, ⟨21, _⟩ => ⟨S16x8x256x1024, .f32⟩
  | .hbm, ⟨22, _⟩ => ⟨S1x16x1024x1024, .f32⟩
  | .hbm, ⟨23, _⟩ => ⟨S16x1024x1024, .f32⟩
  | .hbm, ⟨24, _⟩ => ⟨S16x8x256x1024, .f32⟩
  | .hbm, ⟨25, _⟩ => ⟨S16x8x256x1, .f32⟩
  | .hbm, ⟨26, _⟩ => ⟨S16x8x256x1024, .f32⟩
  | .hbm, ⟨27, _⟩ => ⟨S16x8x256x1024, .f32⟩
  | .hbm, ⟨28, _⟩ => ⟨S16x2048x1024, .f32⟩
  | .hbm, ⟨29, _⟩ => ⟨S16x2048x1024, .bf16⟩
  | _, _ => ⟨S16x8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1536x1024 : Shape := ⟨2, ![1536, 1024]⟩
abbrev S768x1024 : Shape := ⟨2, ![768, 1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S1x2048x1x128 : Shape := ⟨4, ![1, 2048, 1, 128]⟩
abbrev S1x2048x4x128 : Shape := ⟨4, ![1, 2048, 4, 128]⟩
abbrev S2048x512 : Shape := ⟨2, ![2048, 512]⟩
abbrev S256x4x96 : Shape := ⟨3, ![256, 4, 96]⟩
abbrev S256x4x64 : Shape := ⟨3, ![256, 4, 64]⟩
abbrev S256x4x32 : Shape := ⟨3, ![256, 4, 32]⟩
abbrev S256x4x128 : Shape := ⟨3, ![256, 4, 128]⟩
abbrev S256x512 : Shape := ⟨2, ![256, 512]⟩
abbrev S256x4x16 : Shape := ⟨3, ![256, 4, 16]⟩
abbrev S128x4x128 : Shape := ⟨3, ![128, 4, 128]⟩
abbrev S128x4x64 : Shape := ⟨3, ![128, 4, 64]⟩
abbrev S128x256 : Shape := ⟨2, ![128, 256]⟩
abbrev S256x128 : Shape := ⟨2, ![256, 128]⟩
abbrev S1x1024 : Shape := ⟨2, ![1, 1024]⟩
abbrev S1x256 : Shape := ⟨2, ![1, 256]⟩
abbrev S1x128 : Shape := ⟨2, ![1, 128]⟩
abbrev S16384x768 : Shape := ⟨2, ![16384, 768]⟩
abbrev S16384x256 : Shape := ⟨2, ![16384, 256]⟩
abbrev S16384x512 : Shape := ⟨2, ![16384, 512]⟩
abbrev S8x256x2048 : Shape := ⟨3, ![8, 256, 2048]⟩
abbrev S1024x1024 : Shape := ⟨2, ![1024, 1024]⟩
abbrev S1024x512 : Shape := ⟨2, ![1024, 512]⟩
abbrev S1024x128 : Shape := ⟨2, ![1024, 128]⟩
abbrev S1024x768 : Shape := ⟨2, ![1024, 768]⟩
abbrev S1024x256 : Shape := ⟨2, ![1024, 256]⟩
abbrev S1x256x1024 : Shape := ⟨3, ![1, 256, 1024]⟩
abbrev S1024x1 : Shape := ⟨2, ![1024, 1]⟩
abbrev S1024x1536 : Shape := ⟨2, ![1024, 1536]⟩
abbrev S256x1024 : Shape := ⟨2, ![256, 1024]⟩

abbrev nBuf : Space → Nat
  | .hbm => 156
  | .vmem => 34
  | .smem => 0
  | _ => 0

abbrev hbmTy0_0 (i : Nat) : BufTy := match i % 128 with
  | 0 => ⟨S16384x1024, .f32⟩
  | 1 => ⟨S1024, .f32⟩
  | 2 => ⟨S1536x1024, .bf16⟩
  | 3 => ⟨S768x1024, .bf16⟩
  | 4 => ⟨S256, .f32⟩
  | 5 => ⟨S256x384, .f32⟩
  | 6 => ⟨S128, .f32⟩
  | 7 => ⟨S128x512, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S2048x32, .f32⟩
  | 31 => ⟨S2048x16, .f32⟩
  | 32 => ⟨S2048x16, .f32⟩
  | 33 => ⟨S2048x32, .f32⟩
  | 34 => ⟨S_, .f32⟩
  | 35 => ⟨S2048x64, .f32⟩
  | 36 => ⟨S_, .f32⟩
  | 37 => ⟨S2048x64, .f32⟩
  | 38 => ⟨S_, .f32⟩
  | 39 => ⟨S2048x32, .f32⟩
  | 40 => ⟨S2048x128, .f32⟩
  | 41 => ⟨S_, .f32⟩
  | 42 => ⟨S2048x128, .f32⟩
  | 43 => ⟨S2048x128, .f32⟩
  | 44 => ⟨S1x2048x1x128, .f32⟩
  | 45 => ⟨S1x2048x4x128, .f32⟩
  | 46 => ⟨S2048x512, .f32⟩
  | 47 => ⟨S2048x128, .f32⟩
  | 48 => ⟨S_, .f32⟩
  | 49 => ⟨S2048x128, .f32⟩
  | 50 => ⟨S2048x128, .f32⟩
  | 51 => ⟨S1x2048x1x128, .f32⟩
  | 52 => ⟨S1x2048x4x128, .f32⟩
  | 53 => ⟨S2048x512, .f32⟩
  | 54 => ⟨S_, .f32⟩
  | 55 => ⟨S2048x64, .f32⟩
  | 56 => ⟨S2048x128, .f32⟩
  | 57 => ⟨S256x4x96, .f32⟩
  | 58 => ⟨S256x4x64, .f32⟩
  | 59 => ⟨S256x4x32, .f32⟩
  | 60 => ⟨S_, .f32⟩
  | 61 => ⟨S256x4x32, .f32⟩
  | 62 => ⟨S256x4x128, .f32⟩
  | 63 => ⟨S256x512, .f32⟩
  | 64 => ⟨S_, .f32⟩
  | 65 => ⟨S256x4x64, .f32⟩
  | 66 => ⟨S256x4x16, .f32⟩
  | 67 => ⟨S256x4x16, .f32⟩
  | 68 => ⟨S256x4x16, .f32⟩
  | 69 => ⟨S256x4x32, .f32⟩
  | 70 => ⟨S256x4x128, .f32⟩
  | 71 => ⟨S256x512, .f32⟩
  | 72 => ⟨S128x4x128, .f32⟩
  | 73 => ⟨S128x4x64, .f32⟩
  | 74 => ⟨S128x4x64, .f32⟩
  | 75 => ⟨S_, .f32⟩
  | 76 => ⟨S128x4x64, .f32⟩
  | 77 => ⟨S128x4x128, .f32⟩
  | 78 => ⟨S128x512, .f32⟩
  | 79 => ⟨S128x256, .f32⟩
  | 80 => ⟨S256x128, .f32⟩
  | 81 => ⟨S128x512, .i32⟩
  | 82 => ⟨S128x512, .i32⟩
  | 83 => ⟨S_, .i32⟩
  | 84 => ⟨S128x512, .i32⟩
  | 85 => ⟨S128x512, .i1⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S128x512, .i32⟩
  | 93 => ⟨S128x512, .i32⟩
  | 94 => ⟨S_, .i32⟩
  | 95 => ⟨S128x512, .i32⟩
  | 96 => ⟨S128x512, .i1⟩
  | 97 => ⟨S_, .i32⟩
  | 98 => ⟨S128x512, .i32⟩
  | 99 => ⟨S128x512, .i1⟩
  | 100 => ⟨S_, .i32⟩
  | 101 => ⟨S_, .i1⟩
  | 102 => ⟨S128x512, .i1⟩
  | 103 => ⟨S128x512, .i1⟩
  | 104 => ⟨S128x512, .i1⟩
  | 105 => ⟨S128x512, .i32⟩
  | 106 => ⟨S128x512, .i32⟩
  | 107 => ⟨S128x512, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S128x512, .i32⟩
  | 115 => ⟨S128x512, .i32⟩
  | 116 => ⟨S_, .i32⟩
  | 117 => ⟨S128x512, .i32⟩
  | 118 => ⟨S128x512, .i1⟩
  | 119 => ⟨S_, .i32⟩
  | 120 => ⟨S128x512, .i32⟩
  | 121 => ⟨S128x512, .i1⟩
  | 122 => ⟨S_, .i32⟩
  | 123 => ⟨S_, .i1⟩
  | 124 => ⟨S128x512, .i1⟩
  | 125 => ⟨S128x512, .i1⟩
  | 126 => ⟨S128x512, .i1⟩
  | 127 => ⟨S128x512, .i32⟩
  | _ => ⟨S16384x1024, .f32⟩

abbrev hbmTy0_1 (i : Nat) : BufTy := match i % 128 with
  | 0 => ⟨S128x512, .i32⟩
  | 1 => ⟨S128x512, .i32⟩
  | 2 => ⟨S_, .i32⟩
  | 3 => ⟨S128x512, .i32⟩
  | 4 => ⟨S128x512, .i32⟩
  | 5 => ⟨S128x512, .i1⟩
  | 6 => ⟨S128x512, .i1⟩
  | 7 => ⟨S_, .f32⟩
  | 8 => ⟨S_, .f32⟩
  | 9 => ⟨S128x512, .f32⟩
  | 10 => ⟨S128x512, .f32⟩
  | 11 => ⟨S128x512, .f32⟩
  | 12 => ⟨S256x512, .bf16⟩
  | 13 => ⟨S256x512, .bf16⟩
  | 14 => ⟨S128x512, .bf16⟩
  | 15 => ⟨S256x128, .bf16⟩
  | 16 => ⟨S128x512, .bf16⟩
  | 17 => ⟨S1x1024, .f32⟩
  | 18 => ⟨S1x256, .f32⟩
  | 19 => ⟨S1x128, .f32⟩
  | 20 => ⟨S16384x768, .f32⟩
  | 21 => ⟨S16384x256, .f32⟩
  | 22 => ⟨S16384x512, .bf16⟩
  | 23 => ⟨S16384x512, .bf16⟩
  | 24 => ⟨S8x256x2048, .bf16⟩
  | 25 => ⟨S16384x256, .bf16⟩
  | 26 => ⟨S16384x256, .bf16⟩
  | 27 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1536x1024, .bf16⟩
  | .local _ .vmem, ⟨4, _⟩ => ⟨S768x1024, .bf16⟩
  | .local _ .vmem, ⟨5, _⟩ => ⟨S1x256, .f32⟩
  | .local _ .vmem, ⟨6, _⟩ => ⟨S256x512, .bf16⟩
  | .local _ .vmem, ⟨7, _⟩ => ⟨S256x512, .bf16⟩
  | .local _ .vmem, ⟨8, _⟩ => ⟨S1x128, .f32⟩
  | .local _ .vmem, ⟨9, _⟩ => ⟨S128x512, .bf16⟩
  | .local _ .vmem, ⟨10, _⟩ => ⟨S256x128, .bf16⟩
  | .local _ .vmem, ⟨11, _⟩ => ⟨S128x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x128, .f32⟩
  | .local _ .vmem, ⟨17, _⟩ => ⟨S1024x128, .f32⟩
  | .local _ .vmem, ⟨18, _⟩ => ⟨S1024x768, .f32⟩
  | .local _ .vmem, ⟨19, _⟩ => ⟨S1024x768, .f32⟩
  | .local _ .vmem, ⟨20, _⟩ => ⟨S1024x256, .f32⟩
  | .local _ .vmem, ⟨21, _⟩ => ⟨S1024x256, .f32⟩
  | .local _ .vmem, ⟨22, _⟩ => ⟨S1024x512, .bf16⟩
  | .local _ .vmem, ⟨23, _⟩ => ⟨S1024x512, .bf16⟩
  | .local _ .vmem, ⟨24, _⟩ => ⟨S1024x512, .bf16⟩
  | .local _ .vmem, ⟨25, _⟩ => ⟨S1024x512, .bf16⟩
  | .local _ .vmem, ⟨26, _⟩ => ⟨S1x256x1024, .bf16⟩
  | .local _ .vmem, ⟨27, _⟩ => ⟨S1x256x1024, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x256, .bf16⟩
  | .local _ .vmem, ⟨33, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c : Ref sig .tc := ⟨.hbm, 83, rfl⟩
abbrev main_v62 : Ref sig .tc := ⟨.hbm, 84, rfl⟩
abbrev main_v63 : Ref sig .tc := ⟨.hbm, 85, rfl⟩
abbrev main_c_12 : Ref sig .tc := ⟨.hbm, 86, rfl⟩
abbrev main_call0_v0 : Ref sig .tc := ⟨.hbm, 87, rfl⟩
abbrev main_call0_c : Ref sig .tc := ⟨.hbm, 88, rfl⟩
abbrev main_call0_v1 : Ref sig .tc := ⟨.hbm, 89, rfl⟩
abbrev main_call0_c_0 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_1 : Ref sig .tc := ⟨.hbm, 94, rfl⟩
abbrev main_call0_v5 : Ref sig .tc := ⟨.hbm, 95, rfl⟩
abbrev main_call0_v6 : Ref sig .tc := ⟨.hbm, 96, rfl⟩
abbrev main_call0_c_2 : Ref sig .tc := ⟨.hbm, 97, rfl⟩
abbrev main_call0_v7 : Ref sig .tc := ⟨.hbm, 98, rfl⟩
abbrev main_call0_v8 : Ref sig .tc := ⟨.hbm, 99, rfl⟩
abbrev main_call0_c_3 : Ref sig .tc := ⟨.hbm, 100, rfl⟩
abbrev main_call0_v9 : Ref sig .tc := ⟨.hbm, 101, rfl⟩
abbrev main_call0_v10 : Ref sig .tc := ⟨.hbm, 102, rfl⟩
abbrev main_call0_v11 : Ref sig .tc := ⟨.hbm, 103, rfl⟩
abbrev main_call0_v12 : Ref sig .tc := ⟨.hbm, 104, rfl⟩
abbrev main_call0_v13 : Ref sig .tc := ⟨.hbm, 105, rfl⟩
abbrev main_call0_v14 : Ref sig .tc := ⟨.hbm, 106, rfl⟩
abbrev main_v64 : Ref sig .tc := ⟨.hbm, 107, rfl⟩
abbrev main_c_13 : Ref sig .tc := ⟨.hbm, 108, rfl⟩
abbrev main_call1_v0 : Ref sig .tc := ⟨.hbm, 109, rfl⟩
abbrev main_call1_c : Ref sig .tc := ⟨.hbm, 110, rfl⟩
abbrev main_call1_v1 : Ref sig .tc := ⟨.hbm, 111, rfl⟩
abbrev main_call1_c_0 : Ref sig .tc := ⟨.hbm, 112, rfl⟩
abbrev main_call1_v2 : Ref sig .tc := ⟨.hbm, 113, rfl⟩
abbrev main_call1_v3 : Ref sig .tc := ⟨.hbm, 114, rfl⟩
abbrev main_call1_v4 : Ref sig .tc := ⟨.hbm, 115, rfl⟩
abbrev main_call1_c_1 : Ref sig .tc := ⟨.hbm, 116, rfl⟩
abbrev main_call1_v5 : Ref sig .tc := ⟨.hbm, 117, rfl⟩
abbrev main_call1_v6 : Ref sig .tc := ⟨.hbm, 118, rfl⟩
abbrev main_call1_c_2 : Ref sig .tc := ⟨.hbm, 119, rfl⟩
abbrev main_call1_v7 : Ref sig .tc := ⟨.hbm, 120, rfl⟩
abbrev main_call1_v8 : Ref sig .tc := ⟨.hbm, 121, rfl⟩
abbrev main_call1_c_3 : Ref sig .tc := ⟨.hbm, 122, rfl⟩
abbrev main_call1_v9 : Ref sig .tc := ⟨.hbm, 123, rfl⟩
abbrev main_call1_v10 : Ref sig .tc := ⟨.hbm, 124, rfl⟩
abbrev main_call1_v11 : Ref sig .tc := ⟨.hbm, 125, rfl⟩
abbrev main_call1_v12 : Ref sig .tc := ⟨.hbm, 126, rfl⟩
abbrev main_call1_v13 : Ref sig .tc := ⟨.hbm, 127, rfl⟩
abbrev main_call1_v14 : Ref sig .tc := ⟨.hbm, 128, rfl⟩
abbrev main_v65 : Ref sig .tc := ⟨.hbm, 129, rfl⟩
abbrev main_c_14 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_cst_15 : Ref sig .tc := ⟨.hbm, 135, rfl⟩
abbrev main_cst_16 : Ref sig .tc := ⟨.hbm, 136, rfl⟩
abbrev main_call2_v0 : Ref sig .tc := ⟨.hbm, 137, rfl⟩
abbrev main_call2_v1 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79_0 : Ref sig .tc := ⟨.hbm, 148, rfl⟩
abbrev main_v79_1 : Ref sig .tc := ⟨.hbm, 149, rfl⟩
abbrev main_v79_2 : Ref sig .tc := ⟨.hbm, 150, rfl⟩
abbrev main_v79_3 : Ref sig .tc := ⟨.hbm, 151, rfl⟩
abbrev main_v79_4 : Ref sig .tc := ⟨.hbm, 152, rfl⟩
abbrev main_v79_5 : Ref sig .tc := ⟨.hbm, 153, rfl⟩
abbrev main_v79_6 : Ref sig .tc := ⟨.hbm, 154, rfl⟩
abbrev main_v79_7 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== InprojRefIdeal.lean ====
abbrev S16384x1024 : Shape := ⟨2, ![16384, 1024]⟩
abbrev S1024 : Shape := ⟨1, ![1024]⟩
abbrev S1536x1024 : Shape := ⟨2, ![1536, 1024]⟩
abbrev S768x1024 : Shape := ⟨2, ![768, 1024]⟩
abbrev S256 : Shape := ⟨1, ![256]⟩
abbrev S256x384 : Shape := ⟨2, ![256, 384]⟩
abbrev S128 : Shape := ⟨1, ![128]⟩
abbrev S128x512 : Shape := ⟨2, ![128, 512]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1440x1024 : Shape := ⟨2, ![1440, 1024]⟩
abbrev S1024x1440 : Shape := ⟨2, ![1024, 1440]⟩
abbrev S16384x1440 : Shape := ⟨2, ![16384, 1440]⟩
abbrev S1024x768 : Shape := ⟨2, ![1024, 768]⟩
abbrev S16384x768 : Shape := ⟨2, ![16384, 768]⟩
abbrev S16384x256 : Shape := ⟨2, ![16384, 256]⟩
abbrev S16384x128 : Shape := ⟨2, ![16384, 128]⟩
abbrev S16384x32 : Shape := ⟨2, ![16384, 32]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x256 : Shape := ⟨2, ![1, 256]⟩
abbrev S16384x384 : Shape := ⟨2, ![16384, 384]⟩
abbrev S8x2048x4x96 : Shape := ⟨4, ![8, 2048, 4, 96]⟩
abbrev S8x2048x4x64 : Shape := ⟨4, ![8, 2048, 4, 64]⟩
abbrev S8x2048x4x32 : Shape := ⟨4, ![8, 2048, 4, 32]⟩
abbrev S2048x1x16 : Shape := ⟨3, ![2048, 1, 16]⟩
abbrev S8x2048x4x16 : Shape := ⟨4, ![8, 2048, 4, 16]⟩
abbrev S1x2048x1x16 : Shape := ⟨4, ![1, 2048, 1, 16]⟩
abbrev S1x128 : Shape := ⟨2, ![1, 128]⟩
abbrev S16384x512 : Shape := ⟨2, ![16384, 512]⟩
abbrev S8x2048x4x128 : Shape := ⟨4, ![8, 2048, 4, 128]⟩
abbrev S8x2048x32 : Shape := ⟨3, ![8, 2048, 32]⟩
abbrev S8x2048x16 : Shape := ⟨3, ![8, 2048, 16]⟩
abbrev S1x2048x16 : Shape := ⟨3, ![1, 2048, 16]⟩
abbrev S8x2048x1x32 : Shape := ⟨4, ![8, 2048, 1, 32]⟩
abbrev S8x2048x256 : Shape := ⟨3, ![8, 2048, 256]⟩
abbrev S8x256x2048 : Shape := ⟨3, ![8, 256, 2048]⟩

abbrev nBuf : Space → Nat
  | .hbm => 164
  | .vmem => 0
  | .smem => 0
  | _ => 0

abbrev hbmTy0_0 (i : Nat) : BufTy := match i % 128 with
  | 0 => ⟨S16384x1024, .f32⟩
  | 1 => ⟨S1024, .f32⟩
  | 2 => ⟨S1536x1024, .bf16⟩
  | 3 => ⟨S768x1024, .bf16⟩
  | 4 => ⟨S256, .f32⟩
  | 5 => ⟨S256x384, .f32⟩
  | 6 => ⟨S128, .f32⟩
  | 7 => ⟨S128x512, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S1x1024, .f32⟩
  | 22 => ⟨S16384x1024, .f32⟩
  | 23 => ⟨S16384x1024, .f32⟩
  | 24 => ⟨S1440x1024, .bf16⟩
  | 25 => ⟨S1440x1024, .f32⟩
  | 26 => ⟨S1024x1440, .f32⟩
  | 27 => ⟨S16384x1440, .f32⟩
  | 28 => ⟨S768x1024, .f32⟩
  | 29 => ⟨S1024x768, .f32⟩
  | 30 => ⟨S16384x768, .f32⟩
  | 31 => ⟨S16384x256, .f32⟩
  | 32 => ⟨S16384x128, .f32⟩
  | 33 => ⟨S16384x32, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S2048, .f32⟩
  | 49 => ⟨S2048x1, .f32⟩
  | 50 => ⟨S1x16, .f32⟩
  | 51 => ⟨S2048x16, .f32⟩
  | 52 => ⟨S2048x16, .f32⟩
  | 53 => ⟨S2048x16, .f32⟩
  | 54 => ⟨S2048x16, .f32⟩
  | 55 => ⟨S2048x16, .f32⟩
  | 56 => ⟨S16384x256, .f32⟩
  | 57 => ⟨S_, .f32⟩
  | 58 => ⟨S16384, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x1, .f32⟩
  | 67 => ⟨S16384x256, .f32⟩
  | 68 => ⟨S16384x256, .f32⟩
  | 69 => ⟨S1x256, .f32⟩
  | 70 => ⟨S16384x256, .f32⟩
  | 71 => ⟨S16384x256, .f32⟩
  | 72 => ⟨S16384x384, .f32⟩
  | 73 => ⟨S8x2048x4x96, .f32⟩
  | 74 => ⟨S8x2048x4x64, .f32⟩
  | 75 => ⟨S8x2048x4x32, .f32⟩
  | 76 => ⟨S2048x1x16, .f32⟩
  | 77 => ⟨S2048x1x16, .f32⟩
  | 78 => ⟨S8x2048x4x16, .f32⟩
  | 79 => ⟨S8x2048x4x16, .f32⟩
  | 80 => ⟨S1x2048x1x16, .f32⟩
  | 81 => ⟨S8x2048x4x16, .f32⟩
  | 82 => ⟨S8x2048x4x16, .f32⟩
  | 83 => ⟨S1x2048x1x16, .f32⟩
  | 84 => ⟨S8x2048x4x16, .f32⟩
  | 85 => ⟨S8x2048x4x16, .f32⟩
  | 86 => ⟨S8x2048x4x16, .f32⟩
  | 87 => ⟨S1x2048x1x16, .f32⟩
  | 88 => ⟨S8x2048x4x16, .f32⟩
  | 89 => ⟨S8x2048x4x16, .f32⟩
  | 90 => ⟨S1x2048x1x16, .f32⟩
  | 91 => ⟨S8x2048x4x16, .f32⟩
  | 92 => ⟨S8x2048x4x16, .f32⟩
  | 93 => ⟨S8x2048x4x16, .f32⟩
  | 94 => ⟨S8x2048x4x32, .f32⟩
  | 95 => ⟨S8x2048x4x96, .f32⟩
  | 96 => ⟨S16384x128, .f32⟩
  | 97 => ⟨S_, .f32⟩
  | 98 => ⟨S16384, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384x1, .f32⟩
  | 105 => ⟨S16384x1, .f32⟩
  | 106 => ⟨S16384x1, .f32⟩
  | 107 => ⟨S16384x128, .f32⟩
  | 108 => ⟨S16384x128, .f32⟩
  | 109 => ⟨S1x128, .f32⟩
  | 110 => ⟨S16384x128, .f32⟩
  | 111 => ⟨S16384x128, .f32⟩
  | 112 => ⟨S16384x512, .f32⟩
  | 113 => ⟨S8x2048x4x128, .f32⟩
  | 114 => ⟨S8x2048x32, .f32⟩
  | 115 => ⟨S8x2048x16, .f32⟩
  | 116 => ⟨S8x2048x16, .f32⟩
  | 117 => ⟨S1x2048x16, .f32⟩
  | 118 => ⟨S8x2048x16, .f32⟩
  | 119 => ⟨S8x2048x16, .f32⟩
  | 120 => ⟨S1x2048x16, .f32⟩
  | 121 => ⟨S8x2048x16, .f32⟩
  | 122 => ⟨S8x2048x16, .f32⟩
  | 123 => ⟨S8x2048x16, .f32⟩
  | 124 => ⟨S1x2048x16, .f32⟩
  | 125 => ⟨S8x2048x16, .f32⟩
  | 126 => ⟨S8x2048x16, .f32⟩
  | 127 => ⟨S1x2048x16, .f32⟩
  | _ => ⟨S16384x1024, .f32⟩

abbrev hbmTy0_1 (i : Nat) : BufTy := match i % 128 with
  | 0 => ⟨S8x2048x16, .f32⟩
  | 1 => ⟨S8x2048x16, .f32⟩
  | 2 => ⟨S8x2048x16, .f32⟩
  | 3 => ⟨S8x2048x32, .f32⟩
  | 4 => ⟨S8x2048x4x64, .f32⟩
  | 5 => ⟨S8x2048x1x32, .f32⟩
  | 6 => ⟨S8x2048x4x32, .f32⟩
  | 7 => ⟨S8x2048x4x96, .f32⟩
  | 8 => ⟨S_, .f32⟩
  | 9 => ⟨S8x2048x4x96, .f32⟩
  | 10 => ⟨S8x2048x4x96, .f32⟩
  | 11 => ⟨S_, .i32⟩
  | 12 => ⟨S_, .f32⟩
  | 13 => ⟨S8x2048x4x128, .f32⟩
  | 14 => ⟨S16384x512, .f32⟩
  | 15 => ⟨S_, .i32⟩
  | 16 => ⟨S_, .f32⟩
  | 17 => ⟨S8x2048x4x128, .f32⟩
  | 18 => ⟨S16384x512, .f32⟩
  | 19 => ⟨S8x2048x4x64, .f32⟩
  | 20 => ⟨S8x2048x256, .f32⟩
  | 21 => ⟨S8x256x2048, .f32⟩
  | 22 => ⟨S16384x256, .f32⟩
  | 23 => ⟨S_, .f32⟩
  | 24 => ⟨S16384x256, .f32⟩
  | 25 => ⟨S16384x256, .f32⟩
  | 26 => ⟨S16384x768, .f32⟩
  | 27 => ⟨S16384x256, .f32⟩
  | 28 => ⟨S16384x512, .bf16⟩
  | 29 => ⟨S16384x512, .bf16⟩
  | 30 => ⟨S8x256x2048, .bf16⟩
  | 31 => ⟨S16384x256, .bf16⟩
  | 32 => ⟨S16384x256, .f32⟩
  | 33 => ⟨S16384x256, .bf16⟩
  | 34 => ⟨S16384x256, .f32⟩
  | 35 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_9 : Ref sig .tc := ⟨.hbm, 97, rfl⟩
abbrev main_v79 : Ref sig .tc := ⟨.hbm, 98, rfl⟩
abbrev main_v80 : Ref sig .tc := ⟨.hbm, 99, rfl⟩
abbrev main_cst_10 : Ref sig .tc := ⟨.hbm, 100, rfl⟩
abbrev main_v81 : Ref sig .tc := ⟨.hbm, 101, rfl⟩
abbrev main_v82 : Ref sig .tc := ⟨.hbm, 102, rfl⟩
abbrev main_cst_11 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_12 : Ref sig .tc := ⟨.hbm, 136, rfl⟩
abbrev main_v115 : Ref sig .tc := ⟨.hbm, 137, rfl⟩
abbrev main_v116 : Ref sig .tc := ⟨.hbm, 138, rfl⟩
abbrev main_c : Ref sig .tc := ⟨.hbm, 139, rfl⟩
abbrev main_call0_v0 : Ref sig .tc := ⟨.hbm, 140, rfl⟩
abbrev main_v117 : Ref sig .tc := ⟨.hbm, 141, rfl⟩
abbrev main_v118 : Ref sig .tc := ⟨.hbm, 142, rfl⟩
abbrev main_c_13 : Ref sig .tc := ⟨.hbm, 143, rfl⟩
abbrev main_call1_v0 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_14 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩

abbrev nD : Nat := 1
abbrev τ : Topo := Topo.v7x

variable {F : FTy → Type} [FloatOps F]
-- ==== Weights.lean ====
abbrev S2x1024x6304 : Shape := ⟨3, ![2, 1024, 6304]⟩
abbrev S2x6304x1024 : Shape := ⟨3, ![2, 6304, 1024]⟩
abbrev S1536x1024 : Shape := ⟨2, ![1536, 1024]⟩
abbrev S768x1024 : Shape := ⟨2, ![768, 1024]⟩
abbrev S4096x1024 : Shape := ⟨2, ![4096, 1024]⟩
abbrev S1x6304x1024 : Shape := ⟨3, ![1, 6304, 1024]⟩
abbrev S512x1024 : Shape := ⟨2, ![512, 1024]⟩
abbrev S1x1440x1024 : Shape := ⟨3, ![1, 1440, 1024]⟩
abbrev S1440x1024 : Shape := ⟨2, ![1440, 1024]⟩
abbrev S1x16x1024 : Shape := ⟨3, ![1, 16, 1024]⟩
abbrev S16x1024 : Shape := ⟨2, ![16, 1024]⟩
abbrev S64x1024 : Shape := ⟨2, ![64, 1024]⟩
abbrev S1x768x1024 : Shape := ⟨3, ![1, 768, 1024]⟩
abbrev S1x512x1024 : Shape := ⟨3, ![1, 512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x1024x6304, .f32⟩
  | .hbm, ⟨1, _⟩ => ⟨S2x6304x1024, .f32⟩
  | .hbm, ⟨2, _⟩ => ⟨S1536x1024, .bf16⟩
  | .hbm, ⟨3, _⟩ => ⟨S768x1024, .bf16⟩
  | .hbm, ⟨4, _⟩ => ⟨S4096x1024, .bf16⟩
  | .local _ .vmem, ⟨0, _⟩ => ⟨S1x6304x1024, .f32⟩
  | .local _ .vmem, ⟨1, _⟩ => ⟨S1536x1024, .bf16⟩
  | .local _ .vmem, ⟨2, _⟩ => ⟨S768x1024, .bf16⟩
  | .local _ .vmem, ⟨3, _⟩ => ⟨S512x1024, .bf16⟩
  | .local _ .vmem, ⟨4, _⟩ => ⟨S512x1024, .bf16⟩
  | _, _ => ⟨S2x1024x6304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![8], ![false]⟩

def k0_mult1 (i : grid0.Coords) : BitVec 32 :=
  let c2208_i32 : BitVec 32 := 2208#32
  let arg0 : BitVec 32 := BitVec.ofNat 32 (i 0).val
  let c512_i32 : BitVec 32 := 512#32
  let v3 : BitVec 32 := Scalar.muli arg0 c512_i32
  let v4 : BitVec 32 := Scalar.addi c2208_i32 v3
  v4
def k0_off1 (i : grid0.Coords) : Fin 3 → Nat :=
  let c0 : Index := 0#32
  let c2208_i32 : BitVec 32 := 2208#32
  let arg0 : BitVec 32 := BitVec.ofNat 32 (i 0).val
  let c512_i32 : BitVec 32 := 512#32
  let v3 : BitVec 32 := Scalar.muli arg0 c512_i32
  let v4 : BitVec 32 := Scalar.addi c2208_i32 v3
  let v5 : BitVec 32 := v4
  let v6 : Index := Scalar.indexCast v5
  let c0_1 : Index := 0#32
  ![0, v6.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x6304x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== WeightsRefIdeal.lean ====
abbrev S2x1024x6304 : Shape := ⟨3, ![2, 1024, 6304]⟩
abbrev S1x1024x6304 : Shape := ⟨3, ![1, 1024, 6304]⟩
abbrev S1024x6304 : Shape := ⟨2, ![1024, 6304]⟩
abbrev S6304x1024 : Shape := ⟨2, ![6304, 1024]⟩
abbrev S32x1024 : Shape := ⟨2, ![32, 1024]⟩
abbrev S16x1024 : Shape := ⟨2, ![16, 1024]⟩
abbrev S1440x1024 : Shape := ⟨2, ![1440, 1024]⟩
abbrev S1472x1024 : Shape := ⟨2, ![1472, 1024]⟩
abbrev S_ : Shape := ⟨0, ![]⟩
abbrev S1536x1024 : Shape := ⟨2, ![1536, 1024]⟩
abbrev S768x1024 : Shape := ⟨2, ![768, 1024]⟩
abbrev S4096x1024 : Shape := ⟨2, ![4096, 1024]⟩

abbrev nBuf : Space → Nat
  | .hbm => 18
  | .vmem => 0
  | .smem => 0
  | _ => 0

abbrev bufTy : (tb : Table) → Fin (tcTables nBuf tb) → BufTy
  | .hbm, ⟨0, _⟩ => ⟨S2x1024x6304, .f32⟩
  | .hbm, ⟨1, _⟩ => ⟨S1x1024x6304, .f32⟩
  | .hbm, ⟨2, _⟩ => ⟨S1024x6304, .f32⟩
  | .hbm, ⟨3, _⟩ => ⟨S6304x1024, .f32⟩
  | .hbm, ⟨4, _⟩ => ⟨S32x1024, .f32⟩
  | .hbm, ⟨5, _⟩ => ⟨S16x1024, .f32⟩
  | .hbm, ⟨6, _⟩ => ⟨S16x1024, .f32⟩
  | .hbm, ⟨7, _⟩ => ⟨S1440x1024, .f32⟩
  | .hbm, ⟨8, _⟩ => ⟨S16x1024, .f32⟩
  | .hbm, ⟨9, _⟩ => ⟨S1472x1024, .f32⟩
  | .hbm, ⟨10, _⟩ => ⟨S_, .i32⟩
  | .hbm, ⟨11, _⟩ => ⟨S_, .f32⟩
  | .hbm, ⟨12, _⟩ => ⟨S1536x1024, .f32⟩
  | .hbm, ⟨13, _⟩ => ⟨S1536x1024, .bf16⟩
  | .hbm, ⟨14, _⟩ => ⟨S768x1024, .f32⟩
  | .hbm, ⟨15, _⟩ => ⟨S768x1024, .bf16⟩
  | .hbm, ⟨16, _⟩ => ⟨S4096x1024, .f32⟩
  | .hbm, ⟨17, _⟩ => ⟨S4096x1024, .bf16⟩
  | _, _ => ⟨S2x1024x6304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Fnet.lean ====
abbrev S16384x256 : Shape := ⟨2, ![16384, 256]⟩
abbrev S1024x4096 : Shape := ⟨2, ![1024, 4096]⟩
abbrev S256x256 : Shape := ⟨2, ![256, 256]⟩
abbrev S2048x128 : Shape := ⟨2, ![2048, 128]⟩
abbrev S2048x256 : Shape := ⟨2, ![2048, 256]⟩
abbrev S1024x128 : Shape := ⟨2, ![1024, 128]⟩
abbrev S1024x256 : Shape := ⟨2, ![1024, 256]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S16384x256, .f32⟩
  | .hbm, ⟨1, _⟩ => ⟨S1024x4096, .bf16⟩
  | .hbm, ⟨2, _⟩ => ⟨S256x256, .bf16⟩
  | .hbm, ⟨3, _⟩ => ⟨S256x256, .bf16⟩
  | .hbm, ⟨4, _⟩ => ⟨S16384x256, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1024x4096, .bf16⟩
  | .local _ .vmem, ⟨5, _⟩ => ⟨S256x256, .bf16⟩
  | .local _ .vmem, ⟨6, _⟩ => ⟨S256x256, .bf16⟩
  | .local _ .vmem, ⟨7, _⟩ => ⟨S2048x256, .bf16⟩
  | .local _ .vmem, ⟨8, _⟩ => ⟨S2048x256, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FnetRefIdeal.lean ====
abbrev S16384x256 : Shape := ⟨2, ![16384, 256]⟩
abbrev S1024x4096 : Shape := ⟨2, ![1024, 4096]⟩
abbrev S256x256 : Shape := ⟨2, ![256, 256]⟩
abbrev S8x2048x256 : Shape := ⟨3, ![8, 2048, 256]⟩
abbrev S1024x2x2x1024 : Shape := ⟨4, ![1024, 2, 2, 1024]⟩
abbrev S1024x1x2x1024 : Shape := ⟨4, ![1024, 1, 2, 1024]⟩
abbrev S1024x2x1024 : Shape := ⟨3, ![1024, 2, 1024]⟩
abbrev S2048x2x2x1024 : Shape := ⟨4, ![2048, 2, 2, 1024]⟩
abbrev S2x2048x1024x2 : Shape := ⟨4, ![2, 2048, 1024, 2]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S8x256x2048 : Shape := ⟨3, ![8, 256, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S1024x4096, .bf16⟩
  | .hbm, ⟨2, _⟩ => ⟨S256x256, .bf16⟩
  | .hbm, ⟨3, _⟩ => ⟨S256x256, .bf16⟩
  | .hbm, ⟨4, _⟩ => ⟨S8x2048x256, .f32⟩
  | .hbm, ⟨5, _⟩ => ⟨S1024x4096, .f32⟩
  | .hbm, ⟨6, _⟩ => ⟨S1024x2x2x1024, .f32⟩
  | .hbm, ⟨7, _⟩ => ⟨S1024x1x2x1024, .f32⟩
  | .hbm, ⟨8, _⟩ => ⟨S1024x2x1024, .f32⟩
  | .hbm, ⟨9, _⟩ => ⟨S1024x1x2x1024, .f32⟩
  | .hbm, ⟨10, _⟩ => ⟨S1024x2x1024, .f32⟩
  | .hbm, ⟨11, _⟩ => ⟨S1024x2x1024, .f32⟩
  | .hbm, ⟨12, _⟩ => ⟨S1024x1x2x1024, .f32⟩
  | .hbm, ⟨13, _⟩ => ⟨S1024x1x2x1024, .f32⟩
  | .hbm, ⟨14, _⟩ => ⟨S1024x2x2x1024, .f32⟩
  | .hbm, ⟨15, _⟩ => ⟨S2048x2x2x1024, .f32⟩
  | .hbm, ⟨16, _⟩ => ⟨S2x2048x1024x2, .f32⟩
  | .hbm, ⟨17, _⟩ => ⟨S2x2048x2048, .f32⟩
  | .hbm, ⟨18, _⟩ => ⟨S1x2048x2048, .f32⟩
  | .hbm, ⟨19, _⟩ => ⟨S2048x2048, .f32⟩
  | .hbm, ⟨20, _⟩ => ⟨S256x256, .f32⟩
  | .hbm, ⟨21, _⟩ => ⟨S8x2048x256, .f32⟩
  | .hbm, ⟨22, _⟩ => ⟨S8x256x2048, .f32⟩
  | .hbm, ⟨23, _⟩ => ⟨S8x2048x256, .f32⟩
  | .hbm, ⟨24, _⟩ => ⟨S1x2048x2048, .f32⟩
  | .hbm, ⟨25, _⟩ => ⟨S2048x2048, .f32⟩
  | .hbm, ⟨26, _⟩ => ⟨S256x256, .f32⟩
  | .hbm, ⟨27, _⟩ => ⟨S8x2048x256, .f32⟩
  | .hbm, ⟨28, _⟩ => ⟨S8x256x2048, .f32⟩
  | .hbm, ⟨29, _⟩ => ⟨S8x2048x256, .f32⟩
  | .hbm, ⟨30, _⟩ => ⟨S8x2048x256, .f32⟩
  | .hbm, ⟨31, _⟩ => ⟨S_, .f32⟩
  | .hbm, ⟨32, _⟩ => ⟨S8x2048x256, .f32⟩
  | .hbm, ⟨33, _⟩ => ⟨S8x2048x256, .f32⟩
  | .hbm, ⟨34, _⟩ => ⟨S16384x256, .f32⟩
  | .hbm, ⟨35, _⟩ => ⟨S16384x256, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Table.lean ====
abbrev S2048 : Shape := ⟨1, ![2048]⟩
abbrev S1024x2 : Shape := ⟨2, ![1024, 2]⟩
abbrev S2x1024 : Shape := ⟨2, ![2, 1024]⟩
abbrev S2x2048 : Shape := ⟨2, ![2, 2048]⟩
abbrev S1x4096 : Shape := ⟨2, ![1, 4096]⟩
abbrev S4096 : Shape := ⟨1, ![4096]⟩
abbrev S_ : Shape := ⟨0, ![]⟩
abbrev S16 : Shape := ⟨1, ![16]⟩
abbrev S16x1 : Shape := ⟨2, ![16, 1]⟩
abbrev S64 : Shape := ⟨1, ![64]⟩
abbrev S64x1 : Shape := ⟨2, ![64, 1]⟩
abbrev S16x4096 : Shape := ⟨2, ![16, 4096]⟩
abbrev S16x1x4096 : Shape := ⟨3, ![16, 1, 4096]⟩
abbrev S64x4096 : Shape := ⟨2, ![64, 4096]⟩
abbrev S1024x4096 : Shape := ⟨2, ![1024, 4096]⟩
abbrev S4x1x4096 : Shape := ⟨3, ![4, 1, 4096]⟩
abbrev S256x4096 : Shape := ⟨2, ![256, 4096]⟩
abbrev S1x1x4096 : Shape := ⟨3, ![1, 1, 4096]⟩

abbrev nBuf : Space → Nat
  | .hbm => 245
  | .vmem => 8
  | .smem => 0
  | _ => 0

abbrev hbmTy0_0 (i : Nat) : BufTy := match i % 128 with
  | 0 => ⟨S2048, .i32⟩
  | 1 => ⟨S1024x2, .i32⟩
  | 2 => ⟨S2x1024, .i32⟩
  | 3 => ⟨S2x2048, .i32⟩
  | 4 => ⟨S1x4096, .i32⟩
  | 5 => ⟨S4096, .i32⟩
  | 6 => ⟨S_, .i32⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S4096, .i32⟩
  | 15 => ⟨S4096, .i32⟩
  | 16 => ⟨S_, .i32⟩
  | 17 => ⟨S4096, .i32⟩
  | 18 => ⟨S4096, .i1⟩
  | 19 => ⟨S4096, .i1⟩
  | 20 => ⟨S_, .i32⟩
  | 21 => ⟨S4096, .i32⟩
  | 22 => ⟨S4096, .i32⟩
  | 23 => ⟨S4096, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i1⟩
  | 38 => ⟨S_, .i32⟩
  | 39 => ⟨S_, .i1⟩
  | 40 => ⟨S4096, .i1⟩
  | 41 => ⟨S4096, .i1⟩
  | 42 => ⟨S4096, .i1⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S1x4096, .i1⟩
  | 50 => ⟨S16, .i32⟩
  | 51 => ⟨S16x1, .i32⟩
  | 52 => ⟨S_, .i32⟩
  | 53 => ⟨S16x1, .i32⟩
  | 54 => ⟨S16x1, .i32⟩
  | 55 => ⟨S64, .i32⟩
  | 56 => ⟨S64x1, .i32⟩
  | 57 => ⟨S16x4096, .i32⟩
  | 58 => ⟨S16x4096, .i32⟩
  | 59 => ⟨S16x4096, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S16x4096, .i32⟩
  | 67 => ⟨S16x4096, .i32⟩
  | 68 => ⟨S_, .i32⟩
  | 69 => ⟨S16x4096, .i32⟩
  | 70 => ⟨S16x4096, .i1⟩
  | 71 => ⟨S_, .i32⟩
  | 72 => ⟨S16x4096, .i32⟩
  | 73 => ⟨S16x4096, .i1⟩
  | 74 => ⟨S_, .i32⟩
  | 75 => ⟨S_, .i1⟩
  | 76 => ⟨S16x4096, .i1⟩
  | 77 => ⟨S16x4096, .i1⟩
  | 78 => ⟨S16x4096, .i1⟩
  | 79 => ⟨S16x4096, .i32⟩
  | 80 => ⟨S16x4096, .i32⟩
  | 81 => ⟨S16x4096, .i32⟩
  | 82 => ⟨S16x4096, .f32⟩
  | 83 => ⟨S_, .f32⟩
  | 84 => ⟨S16x4096, .f32⟩
  | 85 => ⟨S16x4096, .f32⟩
  | 86 => ⟨S16x4096, .f32⟩
  | 87 => ⟨S16x1x4096, .f32⟩
  | 88 => ⟨S16x4096, .i32⟩
  | 89 => ⟨S16x4096, .i32⟩
  | 90 => ⟨S16x4096, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S16x4096, .i32⟩
  | 98 => ⟨S16x4096, .i32⟩
  | 99 => ⟨S_, .i32⟩
  | 100 => ⟨S16x4096, .i32⟩
  | 101 => ⟨S16x4096, .i1⟩
  | 102 => ⟨S_, .i32⟩
  | 103 => ⟨S16x4096, .i32⟩
  | 104 => ⟨S16x4096, .i1⟩
  | 105 => ⟨S_, .i32⟩
  | 106 => ⟨S_, .i1⟩
  | 107 => ⟨S16x4096, .i1⟩
  | 108 => ⟨S16x4096, .i1⟩
  | 109 => ⟨S16x4096, .i1⟩
  | 110 => ⟨S16x4096, .i32⟩
  | 111 => ⟨S16x4096, .i32⟩
  | 112 => ⟨S16x4096, .i32⟩
  | 113 => ⟨S16x4096, .f32⟩
  | 114 => ⟨S_, .f32⟩
  | 115 => ⟨S16x4096, .f32⟩
  | 116 => ⟨S16x4096, .f32⟩
  | 117 => ⟨S16x4096, .f32⟩
  | 118 => ⟨S16x1x4096, .f32⟩
  | 119 => ⟨S64x4096, .i32⟩
  | 120 => ⟨S64x4096, .i32⟩
  | 121 => ⟨S64x4096, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S2048, .i32⟩

abbrev hbmTy0_1 (i : Nat) : BufTy := match i % 128 with
  | 0 => ⟨S64x4096, .i32⟩
  | 1 => ⟨S64x4096, .i32⟩
  | 2 => ⟨S_, .i32⟩
  | 3 => ⟨S64x4096, .i32⟩
  | 4 => ⟨S64x4096, .i1⟩
  | 5 => ⟨S_, .i32⟩
  | 6 => ⟨S64x4096, .i32⟩
  | 7 => ⟨S64x4096, .i1⟩
  | 8 => ⟨S_, .i32⟩
  | 9 => ⟨S_, .i1⟩
  | 10 => ⟨S64x4096, .i1⟩
  | 11 => ⟨S64x4096, .i1⟩
  | 12 => ⟨S64x4096, .i1⟩
  | 13 => ⟨S64x4096, .i32⟩
  | 14 => ⟨S64x4096, .i32⟩
  | 15 => ⟨S64x4096, .i32⟩
  | 16 => ⟨S64x4096, .f32⟩
  | 17 => ⟨S_, .f32⟩
  | 18 => ⟨S64x4096, .f32⟩
  | 19 => ⟨S64x4096, .f32⟩
  | 20 => ⟨S64x4096, .f32⟩
  | 21 => ⟨S64x4096, .i32⟩
  | 22 => ⟨S64x4096, .i32⟩
  | 23 => ⟨S64x4096, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S64x4096, .i32⟩
  | 31 => ⟨S64x4096, .i32⟩
  | 32 => ⟨S_, .i32⟩
  | 33 => ⟨S64x4096, .i32⟩
  | 34 => ⟨S64x4096, .i1⟩
  | 35 => ⟨S_, .i32⟩
  | 36 => ⟨S64x4096, .i32⟩
  | 37 => ⟨S64x4096, .i1⟩
  | 38 => ⟨S_, .i32⟩
  | 39 => ⟨S_, .i1⟩
  | 40 => ⟨S64x4096, .i1⟩
  | 41 => ⟨S64x4096, .i1⟩
  | 42 => ⟨S64x4096, .i1⟩
  | 43 => ⟨S64x4096, .i32⟩
  | 44 => ⟨S64x4096, .i32⟩
  | 45 => ⟨S64x4096, .i32⟩
  | 46 => ⟨S64x4096, .f32⟩
  | 47 => ⟨S_, .f32⟩
  | 48 => ⟨S64x4096, .f32⟩
  | 49 => ⟨S64x4096, .f32⟩
  | 50 => ⟨S64x4096, .f32⟩
  | 51 => ⟨S64x4096, .i1⟩
  | 52 => ⟨S64x4096, .f32⟩
  | 53 => ⟨S64x4096, .i32⟩
  | 54 => ⟨S64x4096, .i32⟩
  | 55 => ⟨S64x4096, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S64x4096, .i32⟩
  | 63 => ⟨S64x4096, .i32⟩
  | 64 => ⟨S_, .i32⟩
  | 65 => ⟨S64x4096, .i32⟩
  | 66 => ⟨S64x4096, .i1⟩
  | 67 => ⟨S_, .i32⟩
  | 68 => ⟨S64x4096, .i32⟩
  | 69 => ⟨S64x4096, .i1⟩
  | 70 => ⟨S_, .i32⟩
  | 71 => ⟨S_, .i1⟩
  | 72 => ⟨S64x4096, .i1⟩
  | 73 => ⟨S64x4096, .i1⟩
  | 74 => ⟨S64x4096, .i1⟩
  | 75 => ⟨S64x4096, .i32⟩
  | 76 => ⟨S64x4096, .i32⟩
  | 77 => ⟨S64x4096, .i32⟩
  | 78 => ⟨S64x4096, .f32⟩
  | 79 => ⟨S_, .f32⟩
  | 80 => ⟨S64x4096, .f32⟩
  | 81 => ⟨S64x4096, .f32⟩
  | 82 => ⟨S64x4096, .f32⟩
  | 83 => ⟨S64x4096, .f32⟩
  | 84 => ⟨S64x4096, .i32⟩
  | 85 => ⟨S64x4096, .i32⟩
  | 86 => ⟨S64x4096, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S64x4096, .i32⟩
  | 94 => ⟨S64x4096, .i32⟩
  | 95 => ⟨S_, .i32⟩
  | 96 => ⟨S64x4096, .i32⟩
  | 97 => ⟨S64x4096, .i1⟩
  | 98 => ⟨S_, .i32⟩
  | 99 => ⟨S64x4096, .i32⟩
  | 100 => ⟨S64x4096, .i1⟩
  | 101 => ⟨S_, .i32⟩
  | 102 => ⟨S_, .i1⟩
  | 103 => ⟨S64x4096, .i1⟩
  | 104 => ⟨S64x4096, .i1⟩
  | 105 => ⟨S64x4096, .i1⟩
  | 106 => ⟨S64x4096, .i32⟩
  | 107 => ⟨S64x4096, .i32⟩
  | 108 => ⟨S64x4096, .i32⟩
  | 109 => ⟨S64x4096, .f32⟩
  | 110 => ⟨S_, .f32⟩
  | 111 => ⟨S64x4096, .f32⟩
  | 112 => ⟨S64x4096, .f32⟩
  | 113 => ⟨S64x4096, .f32⟩
  | 114 => ⟨S64x4096, .i1⟩
  | 115 => ⟨S64x4096, .f32⟩
  | 116 => ⟨S1024x4096, .bf16⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | .local _ .vmem, ⟨0, _⟩ => ⟨S4x1x4096, .f32⟩
  | .local _ .vmem, ⟨1, _⟩ => ⟨S4x1x4096, .f32⟩
  | .local _ .vmem, ⟨2, _⟩ => ⟨S4x1x4096, .f32⟩
  | .local _ .vmem, ⟨3, _⟩ => ⟨S4x1x4096, .f32⟩
  | .local _ .vmem, ⟨4, _⟩ => ⟨S64x4096, .f32⟩
  | .local _ .vmem, ⟨5, _⟩ => ⟨S64x4096, .f32⟩
  | .local _ .vmem, ⟨6, _⟩ => ⟨S256x4096, .bf16⟩
  | .local _ .vmem, ⟨7, _⟩ => ⟨S256x4096, .bf16⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v7 : Ref sig .tc := ⟨.hbm, 45, rfl⟩
abbrev main_c_1 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_2 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_3 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v20 : Ref sig .tc := ⟨.hbm, 81, rfl⟩
abbrev main_v21 : Ref sig .tc := ⟨.hbm, 82, rfl⟩
abbrev main_cst : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_c_4 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_c_1 : Ref sig .tc := ⟨.hbm, 99, rfl⟩
abbrev main_call3_v5 : Ref sig .tc := ⟨.hbm, 100, rfl⟩
abbrev main_call3_v6 : Ref sig .tc := ⟨.hbm, 101, rfl⟩
abbrev main_call3_c_2 : Ref sig .tc := ⟨.hbm, 102, rfl⟩
abbrev main_call3_v7 : Ref sig .tc := ⟨.hbm, 103, rfl⟩
abbrev main_call3_v8 : Ref sig .tc := ⟨.hbm, 104, rfl⟩
abbrev main_call3_c_3 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_v29 : Ref sig .tc := ⟨.hbm, 112, rfl⟩
abbrev main_v30 : Ref sig .tc := ⟨.hbm, 113, rfl⟩
abbrev main_cst_5 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_c_6 : Ref sig .tc := ⟨.hbm, 122, rfl⟩
abbrev main_call4_v0 : Ref sig .tc := ⟨.hbm, 123, rfl⟩
abbrev main_call4_c : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_c_1 : Ref sig .tc := ⟨.hbm, 130, rfl⟩
abbrev main_call4_v5 : Ref sig .tc := ⟨.hbm, 131, rfl⟩
abbrev main_call4_v6 : Ref sig .tc := ⟨.hbm, 132, rfl⟩
abbrev main_call4_c_2 : Ref sig .tc := ⟨.hbm, 133, rfl⟩
abbrev main_call4_v7 : Ref sig .tc := ⟨.hbm, 134, rfl⟩
abbrev main_call4_v8 : Ref sig .tc := ⟨.hbm, 135, rfl⟩
abbrev main_call4_c_3 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_v38 : Ref sig .tc := ⟨.hbm, 143, rfl⟩
abbrev main_v39 : Ref sig .tc := ⟨.hbm, 144, rfl⟩
abbrev main_cst_7 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_c_8 : Ref sig .tc := ⟨.hbm, 152, rfl⟩
abbrev main_call5_v0 : Ref sig .tc := ⟨.hbm, 153, rfl⟩
abbrev main_call5_c : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_c_1 : Ref sig .tc := ⟨.hbm, 160, rfl⟩
abbrev main_call5_v5 : Ref sig .tc := ⟨.hbm, 161, rfl⟩
abbrev main_call5_v6 : Ref sig .tc := ⟨.hbm, 162, rfl⟩
abbrev main_call5_c_2 : Ref sig .tc := ⟨.hbm, 163, rfl⟩
abbrev main_call5_v7 : Ref sig .tc := ⟨.hbm, 164, rfl⟩
abbrev main_call5_v8 : Ref sig .tc := ⟨.hbm, 165, rfl⟩
abbrev main_call5_c_3 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_v46 : Ref sig .tc := ⟨.hbm, 173, rfl⟩
abbrev main_v47 : Ref sig .tc := ⟨.hbm, 174, rfl⟩
abbrev main_cst_9 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_call6_v0 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_c_10 : Ref sig .tc := ⟨.hbm, 184, rfl⟩
abbrev main_call7_v0 : Ref sig .tc := ⟨.hbm, 185, rfl⟩
abbrev main_call7_c : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_c_1 : Ref sig .tc := ⟨.hbm, 192, rfl⟩
abbrev main_call7_v5 : Ref sig .tc := ⟨.hbm, 193, rfl⟩
abbrev main_call7_v6 : Ref sig .tc := ⟨.hbm, 194, rfl⟩
abbrev main_call7_c_2 : Ref sig .tc := ⟨.hbm, 195, rfl⟩
abbrev main_call7_v7 : Ref sig .tc := ⟨.hbm, 196, rfl⟩
abbrev main_call7_v8 : Ref sig .tc := ⟨.hbm, 197, rfl⟩
abbrev main_call7_c_3 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_v55 : Ref sig .tc := ⟨.hbm, 205, rfl⟩
abbrev main_v56 : Ref sig .tc := ⟨.hbm, 206, rfl⟩
abbrev main_cst_11 : Ref sig .tc := ⟨.hbm, 207, rfl⟩
abbrev main_v57 : Ref sig .tc := ⟨.hbm, 208, rfl⟩
abbrev main_v58 : Ref sig .tc := ⟨.hbm, 209, rfl⟩
abbrev main_v59 : Ref sig .tc := ⟨.hbm, 210, rfl⟩
abbrev main_v60 : Ref sig .tc := ⟨.hbm, 211, rfl⟩
abbrev main_v61 : Ref sig .tc := ⟨.hbm, 212, rfl⟩
abbrev main_v62 : Ref sig .tc := ⟨.hbm, 213, rfl⟩
abbrev main_v63 : Ref sig .tc := ⟨.hbm, 214, rfl⟩
abbrev main_c_12 : Ref sig .tc := ⟨.hbm, 215, rfl⟩
abbrev main_call8_v0 : Ref sig .tc := ⟨.hbm, 216, rfl⟩
abbrev main_call8_c : Ref sig .tc := ⟨.hbm, 217, rfl⟩
abbrev main_call8_v1 : Ref sig .tc := ⟨.hbm, 218, rfl⟩
abbrev main_call8_c_0 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_c_1 : Ref sig .tc := ⟨.hbm, 223, rfl⟩
abbrev main_call8_v5 : Ref sig .tc := ⟨.hbm, 224, rfl⟩
abbrev main_call8_v6 : Ref sig .tc := ⟨.hbm, 225, rfl⟩
abbrev main_call8_c_2 : Ref sig .tc := ⟨.hbm, 226, rfl⟩
abbrev main_call8_v7 : Ref sig .tc := ⟨.hbm, 227, rfl⟩
abbrev main_call8_v8 : Ref sig .tc := ⟨.hbm, 228, rfl⟩
abbrev main_call8_c_3 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_v12 : Ref sig .tc := ⟨.hbm, 233, rfl⟩
abbrev main_call8_v13 : Ref sig .tc := ⟨.hbm, 234, rfl⟩
abbrev main_call8_v14 : Ref sig .tc := ⟨.hbm, 235, rfl⟩
abbrev main_v64 : Ref sig .tc := ⟨.hbm, 236, rfl⟩
abbrev main_v65 : Ref sig .tc := ⟨.hbm, 237, rfl⟩
abbrev main_cst_13 : Ref sig .tc := ⟨.hbm, 238, rfl⟩
abbrev main_v66 : Ref sig .tc := ⟨.hbm, 239, rfl⟩
abbrev main_v67 : Ref sig .tc := ⟨.hbm, 240, rfl⟩
abbrev main_v68 : Ref sig .tc := ⟨.hbm, 241, rfl⟩
abbrev main_call9_v0 : Ref sig .tc := ⟨.hbm, 242, rfl⟩
abbrev main_v69 : Ref sig .tc := ⟨.hbm, 243, rfl⟩
abbrev main_v70 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== TableRefIdeal.lean ====
abbrev S1024 : Shape := ⟨1, ![1024]⟩
abbrev S_ : Shape := ⟨0, ![]⟩
abbrev S1x1024 : Shape := ⟨2, ![1, 1024]⟩
abbrev S2x1024 : Shape := ⟨2, ![2, 1024]⟩
abbrev S1024x1x1 : Shape := ⟨3, ![1024, 1, 1]⟩
abbrev S1x2x1024 : Shape := ⟨3, ![1, 2, 1024]⟩
abbrev S1024x2x1024 : Shape := ⟨3, ![1024, 2, 1024]⟩
abbrev S1024x2x1x1024 : Shape := ⟨4, ![1024, 2, 1, 1024]⟩
abbrev S1024x2x2x1024 : Shape := ⟨4, ![1024, 2, 2, 1024]⟩
abbrev S1024x4096 : Shape := ⟨2, ![1024, 4096]⟩

abbrev nBuf : Space → Nat
  | .hbm => 130
  | .vmem => 0
  | .smem => 0
  | _ => 0

abbrev hbmTy0_0 (i : Nat) : BufTy := match i % 128 with
  | 0 => ⟨S1024, .i32⟩
  | 1 => ⟨S_, .i32⟩
  | 2 => ⟨S1024, .i32⟩
  | 3 => ⟨S1024, .i32⟩
  | 4 => ⟨S_, .i32⟩
  | 5 => ⟨S1024, .i32⟩
  | 6 => ⟨S1024, .i32⟩
  | 7 => ⟨S1024, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i32⟩
  | 14 => ⟨S1x1024, .i32⟩
  | 15 => ⟨S1x1024, .i32⟩
  | 16 => ⟨S2x1024, .i32⟩
  | 17 => ⟨S1024, .i32⟩
  | 18 => ⟨S1024x1x1, .i32⟩
  | 19 => ⟨S_, .i32⟩
  | 20 => ⟨S_, .i32⟩
  | 21 => ⟨S1024x1x1, .i32⟩
  | 22 => ⟨S1024x1x1, .i32⟩
  | 23 => ⟨S1024x1x1, .i32⟩
  | 24 => ⟨S_, .i32⟩
  | 25 => ⟨S1024x1x1, .i32⟩
  | 26 => ⟨S1024x1x1, .i1⟩
  | 27 => ⟨S1024x1x1, .i32⟩
  | 28 => ⟨S1024x1x1, .i32⟩
  | 29 => ⟨S_, .i32⟩
  | 30 => ⟨S1024x1x1, .i32⟩
  | 31 => ⟨S1024x1x1, .i1⟩
  | 32 => ⟨S1024x1x1, .i1⟩
  | 33 => ⟨S_, .i32⟩
  | 34 => ⟨S1024x1x1, .i32⟩
  | 35 => ⟨S1024x1x1, .i32⟩
  | 36 => ⟨S1024x1x1, .i32⟩
  | 37 => ⟨S_, .i32⟩
  | 38 => ⟨S1024x1x1, .i32⟩
  | 39 => ⟨S1024x1x1, .i32⟩
  | 40 => ⟨S1x2x1024, .i32⟩
  | 41 => ⟨S1024x2x1024, .i32⟩
  | 42 => ⟨S1024x2x1024, .i32⟩
  | 43 => ⟨S1024x2x1024, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S1024x2x1024, .i32⟩
  | 51 => ⟨S1024x2x1024, .i32⟩
  | 52 => ⟨S_, .i32⟩
  | 53 => ⟨S1024x2x1024, .i32⟩
  | 54 => ⟨S1024x2x1024, .i1⟩
  | 55 => ⟨S_, .i32⟩
  | 56 => ⟨S1024x2x1024, .i32⟩
  | 57 => ⟨S1024x2x1024, .i1⟩
  | 58 => ⟨S_, .i32⟩
  | 59 => ⟨S_, .i1⟩
  | 60 => ⟨S1024x2x1024, .i1⟩
  | 61 => ⟨S1024x2x1024, .i1⟩
  | 62 => ⟨S1024x2x1024, .i1⟩
  | 63 => ⟨S1024x2x1024, .i32⟩
  | 64 => ⟨S1024x2x1024, .i32⟩
  | 65 => ⟨S1024x2x1024, .i32⟩
  | 66 => ⟨S1024x2x1024, .f32⟩
  | 67 => ⟨S_, .f32⟩
  | 68 => ⟨S1024x2x1024, .f32⟩
  | 69 => ⟨S1024x2x1024, .f32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S1024x1x1, .i32⟩
  | 77 => ⟨S1024x1x1, .i32⟩
  | 78 => ⟨S_, .i32⟩
  | 79 => ⟨S1024x1x1, .i32⟩
  | 80 => ⟨S1024x1x1, .i1⟩
  | 81 => ⟨S_, .i32⟩
  | 82 => ⟨S1024x1x1, .i32⟩
  | 83 => ⟨S1024x1x1, .i1⟩
  | 84 => ⟨S_, .i32⟩
  | 85 => ⟨S_, .i1⟩
  | 86 => ⟨S1024x1x1, .i1⟩
  | 87 => ⟨S1024x1x1, .i1⟩
  | 88 => ⟨S1024x1x1, .i1⟩
  | 89 => ⟨S1024x1x1, .i32⟩
  | 90 => ⟨S1024x1x1, .i32⟩
  | 91 => ⟨S1024x1x1, .i32⟩
  | 92 => ⟨S1x2x1024, .i32⟩
  | 93 => ⟨S1024x2x1024, .i32⟩
  | 94 => ⟨S1024x2x1024, .i32⟩
  | 95 => ⟨S1024x2x1024, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S1024x2x1024, .i32⟩
  | 103 => ⟨S1024x2x1024, .i32⟩
  | 104 => ⟨S_, .i32⟩
  | 105 => ⟨S1024x2x1024, .i32⟩
  | 106 => ⟨S1024x2x1024, .i1⟩
  | 107 => ⟨S_, .i32⟩
  | 108 => ⟨S1024x2x1024, .i32⟩
  | 109 => ⟨S1024x2x1024, .i1⟩
  | 110 => ⟨S_, .i32⟩
  | 111 => ⟨S_, .i1⟩
  | 112 => ⟨S1024x2x1024, .i1⟩
  | 113 => ⟨S1024x2x1024, .i1⟩
  | 114 => ⟨S1024x2x1024, .i1⟩
  | 115 => ⟨S1024x2x1024, .i32⟩
  | 116 => ⟨S1024x2x1024, .i32⟩
  | 117 => ⟨S1024x2x1024, .i32⟩
  | 118 => ⟨S1024x2x1024, .f32⟩
  | 119 => ⟨S_, .f32⟩
  | 120 => ⟨S1024x2x1024, .f32⟩
  | 121 => ⟨S1024x2x1024, .f32⟩
  | 122 => ⟨S1024x2x1024, .f32⟩
  | 123 => ⟨S1024x2x1024, .f32⟩
  | 124 => ⟨S1024x2x1024, .f32⟩
  | 125 => ⟨S1024x2x1x1024, .f32⟩
  | 126 => ⟨S1024x2x1x1024, .f32⟩
  | 127 => ⟨S1024x2x2x1024, .f32⟩
  | _ => ⟨S1024, .i32⟩

abbrev hbmTy0_1 (i : Nat) : BufTy := match i % 128 with
  | 0 => ⟨S1024x4096, .f32⟩
  | 1 => ⟨S1024x4096, .bf16⟩
  | _ => ⟨S1024, .i32⟩

abbrev hbmTy (i : Nat) : BufTy := match i / 128 with
  | 0 => hbmTy0_0 i
  | 1 => hbmTy0_1 i
  | _ => ⟨S1024, .i32⟩

abbrev bufTy : (tb : Table) → Fin (tcTables nBuf tb) → BufTy
  | .hbm, ⟨i, _⟩ => hbmTy i
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_c_0 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_1 : Ref sig .tc := ⟨.hbm, 8, rfl⟩
abbrev main_v6 : Ref sig .tc := ⟨.hbm, 9, rfl⟩
abbrev main_v7 : Ref sig .tc := ⟨.hbm, 10, rfl⟩
abbrev main_c_2 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_1 : Ref sig .tc := ⟨.hbm, 52, rfl⟩
abbrev main_call1_v5 : Ref sig .tc := ⟨.hbm, 53, rfl⟩
abbrev main_call1_v6 : Ref sig .tc := ⟨.hbm, 54, rfl⟩
abbrev main_call1_c_2 : Ref sig .tc := ⟨.hbm, 55, rfl⟩
abbrev main_call1_v7 : Ref sig .tc := ⟨.hbm, 56, rfl⟩
abbrev main_call1_v8 : Ref sig .tc := ⟨.hbm, 57, rfl⟩
abbrev main_call1_c_3 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_v22 : Ref sig .tc := ⟨.hbm, 65, rfl⟩
abbrev main_v23 : Ref sig .tc := ⟨.hbm, 66, rfl⟩
abbrev main_cst : Ref sig .tc := ⟨.hbm, 67, rfl⟩
abbrev main_v24 : Ref sig .tc := ⟨.hbm, 68, rfl⟩
abbrev main_v25 : Ref sig .tc := ⟨.hbm, 69, rfl⟩
abbrev main_c_6 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_1 : Ref sig .tc := ⟨.hbm, 78, rfl⟩
abbrev main_call2_v5 : Ref sig .tc := ⟨.hbm, 79, rfl⟩
abbrev main_call2_v6 : Ref sig .tc := ⟨.hbm, 80, rfl⟩
abbrev main_call2_c_2 : Ref sig .tc := ⟨.hbm, 81, rfl⟩
abbrev main_call2_v7 : Ref sig .tc := ⟨.hbm, 82, rfl⟩
abbrev main_call2_v8 : Ref sig .tc := ⟨.hbm, 83, rfl⟩
abbrev main_call2_c_3 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_c_7 : Ref sig .tc := ⟨.hbm, 96, rfl⟩
abbrev main_call3_v0 : Ref sig .tc := ⟨.hbm, 97, rfl⟩
abbrev main_call3_c : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_c_1 : Ref sig .tc := ⟨.hbm, 104, rfl⟩
abbrev main_call3_v5 : Ref sig .tc := ⟨.hbm, 105, rfl⟩
abbrev main_call3_v6 : Ref sig .tc := ⟨.hbm, 106, rfl⟩
abbrev main_call3_c_2 : Ref sig .tc := ⟨.hbm, 107, rfl⟩
abbrev main_call3_v7 : Ref sig .tc := ⟨.hbm, 108, rfl⟩
abbrev main_call3_v8 : Ref sig .tc := ⟨.hbm, 109, rfl⟩
abbrev main_call3_c_3 : Ref sig .tc := ⟨.hbm, 110, rfl⟩
abbrev main_call3_v9 : Ref sig .tc := ⟨.hbm, 111, rfl⟩
abbrev main_call3_v10 : Ref sig .tc := ⟨.hbm, 112, rfl⟩
abbrev main_call3_v11 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_v31 : Ref sig .tc := ⟨.hbm, 117, rfl⟩
abbrev main_v32 : Ref sig .tc := ⟨.hbm, 118, rfl⟩
abbrev main_cst_8 : Ref sig .tc := ⟨.hbm, 119, rfl⟩
abbrev main_v33 : Ref sig .tc := ⟨.hbm, 120, rfl⟩
abbrev main_v34 : Ref sig .tc := ⟨.hbm, 121, rfl⟩
abbrev main_v35 : Ref sig .tc := ⟨.hbm, 122, rfl⟩
abbrev main_v36 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_v40 : Ref sig .tc := ⟨.hbm, 127, rfl⟩
abbrev main_v41 : Ref sig .tc := ⟨.hbm, 128, rfl⟩
abbrev main_v42 : Ref sig .tc := ⟨.hbm, 129, rfl⟩

abbrev nD : Nat := 1
abbrev τ : Topo := Topo.v7x

variable {F : FTy → Type} [FloatOps F]
-- ==== Conv.lean ====
abbrev S2048 : Shape := ⟨1, ![2048]⟩
abbrev S512x4 : Shape := ⟨2, ![512, 4]⟩
abbrev S4x512 : Shape := ⟨2, ![4, 512]⟩
abbrev S4x1024 : Shape := ⟨2, ![4, 1024]⟩
abbrev S1x4096 : Shape := ⟨2, ![1, 4096]⟩
abbrev S4096 : Shape := ⟨1, ![4096]⟩
abbrev S_ : Shape := ⟨0, ![]⟩
abbrev S16 : Shape := ⟨1, ![16]⟩
abbrev S16x1 : Shape := ⟨2, ![16, 1]⟩
abbrev S64 : Shape := ⟨1, ![64]⟩
abbrev S64x1 : Shape := ⟨2, ![64, 1]⟩
abbrev S16x4096 : Shape := ⟨2, ![16, 4096]⟩
abbrev S16x1x4096 : Shape := ⟨3, ![16, 1, 4096]⟩
abbrev S64x4096 : Shape := ⟨2, ![64, 4096]⟩
abbrev S1024x4096 : Shape := ⟨2, ![1024, 4096]⟩
abbrev S4x1x4096 : Shape := ⟨3, ![4, 1, 4096]⟩
abbrev S256x4096 : Shape := ⟨2, ![256, 4096]⟩
abbrev S1x1x4096 : Shape := ⟨3, ![1, 1, 4096]⟩

abbrev nBuf : Space → Nat
  | .hbm => 245
  | .vmem => 8
  | .smem => 0
  | _ => 0

abbrev hbmTy0_0 (i : Nat) : BufTy := match i % 128 with
  | 0 => ⟨S2048, .i32⟩
  | 1 => ⟨S512x4, .i32⟩
  | 2 => ⟨S4x512, .i32⟩
  | 3 => ⟨S4x1024, .i32⟩
  | 4 => ⟨S1x4096, .i32⟩
  | 5 => ⟨S4096, .i32⟩
  | 6 => ⟨S_, .i32⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i1⟩
  | 14 => ⟨S4096, .i32⟩
  | 15 => ⟨S4096, .i32⟩
  | 16 => ⟨S_, .i32⟩
  | 17 => ⟨S4096, .i32⟩
  | 18 => ⟨S4096, .i1⟩
  | 19 => ⟨S4096, .i1⟩
  | 20 => ⟨S_, .i32⟩
  | 21 => ⟨S4096, .i32⟩
  | 22 => ⟨S4096, .i32⟩
  | 23 => ⟨S4096, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i1⟩
  | 38 => ⟨S_, .i32⟩
  | 39 => ⟨S_, .i1⟩
  | 40 => ⟨S4096, .i1⟩
  | 41 => ⟨S4096, .i1⟩
  | 42 => ⟨S4096, .i1⟩
  | 43 => ⟨S4096, .i32⟩
  | 44 => ⟨S4096, .i32⟩
  | 45 => ⟨S4096, .i32⟩
  | 46 => ⟨S_, .i32⟩
  | 47 => ⟨S4096, .i32⟩
  | 48 => ⟨S4096, .i1⟩
  | 49 => ⟨S1x4096, .i1⟩
  | 50 => ⟨S16, .i32⟩
  | 51 => ⟨S16x1, .i32⟩
  | 52 => ⟨S_, .i32⟩
  | 53 => ⟨S16x1, .i32⟩
  | 54 => ⟨S16x1, .i32⟩
  | 55 => ⟨S64, .i32⟩
  | 56 => ⟨S64x1, .i32⟩
  | 57 => ⟨S16x4096, .i32⟩
  | 58 => ⟨S16x4096, .i32⟩
  | 59 => ⟨S16x4096, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S16x4096, .i32⟩
  | 67 => ⟨S16x4096, .i32⟩
  | 68 => ⟨S_, .i32⟩
  | 69 => ⟨S16x4096, .i32⟩
  | 70 => ⟨S16x4096, .i1⟩
  | 71 => ⟨S_, .i32⟩
  | 72 => ⟨S16x4096, .i32⟩
  | 73 => ⟨S16x4096, .i1⟩
  | 74 => ⟨S_, .i32⟩
  | 75 => ⟨S_, .i1⟩
  | 76 => ⟨S16x4096, .i1⟩
  | 77 => ⟨S16x4096, .i1⟩
  | 78 => ⟨S16x4096, .i1⟩
  | 79 => ⟨S16x4096, .i32⟩
  | 80 => ⟨S16x4096, .i32⟩
  | 81 => ⟨S16x4096, .i32⟩
  | 82 => ⟨S16x4096, .f32⟩
  | 83 => ⟨S_, .f32⟩
  | 84 => ⟨S16x4096, .f32⟩
  | 85 => ⟨S16x4096, .f32⟩
  | 86 => ⟨S16x4096, .f32⟩
  | 87 => ⟨S16x1x4096, .f32⟩
  | 88 => ⟨S16x4096, .i32⟩
  | 89 => ⟨S16x4096, .i32⟩
  | 90 => ⟨S16x4096, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S16x4096, .i32⟩
  | 98 => ⟨S16x4096, .i32⟩
  | 99 => ⟨S_, .i32⟩
  | 100 => ⟨S16x4096, .i32⟩
  | 101 => ⟨S16x4096, .i1⟩
  | 102 => ⟨S_, .i32⟩
  | 103 => ⟨S16x4096, .i32⟩
  | 104 => ⟨S16x4096, .i1⟩
  | 105 => ⟨S_, .i32⟩
  | 106 => ⟨S_, .i1⟩
  | 107 => ⟨S16x4096, .i1⟩
  | 108 => ⟨S16x4096, .i1⟩
  | 109 => ⟨S16x4096, .i1⟩
  | 110 => ⟨S16x4096, .i32⟩
  | 111 => ⟨S16x4096, .i32⟩
  | 112 => ⟨S16x4096, .i32⟩
  | 113 => ⟨S16x4096, .f32⟩
  | 114 => ⟨S_, .f32⟩
  | 115 => ⟨S16x4096, .f32⟩
  | 116 => ⟨S16x4096, .f32⟩
  | 117 => ⟨S16x4096, .f32⟩
  | 118 => ⟨S16x1x4096, .f32⟩
  | 119 => ⟨S64x4096, .i32⟩
  | 120 => ⟨S64x4096, .i32⟩
  | 121 => ⟨S64x4096, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S2048, .i32⟩

abbrev hbmTy0_1 (i : Nat) : BufTy := match i % 128 with
  | 0 => ⟨S64x4096, .i32⟩
  | 1 => ⟨S64x4096, .i32⟩
  | 2 => ⟨S_, .i32⟩
  | 3 => ⟨S64x4096, .i32⟩
  | 4 => ⟨S64x4096, .i1⟩
  | 5 => ⟨S_, .i32⟩
  | 6 => ⟨S64x4096, .i32⟩
  | 7 => ⟨S64x4096, .i1⟩
  | 8 => ⟨S_, .i32⟩
  | 9 => ⟨S_, .i1⟩
  | 10 => ⟨S64x4096, .i1⟩
  | 11 => ⟨S64x4096, .i1⟩
  | 12 => ⟨S64x4096, .i1⟩
  | 13 => ⟨S64x4096, .i32⟩
  | 14 => ⟨S64x4096, .i32⟩
  | 15 => ⟨S64x4096, .i32⟩
  | 16 => ⟨S64x4096, .f32⟩
  | 17 => ⟨S_, .f32⟩
  | 18 => ⟨S64x4096, .f32⟩
  | 19 => ⟨S64x4096, .f32⟩
  | 20 => ⟨S64x4096, .f32⟩
  | 21 => ⟨S64x4096, .i32⟩
  | 22 => ⟨S64x4096, .i32⟩
  | 23 => ⟨S64x4096, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S64x4096, .i32⟩
  | 31 => ⟨S64x4096, .i32⟩
  | 32 => ⟨S_, .i32⟩
  | 33 => ⟨S64x4096, .i32⟩
  | 34 => ⟨S64x4096, .i1⟩
  | 35 => ⟨S_, .i32⟩
  | 36 => ⟨S64x4096, .i32⟩
  | 37 => ⟨S64x4096, .i1⟩
  | 38 => ⟨S_, .i32⟩
  | 39 => ⟨S_, .i1⟩
  | 40 => ⟨S64x4096, .i1⟩
  | 41 => ⟨S64x4096, .i1⟩
  | 42 => ⟨S64x4096, .i1⟩
  | 43 => ⟨S64x4096, .i32⟩
  | 44 => ⟨S64x4096, .i32⟩
  | 45 => ⟨S64x4096, .i32⟩
  | 46 => ⟨S64x4096, .f32⟩
  | 47 => ⟨S_, .f32⟩
  | 48 => ⟨S64x4096, .f32⟩
  | 49 => ⟨S64x4096, .f32⟩
  | 50 => ⟨S64x4096, .f32⟩
  | 51 => ⟨S64x4096, .i1⟩
  | 52 => ⟨S64x4096, .f32⟩
  | 53 => ⟨S64x4096, .i32⟩
  | 54 => ⟨S64x4096, .i32⟩
  | 55 => ⟨S64x4096, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S64x4096, .i32⟩
  | 63 => ⟨S64x4096, .i32⟩
  | 64 => ⟨S_, .i32⟩
  | 65 => ⟨S64x4096, .i32⟩
  | 66 => ⟨S64x4096, .i1⟩
  | 67 => ⟨S_, .i32⟩
  | 68 => ⟨S64x4096, .i32⟩
  | 69 => ⟨S64x4096, .i1⟩
  | 70 => ⟨S_, .i32⟩
  | 71 => ⟨S_, .i1⟩
  | 72 => ⟨S64x4096, .i1⟩
  | 73 => ⟨S64x4096, .i1⟩
  | 74 => ⟨S64x4096, .i1⟩
  | 75 => ⟨S64x4096, .i32⟩
  | 76 => ⟨S64x4096, .i32⟩
  | 77 => ⟨S64x4096, .i32⟩
  | 78 => ⟨S64x4096, .f32⟩
  | 79 => ⟨S_, .f32⟩
  | 80 => ⟨S64x4096, .f32⟩
  | 81 => ⟨S64x4096, .f32⟩
  | 82 => ⟨S64x4096, .f32⟩
  | 83 => ⟨S64x4096, .f32⟩
  | 84 => ⟨S64x4096, .i32⟩
  | 85 => ⟨S64x4096, .i32⟩
  | 86 => ⟨S64x4096, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S64x4096, .i32⟩
  | 94 => ⟨S64x4096, .i32⟩
  | 95 => ⟨S_, .i32⟩
  | 96 => ⟨S64x4096, .i32⟩
  | 97 => ⟨S64x4096, .i1⟩
  | 98 => ⟨S_, .i32⟩
  | 99 => ⟨S64x4096, .i32⟩
  | 100 => ⟨S64x4096, .i1⟩
  | 101 => ⟨S_, .i32⟩
  | 102 => ⟨S_, .i1⟩
  | 103 => ⟨S64x4096, .i1⟩
  | 104 => ⟨S64x4096, .i1⟩
  | 105 => ⟨S64x4096, .i1⟩
  | 106 => ⟨S64x4096, .i32⟩
  | 107 => ⟨S64x4096, .i32⟩
  | 108 => ⟨S64x4096, .i32⟩
  | 109 => ⟨S64x4096, .f32⟩
  | 110 => ⟨S_, .f32⟩
  | 111 => ⟨S64x4096, .f32⟩
  | 112 => ⟨S64x4096, .f32⟩
  | 113 => ⟨S64x4096, .f32⟩
  | 114 => ⟨S64x4096, .i1⟩
  | 115 => ⟨S64x4096, .f32⟩
  | 116 => ⟨S1024x4096, .bf16⟩
  | _ => ⟨S2048, .i32⟩

abbrev hbmTy (i : Nat) : BufTy := match i / 128 with
  | 0 => hbmTy0_0 i
  | 1 => hbmTy0_1 i
  | _ => ⟨S2048, .i32⟩

abbrev bufTy : (tb : Table) → Fin (tcTables nBuf tb) → BufTy
  | .hbm, ⟨i, _⟩ => hbmTy i
  | .local _ .vmem, ⟨0, _⟩ => ⟨S4x1x4096, .f32⟩
  | .local _ .vmem, ⟨1, _⟩ => ⟨S4x1x4096, .f32⟩
  | .local _ .vmem, ⟨2, _⟩ => ⟨S4x1x4096, .f32⟩
  | .local _ .vmem, ⟨3, _⟩ => ⟨S4x1x4096, .f32⟩
  | .local _ .vmem, ⟨4, _⟩ => ⟨S64x4096, .f32⟩
  | .local _ .vmem, ⟨5, _⟩ => ⟨S64x4096, .f32⟩
  | .local _ .vmem, ⟨6, _⟩ => ⟨S256x4096, .bf16⟩
  | .local _ .vmem, ⟨7, _⟩ => ⟨S256x4096, .bf16⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v7 : Ref sig .tc := ⟨.hbm, 45, rfl⟩
abbrev main_c_1 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_2 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_3 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v20 : Ref sig .tc := ⟨.hbm, 81, rfl⟩
abbrev main_v21 : Ref sig .tc := ⟨.hbm, 82, rfl⟩
abbrev main_cst : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_c_4 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_c_1 : Ref sig .tc := ⟨.hbm, 99, rfl⟩
abbrev main_call3_v5 : Ref sig .tc := ⟨.hbm, 100, rfl⟩
abbrev main_call3_v6 : Ref sig .tc := ⟨.hbm, 101, rfl⟩
abbrev main_call3_c_2 : Ref sig .tc := ⟨.hbm, 102, rfl⟩
abbrev main_call3_v7 : Ref sig .tc := ⟨.hbm, 103, rfl⟩
abbrev main_call3_v8 : Ref sig .tc := ⟨.hbm, 104, rfl⟩
abbrev main_call3_c_3 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_v29 : Ref sig .tc := ⟨.hbm, 112, rfl⟩
abbrev main_v30 : Ref sig .tc := ⟨.hbm, 113, rfl⟩
abbrev main_cst_5 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_c_6 : Ref sig .tc := ⟨.hbm, 122, rfl⟩
abbrev main_call4_v0 : Ref sig .tc := ⟨.hbm, 123, rfl⟩
abbrev main_call4_c : Ref sig .tc := ⟨.hbm, 124, rfl⟩
abbrev main_call4_v1 : Ref sig .tc := ⟨.hbm, 125, rfl⟩
abbrev main_call4_c_0 : Ref sig .tc := ⟨.hbm, 126, rfl⟩
abbrev main_call4_v2 : Ref sig .tc := ⟨.hbm, 127, rfl⟩
abbrev main_call4_v3 : Ref sig .tc := ⟨.hbm, 128, rfl⟩
abbrev main_call4_v4 : Ref sig .tc := ⟨.hbm, 129, rfl⟩
abbrev main_call4_c_1 : Ref sig .tc := ⟨.hbm, 130, rfl⟩
abbrev main_call4_v5 : Ref sig .tc := ⟨.hbm, 131, rfl⟩
abbrev main_call4_v6 : Ref sig .tc := ⟨.hbm, 132, rfl⟩
abbrev main_call4_c_2 : Ref sig .tc := ⟨.hbm, 133, rfl⟩
abbrev main_call4_v7 : Ref sig .tc := ⟨.hbm, 134, rfl⟩
abbrev main_call4_v8 : Ref sig .tc := ⟨.hbm, 135, rfl⟩
abbrev main_call4_c_3 : Ref sig .tc := ⟨.hbm, 136, rfl⟩
abbrev main_call4_v9 : Ref sig .tc := ⟨.hbm, 137, rfl⟩
abbrev main_call4_v10 : Ref sig .tc := ⟨.hbm, 138, rfl⟩
abbrev main_call4_v11 : Ref sig .tc := ⟨.hbm, 139, rfl⟩
abbrev main_call4_v12 : Ref sig .tc := ⟨.hbm, 140, rfl⟩
abbrev main_call4_v13 : Ref sig .tc := ⟨.hbm, 141, rfl⟩
abbrev main_call4_v14 : Ref sig .tc := ⟨.hbm, 142, rfl⟩
abbrev main_v38 : Ref sig .tc := ⟨.hbm, 143, rfl⟩
abbrev main_v39 : Ref sig .tc := ⟨.hbm, 144, rfl⟩
abbrev main_cst_7 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_v43 : Ref sig .tc := ⟨.hbm, 149, rfl⟩
abbrev main_v44 : Ref sig .tc := ⟨.hbm, 150, rfl⟩
abbrev main_v45 : Ref sig .tc := ⟨.hbm, 151, rfl⟩
abbrev main_c_8 : Ref sig .tc := ⟨.hbm, 152, rfl⟩
abbrev main_call5_v0 : Ref sig .tc := ⟨.hbm, 153, rfl⟩
abbrev main_call5_c : Ref sig .tc := ⟨.hbm, 154, rfl⟩
abbrev main_call5_v1 : Ref sig .tc := ⟨.hbm, 155, rfl⟩
abbrev main_call5_c_0 : Ref sig .tc := ⟨.hbm, 156, rfl⟩
abbrev main_call5_v2 : Ref sig .tc := ⟨.hbm, 157, rfl⟩
abbrev main_call5_v3 : Ref sig .tc := ⟨.hbm, 158, rfl⟩
abbrev main_call5_v4 : Ref sig .tc := ⟨.hbm, 159, rfl⟩
abbrev main_call5_c_1 : Ref sig .tc := ⟨.hbm, 160, rfl⟩
abbrev main_call5_v5 : Ref sig .tc := ⟨.hbm, 161, rfl⟩
abbrev main_call5_v6 : Ref sig .tc := ⟨.hbm, 162, rfl⟩
abbrev main_call5_c_2 : Ref sig .tc := ⟨.hbm, 163, rfl⟩
abbrev main_call5_v7 : Ref sig .tc := ⟨.hbm, 164, rfl⟩
abbrev main_call5_v8 : Ref sig .tc := ⟨.hbm, 165, rfl⟩
abbrev main_call5_c_3 : Ref sig .tc := ⟨.hbm, 166, rfl⟩
abbrev main_call5_v9 : Ref sig .tc := ⟨.hbm, 167, rfl⟩
abbrev main_call5_v10 : Ref sig .tc := ⟨.hbm, 168, rfl⟩
abbrev main_call5_v11 : Ref sig .tc := ⟨.hbm, 169, rfl⟩
abbrev main_call5_v12 : Ref sig .tc := ⟨.hbm, 170, rfl⟩
abbrev main_call5_v13 : Ref sig .tc := ⟨.hbm, 171, rfl⟩
abbrev main_call5_v14 : Ref sig .tc := ⟨.hbm, 172, rfl⟩
abbrev main_v46 : Ref sig .tc := ⟨.hbm, 173, rfl⟩
abbrev main_v47 : Ref sig .tc := ⟨.hbm, 174, rfl⟩
abbrev main_cst_9 : Ref sig .tc := ⟨.hbm, 175, rfl⟩
abbrev main_v48 : Ref sig .tc := ⟨.hbm, 176, rfl⟩
abbrev main_v49 : Ref sig .tc := ⟨.hbm, 177, rfl⟩
abbrev main_v50 : Ref sig .tc := ⟨.hbm, 178, rfl⟩
abbrev main_call6_v0 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_c_10 : Ref sig .tc := ⟨.hbm, 184, rfl⟩
abbrev main_call7_v0 : Ref sig .tc := ⟨.hbm, 185, rfl⟩
abbrev main_call7_c : Ref sig .tc := ⟨.hbm, 186, rfl⟩
abbrev main_call7_v1 : Ref sig .tc := ⟨.hbm, 187, rfl⟩
abbrev main_call7_c_0 : Ref sig .tc := ⟨.hbm, 188, rfl⟩
abbrev main_call7_v2 : Ref sig .tc := ⟨.hbm, 189, rfl⟩
abbrev main_call7_v3 : Ref sig .tc := ⟨.hbm, 190, rfl⟩
abbrev main_call7_v4 : Ref sig .tc := ⟨.hbm, 191, rfl⟩
abbrev main_call7_c_1 : Ref sig .tc := ⟨.hbm, 192, rfl⟩
abbrev main_call7_v5 : Ref sig .tc := ⟨.hbm, 193, rfl⟩
abbrev main_call7_v6 : Ref sig .tc := ⟨.hbm, 194, rfl⟩
abbrev main_call7_c_2 : Ref sig .tc := ⟨.hbm, 195, rfl⟩
abbrev main_call7_v7 : Ref sig .tc := ⟨.hbm, 196, rfl⟩
abbrev main_call7_v8 : Ref sig .tc := ⟨.hbm, 197, rfl⟩
abbrev main_call7_c_3 : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_v12 : Ref sig .tc := ⟨.hbm, 202, rfl⟩
abbrev main_call7_v13 : Ref sig .tc := ⟨.hbm, 203, rfl⟩
abbrev main_call7_v14 : Ref sig .tc := ⟨.hbm, 204, rfl⟩
abbrev main_v55 : Ref sig .tc := ⟨.hbm, 205, rfl⟩
abbrev main_v56 : Ref sig .tc := ⟨.hbm, 206, rfl⟩
abbrev main_cst_11 : Ref sig .tc := ⟨.hbm, 207, rfl⟩
abbrev main_v57 : Ref sig .tc := ⟨.hbm, 208, rfl⟩
abbrev main_v58 : Ref sig .tc := ⟨.hbm, 209, rfl⟩
abbrev main_v59 : Ref sig .tc := ⟨.hbm, 210, rfl⟩
abbrev main_v60 : Ref sig .tc := ⟨.hbm, 211, rfl⟩
abbrev main_v61 : Ref sig .tc := ⟨.hbm, 212, rfl⟩
abbrev main_v62 : Ref sig .tc := ⟨.hbm, 213, rfl⟩
abbrev main_v63 : Ref sig .tc := ⟨.hbm, 214, rfl⟩
abbrev main_c_12 : Ref sig .tc := ⟨.hbm, 215, rfl⟩
abbrev main_call8_v0 : Ref sig .tc := ⟨.hbm, 216, rfl⟩
abbrev main_call8_c : Ref sig .tc := ⟨.hbm, 217, rfl⟩
abbrev main_call8_v1 : Ref sig .tc := ⟨.hbm, 218, rfl⟩
abbrev main_call8_c_0 : Ref sig .tc := ⟨.hbm, 219, rfl⟩
abbrev main_call8_v2 : Ref sig .tc := ⟨.hbm, 220, rfl⟩
abbrev main_call8_v3 : Ref sig .tc := ⟨.hbm, 221, rfl⟩
abbrev main_call8_v4 : Ref sig .tc := ⟨.hbm, 222, rfl⟩
abbrev main_call8_c_1 : Ref sig .tc := ⟨.hbm, 223, rfl⟩
abbrev main_call8_v5 : Ref sig .tc := ⟨.hbm, 224, rfl⟩
abbrev main_call8_v6 : Ref sig .tc := ⟨.hbm, 225, rfl⟩
abbrev main_call8_c_2 : Ref sig .tc := ⟨.hbm, 226, rfl⟩
abbrev main_call8_v7 : Ref sig .tc := ⟨.hbm, 227, rfl⟩
abbrev main_call8_v8 : Ref sig .tc := ⟨.hbm, 228, rfl⟩
abbrev main_call8_c_3 : Ref sig .tc := ⟨.hbm, 229, rfl⟩
abbrev main_call8_v9 : Ref sig .tc := ⟨.hbm, 230, rfl⟩
abbrev main_call8_v10 : Ref sig .tc := ⟨.hbm, 231, rfl⟩
abbrev main_call8_v11 : Ref sig .tc := ⟨.hbm, 232, rfl⟩
abbrev main_call8_v12 : Ref sig .tc := ⟨.hbm, 233, rfl⟩
abbrev main_call8_v13 : Ref sig .tc := ⟨.hbm, 234, rfl⟩
abbrev main_call8_v14 : Ref sig .tc := ⟨.hbm, 235, rfl⟩
abbrev main_v64 : Ref sig .tc := ⟨.hbm, 236, rfl⟩
abbrev main_v65 : Ref sig .tc := ⟨.hbm, 237, rfl⟩
abbrev main_cst_13 : Ref sig .tc := ⟨.hbm, 238, rfl⟩
abbrev main_v66 : Ref sig .tc := ⟨.hbm, 239, rfl⟩
abbrev main_v67 : Ref sig .tc := ⟨.hbm, 240, rfl⟩
abbrev main_v68 : Ref sig .tc := ⟨.hbm, 241, rfl⟩
abbrev main_call9_v0 : Ref sig .tc := ⟨.hbm, 242, rfl⟩
abbrev main_v69 : Ref sig .tc := ⟨.hbm, 243, rfl⟩
abbrev main_v70 : Ref sig .tc := ⟨.hbm, 244, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvRefIdeal.lean ====
abbrev S2048 : Shape := ⟨1, ![2048]⟩
abbrev S512x4 : Shape := ⟨2, ![512, 4]⟩
abbrev S4x512 : Shape := ⟨2, ![4, 512]⟩
abbrev S1024 : Shape := ⟨1, ![1024]⟩
abbrev S1024x1x1 : Shape := ⟨3, ![1024, 1, 1]⟩
abbrev S_ : Shape := ⟨0, ![]⟩
abbrev S1x4x512 : Shape := ⟨3, ![1, 4, 512]⟩
abbrev S1024x4x512 : Shape := ⟨3, ![1024, 4, 512]⟩
abbrev S1024x4x1x512 : Shape := ⟨4, ![1024, 4, 1, 512]⟩
abbrev S1024x4x2x512 : Shape := ⟨4, ![1024, 4, 2, 512]⟩
abbrev S1024x4096 : Shape := ⟨2, ![1024, 4096]⟩

abbrev nBuf : Space → Nat
  | .hbm => 116
  | .vmem => 0
  | .smem => 0
  | _ => 0

abbrev bufTy : (tb : Table) → Fin (tcTables nBuf tb) → BufTy
  | .hbm, ⟨0, _⟩ => ⟨S2048, .i32⟩
  | .hbm, ⟨1, _⟩ => ⟨S512x4, .i32⟩
  | .hbm, ⟨2, _⟩ => ⟨S4x512, .i32⟩
  | .hbm, ⟨3, _⟩ => ⟨S1024, .i32⟩
  | .hbm, ⟨4, _⟩ => ⟨S1024x1x1, .i32⟩
  | .hbm, ⟨5, _⟩ => ⟨S_, .i32⟩
  | .hbm, ⟨6, _⟩ => ⟨S_, .i32⟩
  | .hbm, ⟨7, _⟩ => ⟨S1024x1x1, .i32⟩
  | .hbm, ⟨8, _⟩ => ⟨S1024x1x1, .i32⟩
  | .hbm, ⟨9, _⟩ => ⟨S1024x1x1, .i32⟩
  | .hbm, ⟨10, _⟩ => ⟨S_, .i32⟩
  | .hbm, ⟨11, _⟩ => ⟨S1024x1x1, .i32⟩
  | .hbm, ⟨12, _⟩ => ⟨S1024x1x1, .i1⟩
  | .hbm, ⟨13, _⟩ => ⟨S1024x1x1, .i32⟩
  | .hbm, ⟨14, _⟩ => ⟨S1024x1x1, .i32⟩
  | .hbm, ⟨15, _⟩ => ⟨S_, .i32⟩
  | .hbm, ⟨16, _⟩ => ⟨S1024x1x1, .i32⟩
  | .hbm, ⟨17, _⟩ => ⟨S1024x1x1, .i1⟩
  | .hbm, ⟨18, _⟩ => ⟨S1024x1x1, .i1⟩
  | .hbm, ⟨19, _⟩ => ⟨S_, .i32⟩
  | .hbm, ⟨20, _⟩ => ⟨S1024x1x1, .i32⟩
  | .hbm, ⟨21, _⟩ => ⟨S1024x1x1, .i32⟩
  | .hbm, ⟨22, _⟩ => ⟨S1024x1x1, .i32⟩
  | .hbm, ⟨23, _⟩ => ⟨S_, .i32⟩
  | .hbm, ⟨24, _⟩ => ⟨S1024x1x1, .i32⟩
  | .hbm, ⟨25, _⟩ => ⟨S1024x1x1, .i32⟩
  | .hbm, ⟨26, _⟩ => ⟨S1x4x512, .i32⟩
  | .hbm, ⟨27, _⟩ => ⟨S1024x4x512, .i32⟩
  | .hbm, ⟨28, _⟩ => ⟨S1024x4x512, .i32⟩
  | .hbm, ⟨29, _⟩ => ⟨S1024x4x512, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S1024x4x512, .i32⟩
  | .hbm, ⟨37, _⟩ => ⟨S1024x4x512, .i32⟩
  | .hbm, ⟨38, _⟩ => ⟨S_, .i32⟩
  | .hbm, ⟨39, _⟩ => ⟨S1024x4x512, .i32⟩
  | .hbm, ⟨40, _⟩ => ⟨S1024x4x512, .i1⟩
  | .hbm, ⟨41, _⟩ => ⟨S_, .i32⟩
  | .hbm, ⟨42, _⟩ => ⟨S1024x4x512, .i32⟩
  | .hbm, ⟨43, _⟩ => ⟨S1024x4x512, .i1⟩
  | .hbm, ⟨44, _⟩ => ⟨S_, .i32⟩
  | .hbm, ⟨45, _⟩ => ⟨S_, .i1⟩
  | .hbm, ⟨46, _⟩ => ⟨S1024x4x512, .i1⟩
  | .hbm, ⟨47, _⟩ => ⟨S1024x4x512, .i1⟩
  | .hbm, ⟨48, _⟩ => ⟨S1024x4x512, .i1⟩
  | .hbm, ⟨49, _⟩ => ⟨S1024x4x512, .i32⟩
  | .hbm, ⟨50, _⟩ => ⟨S1024x4x512, .i32⟩
  | .hbm, ⟨51, _⟩ => ⟨S1024x4x512, .i32⟩
  | .hbm, ⟨52, _⟩ => ⟨S1024x4x512, .f32⟩
  | .hbm, ⟨53, _⟩ => ⟨S_, .f32⟩
  | .hbm, ⟨54, _⟩ => ⟨S1024x4x512, .f32⟩
  | .hbm, ⟨55, _⟩ => ⟨S1024x4x512, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S1024x1x1, .i32⟩
  | .hbm, ⟨63, _⟩ => ⟨S1024x1x1, .i32⟩
  | .hbm, ⟨64, _⟩ => ⟨S_, .i32⟩
  | .hbm, ⟨65, _⟩ => ⟨S1024x1x1, .i32⟩
  | .hbm, ⟨66, _⟩ => ⟨S1024x1x1, .i1⟩
  | .hbm, ⟨67, _⟩ => ⟨S_, .i32⟩
  | .hbm, ⟨68, _⟩ => ⟨S1024x1x1, .i32⟩
  | .hbm, ⟨69, _⟩ => ⟨S1024x1x1, .i1⟩
  | .hbm, ⟨70, _⟩ => ⟨S_, .i32⟩
  | .hbm, ⟨71, _⟩ => ⟨S_, .i1⟩
  | .hbm, ⟨72, _⟩ => ⟨S1024x1x1, .i1⟩
  | .hbm, ⟨73, _⟩ => ⟨S1024x1x1, .i1⟩
  | .hbm, ⟨74, _⟩ => ⟨S1024x1x1, .i1⟩
  | .hbm, ⟨75, _⟩ => ⟨S1024x1x1, .i32⟩
  | .hbm, ⟨76, _⟩ => ⟨S1024x1x1, .i32⟩
  | .hbm, ⟨77, _⟩ => ⟨S1024x1x1, .i32⟩
  | .hbm, ⟨78, _⟩ => ⟨S1x4x512, .i32⟩
  | .hbm, ⟨79, _⟩ => ⟨S1024x4x512, .i32⟩
  | .hbm, ⟨80, _⟩ => ⟨S1024x4x512, .i32⟩
  | .hbm, ⟨81, _⟩ => ⟨S1024x4x512, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S1024x4x512, .i32⟩
  | .hbm, ⟨89, _⟩ => ⟨S1024x4x512, .i32⟩
  | .hbm, ⟨90, _⟩ => ⟨S_, .i32⟩
  | .hbm, ⟨91, _⟩ => ⟨S1024x4x512, .i32⟩
  | .hbm, ⟨92, _⟩ => ⟨S1024x4x512, .i1⟩
  | .hbm, ⟨93, _⟩ => ⟨S_, .i32⟩
  | .hbm, ⟨94, _⟩ => ⟨S1024x4x512, .i32⟩
  | .hbm, ⟨95, _⟩ => ⟨S1024x4x512, .i1⟩
  | .hbm, ⟨96, _⟩ => ⟨S_, .i32⟩
  | .hbm, ⟨97, _⟩ => ⟨S_, .i1⟩
  | .hbm, ⟨98, _⟩ => ⟨S1024x4x512, .i1⟩
  | .hbm, ⟨99, _⟩ => ⟨S1024x4x512, .i1⟩
  | .hbm, ⟨100, _⟩ => ⟨S1024x4x512, .i1⟩
  | .hbm, ⟨101, _⟩ => ⟨S1024x4x512, .i32⟩
  | .hbm, ⟨102, _⟩ => ⟨S1024x4x512, .i32⟩
  | .hbm, ⟨103, _⟩ => ⟨S1024x4x512, .i32⟩
  | .hbm, ⟨104, _⟩ => ⟨S1024x4x512, .f32⟩
  | .hbm, ⟨105, _⟩ => ⟨S_, .f32⟩
  | .hbm, ⟨106, _⟩ => ⟨S1024x4x512, .f32⟩
  | .hbm, ⟨107, _⟩ => ⟨S1024x4x512, .f32⟩
  | .hbm, ⟨108, _⟩ => ⟨S1024x4x512, .f32⟩
  | .hbm, ⟨109, _⟩ => ⟨S1024x4x512, .f32⟩
  | .hbm, ⟨110, _⟩ => ⟨S1024x4x512, .f32⟩
  | .hbm, ⟨111, _⟩ => ⟨S1024x4x1x512, .f32⟩
  | .hbm, ⟨112, _⟩ => ⟨S1024x4x1x512, .f32⟩
  | .hbm, ⟨113, _⟩ => ⟨S1024x4x2x512, .f32⟩
  | .hbm, ⟨114, _⟩ => ⟨S1024x4096, .f32⟩
  | .hbm, ⟨115, _⟩ => ⟨S1024x4096, .bf16⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_v0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v12 : Ref sig .tc := ⟨.hbm, 51, rfl⟩
abbrev main_v13 : Ref sig .tc := ⟨.hbm, 52, rfl⟩
abbrev main_cst : Ref sig .tc := ⟨.hbm, 53, rfl⟩
abbrev main_v14 : Ref sig .tc := ⟨.hbm, 54, rfl⟩
abbrev main_v15 : Ref sig .tc := ⟨.hbm, 55, rfl⟩
abbrev main_c_2 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_c_3 : Ref sig .tc := ⟨.hbm, 82, rfl⟩
abbrev main_call3_v0 : Ref sig .tc := ⟨.hbm, 83, rfl⟩
abbrev main_call3_c : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_c_1 : Ref sig .tc := ⟨.hbm, 90, rfl⟩
abbrev main_call3_v5 : Ref sig .tc := ⟨.hbm, 91, rfl⟩
abbrev main_call3_v6 : Ref sig .tc := ⟨.hbm, 92, rfl⟩
abbrev main_call3_c_2 : Ref sig .tc := ⟨.hbm, 93, rfl⟩
abbrev main_call3_v7 : Ref sig .tc := ⟨.hbm, 94, rfl⟩
abbrev main_call3_v8 : Ref sig .tc := ⟨.hbm, 95, rfl⟩
abbrev main_call3_c_3 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_v12 : Ref sig .tc := ⟨.hbm, 100, rfl⟩
abbrev main_call3_v13 : Ref sig .tc := ⟨.hbm, 101, rfl⟩
abbrev main_call3_v14 : Ref sig .tc := ⟨.hbm, 102, rfl⟩
abbrev main_v21 : Ref sig .tc := ⟨.hbm, 103, rfl⟩
abbrev main_v22 : Ref sig .tc := ⟨.hbm, 104, rfl⟩
abbrev main_cst_4 : Ref sig .tc := ⟨.hbm, 105, rfl⟩
abbrev main_v23 : Ref sig .tc := ⟨.hbm, 106, rfl⟩
abbrev main_v24 : Ref sig .tc := ⟨.hbm, 107, rfl⟩
abbrev main_v25 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩

abbrev nD : Nat := 1
abbrev τ : Topo := Topo.v7x

variable {F : FTy → Type} [FloatOps F]
-- ==== Proof.Ereal.lean ====
module

public import Idealize.ShloMosaic.Lib.Pointwise
public import Idealize.ShloMosaic.PureOps.Ideal
public import Idealize.ShloMosaic.PureOps.Ideal.Laws

@[expose] public section

noncomputable section
open Idealize.ShloMosaic

/-! Facts about extended reals that are finite numbers, used by every value claim. -/
namespace Cert.K

/-- The extended real is a finite number. -/
def IsNum (x : EReal) : Prop := ∃ r : ℝ, x = (r : EReal)

namespace IsNum

theorem of_lt {x : EReal} (h1 : x < ⊤) (h2 : ⊥ < x) : IsNum x :=
  ⟨x.toReal, (EReal.coe_toReal h1.ne h2.ne').symm⟩

theorem coe (r : ℝ) : IsNum (r : EReal) := ⟨r, rfl⟩

theorem zero : IsNum 0 := ⟨0, rfl⟩

theorem add {x y : EReal} : IsNum x → IsNum y → IsNum (x + y) := by
  rintro ⟨a, rfl⟩ ⟨b, rfl⟩; exact ⟨a + b, by push_cast; rfl⟩

theorem mul {x y : EReal} : IsNum x → IsNum y → IsNum (x * y) := by
  rintro ⟨a, rfl⟩ ⟨b, rfl⟩; exact ⟨a * b, by push_cast; rfl⟩

theorem sub {x y : EReal} : IsNum x → IsNum y → IsNum (x - y) := by
  rintro ⟨a, rfl⟩ ⟨b, rfl⟩; exact ⟨a - b, by push_cast; rfl⟩

theorem sum {ι : Type} (s : Finset ι) (f : ι → EReal) (h : ∀ i, IsNum (f i)) : IsNum (∑ i ∈ s, f i) := by
  classical
  induction s using Finset.induction_on with
  | empty => exact ⟨0, by simp⟩
  | insert a s ha ih => rw [Finset.sum_insert ha]; exact (h a).add ih

end IsNum

/-- A finite nonnegative factor goes into a finite sum of extended reals. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih]; push_cast; rfl

/-- The largest of finitely many finite numbers is one of them, whatever the order: a finite number. -/
theorem fold_max_coe {n : ℕ} (f : Fin (n + 1) → ℝ) :
    ∃ M : ℝ, (Finset.univ.fold max ⊥ fun i => (f i : EReal)) = (M : EReal) ∧
      ∀ c : ℝ, 0 ≤ c → (Finset.univ.fold max ⊥ fun i => ((f i * c : ℝ) : EReal)) = ((M * c : ℝ) : EReal) := by
  refine ⟨Finset.univ.sup' ⟨0, Finset.mem_univ _⟩ f, ?_, ?_⟩
  · have h : ∀ g : Fin (n + 1) → EReal, (Finset.univ.fold max ⊥ g) = Finset.univ.sup g := fun g => rfl
    rw [h, ← Finset.sup'_eq_sup ⟨0, Finset.mem_univ _⟩]
    exact (Finset.comp_sup'_eq_sup'_comp _ (fun r : ℝ => (r : EReal)) (fun x y => EReal.coe_strictMono.monotone.map_max)).symm
  · intro c hc
    have h : ∀ g : Fin (n + 1) → EReal, (Finset.univ.fold max ⊥ g) = Finset.univ.sup g := fun g => rfl
    rw [h, ← Finset.sup'_eq_sup ⟨0, Finset.mem_univ _⟩]
    refine (Finset.comp_sup'_eq_sup'_comp _ (fun r : ℝ => ((r * c : ℝ) : EReal)) (fun x y => ?_)).symm
    show (((max x y) * c : ℝ) : EReal) = max _ _
    rw [max_mul_of_nonneg _ _ hc]; exact EReal.coe_strictMono.monotone.map_max

theorem bits_neg_inf : Ideal.ofBits .f32 0xFF800000#32 = ⊥ := by simp [Ideal.ofBits, Ideal.ieee]
theorem bits_pos_inf : Ideal.ofBits .f32 0x7F800000#32 = ⊤ := by simp [Ideal.ofBits, Ideal.ieee]
theorem bits_two : Ideal.ofBits .f32 0x40000000#32 = ((2 : ℝ) : EReal) := by
  simp [Ideal.ofBits, Ideal.ieee, -EReal.coe_mul]; norm_num

theorem log_two : Ideal.log (Ideal.ofBits .f32 0x40000000#32) = ((Real.log 2 : ℝ) : EReal) := by
  rw [bits_two]
  show (if (2:ℝ) ≤ 0 then (⊥ : EReal) else (Real.log 2 : EReal)) = _
  rw [if_neg (by norm_num)]

theorem IsNum.exp {x : EReal} : IsNum x → IsNum (Ideal.exp x) := by
  rintro ⟨a, rfl⟩; exact ⟨_, Ideal.exp_coe a⟩

/-- A quotient by a finite number other than zero multiplies by its reciprocal. -/
theorem div_num (x : EReal) {l : ℝ} (hl : l ≠ 0) : Ideal.div x (l : EReal) = x * ((l⁻¹ : ℝ) : EReal) := by
  have h : ((l : ℝ) : EReal) ≠ 0 := by exact_mod_cast hl
  simp only [Ideal.div, if_neg h, EReal.coe_inv]

/-! ## Softmax: base 2 with the quotient last, and base e with the quotient first -/

/-- Base-2 softmax of the scores `s` applied to the values `v`, the quotient taken of the whole sum. -/
def headTwo {n : ℕ} (s v : Fin n → EReal) : EReal :=
  Ideal.div (∑ x, v x * Ideal.exp2 (s x - Finset.univ.fold max (Ideal.ofBits .f32 0xFF800000#32) s))
    (∑ x, Ideal.exp2 (s x - Finset.univ.fold max (Ideal.ofBits .f32 0xFF800000#32) s))

/-- Softmax of `s * log 2` applied to the values `v`, each weight a quotient. -/
def headE {n : ℕ} (s v : Fin n → EReal) : EReal :=
  ∑ x, v x * Ideal.div
    (Ideal.exp (s x * Ideal.log (Ideal.ofBits .f32 0x40000000#32) - max (Ideal.ofBits .f32 0xFF800000#32)
      (Finset.univ.fold max (Ideal.ofBits .f32 0xFF800000#32) fun y => s y * Ideal.log (Ideal.ofBits .f32 0x40000000#32))))
    (∑ z, Ideal.exp (s z * Ideal.log (Ideal.ofBits .f32 0x40000000#32) - max (Ideal.ofBits .f32 0xFF800000#32)
      (Finset.univ.fold max (Ideal.ofBits .f32 0xFF800000#32) fun y => s y * Ideal.log (Ideal.ofBits .f32 0x40000000#32))))

/-- For finite scores the two are one function of any values, infinite ones too. -/
theorem headTwo_eq_headE {n : ℕ} (s v : Fin (n + 1) → EReal) (hs : ∀ x, IsNum (s x)) : headTwo s v = headE s v := by
  choose σ hσ using hs
  obtain rfl : s = fun x => (σ x : EReal) := funext hσ
  obtain ⟨M, h1, h2⟩ := fold_max_coe σ
  have hl : (0 : ℝ) ≤ Real.log 2 := (Real.log_pos (by norm_num)).le
  have hL : (Finset.univ.fold max ⊥ fun y => (σ y : EReal) * ((Real.log 2 : ℝ) : EReal)) = ((M * Real.log 2 : ℝ) : EReal) := by
    rw [← h2 _ hl]; push_cast; rfl
  have hp : ∀ x, Ideal.exp ((σ x : EReal) * ((Real.log 2 : ℝ) : EReal) - ((M * Real.log 2 : ℝ) : EReal))
      = ((Real.exp ((σ x - M) * Real.log 2) : ℝ) : EReal) := by
    intro x
    rw [← EReal.coe_mul, ← EReal.coe_sub, Ideal.exp_coe, sub_mul]
  have hq : ∀ x, Ideal.exp2 ((σ x : EReal) - (M : EReal)) = ((Real.exp ((σ x - M) * Real.log 2) : ℝ) : EReal) := by
    intro x
    rw [← EReal.coe_sub, Ideal.exp2_coe]
    congr 1
    show (2 : ℝ) ^ (σ x - M) = _
    rw [Real.rpow_def_of_pos (by norm_num), mul_comm]
  have hpos : (0 : ℝ) < ∑ x, Real.exp ((σ x - M) * Real.log 2) :=
    Finset.sum_pos (fun x _ => Real.exp_pos _) ⟨0, Finset.mem_univ _⟩
  unfold headTwo headE
  simp only [log_two, bits_neg_inf, h1, hL, max_eq_right bot_le, hp, hq, ← coe_sum, div_num _ hpos.ne']
  rw [sum_mul_coe _ _ _ (inv_nonneg.2 hpos.le)]
  exact Finset.sum_congr rfl fun x _ => mul_assoc _ _ _

end Cert.K
-- ==== Proof.Finite.lean ====
module

public import proofs.«01_k».proof.Defs
public import proofs.«01_k».proof.Proof.Ereal
public import proofs.«01_k».proof.Proof.Gen.Pre_finite_qk
public import Idealize.ShloMosaic.Lib.ReduceAll
public import Idealize.ShloMosaic.Lib.Pointwise

@[expose] public section

noncomputable section
open Idealize.ShloMosaic

/-! The preconditions read back: every entry of the named arguments is a finite number. -/
namespace Cert.K

/-- An array whose entries all lie between the two infinities holds numbers. -/
theorem finite_of_all {s t u : Shape} {axes : List (Fin s.rank)} [Subsingleton t.Idx] (x lo hi : FVec Ideal s .f32)
    (hlo : ∀ i, lo i = Ideal.ofBits .f32 0xFF800000#32) (hhi : ∀ i, hi i = Ideal.ofBits .f32 0x7F800000#32)
    (init : u.Idx → BitVec 1) (h : s.ReducesTo axes t) (hu : 0 < u.numel) (j : t.Idx)
    (e : Host.reduce IntOp.andi (andi (cmpf .olt x hi) (cmpf .ogt x lo)) init h hu j = 1#1) (i : s.Idx) : IsNum (x i) := by
  have e := Host.reduce_andi_all _ _ _ _ j e i
  obtain ⟨h1, h2⟩ := IntOp.andi_eq_one.1 e
  have h1 : Ideal.cmp .olt (x i) (hi i) = 1#1 := h1
  have h2 : Ideal.cmp .ogt (x i) (lo i) = 1#1 := h2
  rw [hhi, bits_pos_inf] at h1
  rw [hlo, bits_neg_inf] at h2
  refine IsNum.of_lt ?_ ?_
  · by_contra hc
    simp [Ideal.cmp, hc] at h1
  · by_contra hc
    simp [Ideal.cmp, hc] at h2

section Qk
open Cert.Pre_finite_qk

theorem qk_part (a b : IVec S1 1) : fn_part1 (F := Ideal) a b (ix1 0) = a (ix1 0) ∧ fn_part1 (F := Ideal) a b (ix1 1) = b (ix1 0) := by
  constructor
  · pointwise [fn_part1]
  · pointwise [fn_part1]

theorem finite_qk (q k : FVec Ideal S16384x512 .bf16) (v : FVec Ideal S8x256x2048 .bf16)
    (h : fn (F := Ideal) q k v = fun _ => 1#1) : (∀ i, IsNum (q i)) ∧ ∀ i, IsNum (k i) := by
  constructor
  · have h0 := congrFun h (ix1 0)
    unfold fn at h0
    dsimp only at h0
    rw [(qk_part _ _).1, broadcastInDim] at h0
    exact finite_of_all (extf .f32 q _) _ _ (fun _ => rfl) (fun _ => rfl) _ _ _ _ h0
  · have h0 := congrFun h (ix1 1)
    unfold fn at h0
    dsimp only at h0
    rw [(qk_part _ _).2, broadcastInDim] at h0
    exact finite_of_all (extf .f32 k _) _ _ (fun _ => rfl) (fun _ => rfl) _ _ _ _ h0
end Qk
end Cert.K
-- ==== Proof.MlaPure.lean ====
module

public import proofs.«01_k».proof.Proof.Gen.MlaIdeal.Skeleton
public import proofs.«01_k».proof.Proof.Ereal
public import Idealize.ShloMosaic.Lib.Pointwise

@[expose] public section

set_option maxRecDepth 16384

noncomputable section
open Idealize.ShloMosaic Idealize.ShloMosaic.TcCoe Idealize.SL.Sem

/-! What one grid point of the attention computes, head by head. -/
namespace Cert.MlaIdeal.Att
open Cert.MlaIdeal Cert.MlaIdeal.Gen Cert.K

/-- One head of the block: softmax over the keys of its scores, applied to its values. -/
def blockHead (K : Vec Ideal S2048x128 .bf16) (Q : Vec Ideal S1024x128 .bf16) (W : Vec Ideal S1x64x2048 .bf16)
    (d : Fin 64) (r : Fin 1024) : EReal :=
  headTwo (fun k : Fin 2048 => ∑ e : Fin 128, K (ix2 k e) * Q (ix2 r e)) (fun k => W (ix3 0 d k))

theorem pay2_at (K : Vec Ideal S2048x128 .bf16) (Q : Vec Ideal S1024x128 .bf16) (W : Vec Ideal S1x64x2048 .bf16)
    (d : Fin 64) (r : Fin 1024) : k0_pay2 (F := Ideal) K Q W (ix2 d r) = blockHead K Q W d r := by
  pointwise [k0_pay2]
  rfl

theorem pay3_at (K : Vec Ideal S2048x128 .bf16) (Q : Vec Ideal S1024x128 .bf16) (W : Vec Ideal S1x64x2048 .bf16)
    (d : Fin 64) (r : Fin 1024) : k0_pay3 (F := Ideal) K Q W (ix2 d r) = blockHead K Q W d r := pay2_at K Q W d r

theorem pay1_at (A B : FVec Ideal S64x1024 .f32) (K : Vec Ideal S2048x128 .bf16) (Q : Vec Ideal S1024x128 .bf16) (W : Vec Ideal S1x64x2048 .bf16)
   (K' : Vec Ideal S2048x128 .bf16) (Q' : Vec Ideal S1024x128 .bf16) (W' : Vec Ideal S1x64x2048 .bf16)
    (d : Fin 256) (r : Fin 1024) : k0_pay1 (F := Ideal) A B K Q W K' Q' W' (ix2 r d) =
      (if h : (d : ℕ) < 64 then A (ix2 ⟨d, h⟩ r)
      else if h : (d : ℕ) - 64 < 64 then B (ix2 ⟨d - 64, h⟩ r)
      else if h : (d : ℕ) - 64 - 64 < 64 then blockHead K Q W ⟨d - 64 - 64, h⟩ r
      else blockHead K' Q' W' ⟨d - 64 - 64 - 64, by omega⟩ r) := by
  pointwise [k0_pay1]
  rfl
end Cert.MlaIdeal.Att
-- ==== Proof.MlaRefPure.lean ====
module

public import proofs.«01_k».proof.Proof.Gen.MlaRefIdeal.Read
public import proofs.«01_k».proof.Proof.Ereal
public import Idealize.ShloMosaic.Lib.Pointwise

@[expose] public section

set_option maxRecDepth 16384

noncomputable section
open Idealize.ShloMosaic Idealize.ShloMosaic.TcCoe Idealize.SL.Sem

/-! The attention's reference, read at an index. -/
namespace Cert.MlaRefIdeal.Att
open Cert.MlaRefIdeal Cert.MlaRefIdeal.Gen Cert.MlaRefIdeal.Read Cert.K

variable (Q K : FVec Ideal S16384x512 .bf16) (V : FVec Ideal S8x256x2048 .bf16)

/-- The score of query `q` against key `k` in head `h` of batch `b`. -/
def score (b : Fin 8) (h : Fin 4) (q k : Fin 2048) : EReal :=
  ∑ e : Fin 128, Q (ix2 ⟨b * 2048 + q, by omega⟩ ⟨h * 128 + e, by omega⟩) * K (ix2 ⟨b * 2048 + k, by omega⟩ ⟨h * 128 + e, by omega⟩)

theorem v6_at (b : Fin 8) (h : Fin 4) (q k : Fin 2048) : val_main_v6 (F := Ideal) Q K (ix4 b h q k) = score Q K b h q k := by
  pointwise [val_main_v6, val_main_v3, val_main_v2, val_main_v1, val_main_v0]
  rfl

/-- The factor the reference multiplies the scores by. -/
abbrev L2 : EReal := Ideal.log (Ideal.ofBits .f32 0x40000000#32)

theorem v9_at (b : Fin 8) (h : Fin 4) (q k : Fin 2048) : val_main_v9 (F := Ideal) Q K (ix4 b h q k) = score Q K b h q k * L2 := by
  pointwise [val_main_v9, val_main_v8, val_main_v7, val_main_cst, v6_at]

/-- The largest scaled score of a query. -/
def top (b : Fin 8) (h : Fin 4) (q : Fin 2048) : EReal :=
  max (Ideal.ofBits .f32 0xFF800000#32) (Finset.univ.fold max (Ideal.ofBits .f32 0xFF800000#32) fun k => score Q K b h q k * L2)

theorem v10_at (b : Fin 8) (h : Fin 4) (q : Fin 2048) : val_main_v10 (F := Ideal) Q K (ix3 b h q)
    = Finset.univ.fold max (Ideal.ofBits .f32 0xFF800000#32) fun k => score Q K b h q k * L2 := by
  have hr : S8x4x2048x2048.Reduces [3] S8x4x2048 := by decide
  unfold val_main_v10
  refine (Host.reduce_eq_fold_single _ _ _ _ hr _ _).trans ?_
  refine Eq.trans (congrArg (fun g : Fin 2048 → EReal => Finset.univ.fold max (Ideal.ofBits .f32 0xFF800000#32) g) (funext fun k => ?_)) rfl
  refine Eq.trans ?_ (v9_at Q K b h q k)
  refine congrArg (val_main_v9 (F := Ideal) Q K) (funext fun a => Fin.ext ?_)
  match a with | ⟨0, _⟩ => rfl | ⟨1, _⟩ => rfl | ⟨2, _⟩ => rfl | ⟨3, _⟩ => rfl

theorem v12_at (b : Fin 8) (h : Fin 4) (q : Fin 2048) : val_main_v12 (F := Ideal) Q K (ix3 b h q) = top Q K b h q := by
  rw [val_main_v12_apply, v10_at, val_main_v11_apply, val_main_cst_1_apply]
  unfold top; rw [Ideal.maximumf_def]; exact congrArg₂ max rfl rfl

theorem v14_at (b : Fin 8) (h : Fin 4) (q k : Fin 2048) : val_main_v14 (F := Ideal) Q K (ix4 b h q k) = top Q K b h q := by
  rw [val_main_v14_apply, val_main_v13_apply, ← v12_at]
  exact congrArg (val_main_v12 (F := Ideal) Q K) (by idx_ext)

theorem v16_at (b : Fin 8) (h : Fin 4) (q k : Fin 2048) : val_main_v16 (F := Ideal) Q K (ix4 b h q k)
    = Ideal.exp (score Q K b h q k * L2 - top Q K b h q) := by
  rw [val_main_v16_apply, val_main_v15_apply, v9_at, v14_at]
  rfl

theorem v17_at (b : Fin 8) (h : Fin 4) (q : Fin 2048) : val_main_v17 (F := Ideal) Q K (ix3 b h q)
    = ∑ k, Ideal.exp (score Q K b h q k * L2 - top Q K b h q) := by
  rw [val_main_v17_apply, val_main_cst_2_apply, Ideal.ofBits_def, Ideal.ofBits_zero_f32, zero_add]
  refine Finset.sum_congr rfl fun k _ => Eq.trans (congrArg (val_main_v16 (F := Ideal) Q K) ?_) (v16_at Q K b h q k)
  idx_ext

theorem v19_at (b : Fin 8) (h : Fin 4) (q k : Fin 2048) : val_main_v19 (F := Ideal) Q K (ix4 b h q k)
    = ∑ k, Ideal.exp (score Q K b h q k * L2 - top Q K b h q) := by
  rw [val_main_v19_apply, val_main_v18_apply, ← v17_at]
  exact congrArg (val_main_v17 (F := Ideal) Q K) (by idx_ext)

theorem v20_at (b : Fin 8) (h : Fin 4) (q k : Fin 2048) : val_main_v20 (F := Ideal) Q K (ix4 b h q k)
    = Ideal.div (Ideal.exp (score Q K b h q k * L2 - top Q K b h q)) (∑ k, Ideal.exp (score Q K b h q k * L2 - top Q K b h q)) := by
  rw [val_main_v20_apply, v16_at, v19_at]
  rfl

theorem v5_at (b : Fin 8) (h : Fin 4) (d : Fin 64) (k : Fin 2048) : val_main_v5 (F := Ideal) V (ix4 b h d k)
    = V (ix3 b ⟨h * 64 + d, by omega⟩ k) := by
  pointwise [val_main_v5, val_main_v4]

theorem v21_at (b : Fin 8) (h : Fin 4) (d : Fin 64) (q : Fin 2048) : val_main_v21 (F := Ideal) Q K V (ix4 b h d q)
    = headE (score Q K b h q) (fun k => V (ix3 b ⟨h * 64 + d, by omega⟩ k)) := by
  rw [val_main_v21_apply]
  unfold headE
  refine Finset.sum_congr rfl fun k _ => congrArg₂ (fun x y : EReal => x * y)
    (Eq.trans (congrArg (val_main_v5 (F := Ideal) V) ?_) (v5_at V b h d k))
    (Eq.trans (congrArg (val_main_v20 (F := Ideal) Q K) ?_) (v20_at Q K b h q k))
  · idx_ext
  · idx_ext

theorem v24_at (b : Fin 8) (h : Fin 4) (d : Fin 64) (q : Fin 2048) :
    val_main_v24 (F := Ideal) Q K V (ix2 ⟨b * 2048 + q, by omega⟩ ⟨h * 64 + d, by omega⟩) = val_main_v21 (F := Ideal) Q K V (ix4 b h d q) := by
  pointwise [val_main_v24, val_main_v23, val_main_v22]
end Cert.MlaRefIdeal.Att
-- ==== Proof.MlaValue.lean ====
module

public import proofs.«01_k».proof.Proof.Gen.MlaIdeal.Frame
public import proofs.«01_k».proof.Proof.MlaPure
public import proofs.«01_k».proof.Proof.MlaRefPure
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The attention's result array is the reference's. -/
namespace Cert.MlaIdeal.Att
open Cert.MlaIdeal Cert.MlaIdeal.Gen Cert.K

variable (m : (ℓ : Loc nD τ sig) → Buf (Elt Ideal) ℓ)

abbrev REF (Q K : FVec Ideal S16384x512 .bf16) (V : FVec Ideal S8x256x2048 .bf16) : FVec Ideal S16384x256 .bf16 :=
  Cert.MlaRefIdeal.Read.val_main_v24 (F := Ideal) Q K V

theorem idx : ∀ t : Fin cfg0.N, win0_0.index t = ![t.val, 0] ∧ win0_1.index t = ![t.val / 2, 0]
    ∧ win0_2.index t = ![t.val / 2, 0, 0] ∧ win0_3.index t = ![t.val, 0] ∧ t.val < 16 :=
  (by decide +kernel : ∀ t : Fin grid0.N, _)

/-- One head of a block is the reference's, when the block's rows are the arrays' rows of one batch. -/
theorem head_point (Q K : FVec Ideal S16384x512 .bf16) (V : FVec Ideal S8x256x2048 .bf16)
    (hQ : ∀ i, IsNum (Q i)) (hK : ∀ i, IsNum (K i))
    (Kb : Vec Ideal S2048x128 .bf16) (Qb : Vec Ideal S1024x128 .bf16) (Wb : Vec Ideal S1x64x2048 .bf16)
    (b : Fin 8) (h : Fin 4) (d : Fin 64) (q : Fin 2048) (r : Fin 1024)
    (eK : ∀ (k : Fin 2048) (e : Fin 128), Kb (ix2 k e) = K (ix2 ⟨b * 2048 + k, by omega⟩ ⟨h * 128 + e, by omega⟩))
    (eQ : ∀ e : Fin 128, Qb (ix2 r e) = Q (ix2 ⟨b * 2048 + q, by omega⟩ ⟨h * 128 + e, by omega⟩))
    (eW : ∀ k : Fin 2048, Wb (ix3 0 d k) = V (ix3 b ⟨h * 64 + d, by omega⟩ k))
    (i : S16384x256.Idx) (hi : i = ix2 ⟨b * 2048 + q, by omega⟩ ⟨h * 64 + d, by omega⟩) :
    blockHead Kb Qb Wb d r = REF Q K V i := by
  subst hi
  refine Eq.trans ?_ ((Cert.MlaRefIdeal.Att.v24_at Q K V b h d q).trans (Cert.MlaRefIdeal.Att.v21_at Q K V b h d q)).symm
  refine Eq.trans ?_ (headTwo_eq_headE (Cert.MlaRefIdeal.Att.score Q K b h q) _ fun k =>
    IsNum.sum _ _ fun e => (hQ _).mul (hK _))
  unfold blockHead
  congr 1
  · funext k
    exact Finset.sum_congr rfl fun e _ => by rw [eK, eQ]; exact mul_comm _ _
  · exact funext eW

theorem final (c : Dev nD) (hQ : ∀ i, IsNum (m ((c : Thread nD τ).loc main_arg0) i))
    (hK : ∀ i, IsNum (m ((c : Thread nD τ).loc main_arg1) i)) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  idx_vars y
  obtain ⟨i0, i1, i2, i3, ht⟩ := idx t
  rw [pay1_at]
  split_ifs with h0 h1 h2
  · rw [pay2_at]
    refine head_point _ _ _ hQ hK _ _ _ ⟨t.val / 2, by omega⟩ 0 _ ⟨t.val % 2 * 1024 + y0, by omega⟩ y0
      (fun k e => ?_) (fun e => ?_) (fun k => ?_) _ ?_
    · pointwise [r0_0]; blk_ext [iblk, V, idx t]
    · pointwise [r0_1]; blk_ext [iblk, V, idx t]
    · pointwise [r0_2]; blk_ext [iblk, V, idx t]
    · blk_ext [idx t]
  · rw [pay3_at]
    refine head_point _ _ _ hQ hK _ _ _ ⟨t.val / 2, by omega⟩ 1 _ ⟨t.val % 2 * 1024 + y0, by omega⟩ y0
      (fun k e => ?_) (fun e => ?_) (fun k => ?_) _ ?_
    · pointwise [r0_3]; blk_ext [iblk, V, idx t]
    · pointwise [r0_4]; blk_ext [iblk, V, idx t]
    · pointwise [r0_5]; blk_ext [iblk, V, idx t]
    · blk_ext [idx t]
  · refine head_point _ _ _ hQ hK _ _ _ ⟨t.val / 2, by omega⟩ 2 _ ⟨t.val % 2 * 1024 + y0, by omega⟩ y0
      (fun k e => ?_) (fun e => ?_) (fun k => ?_) _ ?_
    · pointwise [r0_6]; blk_ext [iblk, V, idx t]
    · pointwise [r0_7]; blk_ext [iblk, V, idx t]
    · pointwise [r0_8]; blk_ext [iblk, V, idx t]
    · blk_ext [idx t]
  · refine head_point _ _ _ hQ hK _ _ _ ⟨t.val / 2, by omega⟩ 3 _ ⟨t.val % 2 * 1024 + y0, by omega⟩ y0
      (fun k e => ?_) (fun e => ?_) (fun k => ?_) _ ?_
    · pointwise [r0_9]; blk_ext [iblk, V, idx t]
    · pointwise [r0_10]; blk_ext [iblk, V, idx t]
    · pointwise [r0_11]; blk_ext [iblk, V, idx t]
    · blk_ext [idx t]
end Cert.MlaIdeal.Att
-- ==== Proof.MlaClaims.lean ====
module

public import proofs.«01_k».proof.Defs
public import proofs.«01_k».proof.Proof.Finite
public import proofs.«01_k».proof.Proof.MlaValue
public import proofs.«01_k».proof.Proof.Gen.Mla.Frame
public import proofs.«01_k».proof.Proof.Gen.MlaIdeal.Frame
public import proofs.«01_k».proof.Proof.Gen.MlaRefIdeal.Run
public import proofs.«01_k».proof.Proof.Gen.MlaRefIdeal.Read
public import Idealize.ShloMosaic.Adequacy
public import Idealize.ShloMosaic.Init
public import Idealize.ShloMosaic.Lib.Quiescent

@[expose] public section

noncomputable section
open Idealize.ShloMosaic Idealize.SL.Sem

/-! The claims about the attention kernel. -/
namespace Cert.Proof.Mla

theorem ref_frame : Cert.quiescent_MlaRefIdeal := by
  intro m g _
  exact (θ_run Cert.MlaRefIdeal.defs _ _).mono (fun r h => ⟨fun c => (h c).2, sem_eq_zero_of_no_sems (by decide) r.2⟩)
    (Cert.MlaRefIdeal.Value.run (F := Ideal) m g)

theorem ref_frame_pre : Cert.quiescent_MlaRefIdeal_pre_finite_qk := fun m g _ => ref_frame m g (by trivial)

theorem algebraic : Cert.algebraic_MlaIdeal_MlaRefIdeal_pre_finite_qk := by
  pair_intro
  · run_from Cert.MlaIdeal.Gen.run_main m g
  · run_from Cert.MlaRefIdeal.Value.run m' g'
    obtain ⟨hq, hk⟩ := Cert.K.finite_qk _ _ _ (hpre c)
    exact (Cert.MlaRefIdeal.Read.val_main_v24_eq _ _ _).trans (Cert.MlaIdeal.Att.final m c hq hk).symm

end Cert.Proof.Mla
-- ==== Proof.FiniteMerge.lean ====
module

public import proofs.«01_k».proof.Defs
public import proofs.«01_k».proof.Proof.Finite
public import proofs.«01_k».proof.Proof.Gen.Pre_finite_merge

@[expose] public section

noncomputable section
open Idealize.ShloMosaic

/-! The merge's precondition read back. -/
namespace Cert.K
section Merge
open Cert.Pre_finite_merge

/-- The twelve flags of the precondition, each at its place. -/
theorem merge_part (c d e f g h i j k l : IVec S_ 1) (a b : IVec S1 1) :
    fn_part5 (F := Ideal) c d e f g h i j k l a b (ix1 0) = a (ix1 0)
    ∧ fn_part5 (F := Ideal) c d e f g h i j k l a b (ix1 1) = b (ix1 0)
    ∧ fn_part5 (F := Ideal) c d e f g h i j k l a b (ix1 2) = broadcastInDim S1 ![] Facts.bcast_S_S1 c (ix1 0)
    ∧ fn_part5 (F := Ideal) c d e f g h i j k l a b (ix1 3) = broadcastInDim S1 ![] Facts.bcast_S_S1 d (ix1 0)
    ∧ fn_part5 (F := Ideal) c d e f g h i j k l a b (ix1 4) = broadcastInDim S1 ![] Facts.bcast_S_S1 e (ix1 0)
    ∧ fn_part5 (F := Ideal) c d e f g h i j k l a b (ix1 5) = broadcastInDim S1 ![] Facts.bcast_S_S1 f (ix1 0)
    ∧ fn_part5 (F := Ideal) c d e f g h i j k l a b (ix1 6) = broadcastInDim S1 ![] Facts.bcast_S_S1 g (ix1 0)
    ∧ fn_part5 (F := Ideal) c d e f g h i j k l a b (ix1 7) = broadcastInDim S1 ![] Facts.bcast_S_S1 h (ix1 0)
    ∧ fn_part5 (F := Ideal) c d e f g h i j k l a b (ix1 8) = broadcastInDim S1 ![] Facts.bcast_S_S1 i (ix1 0)
    ∧ fn_part5 (F := Ideal) c d e f g h i j k l a b (ix1 9) = broadcastInDim S1 ![] Facts.bcast_S_S1 j (ix1 0)
    ∧ fn_part5 (F := Ideal) c d e f g h i j k l a b (ix1 10) = broadcastInDim S1 ![] Facts.bcast_S_S1 k (ix1 0)
    ∧ fn_part5 (F := Ideal) c d e f g h i j k l a b (ix1 11) = broadcastInDim S1 ![] Facts.bcast_S_S1 l (ix1 0) := by
  refine ⟨?_, ?_, ?_, ?_, ?_, ?_, ?_, ?_, ?_, ?_, ?_, ?_⟩ <;> pointwise [fn_part5]

theorem finite_merge (a0 : FVec Ideal S16384x1024 .f32) (a1 : FVec Ideal S1024 .f32) (a2 : FVec Ideal S16384x256 .bf16) (a3 : FVec Ideal S16384x256 .bf16) (a4 : FVec Ideal S16384x256 .bf16) (a5 : FVec Ideal S16384x256 .bf16) (a6 : FVec Ideal S4096x1024 .bf16) (a7 : FVec Ideal S4096 .f32) (a8 : FVec Ideal S4x256x1024 .f32) (a9 : FVec Ideal S1024x1024 .f32) (a10 : FVec Ideal S1024 .f32) (a11 : FVec Ideal S1024x16 .f32)
    (h : fn (F := Ideal) a0 a1 a2 a3 a4 a5 a6 a7 a8 a9 a10 a11 = fun _ => 1#1) :
    (∀ i, IsNum (a0 i)) ∧ (∀ i, IsNum (a1 i)) ∧ (∀ i, IsNum (a2 i)) ∧ (∀ i, IsNum (a3 i)) ∧ (∀ i, IsNum (a4 i)) ∧ (∀ i, IsNum (a5 i)) ∧ (∀ i, IsNum (a6 i)) ∧ (∀ i, IsNum (a7 i)) ∧ (∀ i, IsNum (a8 i)) ∧ (∀ i, IsNum (a9 i)) ∧ (∀ i, IsNum (a10 i)) ∧ (∀ i, IsNum (a11 i)) := by
  refine ⟨?_, ?_, ?_, ?_, ?_, ?_, ?_, ?_, ?_, ?_, ?_, ?_⟩
  · have h0 := congrFun h (ix1 0)
    unfold fn fn_part1 fn_part2 fn_part3 fn_part4 at h0
    dsimp only at h0
    rw [(merge_part _ _ _ _ _ _ _ _ _ _ _ _).1, broadcastInDim] at h0
    exact finite_of_all a0 _ _ (fun _ => rfl) (fun _ => rfl) _ _ _ _ h0
  · have h0 := congrFun h (ix1 1)
    unfold fn fn_part1 fn_part2 fn_part3 fn_part4 at h0
    dsimp only at h0
    rw [(merge_part _ _ _ _ _ _ _ _ _ _ _ _).2.1, broadcastInDim] at h0
    exact finite_of_all a1 _ _ (fun _ => rfl) (fun _ => rfl) _ _ _ _ h0
  · have h0 := congrFun h (ix1 2)
    unfold fn fn_part1 fn_part2 fn_part3 fn_part4 at h0
    dsimp only at h0
    rw [(merge_part _ _ _ _ _ _ _ _ _ _ _ _).2.2.1, broadcastInDim] at h0
    exact finite_of_all (extf .f32 a2 _) _ _ (fun _ => rfl) (fun _ => rfl) _ _ _ _ h0
  · have h0 := congrFun h (ix1 3)
    unfold fn fn_part1 fn_part2 fn_part3 fn_part4 at h0
    dsimp only at h0
    rw [(merge_part _ _ _ _ _ _ _ _ _ _ _ _).2.2.2.1, broadcastInDim] at h0
    exact finite_of_all (extf .f32 a3 _) _ _ (fun _ => rfl) (fun _ => rfl) _ _ _ _ h0
  · have h0 := congrFun h (ix1 4)
    unfold fn fn_part1 fn_part2 fn_part3 fn_part4 at h0
    dsimp only at h0
    rw [(merge_part _ _ _ _ _ _ _ _ _ _ _ _).2.2.2.2.1, broadcastInDim] at h0
    exact finite_of_all (extf .f32 a4 _) _ _ (fun _ => rfl) (fun _ => rfl) _ _ _ _ h0
  · have h0 := congrFun h (ix1 5)
    unfold fn fn_part1 fn_part2 fn_part3 fn_part4 at h0
    dsimp only at h0
    rw [(merge_part _ _ _ _ _ _ _ _ _ _ _ _).2.2.2.2.2.1, broadcastInDim] at h0
    exact finite_of_all (extf .f32 a5 _) _ _ (fun _ => rfl) (fun _ => rfl) _ _ _ _ h0
  · have h0 := congrFun h (ix1 6)
    unfold fn fn_part1 fn_part2 fn_part3 fn_part4 at h0
    dsimp only at h0
    rw [(merge_part _ _ _ _ _ _ _ _ _ _ _ _).2.2.2.2.2.2.1, broadcastInDim] at h0
    exact finite_of_all (extf .f32 a6 _) _ _ (fun _ => rfl) (fun _ => rfl) _ _ _ _ h0
  · have h0 := congrFun h (ix1 7)
    unfold fn fn_part1 fn_part2 fn_part3 fn_part4 at h0
    dsimp only at h0
    rw [(merge_part _ _ _ _ _ _ _ _ _ _ _ _).2.2.2.2.2.2.2.1, broadcastInDim] at h0
    exact finite_of_all a7 _ _ (fun _ => rfl) (fun _ => rfl) _ _ _ _ h0
  · have h0 := congrFun h (ix1 8)
    unfold fn fn_part1 fn_part2 fn_part3 fn_part4 at h0
    dsimp only at h0
    rw [(merge_part _ _ _ _ _ _ _ _ _ _ _ _).2.2.2.2.2.2.2.2.1, broadcastInDim] at h0
    exact finite_of_all a8 _ _ (fun _ => rfl) (fun _ => rfl) _ _ _ _ h0
  · have h0 := congrFun h (ix1 9)
    unfold fn fn_part1 fn_part2 fn_part3 fn_part4 at h0
    dsimp only at h0
    rw [(merge_part _ _ _ _ _ _ _ _ _ _ _ _).2.2.2.2.2.2.2.2.2.1, broadcastInDim] at h0
    exact finite_of_all a9 _ _ (fun _ => rfl) (fun _ => rfl) _ _ _ _ h0
  · have h0 := congrFun h (ix1 10)
    unfold fn fn_part1 fn_part2 fn_part3 fn_part4 at h0
    dsimp only at h0
    rw [(merge_part _ _ _ _ _ _ _ _ _ _ _ _).2.2.2.2.2.2.2.2.2.2.1, broadcastInDim] at h0
    exact finite_of_all a10 _ _ (fun _ => rfl) (fun _ => rfl) _ _ _ _ h0
  · have h0 := congrFun h (ix1 11)
    unfold fn fn_part1 fn_part2 fn_part3 fn_part4 at h0
    dsimp only at h0
    rw [(merge_part _ _ _ _ _ _ _ _ _ _ _ _).2.2.2.2.2.2.2.2.2.2.2, broadcastInDim] at h0
    exact finite_of_all a11 _ _ (fun _ => rfl) (fun _ => rfl) _ _ _ _ h0
end Merge
end Cert.K
-- ==== Proof.MergeSpec.lean ====
module

public import proofs.«01_k».proof.Proof.Ereal

@[expose] public section

noncomputable section
open Idealize.ShloMosaic

/-! One token's row of the merge: the norm, the gated branch projections, the residual; and when each is a finite number. -/
namespace Cert.K.Merge

/-- The root-mean-square norm of a row, scaled. -/
def norm (x g : Fin 1024 → EReal) (j : Fin 1024) : EReal :=
  x j * Ideal.rsqrt (Ideal.div (∑ k, x k * x k) (Ideal.ofBits .f32 0x44800000#32) + Ideal.ofBits .f32 0x358637BD#32) * g j

/-- One branch's gated projection at one column. -/
def part (h w : Fin 1024 → EReal) (b : EReal) (y v : Fin 256 → EReal) : EReal :=
  Ideal.logistic ((∑ k, h k * w k) + b) * ∑ e, y e * v e

/-- The residual row after the four gated branches and the output projection. -/
def x1 (x g : Fin 1024 → EReal) (Y : Fin 4 → Fin 256 → EReal) (Wg : Fin 4 → Fin 1024 → Fin 1024 → EReal)
    (Bg : Fin 4 → Fin 1024 → EReal) (Wb : Fin 4 → Fin 256 → Fin 1024 → EReal) (Wo : Fin 1024 → Fin 1024 → EReal)
    (j : Fin 1024) : EReal :=
  x j + ∑ k, (∑ n : Fin 4, part (norm x g) (Wg n k) (Bg n k) (Y n) (fun e => Wb n e k)) * Wo k j

theorem bits_1024 : Ideal.ofBits .f32 0x44800000#32 = ((1024 : ℝ) : EReal) := by
  simp [Ideal.ofBits, Ideal.ieee, -EReal.coe_mul]; norm_num

theorem bits_eps : ∃ r : ℝ, 0 < r ∧ Ideal.ofBits .f32 0x358637BD#32 = (r : EReal) := by
  refine ⟨_, ?_, by simp [Ideal.ofBits, Ideal.ieee, -EReal.coe_mul]; rfl⟩
  norm_num

theorem num_logistic {x : EReal} : IsNum x → IsNum (Ideal.logistic x) := by
  rintro ⟨a, rfl⟩; exact ⟨_, Ideal.logistic_coe a⟩

theorem num_norm {x g : Fin 1024 → EReal} (hx : ∀ k, IsNum (x k)) (hg : ∀ k, IsNum (g k)) (j : Fin 1024) :
    IsNum (norm x g j) := by
  choose x' hx' using hx
  obtain ⟨e, he, hb⟩ := bits_eps
  have hs : (∑ k, x k * x k) = ((∑ k, x' k * x' k : ℝ) : EReal) := by
    rw [coe_sum]; exact Finset.sum_congr rfl fun k _ => by rw [hx']; push_cast; rfl
  have hp : 0 < (∑ k, x' k * x' k) / 1024 + e :=
    add_pos_of_nonneg_of_pos (div_nonneg (Finset.sum_nonneg fun k _ => mul_self_nonneg _) (by norm_num)) he
  have hr : IsNum (Ideal.rsqrt (Ideal.div (∑ k, x k * x k) (Ideal.ofBits .f32 0x44800000#32) + Ideal.ofBits .f32 0x358637BD#32)) := by
    rw [hs, bits_1024, hb, div_num _ (by norm_num : (1024 : ℝ) ≠ 0)]
    have : ((∑ k, x' k * x' k : ℝ) : EReal) * ((1024 : ℝ)⁻¹ : ℝ) + (e : EReal) = (((∑ k, x' k * x' k) / 1024 + e : ℝ) : EReal) := by
      rw [div_eq_mul_inv]; push_cast; rfl
    rw [this, Ideal.rsqrt_coe, if_neg hp.le.not_gt, if_neg hp.ne']
    exact ⟨_, rfl⟩
  exact (IsNum.mul ⟨_, hx' j⟩ hr).mul (hg j)

theorem num_x1 {x g : Fin 1024 → EReal} {Y : Fin 4 → Fin 256 → EReal} {Wg : Fin 4 → Fin 1024 → Fin 1024 → EReal}
    {Bg : Fin 4 → Fin 1024 → EReal} {Wb : Fin 4 → Fin 256 → Fin 1024 → EReal} {Wo : Fin 1024 → Fin 1024 → EReal}
    (hx : ∀ k, IsNum (x k)) (hg : ∀ k, IsNum (g k)) (hY : ∀ n e, IsNum (Y n e)) (hW : ∀ n k j, IsNum (Wg n k j))
    (hB : ∀ n k, IsNum (Bg n k)) (hV : ∀ n e k, IsNum (Wb n e k)) (hO : ∀ k j, IsNum (Wo k j)) (j : Fin 1024) :
    IsNum (x1 x g Y Wg Bg Wb Wo j) :=
  (hx j).add (IsNum.sum _ _ fun k => (IsNum.sum _ _ fun n =>
    (num_logistic ((IsNum.sum _ _ fun i => (num_norm hx hg i).mul (hW n k i)).add (hB n k))).mul
      (IsNum.sum _ _ fun e => (hY n e).mul (hV n e k))).mul (hO k j))

theorem num_sub_self {x : EReal} : IsNum x → x - x = 0 := by
  rintro ⟨a, rfl⟩; rw [← EReal.coe_sub, sub_self]; rfl

end Cert.K.Merge
-- ==== Proof.MergePure.lean ====
module

public import proofs.«01_k».proof.Proof.Gen.MergeIdeal.Skeleton
public import proofs.«01_k».proof.Proof.MergeSpec
public import Idealize.ShloMosaic.Lib.Pointwise

@[expose] public section

set_option maxRecDepth 16384

noncomputable section
open Idealize.ShloMosaic Idealize.ShloMosaic.TcCoe Idealize.SL.Sem

/-! What one grid point of the merge computes, read at an index. -/
namespace Cert.MergeIdeal.Mix
open Cert.MergeIdeal Cert.MergeIdeal.Gen Cert.K

variable (X : Vec Ideal S1024x1024 .f32) (G : Vec Ideal S1x1024 .f32)

theorem pay2_at (r k : Fin 1024) : k0_pay2 (F := Ideal) X G (ix2 r k)
    = Merge.norm (fun k => X (ix2 r k)) (fun k => G (ix2 0 k)) k := by
  pointwise [k0_pay2]
  rfl

theorem pay3_at (W : Vec Ideal S1024x1024 .bf16) (B : Vec Ideal S1x1024 .f32) (Y : Vec Ideal S1024x256 .bf16)
    (V : Vec Ideal S1x256x1024 .bf16) (r j : Fin 1024) : k0_pay3 (F := Ideal) X G W B Y V (ix2 r j)
    = Merge.part (fun k => k0_pay2 (F := Ideal) X G (ix2 r k)) (fun k => W (ix2 j k)) (B (ix2 0 j)) (fun e => Y (ix2 r e)) (fun e => V (ix3 0 e j)) := by
  pointwise [k0_pay3]
  rfl

theorem pay6_at (A : FVec Ideal S1024x1024 .f32) (W1 : Vec Ideal S1024x1024 .bf16) (B1 : Vec Ideal S1x1024 .f32)
    (Y1 : Vec Ideal S1024x256 .bf16) (V1 : Vec Ideal S1x256x1024 .bf16) (W2 : Vec Ideal S1024x1024 .bf16) (B2 : Vec Ideal S1x1024 .f32)
    (Y2 : Vec Ideal S1024x256 .bf16) (V2 : Vec Ideal S1x256x1024 .bf16) (r j : Fin 1024) :
    k0_pay6 (F := Ideal) (k0_pay2 X G) A (k0_pay4 X G W1) (k0_pay5 B1) Y1 V1 W2 B2 Y2 V2 (ix2 r j)
    = A (ix2 r j) + Merge.part (fun k => k0_pay2 (F := Ideal) X G (ix2 r k)) (fun k => W1 (ix2 j k)) (B1 (ix2 0 j)) (fun e => Y1 (ix2 r e)) (fun e => V1 (ix3 0 e j))
      + Merge.part (fun k => k0_pay2 (F := Ideal) X G (ix2 r k)) (fun k => W2 (ix2 j k)) (B2 (ix2 0 j)) (fun e => Y2 (ix2 r e)) (fun e => V2 (ix3 0 e j)) := by
  pointwise [k0_pay6, k0_pay4, k0_pay5]
  rfl

theorem pay78_at (W : Vec Ideal S1024x1024 .bf16) (B : Vec Ideal S1x1024 .f32)
    (Y : Vec Ideal S1024x256 .bf16) (V : Vec Ideal S1x256x1024 .bf16) (r j : Fin 1024) :
    k0_pay7 (F := Ideal) (k0_pay2 X G) W B (ix2 r j) * k0_pay8 (F := Ideal) Y V (ix2 r j)
    = Merge.part (fun k => k0_pay2 (F := Ideal) X G (ix2 r k)) (fun k => W (ix2 j k)) (B (ix2 0 j)) (fun e => Y (ix2 r e)) (fun e => V (ix3 0 e j)) := by
  pointwise [k0_pay7, k0_pay8]
  rfl

theorem pay9_at (A B C : FVec Ideal S1024x1024 .f32) (O : Vec Ideal S1024x1024 .bf16) (r j : Fin 1024) :
    k0_pay9 (F := Ideal) X A B C O (ix2 r j)
    = X (ix2 r j) + ∑ k : Fin 1024, (A (ix2 r k) + B (ix2 r k) * C (ix2 r k)) * O (ix2 k j) := by
  pointwise [k0_pay9]

theorem pay10_at (A B C : FVec Ideal S1024x1024 .f32) (O : Vec Ideal S1024x1024 .bf16) (G2 : Vec Ideal S1x1024 .f32) (r j : Fin 1024) :
    k0_pay10 (F := Ideal) X A B C O G2 (ix2 r j)
    = Merge.norm (fun k => k0_pay9 (F := Ideal) X A B C O (ix2 r k)) (fun k => G2 (ix2 0 k)) j := by
  pointwise [k0_pay10]
  rfl

theorem pay11_at (A B C : FVec Ideal S1024x1024 .f32) (O : Vec Ideal S1024x1024 .bf16) (G2 : Vec Ideal S1x1024 .f32) (r j : Fin 1024) :
    k0_pay11 (F := Ideal) X A B C O G2 (ix2 r j) = k0_pay10 (F := Ideal) X A B C O G2 (ix2 r j) := rfl

theorem pay12_at (A B C : FVec Ideal S1024x1024 .f32) (O : Vec Ideal S1024x1024 .bf16) (G2 : Vec Ideal S1x1024 .f32)
    (R : Vec Ideal S128x1024 .f32) (e : Fin 16) (r : Fin 1024)
    (hh : ∀ k, IsNum (k0_pay10 (F := Ideal) X A B C O G2 (ix2 r k))) (hR : ∀ k, IsNum (R (ix2 ⟨e, by omega⟩ k))) :
    k0_pay12 (F := Ideal) X A B C O G2 R (ix2 e r)
    = ∑ k, R (ix2 ⟨e, by omega⟩ k) * k0_pay10 (F := Ideal) X A B C O G2 (ix2 r k) := by
  have h1 := fun k => Merge.num_sub_self (hh k)
  have h2 := fun k => Merge.num_sub_self (hR k)
  pointwise [k0_pay12, pay11_at, h1, h2]
  simp
end Cert.MergeIdeal.Mix
-- ==== Proof.MergeRefPure.lean ====
module

public import proofs.«01_k».proof.Proof.Gen.MergeRefIdeal.Read
public import proofs.«01_k».proof.Proof.MergeSpec
public import Idealize.ShloMosaic.Lib.Pointwise

@[expose] public section

set_option maxRecDepth 16384

noncomputable section
open Idealize.ShloMosaic Idealize.ShloMosaic.TcCoe Idealize.SL.Sem

/-! The merge's reference, read at an index. -/
namespace Cert.MergeRefIdeal.Mix
open Cert.MergeRefIdeal Cert.MergeRefIdeal.Gen Cert.MergeRefIdeal.Read Cert.K

variable (a0 : FVec Ideal S16384x1024 .f32) (a1 : FVec Ideal S1024 .f32) (a2 a3 a4 a5 : FVec Ideal S16384x256 .bf16)
  (a6 : FVec Ideal S4096x1024 .bf16) (a7 : FVec Ideal S4096 .f32) (a8 : FVec Ideal S4x256x1024 .f32)
  (a9 : FVec Ideal S1024x1024 .f32) (a10 : FVec Ideal S1024 .f32) (a11 : FVec Ideal S1024x16 .f32)

theorem v12_at (t : Fin 16384) (j : Fin 1024) : val_main_v12 (F := Ideal) a0 a1 (ix2 t j)
    = Merge.norm (fun k => a0 (ix2 t k)) (fun k => a1 (ix1 k)) j := by
  simp only [val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply,
    val_main_cst_apply, val_main_cst_0_apply, val_main_cst_1_apply]
  rw [Ideal.ofBits_def, Ideal.ofBits_zero_f32, zero_add]
  have e1 (k : Fin 1024) : idx_main_v1 (idx_main_v2 (idx_main_v8 (ix2 t j))) k = ix2 t k := by idx_ext
  have e2 : idx_main_v10 (idx_main_v11 (ix2 t j)) = ix1 j := by idx_ext
  simp only [e1, e2]
  rfl

/-- The four branches' rows of one token. -/
def branch (t : Fin 16384) (n : Fin 4) (e : Fin 256) : EReal := (![a2, a3, a4, a5] n) (ix2 t e)

theorem v24_at (t : Fin 16384) (n : Fin 4) (e : Fin 256) : val_main_v24 (F := Ideal) a2 a3 a4 a5 (ix3 t n e)
    = branch a2 a3 a4 a5 t n e := by
  pointwise [val_main_v24, val_main_v23, val_main_v22, val_main_v21, val_main_v20, val_main_v19, val_main_v18, val_main_v17, val_main_v16]
  unfold branch
  fin_cases n <;> rfl

theorem v37_at (t : Fin 16384) (n : Fin 4) (j : Fin 1024) : val_main_v37 (F := Ideal) a0 a1 a2 a3 a4 a5 a6 a7 a8 (ix3 t n j)
    = Merge.part (Merge.norm (fun k => a0 (ix2 t k)) (fun k => a1 (ix1 k))) (fun k => a6 (ix2 ⟨n * 1024 + j, by omega⟩ k))
      (a7 (ix1 ⟨n * 1024 + j, by omega⟩)) (branch a2 a3 a4 a5 t n) (fun e => a8 (ix3 n e j)) := by
  rw [val_main_v37_apply, val_main_v36_apply, val_main_v26_apply, val_main_v25_apply]
  simp only [val_main_v35_apply, val_main_v34_apply, val_main_v33_apply, val_main_v32_apply, val_main_v31_apply, val_main_v30_apply,
    val_main_v29_apply, val_main_v28_apply, val_main_v27_apply, val_main_v15_apply, val_main_v14_apply, val_main_v13_apply,
    val_main_cst_2_apply, val_main_cst_3_apply]
  have e1 (x : Fin 1024) : lidx_main_v15 (idx_main_v36 (ix3 t n j)) x = ix2 t x := by idx_ext
  have e2 (x : Fin 1024) : idx_main_v14 (ridx_main_v15 (idx_main_v36 (ix3 t n j)) x) = ix2 ⟨n * 1024 + j, by omega⟩ x := by idx_ext
  have e3 : idx_main_v27 (idx_main_v28 (idx_main_v36 (ix3 t n j))) = ix1 ⟨n * 1024 + j, by omega⟩ := by idx_ext
  have e4 (x : Fin 256) : lidx_main_v25 (idx_main_v26 (ix3 t n j)) x = ix3 n x j := by idx_ext
  have e5 (x : Fin 256) : ridx_main_v25 (idx_main_v26 (ix3 t n j)) x = ix3 t n x := by idx_ext
  simp only [e1, e2, e3, e4, e5, v12_at, v24_at]
  rw [Ideal.ofBits_def, Ideal.ofBits_one_f32]
  unfold Merge.part
  refine congrArg₂ (fun x y : EReal => x * y) rfl (Finset.sum_congr rfl fun e _ => mul_comm _ _)

/-- The arguments' rows as the merge of one token takes them. -/
abbrev row1 (t : Fin 16384) (j : Fin 1024) : EReal :=
  Merge.x1 (fun k => a0 (ix2 t k)) (fun k => a1 (ix1 k)) (branch a2 a3 a4 a5 t) (fun n j k => a6 (ix2 ⟨n * 1024 + j, by omega⟩ k))
    (fun n j => a7 (ix1 ⟨n * 1024 + j, by omega⟩)) (fun n e j => a8 (ix3 n e j)) (fun k j => a9 (ix2 k j)) j

theorem v40_at (t : Fin 16384) (j : Fin 1024) : val_main_v40 (F := Ideal) a0 a1 a2 a3 a4 a5 a6 a7 a8 a9 (ix2 t j)
    = row1 a0 a1 a2 a3 a4 a5 a6 a7 a8 a9 t j := by
  rw [val_main_v40_apply, val_main_v39_apply]
  simp only [val_main_v38_apply, val_main_cst_4_apply]
  rw [Ideal.ofBits_def, Ideal.ofBits_zero_f32]
  have e1 (k : Fin 1024) (n : Fin 4) : idx_main_v38 (lidx_main_v39 (ix2 t j) k) n = ix3 t n k := by idx_ext
  have e2 (k : Fin 1024) : ridx_main_v39 (ix2 t j) k = ix2 k j := by idx_ext
  simp only [e1, e2, v37_at, zero_add]
  rfl

theorem v53_at (t : Fin 16384) (j : Fin 1024) : val_main_v53 (F := Ideal) a0 a1 a2 a3 a4 a5 a6 a7 a8 a9 a10 (ix2 t j)
    = Merge.norm (row1 a0 a1 a2 a3 a4 a5 a6 a7 a8 a9 t) (fun k => a10 (ix1 k)) j := by
  simp only [val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_v41_apply,
    val_main_cst_5_apply, val_main_cst_6_apply, val_main_cst_7_apply]
  rw [Ideal.ofBits_def, Ideal.ofBits_zero_f32, zero_add]
  have e1 (k : Fin 1024) : idx_main_v42 (idx_main_v43 (idx_main_v49 (ix2 t j))) k = ix2 t k := by idx_ext
  have e2 : idx_main_v51 (idx_main_v52 (ix2 t j)) = ix1 j := by idx_ext
  simp only [e1, e2, v40_at]
  rfl

theorem v57_at (b : Fin 8) (e : Fin 16) (s : Fin 2048) : val_main_v57 (F := Ideal) a0 a1 a2 a3 a4 a5 a6 a7 a8 a9 a10 a11 (ix3 b e s)
    = ∑ k : Fin 1024, a11 (ix2 k e)
      * Merge.norm (row1 a0 a1 a2 a3 a4 a5 a6 a7 a8 a9 ⟨b * 2048 + s, by omega⟩) (fun k => a10 (ix1 k)) k := by
  rw [val_main_v57_apply, val_main_v55_apply]
  simp only [val_main_v54_apply]
  have e1 (k : Fin 1024) : idx_main_v54 (lidx_main_v55 (idx_main_v57 (ix3 b e s)) k) = ix2 ⟨b * 2048 + s, by omega⟩ k := by idx_ext
  have e2 (k : Fin 1024) : ridx_main_v55 (idx_main_v57 (ix3 b e s)) k = ix2 k e := by idx_ext
  simp only [e1, e2, v53_at]
  exact Finset.sum_congr rfl fun k _ => mul_comm _ _

end Cert.MergeRefIdeal.Mix
-- ==== Proof.MergeValue.lean ====
module

public import proofs.«01_k».proof.Proof.Gen.MergeIdeal.Frame
public import proofs.«01_k».proof.Proof.MergePure
public import proofs.«01_k».proof.Proof.MergeRefPure
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The merge's three result arrays are the reference's. -/
namespace Cert.MergeIdeal.Mix
open Cert.MergeIdeal Cert.MergeIdeal.Gen Cert.K

theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ win0_5.index t = ![t.val, 0]
    ∧ win0_6.index t = ![0, 0] ∧ win0_7.index t = ![0, 0] ∧ win0_8.index t = ![0, 0, 0] ∧ win0_9.index t = ![0, 0]
    ∧ win0_10.index t = ![0, 0] ∧ win0_11.index t = ![0, 0] ∧ win0_12.index t = ![t.val, 0] ∧ win0_13.index t = ![t.val, 0]
    ∧ win0_14.index t = ![t.val / 2, 0, t.val % 2] ∧ t.val < 16 :=
  (by decide +kernel : ∀ t : Fin grid0.N, _)

theorem pay1_at (x : FVec Ideal S16x1024 .f32) (y0 : Fin 1) (e : Fin 16) (r : Fin 1024) :
    k0_pay1 (F := Ideal) x (ix3 y0 e r) = x (ix2 e r) := by
  pointwise [k0_pay1]

theorem row_cast1 (x : FVec Ideal S1024 .f32) (k : Fin 1024) : shapeCast S1x1024 x shapeCasts_S1024_S1x1024 (ix2 0 k) = x (ix1 k) := by
  pointwise []
theorem row_cast4 (x : FVec Ideal S4096 .f32) (k : Fin 4096) : shapeCast S1x4096 x shapeCasts_S4096_S1x4096 (ix2 0 k) = x (ix1 k) := by
  pointwise []

theorem pad_at (w : FVec Ideal S1024x16 .f32) (z : FVec Ideal S_ .f32) (e : Fin 16) (k : Fin 1024) :
    pad S128x1024 ![0, 0] ![112, 0] ![0, 0] (transpose S16x1024 [1, 0] w transposes_S1024x16_S16x1024_1_0) z
      pads_S16x1024_S128x1024_01120_000 h_S_ (ix2 ⟨e, by omega⟩ k) = w (ix2 k e) := by
  pointwise []

section Block
variable (x0 : Vec Ideal S1024x1024 .f32) (x1 : Vec Ideal S1x1024 .f32) (x2 x3 x4 x5 : Vec Ideal S1024x256 .bf16)
  (x6 : Vec Ideal S4096x1024 .bf16) (x7 : Vec Ideal S1x4096 .f32) (x8 : Vec Ideal S4x256x1024 .bf16)
  (x9 : Vec Ideal S1024x1024 .bf16) (x10 : Vec Ideal S1x1024 .f32) (x11 : Vec Ideal S128x1024 .f32)

/-- The row the block's body computes first, from the block's own rows. -/
abbrev rowB (r j : Fin 1024) : EReal :=
  Merge.x1 (fun k => x0 (ix2 r k)) (fun k => x1 (ix2 0 k)) (fun n e => (![x2, x3, x4, x5] n) (ix2 r e))
    (fun n j k => x6 (ix2 ⟨n * 1024 + j, by omega⟩ k))
    (fun n j => x7 (ix2 0 ⟨n * 1024 + j, by omega⟩)) (fun n e j => x8 (ix3 n e j)) (fun k j => x9 (ix2 k j)) j

theorem ld0 (r k : Fin 1024) : View.ld x0 r0_0 (ix2 r k) = x0 (ix2 r k) := by pointwise [r0_0]
theorem ld1 (k : Fin 1024) : View.ld x1 r0_1 (ix2 0 k) = x1 (ix2 0 k) := by pointwise [r0_1]
theorem ldY (r : Fin 1024) (e : Fin 256) : View.ld x2 r0_4 (ix2 r e) = x2 (ix2 r e) := by pointwise [r0_4]
theorem ldO (k j : Fin 1024) : View.ld x9 r0_0 (ix2 k j) = x9 (ix2 k j) := by pointwise [r0_0]
theorem ldR (e : Fin 128) (k : Fin 1024) : View.ld x11 r0_15 (ix2 e k) = x11 (ix2 e k) := by pointwise [r0_15]
theorem ldW0 (j k : Fin 1024) : View.ld x6 r0_2 (ix2 j k) = x6 (ix2 ⟨0 * 1024 + j, by omega⟩ k) := by pointwise [r0_2]; blk_ext []
theorem ldW1 (j k : Fin 1024) : View.ld x6 r0_6 (ix2 j k) = x6 (ix2 ⟨1 * 1024 + j, by omega⟩ k) := by pointwise [r0_6]; blk_ext []
theorem ldW2 (j k : Fin 1024) : View.ld x6 r0_9 (ix2 j k) = x6 (ix2 ⟨2 * 1024 + j, by omega⟩ k) := by pointwise [r0_9]; blk_ext []
theorem ldW3 (j k : Fin 1024) : View.ld x6 r0_12 (ix2 j k) = x6 (ix2 ⟨3 * 1024 + j, by omega⟩ k) := by pointwise [r0_12]; blk_ext []
theorem ldB0 (j : Fin 1024) : View.ld x7 r0_3 (ix2 0 j) = x7 (ix2 0 ⟨0 * 1024 + j, by omega⟩) := by pointwise [r0_3]; blk_ext []
theorem ldB1 (j : Fin 1024) : View.ld x7 r0_7 (ix2 0 j) = x7 (ix2 0 ⟨1 * 1024 + j, by omega⟩) := by pointwise [r0_7]; blk_ext []
theorem ldB2 (j : Fin 1024) : View.ld x7 r0_10 (ix2 0 j) = x7 (ix2 0 ⟨2 * 1024 + j, by omega⟩) := by pointwise [r0_10]; blk_ext []
theorem ldB3 (j : Fin 1024) : View.ld x7 r0_13 (ix2 0 j) = x7 (ix2 0 ⟨3 * 1024 + j, by omega⟩) := by pointwise [r0_13]; blk_ext []
theorem ldV0 (e : Fin 256) (j : Fin 1024) : View.ld x8 r0_5 (ix3 0 e j) = x8 (ix3 0 e j) := by pointwise [r0_5]
theorem ldV1 (e : Fin 256) (j : Fin 1024) : View.ld x8 r0_8 (ix3 0 e j) = x8 (ix3 1 e j) := by pointwise [r0_8]; blk_ext []
theorem ldV2 (e : Fin 256) (j : Fin 1024) : View.ld x8 r0_11 (ix3 0 e j) = x8 (ix3 2 e j) := by pointwise [r0_11]; blk_ext []
theorem ldV3 (e : Fin 256) (j : Fin 1024) : View.ld x8 r0_14 (ix3 0 e j) = x8 (ix3 3 e j) := by pointwise [r0_14]; blk_ext []

/-- The row from the sixteen pieces that the body loads. -/
theorem row_of_pieces (X : Vec Ideal S1024x1024 .f32) (G : Vec Ideal S1x1024 .f32) (W0 W1 W2 W3 : Vec Ideal S1024x1024 .bf16)
    (B0 B1 B2 B3 : Vec Ideal S1x1024 .f32) (Y0 Y1 Y2 Y3 : Vec Ideal S1024x256 .bf16) (V0 V1 V2 V3 : Vec Ideal S1x256x1024 .bf16)
    (O : Vec Ideal S1024x1024 .bf16) (r j : Fin 1024) :
    k0_pay9 (F := Ideal) X (k0_pay6 (k0_pay2 X G) (k0_pay3 X G W0 B0 Y0 V0) (k0_pay4 X G W1) (k0_pay5 B1) Y1 V1 W2 B2 Y2 V2)
      (k0_pay7 (k0_pay2 X G) W3 B3) (k0_pay8 Y3 V3) O (ix2 r j)
    = Merge.x1 (fun k => X (ix2 r k)) (fun k => G (ix2 0 k)) (fun n e => (![Y0, Y1, Y2, Y3] n) (ix2 r e))
      (fun n j k => (![W0, W1, W2, W3] n) (ix2 j k)) (fun n j => (![B0, B1, B2, B3] n) (ix2 0 j))
      (fun n e j => (![V0, V1, V2, V3] n) (ix3 0 e j)) (fun k j => O (ix2 k j)) j := by
  rw [pay9_at]
  simp only [pay78_at, pay6_at, pay3_at, pay2_at]
  simp only [Merge.x1, Fin.sum_univ_four]
  rfl

/-- The first result's block is that row. -/
theorem blk9_at (r j : Fin 1024) :
    k0_pay9 (F := Ideal) (View.ld x0 r0_0) (k0_pay14 x0 x1 x2 x3 x4 x5 x6 x7 x8 x9 x10 x11)
      (k0_pay15 x0 x1 x2 x3 x4 x5 x6 x7 x8 x9 x10 x11) (k0_pay16 x0 x1 x2 x3 x4 x5 x6 x7 x8 x9 x10 x11) (View.ld x9 r0_0) (ix2 r j)
    = rowB x0 x1 x2 x3 x4 x5 x6 x7 x8 x9 r j := by
  unfold k0_pay14 k0_pay15 k0_pay16 k0_pay13
  refine (row_of_pieces _ _ _ _ _ _ _ _ _ _ _ _ _ _ _ _ _ _ _ r j).trans ?_
  unfold rowB
  congr 1
  · exact funext fun k => ld0 x0 r k
  · exact funext fun k => ld1 x1 k
  · funext n e
    fin_cases n
    · exact ldY x2 r e
    · exact ldY x3 r e
    · exact ldY x4 r e
    · exact ldY x5 r e
  · funext n j k
    fin_cases n
    · exact ldW0 x6 j k
    · exact ldW1 x6 j k
    · exact ldW2 x6 j k
    · exact ldW3 x6 j k
  · funext n j
    fin_cases n
    · exact ldB0 x7 j
    · exact ldB1 x7 j
    · exact ldB2 x7 j
    · exact ldB3 x7 j
  · funext n e j
    fin_cases n
    · exact ldV0 x8 e j
    · exact ldV1 x8 e j
    · exact ldV2 x8 e j
    · exact ldV3 x8 e j
  · exact funext fun k => funext fun j => ldO x9 k j

theorem blk10_at (r j : Fin 1024) :
    k0_pay10 (F := Ideal) (View.ld x0 r0_0) (k0_pay14 x0 x1 x2 x3 x4 x5 x6 x7 x8 x9 x10 x11)
      (k0_pay15 x0 x1 x2 x3 x4 x5 x6 x7 x8 x9 x10 x11) (k0_pay16 x0 x1 x2 x3 x4 x5 x6 x7 x8 x9 x10 x11) (View.ld x9 r0_0) (View.ld x10 r0_1) (ix2 r j)
    = Merge.norm (rowB x0 x1 x2 x3 x4 x5 x6 x7 x8 x9 r) (fun k => x10 (ix2 0 k)) j := by
  rw [pay10_at]
  congr 1
  · exact funext fun k => blk9_at x0 x1 x2 x3 x4 x5 x6 x7 x8 x9 x10 x11 r k
  · exact funext fun k => ld1 x10 k

theorem whole0 (x : Vec Ideal S1024x1024 .f32) : View.ld x r0_0 = x := by
  funext i; idx_vars i; exact ld0 x i0 i1
theorem whole9 (x : Vec Ideal S1024x1024 .bf16) : View.ld x r0_0 = x := by
  funext i; idx_vars i; exact ldO x i0 i1
theorem whole1 (x : Vec Ideal S1x1024 .f32) : View.ld x r0_1 = x := by
  funext i; idx_vars i; obtain rfl : i0 = 0 := Subsingleton.elim _ _; exact ld1 x i1

theorem blk9_whole (r j : Fin 1024) :
    k0_pay9 (F := Ideal) x0 (k0_pay14 x0 x1 x2 x3 x4 x5 x6 x7 x8 x9 x10 x11)
      (k0_pay15 x0 x1 x2 x3 x4 x5 x6 x7 x8 x9 x10 x11) (k0_pay16 x0 x1 x2 x3 x4 x5 x6 x7 x8 x9 x10 x11) x9 (ix2 r j)
    = rowB x0 x1 x2 x3 x4 x5 x6 x7 x8 x9 r j := by
  have h := blk9_at x0 x1 x2 x3 x4 x5 x6 x7 x8 x9 x10 x11 r j
  rw [whole0 x0, whole9 x9] at h
  exact h

theorem blk10_whole (r j : Fin 1024) :
    k0_pay10 (F := Ideal) x0 (k0_pay14 x0 x1 x2 x3 x4 x5 x6 x7 x8 x9 x10 x11)
      (k0_pay15 x0 x1 x2 x3 x4 x5 x6 x7 x8 x9 x10 x11) (k0_pay16 x0 x1 x2 x3 x4 x5 x6 x7 x8 x9 x10 x11) x9 x10 (ix2 r j)
    = Merge.norm (rowB x0 x1 x2 x3 x4 x5 x6 x7 x8 x9 r) (fun k => x10 (ix2 0 k)) j := by
  have h := blk10_at x0 x1 x2 x3 x4 x5 x6 x7 x8 x9 x10 x11 r j
  rw [whole0 x0, whole9 x9, whole1 x10] at h
  exact h
end Block

variable (m : (ℓ : Loc nD τ sig) → Buf (Elt Ideal) ℓ) (c : Dev nD) (t : Fin cfg0.N)

theorem t_lt : t.val < 16 := (idx t).2.2.2.2.2.2.2.2.2.2.2.2.2.2.2

theorem V_v1 : ∃ z : FVec Ideal S_ .f32, V m c main_v1 = pad S128x1024 ![0, 0] ![112, 0] ![0, 0]
    (transpose S16x1024 [1, 0] (m ((c : Thread nD τ).loc main_arg11)) transposes_S1024x16_S16x1024_1_0) z pads_S16x1024_S128x1024_01120_000 h_S_ := by
  refine ⟨sitofp .f32 (constantI S_ 32 0#32), ?_⟩
  simp only [V, hostOps0, hostOps0_1, hostOps0_2, List.flatten_cons, List.flatten_nil, List.append_nil, List.cons_append, List.nil_append]
  after_results
  rfl
theorem V_v2 : V m c main_v2 = shapeCast S1x1024 (m ((c : Thread nD τ).loc main_arg1)) shapeCasts_S1024_S1x1024 := by
  simp only [V, hostOps0, hostOps0_1, hostOps0_2, List.flatten_cons, List.flatten_nil, List.append_nil, List.cons_append, List.nil_append]
  after_results
  rfl
theorem V_v3 : V m c main_v3 = shapeCast S1x4096 (m ((c : Thread nD τ).loc main_arg7)) shapeCasts_S4096_S1x4096 := by
  simp only [V, hostOps0, hostOps0_1, hostOps0_2, List.flatten_cons, List.flatten_nil, List.append_nil, List.cons_append, List.nil_append]
  after_results
  rfl
theorem V_v6 : V m c main_v6 = shapeCast S1x1024 (m ((c : Thread nD τ).loc main_arg10)) shapeCasts_S1024_S1x1024 := by
  simp only [V, hostOps0, hostOps0_1, hostOps0_2, List.flatten_cons, List.flatten_nil, List.append_nil, List.cons_append, List.nil_append]
  after_results
  rfl

theorem at0 (r : Fin 1024) (k : Fin 1024) : iblk m c 0 t (ix2 r k)
    = m ((c : Thread nD τ).loc main_arg0) (ix2 ⟨t.val * 1024 + r, by have := t_lt t; omega⟩ k) := by
  blk_ext [iblk, V, idx t]
theorem at2 (r : Fin 1024) (k : Fin 256) : iblk m c 2 t (ix2 r k)
    = m ((c : Thread nD τ).loc main_arg2) (ix2 ⟨t.val * 1024 + r, by have := t_lt t; omega⟩ k) := by
  blk_ext [iblk, V, idx t]
theorem at3 (r : Fin 1024) (k : Fin 256) : iblk m c 3 t (ix2 r k)
    = m ((c : Thread nD τ).loc main_arg3) (ix2 ⟨t.val * 1024 + r, by have := t_lt t; omega⟩ k) := by
  blk_ext [iblk, V, idx t]
theorem at4 (r : Fin 1024) (k : Fin 256) : iblk m c 4 t (ix2 r k)
    = m ((c : Thread nD τ).loc main_arg4) (ix2 ⟨t.val * 1024 + r, by have := t_lt t; omega⟩ k) := by
  blk_ext [iblk, V, idx t]
theorem at5 (r : Fin 1024) (k : Fin 256) : iblk m c 5 t (ix2 r k)
    = m ((c : Thread nD τ).loc main_arg5) (ix2 ⟨t.val * 1024 + r, by have := t_lt t; omega⟩ k) := by
  blk_ext [iblk, V, idx t]
theorem at6 (r : Fin 4096) (k : Fin 1024) : iblk m c 6 t (ix2 r k) = m ((c : Thread nD τ).loc main_arg6) (ix2 r k) := by
  blk_ext [iblk, V, idx t]
theorem at8 (n : Fin 4) (e : Fin 256) (j : Fin 1024) : iblk m c 8 t (ix3 n e j) = m ((c : Thread nD τ).loc main_arg8) (ix3 n e j) := by
  blk_simp [iblk]
  entry_read
  pointwise []
  blk_ext [idx t]
theorem at9 (k j : Fin 1024) : iblk m c 9 t (ix2 k j) = m ((c : Thread nD τ).loc main_arg9) (ix2 k j) := by
  blk_simp [iblk]
  entry_read
  pointwise []
  blk_ext [idx t]
theorem at1 (k : Fin 1024) : iblk m c 1 t (ix2 0 k) = m ((c : Thread nD τ).loc main_arg1) (ix1 k) := by
  have e : iblk m c 1 t (ix2 0 k) = V m c main_v2 (ix2 0 k) := congrArg (V m c main_v2) (by blk_ext [idx t])
  rw [e, V_v2]
  exact row_cast1 _ k
theorem at7 (k : Fin 4096) : iblk m c 7 t (ix2 0 k) = m ((c : Thread nD τ).loc main_arg7) (ix1 k) := by
  have e : iblk m c 7 t (ix2 0 k) = V m c main_v3 (ix2 0 k) := congrArg (V m c main_v3) (by blk_ext [idx t])
  rw [e, V_v3]
  exact row_cast4 _ k
theorem at10 (k : Fin 1024) : iblk m c 10 t (ix2 0 k) = m ((c : Thread nD τ).loc main_arg10) (ix1 k) := by
  have e : iblk m c 10 t (ix2 0 k) = V m c main_v6 (ix2 0 k) := congrArg (V m c main_v6) (by blk_ext [idx t])
  rw [e, V_v6]
  exact row_cast1 _ k
theorem at11 (e : Fin 16) (k : Fin 1024) : iblk m c 11 t (ix2 ⟨e, by omega⟩ k) = m ((c : Thread nD τ).loc main_arg11) (ix2 k e) := by
  have h : iblk m c 11 t (ix2 ⟨e, by omega⟩ k) = V m c main_v1 (ix2 ⟨e, by omega⟩ k) := congrArg (V m c main_v1) (by blk_ext [idx t])
  obtain ⟨z, hz⟩ := V_v1 m c
  rw [h, hz]
  exact pad_at _ z e k

open Cert.MergeRefIdeal.Mix (row1 branch v40_at v53_at v57_at)

abbrev REF40 : FVec Ideal S16384x1024 .f32 := Cert.MergeRefIdeal.Read.val_main_v40 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9))
abbrev REF56 : FVec Ideal S16384x1024 .bf16 := Cert.MergeRefIdeal.Read.val_main_v56 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
abbrev REF57 : FVec Ideal S8x16x2048 .f32 := Cert.MergeRefIdeal.Read.val_main_v57 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) (m ((c : Thread nD τ).loc main_arg11))

/-- The reference's row at token `s`, from the arrays of core `c`. -/
abbrev rowA (s : Fin 16384) (j : Fin 1024) : EReal := row1
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) s j

/-- The block's row is the reference's row of its token. -/
theorem row_eq (r j : Fin 1024) : rowB (iblk m c 0 t) (iblk m c 1 t) (iblk m c 2 t) (iblk m c 3 t) (iblk m c 4 t) (iblk m c 5 t)
      (iblk m c 6 t) (iblk m c 7 t) (iblk m c 8 t) (iblk m c 9 t) r j
    = rowA m c ⟨t.val * 1024 + r, by have := t_lt t; omega⟩ j := by
  unfold rowB rowA row1
  congr 1
  · exact funext fun k => at0 m c t r k
  · exact funext fun k => at1 m c t k
  · funext n e
    unfold branch
    fin_cases n
    · exact at2 m c t r e
    · exact at3 m c t r e
    · exact at4 m c t r e
    · exact at5 m c t r e
  · exact funext fun n => funext fun j => funext fun k => at6 m c t _ k
  · exact funext fun n => funext fun j => at7 m c t _
  · exact funext fun n => funext fun e => funext fun j => at8 m c t n e j
  · exact funext fun k => funext fun j => at9 m c t k j

theorem row_norm_eq (r j : Fin 1024) : Merge.norm (rowB (iblk m c 0 t) (iblk m c 1 t) (iblk m c 2 t) (iblk m c 3 t) (iblk m c 4 t) (iblk m c 5 t)
      (iblk m c 6 t) (iblk m c 7 t) (iblk m c 8 t) (iblk m c 9 t) r) (fun k => iblk m c 10 t (ix2 0 k)) j
    = Merge.norm (rowA m c ⟨t.val * 1024 + r, by have := t_lt t; omega⟩) (fun k => m ((c : Thread nD τ).loc main_arg10) (ix1 k)) j := by
  congr 1
  · exact funext fun k => row_eq m c t r k
  · exact funext fun k => at10 m c t k

theorem final12 : (dats m 0 c).arrAt 12 (cfgs 0).N = REF40 m c := by
  refine (dats m 0 c).arrAt_eq_of_covers 12 _ (by decide +kernel) fun t _ y => ?_
  blk_simp
  rw [after0_12]; frame_out
  idx_vars y
  refine (blk9_whole _ _ _ _ _ _ _ _ _ _ (iblk m c 10 t) (iblk m c 11 t) y0 y1).trans ((row_eq m c t y0 y1).trans ?_)
  refine (v40_at _ _ _ _ _ _ _ _ _ _ _ _).symm.trans (congrArg (REF40 m c) ?_)
  blk_ext [idx t]

theorem v56_at (i : S16384x1024.Idx) : REF56 m c i = Cert.MergeRefIdeal.Read.val_main_v53 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10)) i :=
  Cert.MergeRefIdeal.Read.val_main_v56_apply ..

theorem final13 : (dats m 0 c).arrAt 13 (cfgs 0).N = REF56 m c := by
  refine (dats m 0 c).arrAt_eq_of_covers 13 _ (by decide +kernel) fun t _ y => ?_
  blk_simp
  rw [after0_13]; frame_out
  idx_vars y
  rw [pay11_at]
  refine (blk10_whole _ _ _ _ _ _ _ _ _ _ (iblk m c 10 t) (iblk m c 11 t) y0 y1).trans ((row_norm_eq m c t y0 y1).trans ?_)
  refine ((v53_at _ _ _ _ _ _ _ _ _ _ _ _ _).symm.trans (v56_at m c _).symm).trans (congrArg (REF56 m c) ?_)
  blk_ext [idx t]

/-- The arguments hold numbers. -/
structure Num : Prop where
  n0 : ∀ i, IsNum (m ((c : Thread nD τ).loc main_arg0) i)
  n1 : ∀ i, IsNum (m ((c : Thread nD τ).loc main_arg1) i)
  n2 : ∀ i, IsNum (m ((c : Thread nD τ).loc main_arg2) i)
  n3 : ∀ i, IsNum (m ((c : Thread nD τ).loc main_arg3) i)
  n4 : ∀ i, IsNum (m ((c : Thread nD τ).loc main_arg4) i)
  n5 : ∀ i, IsNum (m ((c : Thread nD τ).loc main_arg5) i)
  n6 : ∀ i, IsNum (m ((c : Thread nD τ).loc main_arg6) i)
  n7 : ∀ i, IsNum (m ((c : Thread nD τ).loc main_arg7) i)
  n8 : ∀ i, IsNum (m ((c : Thread nD τ).loc main_arg8) i)
  n9 : ∀ i, IsNum (m ((c : Thread nD τ).loc main_arg9) i)
  n10 : ∀ i, IsNum (m ((c : Thread nD τ).loc main_arg10) i)
  n11 : ∀ i, IsNum (m ((c : Thread nD τ).loc main_arg11) i)

variable {m c}
theorem row_num (h : Num m c) (s : Fin 16384) (j : Fin 1024) : IsNum (rowA m c s j) :=
  Merge.num_x1 (fun _ => h.n0 _) (fun _ => h.n1 _) (fun n e => by
    unfold branch
    fin_cases n
    · exact h.n2 _
    · exact h.n3 _
    · exact h.n4 _
    · exact h.n5 _) (fun _ _ _ => h.n6 _) (fun _ _ => h.n7 _) (fun _ _ _ => h.n8 _) (fun _ _ => h.n9 _) j
variable (m c)

theorem final14 (hn : Num m c) : (dats m 0 c).arrAt 14 (cfgs 0).N = REF57 m c := by
  refine (dats m 0 c).arrAt_eq_of_covers 14 _ (by decide +kernel) fun t _ y => ?_
  blk_simp
  rw [after0_14]; frame_out
  idx_vars y
  have ht := t_lt t
  have hrow (k : Fin 1024) := (blk10_whole (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) y2 k).trans (row_norm_eq m c t y2 k)
  have hwt (k : Fin 1024) : iblk m c 11 t (ix2 ⟨y1, by omega⟩ k) = m ((c : Thread nD τ).loc main_arg11) (ix2 k y1) :=
    at11 m c t y1 k
  rw [pay1_at]
  refine (pay12_at _ _ _ _ _ _ _ y1 y2 (fun k => ?_) (fun k => ?_)).trans ?_
  · rw [hrow]
    exact Merge.num_norm (fun _ => row_num hn _ _) (fun _ => hn.n10 _) k
  · rw [hwt]
    exact hn.n11 _
  · refine (Finset.sum_congr rfl fun k _ => congrArg₂ (fun x y : EReal => x * y) (hwt k) (hrow k)).trans ?_
    have e := v57_at (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      ⟨t.val / 2, by omega⟩ y1 ⟨t.val % 2 * 1024 + y2, by omega⟩
    have es : (⟨(⟨t.val / 2, by omega⟩ : Fin 8) * 2048 + (⟨t.val % 2 * 1024 + y2, by omega⟩ : Fin 2048), by omega⟩ : Fin 16384)
        = ⟨t.val * 1024 + y2, by omega⟩ := Fin.ext (by simp only []; omega)
    rw [es] at e
    refine e.symm.trans (congrArg (REF57 m c) ?_)
    blk_ext [idx t]
end Cert.MergeIdeal.Mix
-- ==== Proof.MergeClaims.lean ====
module

public import proofs.«01_k».proof.Defs
public import proofs.«01_k».proof.Proof.FiniteMerge
public import proofs.«01_k».proof.Proof.MergeValue
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import Idealize.ShloMosaic.Adequacy
public import Idealize.ShloMosaic.Init
public import Idealize.ShloMosaic.Lib.Quiescent

@[expose] public section

noncomputable section
open Idealize.ShloMosaic Idealize.SL.Sem

/-! The claims about the merge kernel. -/
namespace Cert.Proof.Merge

theorem ref_frame : Cert.quiescent_MergeRefIdeal := by
  intro m g _
  exact (θ_run Cert.MergeRefIdeal.defs _ _).mono (fun r h => ⟨fun c => (h c).2.2.2, sem_eq_zero_of_no_sems (by decide) r.2⟩)
    (Cert.MergeRefIdeal.Value.run (F := Ideal) m g)

theorem ref_frame_pre : Cert.quiescent_MergeRefIdeal_pre_finite_merge := fun m g _ => ref_frame m g (by trivial)

set_option maxHeartbeats 1000000 in
theorem algebraic : Cert.algebraic_MergeIdeal_MergeRefIdeal_pre_finite_merge := by
  intro m g m' g' hpre hagree
  have hn (c : Dev Cert.MergeIdeal.nD) : Cert.MergeIdeal.Mix.Num m c := by
    obtain ⟨h0, h1, h2, h3, h4, h5, h6, h7, h8, h9, h10, h11⟩ := Cert.K.finite_merge _ _ _ _ _ _ _ _ _ _ _ _ (hpre c)
    exact ⟨h0, h1, h2, h3, h4, h5, h6, h7, h8, h9, h10, h11⟩
  refine ⟨fun c => Cert.MergeIdeal.Mix.REF40 m c, fun c => Cert.MergeIdeal.Mix.REF56 m c, fun c => Cert.MergeIdeal.Mix.REF57 m c, ?_, ?_⟩
  · refine (θ_run Cert.MergeIdeal.defs _ _).mono (fun r h c => ?_) (Cert.MergeIdeal.Gen.run_main (F := Ideal) m g)
    exact ⟨(Cert.MergeIdeal.Value.post12 m r h c).trans (Cert.MergeIdeal.Mix.final12 m c),
      (Cert.MergeIdeal.Value.post13 m r h c).trans (Cert.MergeIdeal.Mix.final13 m c),
      (Cert.MergeIdeal.Value.post14 m r h c).trans (Cert.MergeIdeal.Mix.final14 m c (hn c)),
      Cert.MergeIdeal.Value.kept_main_arg0 m r h c, Cert.MergeIdeal.Value.kept_main_arg1 m r h c, Cert.MergeIdeal.Value.kept_main_arg2 m r h c, Cert.MergeIdeal.Value.kept_main_arg3 m r h c, Cert.MergeIdeal.Value.kept_main_arg4 m r h c, Cert.MergeIdeal.Value.kept_main_arg5 m r h c, Cert.MergeIdeal.Value.kept_main_arg6 m r h c, Cert.MergeIdeal.Value.kept_main_arg7 m r h c, Cert.MergeIdeal.Value.kept_main_arg8 m r h c, Cert.MergeIdeal.Value.kept_main_arg9 m r h c, Cert.MergeIdeal.Value.kept_main_arg10 m r h c, Cert.MergeIdeal.Value.kept_main_arg11 m r h c⟩
  · refine (θ_run Cert.MergeRefIdeal.defs _ _).mono (fun r h c => ?_) (Cert.MergeRefIdeal.Value.run (F := Ideal) m' g')
    obtain ⟨e0, e1, e2, e3, e4, e5, e6, e7, e8, e9, e10, e11⟩ := hagree c
    refine ⟨(h c).1.trans (Eq.trans (Cert.MergeRefIdeal.Read.val_main_v40_eq _ _ _ _ _ _ _ _ _ _) ?_), (h c).2.1.trans ((Cert.MergeRefIdeal.Read.val_main_v56_eq m' c).trans ?_),
      (h c).2.2.1.trans ((Cert.MergeRefIdeal.Read.val_main_v57_eq m' c).trans ?_), (h c).2.2.2⟩
    · rw [e0, e1, e2, e3, e4, e5, e6, e7, e8, e9]
    · rw [e0, e1, e2, e3, e4, e5, e6, e7, e8, e9, e10]
    · rw [e0, e1, e2, e3, e4, e5, e6, e7, e8, e9, e10, e11]

end Cert.Proof.Merge
-- ==== Proof.ExpertsIdealRun.lean ====
/-
  The expert feed-forward call run by hand. The call keeps the narrowed weights of two experts in three scratch
  buffers: at a grid point (ph, i) it narrows half i of expert ph's weights into slot ph % 2, and from ph = 1 on it
  multiplies the rows of expert ph - 1 by the weights that the previous phase left in the other slot. The invariant
  says of each scratch buffer what the last four points have stored there.
-/
module

public import proofs.«01_k».proof.Proof.Gen.ExpertsIdeal.Frame
public import proofs.«01_k».proof.Proof.Gen.ExpertsIdeal.Skeleton
public import Idealize.ShloMosaic.Lib.Pipeline.Frame
public import Idealize.ShloMosaic.Lib.Tactic
public import Idealize.ShloMosaic.Lib.Claim
public import Idealize.ShloMosaic.Lib.VecWindow
public import Idealize.ShloMosaic.Lib.Pointwise.Index

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point stores -/

/-- Where point `i` stores in a scratch buffer, and which slot it multiplies by. -/
theorem off2_eq : ∀ i : grid0.Coords, k0_off2 i = ![(i 0).val % 2, 512 * (i 1).val, 0] := by decide +kernel
theorem off3_eq : ∀ i : grid0.Coords, k0_off3 i = ![((i 0).val + 1) % 2, 0, 0] := by decide +kernel
instance closedOff2 (i : grid0.Coords) : ClosedOff (k0_off2 i) := ⟨_, off2_eq i⟩
instance closedOff3 (i : grid0.Coords) : ClosedOff (k0_off3 i) := ⟨_, off3_eq i⟩

/-- The half of a weight block that point `i` narrows. -/
abbrev rW (i : grid0.Coords) : Rect S1x1x1024x1024 := Rect.unit (s := S1x1x1024x1024) (k0_off1 i) S1x1x512x1024.size (k0_off1_inb i)
/-- The slot that point `i` multiplies by. -/
abbrev rS (i : grid0.Coords) (h : k0_cond1 i = 1#1) : Rect S2x1024x1024 := Rect.unit (s := S2x1024x1024) (k0_off3 i) S1x1024x1024.size (k0_off3_inb i h)
/-- The weighting column. -/
abbrev rC : Rect S1x1024x128 := Rect.unit (s := S1x1024x128) ![0, 0, 0] S1x1024x1.size inb_S1x1024x128_S1x1024x1_0_0_0

/-- A scratch buffer after point `i` stored the vector `p` into its rows. -/
def put (i : grid0.Coords) (s : Vec F S2x1024x1024 .bf16) (p : Vec F S1x512x1024 .bf16) : Vec F S2x1024x1024 .bf16 :=
  VecWindow.put s (k0_off2 i) S1x512x1024.size p

/-- The output block of point `i`, from the rows, the weighting columns and the three scratch buffers. -/
def outOf (i : grid0.Coords) (h : k0_cond1 i = 1#1) (x0 : Vec F S1x1024x1024 .bf16) (x1 : Vec F S1x1024x128 .f32)
    (s8 s9 s10 : Vec F S2x1024x1024 .bf16) : Vec F S1x1024x1024 .bf16 :=
  k0_pay2 (k0_pay3 x0 (View.ld s8 (rS i h)) (View.ld s9 (rS i h)) (View.ld s10 (rS i h)) (View.ld x1 rC))

/-! ## The body -/

set_option maxHeartbeats 1000000 in
/-- The body at a point of phase zero: the weights narrowed, the output left as found. -/
theorem sound_first (c : Dev nD) (E : Set ℕ) (i : grid0.Coords) (hc : ¬ k0_cond1 i = 1#1)
    (arg2 : Memref sig .tc .vmem S1x1024x1024 .bf16) (harg2 : arg2.IsWhole) (arg3 : Memref sig .tc .vmem S1x1024x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S1x1024x1024 .bf16) (harg7 : arg7.IsWhole)
    (arg8 : Memref sig .tc .vmem S2x1024x1024 .bf16) (harg8 : arg8.IsWhole) (arg9 : Memref sig .tc .vmem S2x1024x1024 .bf16) (harg9 : arg9.IsWhole)
    (arg10 : Memref sig .tc .vmem S2x1024x1024 .bf16) (harg10 : arg10.IsWhole)
    (x2 x3 x4 : Vec F S1x1x1024x1024 .f32) (s8 s9 s10 : Vec F S2x1024x1024 .bf16) (K : PUnit → sProp 𝕄) :
    iprop(owns (c : Thread nD τ) arg4 fullShare x2 ∗ owns (c : Thread nD τ) arg5 fullShare x3 ∗ owns (c : Thread nD τ) arg6 fullShare x4
        ∗ owns (c : Thread nD τ) arg8 fullShare s8 ∗ owns (c : Thread nD τ) arg9 fullShare s9 ∗ owns (c : Thread nD τ) arg10 fullShare s10
        ∗ (iprop(owns (c : Thread nD τ) arg4 fullShare x2 ∗ owns (c : Thread nD τ) arg5 fullShare x3 ∗ owns (c : Thread nD τ) arg6 fullShare x4
              ∗ owns (c : Thread nD τ) arg8 fullShare (put i s8 (k0_pay4 (View.ld x2 (rW i))))
              ∗ owns (c : Thread nD τ) arg9 fullShare (put i s9 (k0_pay5 (View.ld x3 (rW i))))
              ∗ owns (c : Thread nD τ) arg10 fullShare (put i s10 (k0_pay1 (k0_pay6 (View.ld x4 (rW i)))))) -∗ K ⟨⟩))
      ⊢ wp frame (wpE (defs₀ (F := F)) Variants.none c none) E
          (cc0_expert_ffn i arg2 harg2 arg3 harg3 arg4 harg4 arg5 harg5 arg6 harg6 arg7 harg7 arg8 harg8 arg9 harg9 arg10 harg10) K := by
  simp only [cc0_expert_ffn_eq_skeleton]; unfold cc0_expert_ffn_skel
  simp only [k0_part1_eq_skeleton, k0_part2_eq_skeleton]
  unfold owns
  iintro ⟨⟨%f2, %hf2, H2⟩, ⟨%f3, %hf3, H3⟩, ⟨%f4, %hf4, H4⟩, ⟨%f8, %hf8, H8⟩, ⟨%f9, %hf9, H9⟩, ⟨%f10, %hf10, H10⟩, Hk⟩
  subst hf2 hf3 hf4 hf8 hf9 hf10
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro; exact View.read_writes_cons_put _ _ _ _ _ rfl
  isplitl [H9]
  · iexists _; isplitr
    swap; · iexact H9
    ipureintro; exact View.read_writes_cons_put _ _ _ _ _ rfl
  iexists _; isplitr
  swap; · iexact H10
  ipureintro; exact View.read_writes_cons_put _ _ _ _ _ rfl

set_option maxHeartbeats 1000000 in
/-- The body at a later point: the weights narrowed, then the output block computed from the other slot. -/
theorem sound_later (c : Dev nD) (E : Set ℕ) (i : grid0.Coords) (hc : k0_cond1 i = 1#1)
    (arg2 : Memref sig .tc .vmem S1x1024x1024 .bf16) (harg2 : arg2.IsWhole) (arg3 : Memref sig .tc .vmem S1x1024x128 .f32) (harg3 : arg3.IsWhole)
    (arg4 : Memref sig .tc .vmem S1x1x1024x1024 .f32) (harg4 : arg4.IsWhole) (arg5 : Memref sig .tc .vmem S1x1x1024x1024 .f32) (harg5 : arg5.IsWhole)
    (arg6 : Memref sig .tc .vmem S1x1x1024x1024 .f32) (harg6 : arg6.IsWhole) (arg7 : Memref sig .tc .vmem S1x1024x1024 .bf16) (harg7 : arg7.IsWhole)
    (arg8 : Memref sig .tc .vmem S2x1024x1024 .bf16) (harg8 : arg8.IsWhole) (arg9 : Memref sig .tc .vmem S2x1024x1024 .bf16) (harg9 : arg9.IsWhole)
    (arg10 : Memref sig .tc .vmem S2x1024x1024 .bf16) (harg10 : arg10.IsWhole)
    (x0 : Vec F S1x1024x1024 .bf16) (x1 : Vec F S1x1024x128 .f32)
    (x2 x3 x4 : Vec F S1x1x1024x1024 .f32) (s8 s9 s10 : Vec F S2x1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3 ∗ owns (c : Thread nD τ) arg6 fullShare x4
        ∗ (∃ d, owns (c : Thread nD τ) arg7 fullShare d)
        ∗ owns (c : Thread nD τ) arg8 fullShare s8 ∗ owns (c : Thread nD τ) arg9 fullShare s9 ∗ owns (c : Thread nD τ) arg10 fullShare s10
        ∗ (iprop(owns (c : Thread nD τ) arg2 fullShare x0 ∗ owns (c : Thread nD τ) arg3 fullShare x1
              ∗ owns (c : Thread nD τ) arg4 fullShare x2 ∗ owns (c : Thread nD τ) arg5 fullShare x3 ∗ owns (c : Thread nD τ) arg6 fullShare x4
              ∗ owns (c : Thread nD τ) arg7 fullShare (outOf i hc x0 x1 (put i s8 (k0_pay4 (View.ld x2 (rW i))))
                  (put i s9 (k0_pay5 (View.ld x3 (rW i)))) (put i s10 (k0_pay1 (k0_pay6 (View.ld x4 (rW i))))))
              ∗ owns (c : Thread nD τ) arg8 fullShare (put i s8 (k0_pay4 (View.ld x2 (rW i))))
              ∗ owns (c : Thread nD τ) arg9 fullShare (put i s9 (k0_pay5 (View.ld x3 (rW i))))
              ∗ owns (c : Thread nD τ) arg10 fullShare (put i s10 (k0_pay1 (k0_pay6 (View.ld x4 (rW i)))))) -∗ K ⟨⟩))
      ⊢ wp frame (wpE (defs₀ (F := F)) Variants.none c none) E
          (cc0_expert_ffn i arg2 harg2 arg3 harg3 arg4 harg4 arg5 harg5 arg6 harg6 arg7 harg7 arg8 harg8 arg9 harg9 arg10 harg10) K := by
  simp only [cc0_expert_ffn_eq_skeleton]; unfold cc0_expert_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%f9, %hf9, H9⟩, ⟨%f10, %hf10, H10⟩, Hk⟩
  subst hf0 hf1 hf2 hf3 hf4 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    rw [View.read_writes_full]
    unfold outOf put
    have e8 := View.read_writes_cons_put arg8.view f8 (k0_off2_inb i) (k0_pay4 (View.ld (arg4.view.read (Elt F) f2) (rW i))) [] rfl
    have e9 := View.read_writes_cons_put arg9.view f9 (k0_off2_inb i) (k0_pay5 (View.ld (arg5.view.read (Elt F) f3) (rW i))) [] rfl
    have e10 := View.read_writes_cons_put arg10.view f10 (k0_off2_inb i) (k0_pay1 (k0_pay6 (View.ld (arg6.view.read (Elt F) f4) (rW i)))) [] rfl
    rw [View.writes_nil] at e8 e9 e10
    rw [← e8, ← e9, ← e10]
    refine congrArg k0_pay2 ?_
    delta sound_later.sl.r_2
    rw [View.readAt_full]
    rfl
  isplitl [H8]
  · iexists _; isplitr
    swap; · iexact H8
    ipureintro; exact View.read_writes_cons_put _ _ _ _ _ rfl
  isplitl [H9]
  · iexists _; isplitr
    swap; · iexact H9
    ipureintro; exact View.read_writes_cons_put _ _ _ _ _ rfl
  iexists _; isplitr
  swap; · iexact H10
  ipureintro; exact View.read_writes_cons_put _ _ _ _ _ rfl

/-! ## What a scratch buffer holds before a point -/

theorem lt34 (t : Fin cfg0.N) : t.val < 34 := t.isLt.trans_eq N_0

theorem coords0 : ∀ t : Fin cfg0.N, ((grid0.coords t) 0).val = t.val / 2 := by decide +kernel
theorem coords1 : ∀ t : Fin cfg0.N, ((grid0.coords t) 1).val = t.val % 2 := by decide +kernel
theorem cond_iff : ∀ t : Fin cfg0.N, k0_cond1 (grid0.coords t) = 1#1 ↔ 2 ≤ t.val := by decide +kernel
theorem flush_first : ∀ t : Fin cfg0.N, ¬ 2 ≤ t.val → (cfg0.win 5).flush t = false := by decide +kernel

theorem off2_at (t : Fin cfg0.N) : k0_off2 (grid0.coords t) = ![t.val / 2 % 2, 512 * (t.val % 2), 0] := by
  rw [off2_eq, coords0, coords1]
theorem off3_at (t : Fin cfg0.N) : k0_off3 (grid0.coords t) = ![(t.val / 2 + 1) % 2, 0, 0] := by
  rw [off3_eq, coords0]

/-- The rows that point `u` stores. -/
abbrev winOf (s : Vec F S2x1024x1024 .bf16) (u : Fin cfg0.N) : Vec F S1x512x1024 .bf16 :=
  VecWindow.window s (k0_off2 (grid0.coords u)) S1x512x1024.size (k0_off2_inb (grid0.coords u))

/-- Before point `n` the rows that each of the last four points stored hold what it stored. -/
def Kept (P : Fin cfg0.N → Vec F S1x512x1024 .bf16) (n : ℕ) (s : Vec F S2x1024x1024 .bf16) : Prop :=
  ∀ u : Fin cfg0.N, u.val < n → n ≤ u.val + 4 → winOf s u = P u

theorem kept_zero (P : Fin cfg0.N → Vec F S1x512x1024 .bf16) (s : Vec F S2x1024x1024 .bf16) : Kept P 0 s :=
  fun u h => absurd h (Nat.not_lt_zero _)

theorem kept_succ (P : Fin cfg0.N → Vec F S1x512x1024 .bf16) (t : Fin cfg0.N) (s : Vec F S2x1024x1024 .bf16) (h : Kept P t.val s) :
    Kept P (t.val + 1) (put (grid0.coords t) s (P t)) := by
  intro u h1 h2
  by_cases e : u = t
  · subst e; exact VecWindow.window_put_same _ _ _ _ _
  · have hne : u.val ≠ t.val := fun h => e (Fin.ext h)
    have hu := h u (by omega) (by omega)
    rw [← hu]
    by_cases e0 : u.val / 2 % 2 = t.val / 2 % 2
    · refine VecWindow.window_put_of_disjoint _ _ _ _ _ _ _ 1 ?_
      rw [off2_at u, off2_at t]
      show 512 * (u.val % 2) + 512 ≤ 512 * (t.val % 2) ∨ 512 * (t.val % 2) + 512 ≤ 512 * (u.val % 2)
      omega
    · refine VecWindow.window_put_of_disjoint _ _ _ _ _ _ _ 0 ?_
      rw [off2_at u, off2_at t]
      show u.val / 2 % 2 + 1 ≤ t.val / 2 % 2 ∨ t.val / 2 % 2 + 1 ≤ u.val / 2 % 2
      omega

/-- The point of the phase before `t`'s that stored half `b`. -/
def prev (t : Fin cfg0.N) (b : ℕ) : Fin cfg0.N :=
  ⟨2 * (t.val / 2 - 1) + b % 2, by have h := t.isLt; have e : cfg0.N = 34 := N_0; omega⟩

/-- The whole slot that the phase before `t`'s stored, row by row. -/
def slotOf (P : Fin cfg0.N → Vec F S1x512x1024 .bf16) (t : Fin cfg0.N) : Vec F S1x1024x1024 .bf16 :=
  fun y => P (prev t ((y 1).val / 512)) (ix3 (n0 := 1) (n1 := 512) (n2 := 1024) 0 ⟨(y 1).val % 512, Nat.mod_lt _ (by decide)⟩ (y 2))

/-- A buffer that holds what the last four points stored, read at the slot of the phase before. -/
theorem slot_read (P : Fin cfg0.N → Vec F S1x512x1024 .bf16) (t : Fin cfg0.N) (ht : 2 ≤ t.val) (hc : k0_cond1 (grid0.coords t) = 1#1)
    (s : Vec F S2x1024x1024 .bf16) (h : Kept P (t.val + 1) s) : View.ld s (rS (grid0.coords t) hc) = slotOf P t := by
  funext y
  have hy1 : (y 1).val < 1024 := (y 1).isLt
  have hy0 : (y 0).val < 1 := (y 0).isLt
  have e2 := off2_at (prev t ((y 1).val / 512))
  have e3 := off3_at t
  have hv : (prev t ((y 1).val / 512)).val = 2 * (t.val / 2 - 1) + (y 1).val / 512 % 2 := rfl
  unfold slotOf
  rw [← h (prev t ((y 1).val / 512)) (by omega) (by omega)]
  show s (fun a => _) = s (fun a => _)
  refine congrArg s (funext fun a => Fin.ext ?_)
  rw [hv] at e2
  refine (congrArg (· + 1 * (y a).val) (congrFun e3 a)).trans (Eq.trans ?_ (congrArg (· + 1 * _) (congrFun e2 a)).symm)
  match a with
  | ⟨0, _⟩ =>
    show (t.val / 2 + 1) % 2 + 1 * (y 0).val = (2 * (t.val / 2 - 1) + (y 1).val / 512 % 2) / 2 % 2 + 1 * 0
    omega
  | ⟨1, _⟩ =>
    show 0 + 1 * (y 1).val = 512 * ((2 * (t.val / 2 - 1) + (y 1).val / 512 % 2) % 2) + 1 * ((y 1).val % 512)
    omega
  | ⟨2, _⟩ =>
    show 0 + 1 * (y 2).val = 0 + 1 * (y 2).val
    rfl

/-! ## The proof data -/

/-- What point `u` stores into each of the three scratch buffers. -/
def P2 (c : Dev nD) (u : Fin cfg0.N) : Vec F S1x512x1024 .bf16 := k0_pay4 (View.ld (iblk m c 2 u : Vec F S1x1x1024x1024 .f32) (rW (grid0.coords u)))
def P3 (c : Dev nD) (u : Fin cfg0.N) : Vec F S1x512x1024 .bf16 := k0_pay5 (View.ld (iblk m c 3 u : Vec F S1x1x1024x1024 .f32) (rW (grid0.coords u)))
def P4 (c : Dev nD) (u : Fin cfg0.N) : Vec F S1x512x1024 .bf16 := k0_pay1 (k0_pay6 (View.ld (iblk m c 4 u : Vec F S1x1x1024x1024 .f32) (rW (grid0.coords u))))

/-- The output block of point `t`. -/
def out5 (c : Dev nD) (t : Fin cfg0.N) : Vec F S1x1024x1024 .bf16 :=
  k0_pay2 (k0_pay3 (iblk m c 0 t : Vec F S1x1024x1024 .bf16) (slotOf (P2 m c) t) (slotOf (P3 m c) t) (slotOf (P4 m c) t)
    (View.ld (iblk m c 1 t : Vec F S1x1024x128 .f32) rC))

/-- Before point `n`: the generator register at some state, and each scratch buffer at contents that hold what the last points stored. -/
def PhiN (c : Dev nD) (n : ℕ) : sProp 𝕄 :=
  iprop((∃ r, prngReg c r)
    ∗ (∃ s, ⌜Kept (P2 m c) n s⌝ ∗ owns (c : Thread nD τ) (Memref.whole cc0_scratch0) fullShare s)
    ∗ (∃ s, ⌜Kept (P3 m c) n s⌝ ∗ owns (c : Thread nD τ) (Memref.whole cc0_scratch1) fullShare s)
    ∗ (∃ s, ⌜Kept (P4 m c) n s⌝ ∗ owns (c : Thread nD τ) (Memref.whole cc0_scratch2) fullShare s))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 m c t
  Φ t := PhiN m c t.val
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out5 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns: the output buffer as `O`. -/
def bodyPost (c : Dev nD) (t : Fin cfg0.N) (O : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ O)

set_option maxHeartbeats 1000000 in
theorem sound_body_first (c : Dev nD) (t : Fin cfg0.N) (hc : ¬ k0_cond1 (grid0.coords t) = 1#1) :
    bodyPre m c t ⊢ wp frame (wpE (defs₀ (F := F)) Variants.none c none) Set.univ (bodyAt0 t)
      (fun _ => bodyPost m c t iprop(∃ d, owns (c : Thread nD τ) (st0_5 t) fullShare ((dats m 0 c).before 5 t d))) := by
  unfold bodyPre bodyPost bodyAt0
  simp only [before0_0, before0_1, before0_2, before0_3, before0_4]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4]
  unfold PhiN
  iintro ⟨⟨Hg, ⟨%s8, %k8, H8⟩, ⟨%s9, %k9, H9⟩, ⟨%s10, %k10, H10⟩⟩, Ho, ⟨%d0, H0⟩, ⟨%d1, H1⟩, ⟨%d2, H2⟩, ⟨%d3, H3⟩, ⟨%d4, H4⟩, H5⟩
  iapply (sound_first c Set.univ (grid0.coords t) hc _ _ _ _ _ _ _ _ _ _ _ _ _ _ _ _ _ _ (iblk m c 2 t) (iblk m c 3 t) (iblk m c 4 t) s8 s9 s10 _)
  isplitl [H2]; · iexact H2
  isplitl [H3]; · iexact H3
  isplitl [H4]; · iexact H4
  isplitl [H8]; · iexact H8
  isplitl [H9]; · iexact H9
  isplitl [H10]; · iexact H10
  iintro ⟨H2, H3, H4, H8, H9, H10⟩
  isplitl [Hg H8 H9 H10]
  · isplitl [Hg]; · iexact Hg
    isplitl [H8]
    · iexists _; isplitr
      swap; · iexact H8
      ipureintro; exact kept_succ (P2 m c) t s8 k8
    isplitl [H9]
    · iexists _; isplitr
      swap; · iexact H9
      ipureintro; exact kept_succ (P3 m c) t s9 k9
    iexists _; isplitr
    swap; · iexact H10
    ipureintro; exact kept_succ (P4 m c) t s10 k10
  isplitl [Ho]; · iexact Ho
  isplitl [H0]; · iexact H0
  isplitl [H1]; · iexact H1
  isplitl [H2]; · iexact H2
  isplitl [H3]; · iexact H3
  isplitl [H4]; · iexact H4
  iexact H5

/-- The output the body computes at a later point is the closed form. -/
theorem outOf_eq (c : Dev nD) (t : Fin cfg0.N) (hc : k0_cond1 (grid0.coords t) = 1#1) (s8 s9 s10 : Vec F S2x1024x1024 .bf16)
    (k8 : Kept (P2 m c) (t.val + 1) s8) (k9 : Kept (P3 m c) (t.val + 1) s9) (k10 : Kept (P4 m c) (t.val + 1) s10) :
    outOf (grid0.coords t) hc (iblk m c 0 t) (iblk m c 1 t) s8 s9 s10 = out5 m c t := by
  have ht := (cond_iff t).mp hc
  unfold outOf out5
  rw [slot_read _ t ht hc s8 k8, slot_read _ t ht hc s9 k9, slot_read _ t ht hc s10 k10]
  rfl

set_option maxHeartbeats 1000000 in
theorem sound_body_later (c : Dev nD) (t : Fin cfg0.N) (hc : k0_cond1 (grid0.coords t) = 1#1) :
    bodyPre m c t ⊢ wp frame (wpE (defs₀ (F := F)) Variants.none c none) Set.univ (bodyAt0 t)
      (fun _ => bodyPost m c t (owns (c : Thread nD τ) (st0_5 t) fullShare ((dats m 0 c).after 5 t))) := by
  unfold bodyPre bodyPost bodyAt0
  simp only [before0_0, before0_1, before0_2, before0_3, before0_4]
  rw [show (dats m 0 c).Φ t.succ = PhiN m c (t.val + 1) from rfl, show (dats m 0 c).Φ t.castSucc = PhiN m c t.val from rfl,
    show (dats m 0 c).owesAt () t.succ = (dats m 0 c).owesAt () t.castSucc from rfl,
    after0_0, after0_1, after0_2, after0_3, after0_4, after0_5]
  unfold PhiN
  iintro ⟨⟨Hg, ⟨%s8, %k8, H8⟩, ⟨%s9, %k9, H9⟩, ⟨%s10, %k10, H10⟩⟩, Ho, ⟨%d0, H0⟩, ⟨%d1, H1⟩, ⟨%d2, H2⟩, ⟨%d3, H3⟩, ⟨%d4, H4⟩, ⟨%d5, H5⟩⟩
  have e := outOf_eq m c t hc _ _ _ (kept_succ (P2 m c) t s8 k8) (kept_succ (P3 m c) t s9 k9) (kept_succ (P4 m c) t s10 k10)
  iapply (sound_later c Set.univ (grid0.coords t) hc _ _ _ _ _ _ _ _ _ _ _ _ _ _ _ _ _ _ (iblk m c 0 t) (iblk m c 1 t) (iblk m c 2 t) (iblk m c 3 t) (iblk m c 4 t) s8 s9 s10 _)
  isplitl [H0]; · iexact H0
  isplitl [H1]; · iexact H1
  isplitl [H2]; · iexact H2
  isplitl [H3]; · iexact H3
  isplitl [H4]; · iexact H4
  isplitl [H5]; · iexists _; iexact H5
  isplitl [H8]; · iexact H8
  isplitl [H9]; · iexact H9
  isplitl [H10]; · iexact H10
  rw [← e]
  iintro ⟨H0, H1, H2, H3, H4, H5, H8, H9, H10⟩
  isplitl [Hg H8 H9 H10]
  · isplitl [Hg]; · iexact Hg
    isplitl [H8]
    · iexists _; isplitr
      swap; · iexact H8
      ipureintro; exact kept_succ (P2 m c) t s8 k8
    isplitl [H9]
    · iexists _; isplitr
      swap; · iexact H9
      ipureintro; exact kept_succ (P3 m c) t s9 k9
    iexists _; isplitr
    swap; · iexact H10
    ipureintro; exact kept_succ (P4 m c) t s10 k10
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

theorem idle_first (t : Fin cfg0.N) (hc : ¬ k0_cond1 (grid0.coords t) = 1#1) : cfg0.idle 5 (cfg0.grid.coords t) = true := by
  show (!(k0_cond1 (grid0.coords t) == 1#1)) = true
  simp [hc]
theorem idle_later (t : Fin cfg0.N) (hc : k0_cond1 (grid0.coords t) = 1#1) : cfg0.idle 5 (cfg0.grid.coords t) = false := by
  show (!(k0_cond1 (grid0.coords t) == 1#1)) = false
  simp [hc]

/-- The body obligation at every point. -/
theorem body_obligation (c : Dev nD) : BodyObligation (dats (F := F) m 0 c) (defs₀ (F := F)) Variants.none () Set.univ := fun t => by
  rw [bigSep_W0, bigSep_W0, defs₀_row]
  by_cases hc : k0_cond1 (grid0.coords t) = 1#1
  · refine triple_restated (sound_body_later m c t hc) rfl .rfl fun _ => ?_
    rw [idle_later t hc]
    exact .rfl
  · refine triple_restated (sound_body_first m c t hc) rfl .rfl fun _ => ?_
    rw [idle_first t hc, flush_first t (fun h => hc ((cond_iff t).mpr h))]
    exact .rfl

/-! ## The run and the frame -/

theorem entry (c : Dev nD) : (Pipeline.ΦA spec0 c : sProp 𝕄) ⊢ (dats m 0 c).Φ 0 := by
  show _ ⊢ PhiN m c 0
  unfold Pipeline.ΦA PhiN
  rw [scopedRest0_eq]
  simp only [← owns_whole]
  iintro ⟨⟨⟨%s8, H8⟩, ⟨%s9, H9⟩, ⟨%s10, H10⟩⟩, Hg⟩
  isplitl [Hg]; · iexact Hg
  isplitl [H8]
  · iexists s8; isplitr; · ipureintro; exact kept_zero _ _
    iexact H8
  isplitl [H9]
  · iexists s9; isplitr; · ipureintro; exact kept_zero _ _
    iexact H9
  iexists s10; isplitr; · ipureintro; exact kept_zero _ _
  iexact H10

theorem exit (c : Dev nD) : (dats m 0 c).Φ (Fin.last cfg0.N) ⊢ (Pipeline.ΦA spec0 c : sProp 𝕄) := by
  show PhiN m c _ ⊢ _
  unfold Pipeline.ΦA PhiN
  rw [scopedRest0_eq]
  simp only [← owns_whole]
  iintro ⟨Hg, ⟨%s8, -, H8⟩, ⟨%s9, -, H9⟩, ⟨%s10, -, H10⟩⟩
  isplitl [H8 H9 H10]
  · isplitl [H8]; · iexists s8; iexact H8
    isplitl [H9]; · iexists s9; iexact H9
    iexists s10; iexact H10
  iexact Hg

set_option backward.isDefEq.respectTransparency.types false in
set_option maxHeartbeats 800000 in
/-- The launch ends, with every array as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := entry m) (hout := exit m)

theorem run_main : θ_run defs (onTc (τ := τ) (main (F := F))) (s₀ m ρ) (Pipeline.FramePost cfgs (dats m) 0 (V m)) :=
  (θ_run defs _ _).mono (fun _ h => h.1) (run_main_quiescent m ρ)

/-- The frame: the launch ends, the arguments as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.ExpertsIdeal.Hand
-- ==== Proof.ExpertsSpec.lean ====
module

public import Idealize.ShloMosaic.Lib.Pointwise

@[expose] public section

noncomputable section
open Idealize.ShloMosaic Idealize.SL.Sem

/-! One expert's answer to one chosen token, in plain sums. -/
namespace Cert.K

/-- The gated feed-forward of one token: gate, up and down projections, times the token's weight. -/
def Experts.out (x : Fin 1024 → EReal) (wg wu wd : Fin 1024 → Fin 1024 → EReal) (w : EReal) (j : Fin 1024) : EReal :=
  (∑ f : Fin 1024, ((∑ k, x k * wg k f) * Ideal.logistic (∑ k, x k * wg k f) * ∑ k, x k * wu k f) * wd f j) * w

end Cert.K

end
-- ==== Proof.ExpertsRefPure.lean ====
module

public import proofs.«01_k».proof.Proof.Gen.ExpertsRefIdeal.Read
public import proofs.«01_k».proof.Proof.ExpertsSpec
public import Idealize.ShloMosaic.Lib.Pointwise

@[expose] public section

set_option maxRecDepth 16384

noncomputable section
open Idealize.ShloMosaic Idealize.ShloMosaic.TcCoe Idealize.SL.Sem

/-! The experts' reference, read at an index. -/
namespace Cert.ExpertsRefIdeal.Ffn
open Cert.ExpertsRefIdeal Cert.ExpertsRefIdeal.Gen Cert.ExpertsRefIdeal.Read Cert.K

variable (x0 : FVec Ideal S16x8x256x1024 .bf16) (x1 : FVec Ideal S16x8x256x128 .f32) (x2 x3 x4 : FVec Ideal S2x16x1024x1024 .f32)

theorem v2_at (e : Fin 16) (k f : Fin 1024) : val_main_v2 (F := Ideal) x2 (ix3 e k f) = x2 (ix4 0 e k f) := by
  rw [val_main_v2_apply, val_main_v1_apply]
  exact congrArg x2 (by idx_ext)
theorem v5_at (e : Fin 16) (k f : Fin 1024) : val_main_v5 (F := Ideal) x3 (ix3 e k f) = x3 (ix4 0 e k f) := by
  rw [val_main_v5_apply, val_main_v4_apply]
  exact congrArg x3 (by idx_ext)
theorem v10_at (e : Fin 16) (k f : Fin 1024) : val_main_v10 (F := Ideal) x4 (ix3 e k f) = x4 (ix4 0 e k f) := by
  rw [val_main_v10_apply, val_main_v9_apply]
  exact congrArg x4 (by idx_ext)

theorem v3_at (e : Fin 16) (b : Fin 8) (s : Fin 256) (f : Fin 1024) : val_main_v3 (F := Ideal) x0 x2 (ix4 e b s f)
    = ∑ k : Fin 1024, x0 (ix4 e b s k) * x2 (ix4 0 e k f) := by
  rw [val_main_v3_apply]
  have e1 (k : Fin 1024) : lidx_main_v3 (ix4 e b s f) k = ix4 e b s k := by idx_ext
  have e2 (k : Fin 1024) : ridx_main_v3 (ix4 e b s f) k = ix3 e k f := by idx_ext
  simp only [e1, e2, v2_at]
  rfl
theorem v6_at (e : Fin 16) (b : Fin 8) (s : Fin 256) (f : Fin 1024) : val_main_v6 (F := Ideal) x0 x3 (ix4 e b s f)
    = ∑ k : Fin 1024, x0 (ix4 e b s k) * x3 (ix4 0 e k f) := by
  rw [val_main_v6_apply]
  have e1 (k : Fin 1024) : lidx_main_v6 (ix4 e b s f) k = ix4 e b s k := by idx_ext
  have e2 (k : Fin 1024) : ridx_main_v6 (ix4 e b s f) k = ix3 e k f := by idx_ext
  simp only [e1, e2, v5_at]
  rfl

theorem gate_at (i : S16x8x256x1024.Idx) : val_main_call0_v5 (F := Ideal) x0 x2 i = Ideal.logistic (val_main_v3 (F := Ideal) x0 x2 i) := by
  simp only [val_main_call0_v5_apply, val_main_call0_v4_apply, val_main_call0_v3_apply, val_main_call0_v2_apply, val_main_call0_v1_apply,
    val_main_call0_v0_apply, val_main_call0_cst_apply, val_main_call0_cst_0_apply]
  generalize val_main_v3 (F := Ideal) x0 x2 i = x
  rw [Ideal.ofBits_def, Ideal.ofBits_one_f32]
  rfl

theorem v14_at (e : Fin 16) (b : Fin 8) (s : Fin 256) (j : Fin 1024) : val_main_v14 (F := Ideal) x0 x1 x2 x3 x4 (ix4 e b s j)
    = Experts.out (fun k => x0 (ix4 e b s k)) (fun k f => x2 (ix4 0 e k f)) (fun k f => x3 (ix4 0 e k f)) (fun k f => x4 (ix4 0 e k f))
      (x1 (ix4 e b s 0)) j := by
  rw [val_main_v14_apply, val_main_v11_apply, val_main_v13_apply, val_main_v12_apply]
  have e1 (k : Fin 1024) : lidx_main_v11 (ix4 e b s j) k = ix4 e b s k := by idx_ext
  have e2 (k : Fin 1024) : ridx_main_v11 (ix4 e b s j) k = ix3 e k j := by idx_ext
  have e3 : idx_main_v12 (idx_main_v13 (ix4 e b s j)) = ix4 e b s 0 := by idx_ext
  simp only [e1, e2, e3, v10_at, val_main_v8_apply, val_main_v7_apply, gate_at, v3_at, v6_at]
  rfl

theorem v16_at (e : Fin 16) (r : Fin 2048) (j : Fin 1024) : val_main_v16 (F := Ideal) x0 x1 x2 x3 x4 (ix3 e r j)
    = Experts.out (fun k => x0 (ix4 e ⟨r / 256, by omega⟩ ⟨r % 256, by omega⟩ k)) (fun k f => x2 (ix4 0 e k f)) (fun k f => x3 (ix4 0 e k f))
      (fun k f => x4 (ix4 0 e k f)) (x1 (ix4 e ⟨r / 256, by omega⟩ ⟨r % 256, by omega⟩ 0)) j := by
  rw [val_main_v16_apply, val_main_v15_apply]
  have e1 : idx_main_v15 (ix3 e r j) = ix4 e ⟨r / 256, by omega⟩ ⟨r % 256, by omega⟩ j := by idx_ext
  rw [e1, v14_at]
  rfl

end Cert.ExpertsRefIdeal.Ffn

end
-- ==== Proof.ExpertsValue.lean ====
module

public import proofs.«01_k».proof.Proof.ExpertsIdealRun
public import proofs.«01_k».proof.Proof.ExpertsRefPure
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The experts' result array is the reference's. -/
namespace Cert.ExpertsIdeal.Ffn
open Cert.ExpertsIdeal Cert.ExpertsIdeal.Gen Cert.ExpertsIdeal.Hand Cert.K

/-! ## One block -/

theorem pay2_at (x : FVec Ideal S1024x1024 .bf16) (y0 : Fin 1) (r j : Fin 1024) : k0_pay2 (F := Ideal) x (ix3 y0 r j) = x (ix2 r j) := by
  pointwise [k0_pay2]
theorem pay4_at (x : Vec Ideal S1x1x512x1024 .f32) (r : Fin 512) (k : Fin 1024) : k0_pay4 (F := Ideal) x (ix3 0 r k) = x (ix4 0 0 r k) := by
  pointwise [k0_pay4]
theorem pay5_at (x : Vec Ideal S1x1x512x1024 .f32) (r : Fin 512) (k : Fin 1024) : k0_pay5 (F := Ideal) x (ix3 0 r k) = x (ix4 0 0 r k) := by
  pointwise [k0_pay5]
theorem pay16_at (x : Vec Ideal S1x1x512x1024 .f32) (r : Fin 512) (k : Fin 1024) : k0_pay1 (F := Ideal) (k0_pay6 x) (ix3 0 r k) = x (ix4 0 0 r k) := by
  pointwise [k0_pay1, k0_pay6]

theorem pay3_at (X G U D : Vec Ideal S1x1024x1024 .bf16) (C : Vec Ideal S1x1024x1 .f32) (r j : Fin 1024) :
    k0_pay3 (F := Ideal) X G U D C (ix2 r j)
    = Experts.out (fun k => X (ix3 0 r k)) (fun k f => G (ix3 0 k f)) (fun k f => U (ix3 0 k f)) (fun k f => D (ix3 0 k f)) (C (ix3 0 r 0)) j := by
  pointwise [k0_pay3]
  rfl

theorem ldC (x : Vec Ideal S1x1024x128 .f32) (r : Fin 1024) : View.ld x rC (ix3 0 r 0) = x (ix3 0 r 0) := by
  pointwise [rC]
  blk_ext []

theorem off1_at : ∀ t : Fin cfg0.N, k0_off1 (grid0.coords t) = ![0, 0, 512 * (t.val % 2), 0] := by decide +kernel

/-- The half of a weight block that a point narrows. -/
theorem ldW (x : Vec Ideal S1x1x1024x1024 .f32) (t : Fin cfg0.N) (r : Fin 512) (k : Fin 1024) :
    View.ld x (rW (grid0.coords t)) (ix4 0 0 r k) = x (ix4 0 0 ⟨512 * (t.val % 2) + r, by omega⟩ k) := by
  have e1 := off1_at t
  show x (fun a => _) = x _
  refine congrArg x (funext fun a => Fin.ext ?_)
  refine (congrArg (· + 1 * ((ix4 (0 : Fin 1) (0 : Fin 1) r k) a).val) (congrFun e1 a)).trans ?_
  match a with
  | ⟨0, _⟩ => rfl
  | ⟨1, _⟩ => rfl
  | ⟨2, _⟩ => show 512 * (t.val % 2) + 1 * r.val = 512 * (t.val % 2) + r.val; omega
  | ⟨3, _⟩ => show 0 + 1 * k.val = k.val; omega

/-! ## The windows -/

theorem idx : ∀ t : Fin cfg0.N, win0_2.index t = ![0, min (t.val / 2) 15, 0, 0] ∧ win0_3.index t = ![0, min (t.val / 2) 15, 0, 0] ∧ win0_4.index t = ![0, min (t.val / 2) 15, 0, 0]
    ∧ t.val < 34 :=
  (by decide +kernel : ∀ t : Fin grid0.N, _)
theorem idxL : ∀ t : Fin cfg0.N, 2 ≤ t.val → win0_0.index t = ![t.val / 2 - 1, t.val % 2, 0]
    ∧ win0_1.index t = ![t.val / 2 - 1, t.val % 2, 0] ∧ win0_5.index t = ![t.val / 2 - 1, t.val % 2, 0] :=
  (by decide +kernel : ∀ t : Fin grid0.N, _)

variable (m : (ℓ : Loc nD τ sig) → Buf (Elt Ideal) ℓ) (c : Dev nD) (t : Fin cfg0.N)

theorem at2 (k f : Fin 1024) : iblk m c 2 t (ix4 0 0 k f) = m ((c : Thread nD τ).loc main_arg2) (ix4 0 ⟨min (t.val / 2) 15, by omega⟩ k f) := by
  blk_ext [iblk, V, idx t]
theorem at3 (k f : Fin 1024) : iblk m c 3 t (ix4 0 0 k f) = m ((c : Thread nD τ).loc main_arg3) (ix4 0 ⟨min (t.val / 2) 15, by omega⟩ k f) := by
  blk_ext [iblk, V, idx t]
theorem at4 (k f : Fin 1024) : iblk m c 4 t (ix4 0 0 k f) = m ((c : Thread nD τ).loc main_arg4) (ix4 0 ⟨min (t.val / 2) 15, by omega⟩ k f) := by
  blk_ext [iblk, V, idx t]

theorem rows_cast (x : FVec Ideal S16x8x256x1024 .bf16) (e : Fin 16) (r : Fin 2048) (k : Fin 1024) :
    shapeCast S16x2048x1024 x shapeCasts_S16x8x256x1024_S16x2048x1024 (ix3 e r k) = x (ix4 e ⟨r / 256, by omega⟩ ⟨r % 256, by omega⟩ k) := by
  pointwise []
theorem cols_cast (x : FVec Ideal S16x8x256x128 .f32) (e : Fin 16) (r : Fin 2048) (k : Fin 128) :
    shapeCast S16x2048x128 x shapeCasts_S16x8x256x128_S16x2048x128 (ix3 e r k) = x (ix4 e ⟨r / 256, by omega⟩ ⟨r % 256, by omega⟩ k) := by
  pointwise []

theorem V_v0 : V m c main_v0 = shapeCast S16x2048x1024 (m ((c : Thread nD τ).loc main_arg0)) shapeCasts_S16x8x256x1024_S16x2048x1024 := by
  simp only [V, hostOps0, List.flatten_cons, List.flatten_nil, List.append_nil, List.cons_append, List.nil_append]
  after_results
  rfl
theorem V_v1 : V m c main_v1 = shapeCast S16x2048x128 (m ((c : Thread nD τ).loc main_arg1)) shapeCasts_S16x8x256x128_S16x2048x128 := by
  simp only [V, hostOps0, List.flatten_cons, List.flatten_nil, List.append_nil, List.cons_append, List.nil_append]
  after_results
  rfl

/-- The expert of a point of a later phase, and a row of its block among the expert's 2048. -/
abbrev ex : Fin 16 := ⟨t.val / 2 - 1, by have := lt34 t; omega⟩
abbrev row (r : Fin 1024) : Fin 2048 := ⟨t.val % 2 * 1024 + r, by omega⟩

variable (ht : 2 ≤ t.val)
include ht

theorem at0 (r k : Fin 1024) : iblk m c 0 t (ix3 0 r k)
    = m ((c : Thread nD τ).loc main_arg0) (ix4 (ex t) ⟨row t r / 256, by omega⟩ ⟨row t r % 256, by omega⟩ k) := by
  have e : iblk m c 0 t (ix3 0 r k) = V m c main_v0 (ix3 (ex t) (row t r) k) := congrArg (V m c main_v0) (by blk_ext [idxL t ht])
  rw [e, V_v0]
  exact rows_cast _ _ _ _
theorem at1 (r : Fin 1024) : iblk m c 1 t (ix3 0 r 0)
    = m ((c : Thread nD τ).loc main_arg1) (ix4 (ex t) ⟨row t r / 256, by omega⟩ ⟨row t r % 256, by omega⟩ 0) := by
  have e : iblk m c 1 t (ix3 0 r 0) = V m c main_v1 (ix3 (ex t) (row t r) 0) := congrArg (V m c main_v1) (by blk_ext [idxL t ht])
  rw [e, V_v1]
  exact cols_cast _ _ _ _

/-- The slot that a later point multiplies by holds its expert's weights. -/
theorem slot2 (k f : Fin 1024) : slotOf (P2 m c) t (ix3 0 k f) = m ((c : Thread nD τ).loc main_arg2) (ix4 0 (ex t) k f) := by
  have e : slotOf (P2 m c) t (ix3 0 k f) = P2 m c (prev t (k.val / 512)) (ix3 0 ⟨k.val % 512, Nat.mod_lt _ (by decide)⟩ f) := rfl
  rw [e]
  unfold P2
  rw [pay4_at, ldW]
  refine (at2 m c _ _ _).trans (congrArg _ ?_)
  have hp : (prev t (k.val / 512)).val = 2 * (t.val / 2 - 1) + k.val / 512 % 2 := rfl
  have := lt34 t
  refine congrArg₂ (fun e k => ix4 0 e k f) (Fin.ext ?_) (Fin.ext ?_)
  · show min ((prev t (k.val / 512)).val / 2) 15 = t.val / 2 - 1
    omega
  · show 512 * ((prev t (k.val / 512)).val % 2) + k.val % 512 = k.val
    omega
theorem slot3 (k f : Fin 1024) : slotOf (P3 m c) t (ix3 0 k f) = m ((c : Thread nD τ).loc main_arg3) (ix4 0 (ex t) k f) := by
  have e : slotOf (P3 m c) t (ix3 0 k f) = P3 m c (prev t (k.val / 512)) (ix3 0 ⟨k.val % 512, Nat.mod_lt _ (by decide)⟩ f) := rfl
  rw [e]
  unfold P3
  rw [pay5_at, ldW]
  refine (at3 m c _ _ _).trans (congrArg _ ?_)
  have hp : (prev t (k.val / 512)).val = 2 * (t.val / 2 - 1) + k.val / 512 % 2 := rfl
  have := lt34 t
  refine congrArg₂ (fun e k => ix4 0 e k f) (Fin.ext ?_) (Fin.ext ?_)
  · show min ((prev t (k.val / 512)).val / 2) 15 = t.val / 2 - 1
    omega
  · show 512 * ((prev t (k.val / 512)).val % 2) + k.val % 512 = k.val
    omega
theorem slot4 (k f : Fin 1024) : slotOf (P4 m c) t (ix3 0 k f) = m ((c : Thread nD τ).loc main_arg4) (ix4 0 (ex t) k f) := by
  have e : slotOf (P4 m c) t (ix3 0 k f) = P4 m c (prev t (k.val / 512)) (ix3 0 ⟨k.val % 512, Nat.mod_lt _ (by decide)⟩ f) := rfl
  rw [e]
  unfold P4
  rw [pay16_at, ldW]
  refine (at4 m c _ _ _).trans (congrArg _ ?_)
  have hp : (prev t (k.val / 512)).val = 2 * (t.val / 2 - 1) + k.val / 512 % 2 := rfl
  have := lt34 t
  refine congrArg₂ (fun e k => ix4 0 e k f) (Fin.ext ?_) (Fin.ext ?_)
  · show min ((prev t (k.val / 512)).val / 2) 15 = t.val / 2 - 1
    omega
  · show 512 * ((prev t (k.val / 512)).val % 2) + k.val % 512 = k.val
    omega

omit ht
/-- The reference's result at the arrays of core `c`. -/
abbrev REF : FVec Ideal S16x2048x1024 .bf16 := Cert.ExpertsRefIdeal.Read.val_main_v16 (F := Ideal)
  (m ((c : Thread nD τ).loc main_arg0)) (m ((c : Thread nD τ).loc main_arg1)) (m ((c : Thread nD τ).loc main_arg2)) (m ((c : Thread nD τ).loc main_arg3))
  (m ((c : Thread nD τ).loc main_arg4))
include ht

theorem out_at (y0 : Fin 1) (r j : Fin 1024) : out5 m c t (ix3 y0 r j) = REF m c (ix3 (ex t) (row t r) j) := by
  unfold out5 REF
  rw [pay2_at, Cert.ExpertsRefIdeal.Ffn.v16_at]
  refine (pay3_at _ _ _ _ _ _ _).trans ?_
  congr 1
  · exact funext fun k => at0 m c t ht r k
  · exact funext fun k => funext fun f => slot2 m c t ht k f
  · exact funext fun k => funext fun f => slot3 m c t ht k f
  · exact funext fun k => funext fun f => slot4 m c t ht k f
  · exact (ldC _ r).trans (at1 m c t ht r)

omit ht
/-- The result array at the end of the launch. -/
theorem final5 : (dats m 0 c).arrAt 5 (cfgs 0).N = REF m c := by
  refine (dats m 0 c).arrAt_eq_of_covers 5 _ (by decide +kernel) fun t hf y => ?_
  have ht : 2 ≤ t.val := by
    by_contra h
    have h0 := flush_first t h
    rw [h0] at hf
    exact absurd hf (by decide)
  blk_simp
  rw [after0_5]
  idx_vars y
  refine (out_at m c t ht y0 y1 y2).trans (congrArg (REF m c) ?_)
  obtain rfl : y0 = 0 := Subsingleton.elim _ _
  blk_ext [idxL t ht]

end Cert.ExpertsIdeal.Ffn

end
-- ==== Proof.ExpertsClaims.lean ====
module

public import proofs.«01_k».proof.Defs
public import proofs.«01_k».proof.Proof.ExpertsRun
public import proofs.«01_k».proof.Proof.ExpertsValue
public import proofs.«01_k».proof.Proof.Gen.ExpertsRefIdeal.Run
public import proofs.«01_k».proof.Proof.Gen.ExpertsRefIdeal.Read
public import Idealize.ShloMosaic.Adequacy
public import Idealize.ShloMosaic.Init
public import Idealize.ShloMosaic.Lib.Quiescent

@[expose] public section

noncomputable section
open Idealize.ShloMosaic Idealize.SL.Sem

/-! The claims about the experts' kernel. -/
namespace Cert.Proof.Experts

theorem ref_frame : Cert.quiescent_ExpertsRefIdeal := by
  intro m g _
  exact (θ_run Cert.ExpertsRefIdeal.defs _ _).mono (fun r h => ⟨fun c => (h c).2, sem_eq_zero_of_no_sems (by decide) r.2⟩)
    (Cert.ExpertsRefIdeal.Value.run (F := Ideal) m g)

set_option maxHeartbeats 1000000 in
theorem algebraic : Cert.algebraic_ExpertsIdeal_ExpertsRefIdeal := by
  intro m g m' g' hpre hagree
  refine ⟨fun c => Cert.ExpertsIdeal.Ffn.REF m c, ?_, ?_⟩
  · have hrun := Cert.ExpertsIdeal.Hand.run_main (F := Ideal) m g
    refine (θ_run Cert.ExpertsIdeal.defs _ _).mono (fun r h c => ⟨?_, h.2 c⟩)
      (θ_run_and hrun (Cert.ExpertsIdeal.Gen.frame_of m g (Cert.ExpertsIdeal.Hand.dats m) (Cert.ExpertsIdeal.Hand.A_eq m) hrun))
    exact ((h.1 c).1 5).trans (Cert.ExpertsIdeal.Ffn.final5 m c)
  · refine (θ_run Cert.ExpertsRefIdeal.defs _ _).mono (fun r h c => ?_) (Cert.ExpertsRefIdeal.Value.run (F := Ideal) m' g')
    obtain ⟨e0, e1, e2, e3, e4⟩ := hagree c
    refine ⟨(h c).1.trans (Eq.trans (Cert.ExpertsRefIdeal.Read.val_main_v16_eq _ _ _ _ _) ?_), (h c).2⟩
    rw [e0, e1, e2, e3, e4]

end Cert.Proof.Experts

end
-- ==== Proof.FiniteProj.lean ====
module

public import proofs.«01_k».proof.Defs
public import proofs.«01_k».proof.Proof.Finite
public import proofs.«01_k».proof.Proof.Gen.Pre_prepared_inproj

@[expose] public section

noncomputable section
open Idealize.ShloMosaic

/-! The input projection's precondition read back. -/
namespace Cert.K
section Inproj
open Cert.Pre_prepared_inproj

/-- Two arrays found equal everywhere are equal at each entry. -/
theorem equal_of_all {s t u : Shape} {axes : List (Fin s.rank)} [Subsingleton t.Idx] (x y : FVec Ideal s .f32)
    (init : u.Idx → BitVec 1) (h : s.ReducesTo axes t) (hu : 0 < u.numel) (j : t.Idx)
    (e : Host.reduce IntOp.andi (cmpf .oeq x y) init h hu j = 1#1) (i : s.Idx) : x i = y i := by
  have e : Ideal.cmp .oeq (x i) (y i) = 1#1 := Host.reduce_andi_all _ _ _ _ j e i
  by_contra hc
  simp [Ideal.cmp, hc] at e

/-- The five flags of finite arrays in the precondition, each at its place. -/
theorem inproj_part (w : FVec Ideal S1536x1024 .f32) (p0 p1 p2 p3 p4 : IVec S_ 1) :
    fn_part2 (F := Ideal) w p0 p1 p2 p3 p4 (ix1 0) = broadcastInDim S1 ![] Facts.bcast_S_S1 p0 (ix1 0)
    ∧ fn_part2 (F := Ideal) w p0 p1 p2 p3 p4 (ix1 1) = broadcastInDim S1 ![] Facts.bcast_S_S1 p1 (ix1 0)
    ∧ fn_part2 (F := Ideal) w p0 p1 p2 p3 p4 (ix1 2) = broadcastInDim S1 ![] Facts.bcast_S_S1 p2 (ix1 0)
    ∧ fn_part2 (F := Ideal) w p0 p1 p2 p3 p4 (ix1 3) = broadcastInDim S1 ![] Facts.bcast_S_S1 p3 (ix1 0)
    ∧ fn_part2 (F := Ideal) w p0 p1 p2 p3 p4 (ix1 4) = broadcastInDim S1 ![] Facts.bcast_S_S1 p4 (ix1 0) := by
  refine ⟨?_, ?_, ?_, ?_, ?_⟩ <;> pointwise [fn_part2]

/-- Whether the rows from 1440 on are the rows from 1424 on, negated; whether those from 1456 on are those from 1408 on. -/
abbrev FLO (w : FVec Ideal S1536x1024 .f32) : IVec S_ 1 := Host.reduce IntOp.andi (cmpf .oeq ((extractStridedSlice S16x1024 ![1440, 0] · Facts.slices_S1536x1024_S16x1024_1440_0) w) (Host.negf ((extractStridedSlice S16x1024 ![1424, 0] · Facts.slices_S1536x1024_S16x1024_1424_0) w))) (constantI S_ 1 1#1) Facts.reducesTo_S16x1024_S_d0_1 Facts.h_S_
abbrev FHI (w : FVec Ideal S1536x1024 .f32) : IVec S_ 1 := Host.reduce IntOp.andi (cmpf .oeq ((extractStridedSlice S16x1024 ![1456, 0] · Facts.slices_S1536x1024_S16x1024_1456_0) w) ((extractStridedSlice S16x1024 ![1408, 0] · Facts.slices_S1536x1024_S16x1024_1408_0) w)) (constantI S_ 1 1#1) Facts.reducesTo_S16x1024_S_d0_1 Facts.h_S_

/-- The flag of the rows that are the negated ones, and that of the rows that are the same. -/
theorem inproj_lo (w : FVec Ideal S1536x1024 .f32) (p0 p1 p2 p3 p4 : IVec S_ 1) :
    fn_part2 (F := Ideal) w p0 p1 p2 p3 p4 (ix1 5) = broadcastInDim S1 ![] Facts.bcast_S_S1 (FLO w) (ix1 0) := by
  pointwise [fn_part2]
theorem inproj_hi (w : FVec Ideal S1536x1024 .f32) (p0 p1 p2 p3 p4 : IVec S_ 1) :
    fn_part2 (F := Ideal) w p0 p1 p2 p3 p4 (ix1 6) = broadcastInDim S1 ![] Facts.bcast_S_S1 (FHI w) (ix1 0) := by
  pointwise [fn_part2]

theorem rows_lo (a : FVec Ideal S1536x1024 .bf16) (j : S_.Idx) (h : FLO (extf .f32 a Facts.bitsLt_bf16_f32) j = 1#1) (i : Fin 16) (k : Fin 1024) :
    a (ix2 ⟨1440 + i, by omega⟩ k) = Neg.neg (α := EReal) (a (ix2 ⟨1424 + i, by omega⟩ k)) := by
  have e := equal_of_all _ _ _ _ _ _ h (ix2 i k)
  have e1 : (extractStridedSlice S16x1024 ![1440, 0] (extf (F := Ideal) .f32 a Facts.bitsLt_bf16_f32) Facts.slices_S1536x1024_S16x1024_1440_0) (ix2 i k) = a (ix2 ⟨1440 + i, by omega⟩ k) := by
    pointwise []
  have e2 : (extractStridedSlice S16x1024 ![1424, 0] (extf (F := Ideal) .f32 a Facts.bitsLt_bf16_f32) Facts.slices_S1536x1024_S16x1024_1424_0) (ix2 i k) = a (ix2 ⟨1424 + i, by omega⟩ k) := by
    pointwise []
  exact e1.symm.trans (e.trans (congrArg (fun x : EReal => -x) e2))
theorem rows_hi (a : FVec Ideal S1536x1024 .bf16) (j : S_.Idx) (h : FHI (extf .f32 a Facts.bitsLt_bf16_f32) j = 1#1) (i : Fin 16) (k : Fin 1024) :
    a (ix2 ⟨1456 + i, by omega⟩ k) = a (ix2 ⟨1408 + i, by omega⟩ k) := by
  have e := equal_of_all _ _ _ _ _ _ h (ix2 i k)
  have e1 : (extractStridedSlice S16x1024 ![1456, 0] (extf (F := Ideal) .f32 a Facts.bitsLt_bf16_f32) Facts.slices_S1536x1024_S16x1024_1456_0) (ix2 i k) = a (ix2 ⟨1456 + i, by omega⟩ k) := by
    pointwise []
  have e2 : (extractStridedSlice S16x1024 ![1408, 0] (extf (F := Ideal) .f32 a Facts.bitsLt_bf16_f32) Facts.slices_S1536x1024_S16x1024_1408_0) (ix2 i k) = a (ix2 ⟨1408 + i, by omega⟩ k) := by
    pointwise []
  exact e1.symm.trans (e.trans e2)

theorem prepared_inproj (a0 : FVec Ideal S16384x1024 .f32) (a1 : FVec Ideal S1024 .f32) (a2 : FVec Ideal S1536x1024 .bf16) (a3 : FVec Ideal S768x1024 .bf16) (a4 : FVec Ideal S256 .f32) (a5 : FVec Ideal S256x384 .f32) (a6 : FVec Ideal S128 .f32) (a7 : FVec Ideal S128x512 .f32)
    (h : fn (F := Ideal) a0 a1 a2 a3 a4 a5 a6 a7 = fun _ => 1#1) :
    (∀ i, IsNum (a0 i)) ∧ (∀ i, IsNum (a1 i)) ∧ (∀ i, IsNum (a2 i)) ∧ (∀ i, IsNum (a4 i)) ∧ (∀ i, IsNum (a5 i))
    ∧ (∀ (i : Fin 16) (k : Fin 1024), a2 (ix2 ⟨1440 + i, by omega⟩ k) = Neg.neg (α := EReal) (a2 (ix2 ⟨1424 + i, by omega⟩ k)))
    ∧ (∀ (i : Fin 16) (k : Fin 1024), a2 (ix2 ⟨1456 + i, by omega⟩ k) = a2 (ix2 ⟨1408 + i, by omega⟩ k)) := by
  refine ⟨?_, ?_, ?_, ?_, ?_, fun i k => ?_, fun i k => ?_⟩
  · have h0 := congrFun h (ix1 0)
    unfold fn fn_part1 at h0
    dsimp only at h0
    rw [(inproj_part _ _ _ _ _ _).1, broadcastInDim] at h0
    exact finite_of_all a0 _ _ (fun _ => rfl) (fun _ => rfl) _ _ _ _ h0
  · have h0 := congrFun h (ix1 1)
    unfold fn fn_part1 at h0
    dsimp only at h0
    rw [(inproj_part _ _ _ _ _ _).2.1, broadcastInDim] at h0
    exact finite_of_all a1 _ _ (fun _ => rfl) (fun _ => rfl) _ _ _ _ h0
  · have h0 := congrFun h (ix1 2)
    unfold fn fn_part1 at h0
    dsimp only at h0
    rw [(inproj_part _ _ _ _ _ _).2.2.1, broadcastInDim] at h0
    exact finite_of_all (extf .f32 a2 _) _ _ (fun _ => rfl) (fun _ => rfl) _ _ _ _ h0
  · have h0 := congrFun h (ix1 3)
    unfold fn fn_part1 at h0
    dsimp only at h0
    rw [(inproj_part _ _ _ _ _ _).2.2.2.1, broadcastInDim] at h0
    exact finite_of_all a4 _ _ (fun _ => rfl) (fun _ => rfl) _ _ _ _ h0
  · have h0 := congrFun h (ix1 4)
    unfold fn fn_part1 at h0
    dsimp only at h0
    rw [(inproj_part _ _ _ _ _ _).2.2.2.2, broadcastInDim] at h0
    exact finite_of_all a5 _ _ (fun _ => rfl) (fun _ => rfl) _ _ _ _ h0
  · have h0 := congrFun h (ix1 5)
    unfold fn fn_part1 at h0
    dsimp only at h0
    rw [inproj_lo, broadcastInDim] at h0
    exact rows_lo a2 _ h0 i k
  · have h0 := congrFun h (ix1 6)
    unfold fn fn_part1 at h0
    dsimp only at h0
    rw [inproj_hi, broadcastInDim] at h0
    exact rows_hi a2 _ h0 i k
end Inproj
end Cert.K
-- ==== Proof.ProjSpec.lean ====
module

public import proofs.«01_k».proof.Proof.MergeSpec

@[expose] public section

noncomputable section
open Idealize.ShloMosaic

/-! One token's row of the input projection: norms, linear maps, rotation by position; when each is a finite number. -/
namespace Cert.K.Proj

/-- The root-mean-square norm of a row of which `c` is the length, scaled. -/
def norm {n : ℕ} (c : EReal) (x g : Fin n → EReal) (j : Fin n) : EReal :=
  x j * Ideal.rsqrt (Ideal.div (∑ k, x k * x k) c + Ideal.ofBits .f32 0x358637BD#32) * g j

/-- A row through a linear map, at one column. -/
def lin {n : ℕ} (x w : Fin n → EReal) : EReal := ∑ k, x k * w k

theorem bits_256 : Ideal.ofBits .f32 0x43800000#32 = ((256 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num

theorem num_norm {n : ℕ} {c : EReal} {l : ℝ} (hc : c = (l : EReal)) (hl : 0 < l) {x g : Fin n → EReal}
    (hx : ∀ k, IsNum (x k)) (hg : ∀ k, IsNum (g k)) (j : Fin n) : IsNum (norm c x g j) := by
  subst hc
  choose x' hx' using hx
  obtain ⟨e, he, hb⟩ := Merge.bits_eps
  have hs : (∑ k, x k * x k) = ((∑ k, x' k * x' k : ℝ) : EReal) := by
    rw [coe_sum]; exact Finset.sum_congr rfl fun k _ => by rw [hx']; push_cast; rfl
  have hp : 0 < (∑ k, x' k * x' k) * l⁻¹ + e :=
    add_pos_of_nonneg_of_pos (mul_nonneg (Finset.sum_nonneg fun k _ => mul_self_nonneg _) (inv_nonneg.2 hl.le)) he
  have hr : IsNum (Ideal.rsqrt (Ideal.div (∑ k, x k * x k) (l : EReal) + Ideal.ofBits .f32 0x358637BD#32)) := by
    rw [hs, hb, div_num _ hl.ne']
    have : ((∑ k, x' k * x' k : ℝ) : EReal) * ((l⁻¹ : ℝ) : EReal) + (e : EReal) = (((∑ k, x' k * x' k) * l⁻¹ + e : ℝ) : EReal) := by
      push_cast; rfl
    rw [this, Ideal.rsqrt_coe, if_neg hp.le.not_gt, if_neg hp.ne']
    exact ⟨_, rfl⟩
  exact (IsNum.mul ⟨_, hx' j⟩ hr).mul (hg j)

theorem num_lin {n : ℕ} {x w : Fin n → EReal} (hx : ∀ k, IsNum (x k)) (hw : ∀ k, IsNum (w k)) : IsNum (lin x w) :=
  IsNum.sum _ _ fun k => (hx k).mul (hw k)

/-- A linear map with its weights negated. -/
theorem lin_neg {n : ℕ} {x w : Fin n → EReal} (hx : ∀ k, IsNum (x k)) (hw : ∀ k, IsNum (w k)) :
    lin x (fun k => -w k) = -lin x w := by
  choose x' hx' using hx
  choose w' hw' using hw
  unfold lin
  have e1 : (∑ k, x k * -w k) = ((∑ k, x' k * -w' k : ℝ) : EReal) := by
    rw [coe_sum]; exact Finset.sum_congr rfl fun k _ => by rw [hx', hw']; push_cast; rfl
  have e2 : (∑ k, x k * w k) = ((∑ k, x' k * w' k : ℝ) : EReal) := by
    rw [coe_sum]; exact Finset.sum_congr rfl fun k _ => by rw [hx', hw']; push_cast; rfl
  rw [e1, e2, ← EReal.coe_neg]
  congr 1
  simp

theorem lin_zero {n : ℕ} (x : Fin n → EReal) : lin x (fun _ => 0) = 0 := by simp [lin]

/-- The first half of a rotated pair, the factor drawn out. -/
theorem rope_lo {a b c s f : EReal} : IsNum a → IsNum b → IsNum c → IsNum s → IsNum f →
    a * (c * f) + -b * (s * f) = (a * c - b * s) * f := by
  rintro ⟨a, rfl⟩ ⟨b, rfl⟩ ⟨c, rfl⟩ ⟨s, rfl⟩ ⟨f, rfl⟩
  norm_cast
  ring

/-- The second half of a rotated pair, the factor drawn out. -/
theorem rope_hi {a b c s f : EReal} : IsNum a → IsNum b → IsNum c → IsNum s → IsNum f →
    a * (c * f) + b * (s * f) = (a * c + b * s) * f := by
  rintro ⟨a, rfl⟩ ⟨b, rfl⟩ ⟨c, rfl⟩ ⟨s, rfl⟩ ⟨f, rfl⟩
  norm_cast
  ring

theorem rope_key {a b c s : EReal} : IsNum a → IsNum b → IsNum c → IsNum s → a * c + -b * s = a * c - b * s := by
  rintro ⟨a, rfl⟩ ⟨b, rfl⟩ ⟨c, rfl⟩ ⟨s, rfl⟩
  norm_cast
  ring

/-- The angle by which a pair turns: its position times a power of ten thousand. -/
def angle (s i : BitVec 32) : EReal :=
  (s.toInt : ℝ) * Ideal.pow (Ideal.ofBits .f32 0x461C4000#32)
    (Ideal.div (-(Ideal.ofBits .f32 0x40000000#32 * ((i.toInt : ℝ) : EReal))) (Ideal.ofBits .f32 0x42000000#32))

theorem num_angle (s i : BitVec 32) : IsNum (angle s i) := by
  have h32 : Ideal.ofBits .f32 0x42000000#32 = ((32 : ℝ) : EReal) := by
    simp [Ideal.ofBits, Ideal.ieee, -EReal.coe_mul]; norm_num
  have h10 : Ideal.ofBits .f32 0x461C4000#32 = ((10000 : ℝ) : EReal) := by
    simp [Ideal.ofBits, Ideal.ieee, -EReal.coe_mul]; norm_num
  unfold angle
  rw [h32, h10, bits_two, div_num _ (by norm_num : (32 : ℝ) ≠ 0)]
  refine IsNum.mul ⟨_, rfl⟩ ?_
  have : -(((2 : ℝ) : EReal) * ((i.toInt : ℝ) : EReal)) * (((32 : ℝ)⁻¹ : ℝ) : EReal) = ((-(2 * (i.toInt : ℝ)) * (32 : ℝ)⁻¹ : ℝ) : EReal) := by
    push_cast; rfl
  rw [this]
  exact ⟨_, rfl⟩

/-- The cosine and the sine of the angle by which pair `i` turns at position `s`. -/
def ct (s : Fin 2048) (i : Fin 16) : EReal := Ideal.cos (angle (BitVec.ofNat 32 s) (BitVec.ofNat 32 i))
def st (s : Fin 2048) (i : Fin 16) : EReal := Ideal.sin (angle (BitVec.ofNat 32 s) (BitVec.ofNat 32 i))

theorem num_ct (s : Fin 2048) (i : Fin 16) : IsNum (ct s i) := by
  obtain ⟨r, hr⟩ := num_angle (BitVec.ofNat 32 s) (BitVec.ofNat 32 i)
  unfold ct; rw [hr]; exact ⟨_, rfl⟩
theorem num_st (s : Fin 2048) (i : Fin 16) : IsNum (st s i) := by
  obtain ⟨r, hr⟩ := num_angle (BitVec.ofNat 32 s) (BitVec.ofNat 32 i)
  unfold st; rw [hr]; exact ⟨_, rfl⟩

/-- The queries' factor. -/
abbrev factor : EReal := Ideal.ofBits .f32 0x3E16C740#32
theorem num_factor : IsNum factor := ⟨_, by simp [factor, Ideal.ofBits, Ideal.ieee, -EReal.coe_mul]; rfl⟩

/-- A token's row: the normed activations' projection at one column. -/
def proj (x g w : Fin 1024 → EReal) : EReal := lin (norm (Ideal.ofBits .f32 0x44800000#32) x g) w

/-- A column of the queries before rotation, of the keys and values before rotation: a low-rank row, normed, through its weights. -/
def low {n : ℕ} (c : EReal) (x g : Fin 1024 → EReal) (W : Fin n → Fin 1024 → EReal) (g' w : Fin n → EReal) : EReal :=
  lin (norm c (fun k => proj x g (W k)) g') w

end Cert.K.Proj
-- ==== Proof.ProjPure.lean ====
module

public import proofs.«01_k».proof.Proof.Gen.InprojIdeal.Skeleton
public import proofs.«01_k».proof.Proof.ProjSpec
public import Idealize.ShloMosaic.Lib.Pointwise

@[expose] public section

set_option maxRecDepth 16384

noncomputable section
open Idealize.ShloMosaic Idealize.ShloMosaic.TcCoe Idealize.SL.Sem

/-! What one grid point of the input projection computes, read at an index. -/
namespace Cert.InprojIdeal.Proj
open Cert.InprojIdeal Cert.InprojIdeal.Gen Cert.K

variable (X : Vec Ideal S1024x1024 .f32) (G : Vec Ideal S1x1024 .f32) (W : Vec Ideal S1536x1024 .bf16) (N : Vec Ideal S768x1024 .bf16)

theorem pay7_at (r k : Fin 1024) : k0_pay7 (F := Ideal) X G (ix2 r k)
    = Proj.norm (Ideal.ofBits .f32 0x44800000#32) (fun k => X (ix2 r k)) (fun k => G (ix2 0 k)) k := by
  pointwise [k0_pay7]
  rfl

theorem pay8_at (r : Fin 1024) (o : Fin 1536) : k0_pay8 (F := Ideal) X G W (ix2 r o)
    = Proj.proj (fun k => X (ix2 r k)) (fun k => G (ix2 0 k)) (fun k => W (ix2 o k)) := by
  pointwise [k0_pay8, pay7_at]
  rfl

theorem pay9_at (r : Fin 1024) (o : Fin 768) : k0_pay9 (F := Ideal) X G W (ix2 r o) = k0_pay8 (F := Ideal) X G W (ix2 r ⟨o, by omega⟩) := by
  unfold k0_pay9
  generalize k0_pay8 (F := Ideal) X G W = u
  pointwise []

theorem pay10_at (r : Fin 1024) (o : Fin 256) : k0_pay10 (F := Ideal) X G W (ix2 r o) = k0_pay8 (F := Ideal) X G W (ix2 r ⟨768 + o, by omega⟩) := by
  unfold k0_pay10
  generalize k0_pay8 (F := Ideal) X G W = u
  pointwise []

theorem pay11_at (g : Vec Ideal S1x256 .f32) (r : Fin 1024) (j : Fin 256) : k0_pay11 (F := Ideal) X G W g (ix2 r j)
    = Proj.norm (Ideal.ofBits .f32 0x43800000#32) (fun k : Fin 256 => k0_pay8 (F := Ideal) X G W (ix2 r ⟨1024 + k, by omega⟩)) (fun k => g (ix2 0 k)) j := by
  unfold k0_pay11
  generalize k0_pay8 (F := Ideal) X G W = u
  pointwise []
  rfl

theorem pay12_at (u : FVec Ideal S1024x256 .bf16) (A : Vec Ideal S256x512 .bf16) (C : Vec Ideal S1024x512 .f32) (B : Vec Ideal S256x512 .bf16)
    (S : Vec Ideal S1024x512 .f32) (r : Fin 1024) (c : Fin 512) : k0_pay12 (F := Ideal) u A C B S (ix2 r c)
    = Proj.lin (fun k => u (ix2 r k)) (fun k => A (ix2 k c)) * C (ix2 r c) + Proj.lin (fun k => u (ix2 r k)) (fun k => B (ix2 k c)) * S (ix2 r c) := by
  pointwise [k0_pay12]
  rfl

theorem pay13_at (u : FVec Ideal S1024x1536 .f32) (g : Vec Ideal S1x128 .f32) (r : Fin 1024) (j : Fin 128) : k0_pay13 (F := Ideal) u g (ix2 r j)
    = Proj.norm (Ideal.ofBits .f32 0x43000000#32) (fun k : Fin 128 => u (ix2 r ⟨1280 + k, by omega⟩)) (fun k => g (ix2 0 k)) j := by
  pointwise [k0_pay13]
  rfl

theorem pay14_at (u : FVec Ideal S1024x1536 .f32) (c : Vec Ideal S1024x128 .f32) (r : Fin 1024) (j : Fin 128) :
    k0_pay14 (F := Ideal) u c (ix2 r j) = u (ix2 r ⟨1408 + j, by omega⟩) * c (ix2 r j) := by
  pointwise [k0_pay14]

theorem pay15_at (w : Vec Ideal S128x512 .bf16) (k : Fin 128) (c : Fin 512) : k0_pay15 (F := Ideal) w (ix2 k c) = w (ix2 k c) := by
  pointwise [k0_pay15]

theorem pay1_at (u : FVec Ideal S1024x128 .bf16) (p : FVec Ideal S1024x128 .f32) (w : FVec Ideal S128x512 .bf16) (E : Vec Ideal S128x512 .bf16)
    (r : Fin 1024) (c : Fin 512) : k0_pay1 (F := Ideal) u p w (constant S1024x512 .f32 0x00000000#32) E (ix2 r c)
    = Proj.lin (fun k => u (ix2 r k)) (fun k => w (ix2 k c)) + Proj.lin (fun k => p (ix2 r k)) (fun k => E (ix2 k c)) := by
  pointwise [k0_pay1]
  rfl

theorem pay2_at (u : FVec Ideal S1024x128 .bf16) (w : Vec Ideal S256x128 .bf16) (y : Fin 1) (c : Fin 256) (r : Fin 1024) :
    k0_pay2 (F := Ideal) u w (ix3 y c r) = ∑ k, w (ix2 c k) * u (ix2 r k) := by
  pointwise [k0_pay2]

theorem pay3_at (r : Fin 1024) (o : Fin 768) : k0_pay3 (F := Ideal) (k0_pay7 X G) N (ix2 r o)
    = Proj.proj (fun k => X (ix2 r k)) (fun k => G (ix2 0 k)) (fun k => N (ix2 o k)) := by
  pointwise [k0_pay3, pay7_at]
  rfl

theorem pay4_at (h : FVec Ideal S1024x1024 .bf16) (r : Fin 1024) (o : Fin 256) : k0_pay4 (F := Ideal) h N (ix2 r o)
    = k0_pay3 (F := Ideal) h N (ix2 r ⟨o, by omega⟩) * Ideal.ofBits .f32 0x3E38AA3B#32 := by
  unfold k0_pay4
  generalize k0_pay3 (F := Ideal) h N = u
  pointwise []

theorem pay5_at (h : FVec Ideal S1024x1024 .bf16) (r : Fin 1024) (o : Fin 256) : k0_pay5 (F := Ideal) h N (ix2 r o)
    = k0_pay3 (F := Ideal) h N (ix2 r ⟨256 + o, by omega⟩) := by
  unfold k0_pay5
  generalize k0_pay3 (F := Ideal) h N = u
  pointwise []

theorem pay6_at (h : FVec Ideal S1024x1024 .bf16) (r : Fin 1024) (o : Fin 256) : k0_pay6 (F := Ideal) h N (ix2 r o)
    = k0_pay3 (F := Ideal) h N (ix2 r ⟨512 + o, by omega⟩) := by
  unfold k0_pay6
  generalize k0_pay3 (F := Ideal) h N = u
  pointwise []

end Cert.InprojIdeal.Proj
-- ==== Proof.ProjTable.lean ====
module

public import proofs.«01_k».proof.Proof.Gen.InprojIdeal.Skeleton
public import proofs.«01_k».proof.Proof.Gen.InprojIdeal.Launch
public import proofs.«01_k».proof.Proof.ProjSpec
public import Idealize.ShloMosaic.Lib.Pointwise

@[expose] public section

set_option maxRecDepth 16384

noncomputable section
open Idealize.ShloMosaic Idealize.ShloMosaic.TcCoe Idealize.SL.Sem

/-! The arrays the host prepares for the input projection, and their entries. -/
namespace Cert.InprojIdeal.Proj
open Cert.InprojIdeal Cert.InprojIdeal.Gen Cert.K

/-- Every position's angles. -/
def angles : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (Host.divf (Host.negf (addf (broadcastInDim S16 ![] bcast_S_S16 (constant S_ .f32 0x00000000#32))
          (mulf (broadcastInDim S16 ![] bcast_S_S16 (constant S_ .f32 0x40000000#32)) (sitofp .f32 (iotaInDim S16 32 0)))))
          (broadcastInDim S16 ![] bcast_S_S16 (constant S_ .f32 0x42000000#32))))))

/-- A table next to itself. -/
def twice (a : FVec Ideal S2048x16 .f32) : FVec Ideal S2048x32 .f32 :=
  concatenate S2048x32 1 [⟨S2048x16, a⟩, ⟨S2048x16, a⟩] concatenates_S2048x16_S2048x16_S2048x32_d1

abbrev fill64 (b : BitVec 32) : FVec Ideal S2048x64 .f32 := broadcastInDim S2048x64 ![] bcast_S_S2048x64 (constant S_ .f32 b)
abbrev fill32 : FVec Ideal S2048x32 .f32 := broadcastInDim S2048x32 ![] bcast_S_S2048x32 (constant S_ .f32 0x00000000#32)

/-- A head's lanes: `e` first, then a table, then nothing, all times the queries' factor; once for each head. -/
def lanes (e : FVec Ideal S2048x64 .f32) (a : FVec Ideal S2048x32 .f32) (z : FVec Ideal S2048x32 .f32) : FVec Ideal S2048x512 .f32 :=
  shapeCast S2048x512 (broadcastInDim S1x2048x4x128 ![0, 1, 2, 3] bcast_S1x2048x1x128_S1x2048x4x128_0_1_2_3
    (shapeCast S1x2048x1x128 (mulf (concatenate S2048x128 1 [⟨S2048x64, e⟩, ⟨S2048x32, a⟩, ⟨S2048x32, z⟩] concatenates_S2048x64_S2048x32_S2048x32_S2048x128_d1)
      (broadcastInDim S2048x128 ![] bcast_S_S2048x128 (constant S_ .f32 0x3E16C740#32))) shapeCasts_S2048x128_S1x2048x1x128)) shapeCasts_S1x2048x4x128_S2048x512

/-- The keys' table: cosines, sines, nothing. -/
def keys (a b : FVec Ideal S2048x32 .f32) (z : FVec Ideal S2048x64 .f32) : FVec Ideal S2048x128 .f32 :=
  concatenate S2048x128 1 [⟨S2048x32, a⟩, ⟨S2048x32, b⟩, ⟨S2048x64, z⟩] concatenates_S2048x32_S2048x32_S2048x64_S2048x128_d1

abbrev none32 : FVec Ideal S256x4x32 .f32 := broadcastInDim S256x4x32 ![] bcast_S_S256x4x32 (constant S_ .f32 0x00000000#32)
abbrev none64 : FVec Ideal S256x4x64 .f32 := broadcastInDim S256x4x64 ![] bcast_S_S256x4x64 (constant S_ .f32 0x00000000#32)

abbrev heads (w : FVec Ideal S256x384 .f32) : FVec Ideal S256x4x96 .f32 := shapeCast S256x4x96 w shapeCasts_S256x384_S256x4x96
abbrev headPe (w : FVec Ideal S256x4x96 .f32) : FVec Ideal S256x4x32 .f32 := extractStridedSlice S256x4x32 ![0, 0, 64] w slices_S256x4x96_S256x4x32_0_0_64

/-- The queries' weights in a head's lanes. -/
def wqa (w : FVec Ideal S256x4x96 .f32) (z : FVec Ideal S256x4x32 .f32) : FVec Ideal S256x512 .f32 :=
  shapeCast S256x512 (concatenate S256x4x128 2 [⟨S256x4x64, extractStridedSlice S256x4x64 ![0, 0, 0] w slices_S256x4x96_S256x4x64_0_0_0⟩,
    ⟨S256x4x32, headPe w⟩, ⟨S256x4x32, z⟩] concatenates_S256x4x64_S256x4x32_S256x4x32_S256x4x128_d2) shapeCasts_S256x4x128_S256x512

/-- The position lanes' weights, their halves exchanged and the first negated. -/
def swapped (p : FVec Ideal S256x4x32 .f32) : FVec Ideal S256x4x32 .f32 :=
  concatenate S256x4x32 2 [⟨S256x4x16, Host.negf (extractStridedSlice S256x4x16 ![0, 0, 16] p slices_S256x4x32_S256x4x16_0_0_16)⟩,
    ⟨S256x4x16, extractStridedSlice S256x4x16 ![0, 0, 0] p slices_S256x4x32_S256x4x16_0_0_0⟩] concatenates_S256x4x16_S256x4x16_S256x4x32_d2

/-- Those in a head's lanes. -/
def wqb (s : FVec Ideal S256x4x32 .f32) (y : FVec Ideal S256x4x64 .f32) (z : FVec Ideal S256x4x32 .f32) : FVec Ideal S256x512 .f32 :=
  shapeCast S256x512 (concatenate S256x4x128 2 [⟨S256x4x64, y⟩, ⟨S256x4x32, s⟩, ⟨S256x4x32, z⟩] concatenates_S256x4x64_S256x4x32_S256x4x32_S256x4x128_d2)
    shapeCasts_S256x4x128_S256x512

abbrev kvHeads (w : FVec Ideal S128x512 .f32) : FVec Ideal S128x4x128 .f32 := shapeCast S128x4x128 w shapeCasts_S128x512_S128x4x128

/-- The keys' weights in a head's lanes, and the values' weights by rows. -/
def wk (w : FVec Ideal S128x4x128 .f32) (z : FVec Ideal S128x4x64 .f32) : FVec Ideal S128x512 .f32 :=
  shapeCast S128x512 (concatenate S128x4x128 2 [⟨S128x4x64, extractStridedSlice S128x4x64 ![0, 0, 0] w slices_S128x4x128_S128x4x64_0_0_0⟩,
    ⟨S128x4x64, z⟩] concatenates_S128x4x64_S128x4x64_S128x4x128_d2) shapeCasts_S128x4x128_S128x512
def wv (w : FVec Ideal S128x4x128 .f32) : FVec Ideal S256x128 .f32 :=
  transpose S256x128 [1, 0] (shapeCast S128x256 (extractStridedSlice S128x4x64 ![0, 0, 64] w slices_S128x4x128_S128x4x64_0_0_64) shapeCasts_S128x4x64_S128x256)
    transposes_S128x256_S256x128_1_0
abbrev noKey : FVec Ideal S128x4x64 .f32 := broadcastInDim S128x4x64 ![] bcast_S_S128x4x64 (constant S_ .f32 0x00000000#32)

/-- The divisor that the remainder takes. -/
def divisor (n : BitVec 32) : IVec S_ 32 :=
  select (cmpi .eq (constantI S_ 32 n) (constantI S_ 32 0#32)) (constantI S_ 32 1#32) (constantI S_ 32 n)

/-- The remainder, of the divisor's sign. -/
def remainder (x : IVec S128x512 32) (n : BitVec 32) : IVec S128x512 32 :=
  select (andi (cmpi .ne (cmpi .slt (Host.remsi x (broadcastInDim S128x512 ![] bcast_S_S128x512 (divisor n))) (broadcastInDim S128x512 ![] bcast_S_S128x512 (constantI S_ 32 0#32)))
      (broadcastInDim S128x512 ![] bcast_S_S128x512 (cmpi .slt (divisor n) (constantI S_ 32 0#32))))
      (cmpi .ne (Host.remsi x (broadcastInDim S128x512 ![] bcast_S_S128x512 (divisor n))) (broadcastInDim S128x512 ![] bcast_S_S128x512 (constantI S_ 32 0#32))))
    (addi (Host.remsi x (broadcastInDim S128x512 ![] bcast_S_S128x512 (divisor n))) (broadcastInDim S128x512 ![] bcast_S_S128x512 (divisor n)))
    (Host.remsi x (broadcastInDim S128x512 ![] bcast_S_S128x512 (divisor n)))

/-- Where the shared position lanes go: one at a head's position lane of the same number, of both the plain and the rotated rows. -/
def spread : FVec Ideal S128x512 .f32 :=
  select (andi (cmpi .slt (iotaInDim S128x512 32 0) (broadcastInDim S128x512 ![] bcast_S_S128x512 (constantI S_ 32 64#32)))
      (cmpi .eq (remainder (iotaInDim S128x512 32 1) 128#32)
        (addi (broadcastInDim S128x512 ![] bcast_S_S128x512 (constantI S_ 32 64#32)) (remainder (iotaInDim S128x512 32 0) 32#32))))
    (broadcastInDim S128x512 ![] bcast_S_S128x512 (constant S_ .f32 0x3F800000#32)) (broadcastInDim S128x512 ![] bcast_S_S128x512 (constant S_ .f32 0x00000000#32))

/-! The tables' entries. -/

theorem angles_at (s : Fin 2048) (i : Fin 16) : angles (ix2 s i) = Proj.angle (BitVec.ofNat 32 s) (BitVec.ofNat 32 i) := by
  pointwise [angles]
  rfl

section
variable (a : FVec Ideal S2048x16 .f32) (e : FVec Ideal S2048x64 .f32) (p q z : FVec Ideal S2048x32 .f32) (s : Fin 2048) (h : Fin 4)

theorem twice_lo (i : Fin 16) : twice a (ix2 s ⟨i, by omega⟩) = a (ix2 s i) := by pointwise [twice]
theorem twice_hi (i : Fin 16) : twice a (ix2 s ⟨16 + i, by omega⟩) = a (ix2 s i) := by pointwise [twice]

theorem row_head (x : FVec Ideal S1x2048x4x128 .f32) (j : Fin 128) : shapeCast S2048x512 x shapeCasts_S1x2048x4x128_S2048x512 (ix2 s ⟨h * 128 + j, by omega⟩)
    = x (ix4 0 s h j) := by pointwise []
theorem row_rep (x : FVec Ideal S2048x128 .f32) (j : Fin 128) : broadcastInDim S1x2048x4x128 ![0, 1, 2, 3] bcast_S1x2048x1x128_S1x2048x4x128_0_1_2_3
    (shapeCast S1x2048x1x128 x shapeCasts_S2048x128_S1x2048x1x128) (ix4 0 s h j) = x (ix2 s j) := by pointwise []
theorem lanes_of (j : Fin 128) : lanes e p z (ix2 s ⟨h * 128 + j, by omega⟩)
    = concatenate S2048x128 1 [⟨S2048x64, e⟩, ⟨S2048x32, p⟩, ⟨S2048x32, z⟩] concatenates_S2048x64_S2048x32_S2048x32_S2048x128_d1 (ix2 s j) * Proj.factor :=
  (row_head s h _ j).trans (row_rep s h _ j)
theorem cat_nope (i : Fin 64) : concatenate S2048x128 1 [⟨S2048x64, e⟩, ⟨S2048x32, p⟩, ⟨S2048x32, z⟩] concatenates_S2048x64_S2048x32_S2048x32_S2048x128_d1
    (ix2 s ⟨i, by omega⟩) = e (ix2 s i) := by pointwise []
theorem cat_pe (i : Fin 32) : concatenate S2048x128 1 [⟨S2048x64, e⟩, ⟨S2048x32, p⟩, ⟨S2048x32, z⟩] concatenates_S2048x64_S2048x32_S2048x32_S2048x128_d1
    (ix2 s ⟨64 + i, by omega⟩) = p (ix2 s i) := by pointwise []
theorem cat_pad (i : Fin 32) : concatenate S2048x128 1 [⟨S2048x64, e⟩, ⟨S2048x32, p⟩, ⟨S2048x32, z⟩] concatenates_S2048x64_S2048x32_S2048x32_S2048x128_d1
    (ix2 s ⟨96 + i, by omega⟩) = z (ix2 s i) := by
  pointwise []
  rw [dif_neg (by omega), dif_neg (by omega)]
  exact congrArg (fun j => z (ix2 s j)) (Fin.ext (by dsimp only; omega))
theorem lanes_nope (i : Fin 64) : lanes e p z (ix2 s ⟨h * 128 + i, by omega⟩) = e (ix2 s i) * Proj.factor :=
  (lanes_of e p z s h ⟨i, by omega⟩).trans (congrArg (· * Proj.factor) (cat_nope e p z s i))
theorem lanes_pe (i : Fin 32) : lanes e p z (ix2 s ⟨h * 128 + (64 + i), by omega⟩) = p (ix2 s i) * Proj.factor :=
  (lanes_of e p z s h ⟨64 + i, by omega⟩).trans (congrArg (· * Proj.factor) (cat_pe e p z s i))
theorem lanes_pad (i : Fin 32) : lanes e p z (ix2 s ⟨h * 128 + (96 + i), by omega⟩) = z (ix2 s i) * Proj.factor :=
  (lanes_of e p z s h ⟨96 + i, by omega⟩).trans (congrArg (· * Proj.factor) (cat_pad e p z s i))

theorem keys_cos (i : Fin 32) : keys p q e (ix2 s ⟨i, by omega⟩) = p (ix2 s i) := by pointwise [keys]
theorem keys_sin (i : Fin 32) : keys p q e (ix2 s ⟨32 + i, by omega⟩) = q (ix2 s i) := by pointwise [keys]
theorem keys_none (i : Fin 64) : keys p q e (ix2 s ⟨64 + i, by omega⟩) = e (ix2 s i) := by
  pointwise [keys]
  rw [dif_neg (by omega), dif_neg (by omega)]
  exact congrArg (fun j => e (ix2 s j)) (Fin.ext (by dsimp only; omega))
end

section
variable (w : FVec Ideal S256x384 .f32) (w3 : FVec Ideal S256x4x96 .f32) (p z : FVec Ideal S256x4x32 .f32) (y : FVec Ideal S256x4x64 .f32) (k : Fin 256) (h : Fin 4)

theorem heads_at (i : Fin 96) : heads w (ix3 k h i) = w (ix2 k ⟨h * 96 + i, by omega⟩) := by pointwise [heads]
theorem headPe_at (i : Fin 32) : headPe w3 (ix3 k h i) = w3 (ix3 k h ⟨64 + i, by omega⟩) := by pointwise [headPe]
theorem by_heads (x : FVec Ideal S256x4x128 .f32) (j : Fin 128) : shapeCast S256x512 x shapeCasts_S256x4x128_S256x512 (ix2 k ⟨h * 128 + j, by omega⟩)
    = x (ix3 k h j) := by pointwise []
theorem wcat_nope (i : Fin 64) : concatenate S256x4x128 2 [⟨S256x4x64, y⟩, ⟨S256x4x32, p⟩, ⟨S256x4x32, z⟩] concatenates_S256x4x64_S256x4x32_S256x4x32_S256x4x128_d2
    (ix3 k h ⟨i, by omega⟩) = y (ix3 k h i) := by pointwise []
theorem wcat_pe (i : Fin 32) : concatenate S256x4x128 2 [⟨S256x4x64, y⟩, ⟨S256x4x32, p⟩, ⟨S256x4x32, z⟩] concatenates_S256x4x64_S256x4x32_S256x4x32_S256x4x128_d2
    (ix3 k h ⟨64 + i, by omega⟩) = p (ix3 k h i) := by pointwise []
theorem wcat_pad (i : Fin 32) : concatenate S256x4x128 2 [⟨S256x4x64, y⟩, ⟨S256x4x32, p⟩, ⟨S256x4x32, z⟩] concatenates_S256x4x64_S256x4x32_S256x4x32_S256x4x128_d2
    (ix3 k h ⟨96 + i, by omega⟩) = z (ix3 k h i) := by
  pointwise []
  rw [dif_neg (by omega), dif_neg (by omega)]
  exact congrArg (fun j => z (ix3 k h j)) (Fin.ext (by dsimp only; omega))
theorem wnope (i : Fin 64) : extractStridedSlice S256x4x64 ![0, 0, 0] w3 slices_S256x4x96_S256x4x64_0_0_0 (ix3 k h i) = w3 (ix3 k h ⟨i, by omega⟩) := by pointwise []
theorem wqa_nope (i : Fin 64) : wqa w3 z (ix2 k ⟨h * 128 + i, by omega⟩) = w3 (ix3 k h ⟨i, by omega⟩) :=
  (by_heads k h _ ⟨i, by omega⟩).trans ((wcat_nope _ _ _ k h i).trans (wnope w3 k h i))
theorem wqa_pe (i : Fin 32) : wqa w3 z (ix2 k ⟨h * 128 + (64 + i), by omega⟩) = w3 (ix3 k h ⟨64 + i, by omega⟩) :=
  (by_heads k h _ ⟨64 + i, by omega⟩).trans ((wcat_pe _ _ _ k h i).trans (headPe_at w3 k h i))
theorem wqa_pad (i : Fin 32) : wqa w3 z (ix2 k ⟨h * 128 + (96 + i), by omega⟩) = z (ix3 k h i) :=
  (by_heads k h _ ⟨96 + i, by omega⟩).trans (wcat_pad _ _ _ k h i)
theorem swapped_lo (i : Fin 16) : swapped p (ix3 k h ⟨i, by omega⟩) = -p (ix3 k h ⟨16 + i, by omega⟩) := by pointwise [swapped]
theorem swapped_hi (i : Fin 16) : swapped p (ix3 k h ⟨16 + i, by omega⟩) = p (ix3 k h ⟨i, by omega⟩) := by pointwise [swapped]
theorem wqb_nope (i : Fin 64) : wqb p y z (ix2 k ⟨h * 128 + i, by omega⟩) = y (ix3 k h i) :=
  (by_heads k h _ ⟨i, by omega⟩).trans (wcat_nope _ _ _ k h i)
theorem wqb_pe (i : Fin 32) : wqb p y z (ix2 k ⟨h * 128 + (64 + i), by omega⟩) = p (ix3 k h i) :=
  (by_heads k h _ ⟨64 + i, by omega⟩).trans (wcat_pe _ _ _ k h i)
theorem wqb_pad (i : Fin 32) : wqb p y z (ix2 k ⟨h * 128 + (96 + i), by omega⟩) = z (ix3 k h i) :=
  (by_heads k h _ ⟨96 + i, by omega⟩).trans (wcat_pad _ _ _ k h i)
end

section
variable (w : FVec Ideal S128x512 .f32) (w3 : FVec Ideal S128x4x128 .f32) (z : FVec Ideal S128x4x64 .f32) (k : Fin 128) (h : Fin 4)
theorem kvHeads_at (i : Fin 128) : kvHeads w (ix3 k h i) = w (ix2 k ⟨h * 128 + i, by omega⟩) := by pointwise [kvHeads]
theorem by_heads' (x : FVec Ideal S128x4x128 .f32) (j : Fin 128) : shapeCast S128x512 x shapeCasts_S128x4x128_S128x512 (ix2 k ⟨h * 128 + j, by omega⟩)
    = x (ix3 k h j) := by pointwise []
theorem kcat_lo (y : FVec Ideal S128x4x64 .f32) (i : Fin 64) : concatenate S128x4x128 2 [⟨S128x4x64, y⟩, ⟨S128x4x64, z⟩] concatenates_S128x4x64_S128x4x64_S128x4x128_d2
    (ix3 k h ⟨i, by omega⟩) = y (ix3 k h i) := by pointwise []
theorem kcat_hi (y : FVec Ideal S128x4x64 .f32) (i : Fin 64) : concatenate S128x4x128 2 [⟨S128x4x64, y⟩, ⟨S128x4x64, z⟩] concatenates_S128x4x64_S128x4x64_S128x4x128_d2
    (ix3 k h ⟨64 + i, by omega⟩) = z (ix3 k h i) := by pointwise []
theorem knope (i : Fin 64) : extractStridedSlice S128x4x64 ![0, 0, 0] w3 slices_S128x4x128_S128x4x64_0_0_0 (ix3 k h i) = w3 (ix3 k h ⟨i, by omega⟩) := by pointwise []
theorem wk_nope (i : Fin 64) : wk w3 z (ix2 k ⟨h * 128 + i, by omega⟩) = w3 (ix3 k h ⟨i, by omega⟩) :=
  (by_heads' k h _ ⟨i, by omega⟩).trans ((kcat_lo _ k h _ i).trans (knope w3 k h i))
theorem wk_rest (i : Fin 64) : wk w3 z (ix2 k ⟨h * 128 + (64 + i), by omega⟩) = z (ix3 k h i) :=
  (by_heads' k h _ ⟨64 + i, by omega⟩).trans (kcat_hi _ k h _ i)
theorem wv_at (d : Fin 64) : wv w3 (ix2 ⟨h * 64 + d, by omega⟩ k) = w3 (ix3 k h ⟨64 + d, by omega⟩) := by pointwise [wv]
end

/-- The remainder of one number. -/
def remOf (x n : BitVec 32) : BitVec 32 :=
  let d := Scalar.select (IntOp.cmpi .eq n 0#32) 1#32 n
  let q := IntOp.remsi .host x d
  Scalar.select (IntOp.andi (IntOp.cmpi .ne (IntOp.cmpi .slt q 0#32) (IntOp.cmpi .slt d 0#32)) (IntOp.cmpi .ne q 0#32)) (IntOp.addi q d) q

theorem rem128 : ∀ c : Fin 512, remOf (BitVec.ofNat 32 c) 128#32 = BitVec.ofNat 32 (c.val % 128) := by decide +kernel
theorem rem32 : ∀ r : Fin 128, remOf (BitVec.ofNat 32 r) 32#32 = BitVec.ofNat 32 (r.val % 32) := by decide +kernel
theorem below64 : ∀ r : Fin 128, IntOp.cmpi .slt (BitVec.ofNat 32 r) 64#32 = if r.val < 64 then 1#1 else 0#1 := by decide +kernel
theorem same_lane : ∀ (a : Fin 128) (b : Fin 32), IntOp.cmpi .eq (BitVec.ofNat 32 a) (IntOp.addi 64#32 (BitVec.ofNat 32 b))
    = if a.val = 64 + b.val then 1#1 else 0#1 := by decide +kernel

theorem spread_at (r : Fin 128) (c : Fin 512) : spread (ix2 r c) = if r.val < 64 ∧ c.val % 128 = 64 + r.val % 32 then 1 else 0 := by
  have e : spread (ix2 r c) = Scalar.select (IntOp.andi (IntOp.cmpi .slt (BitVec.ofNat 32 r) 64#32)
      (IntOp.cmpi .eq (remOf (BitVec.ofNat 32 c) 128#32) (IntOp.addi 64#32 (remOf (BitVec.ofNat 32 r) 32#32)))) (1 : EReal) 0 := by
    pointwise [spread, remainder, divisor]
    rfl
  have h := same_lane ⟨c.val % 128, by omega⟩ ⟨r.val % 32, by omega⟩
  dsimp only at h
  rw [e, rem128, rem32, below64, h]
  by_cases h1 : r.val < 64 <;> by_cases h2 : c.val % 128 = 64 + r.val % 32 <;> simp [h1, h2] <;> rfl

/-- A row spread over a head's position lanes. -/
theorem lin_spread (p : Fin 128 → EReal) (h : Fin 4) (i : Fin 32) :
    Proj.lin p (fun r => spread (ix2 r ⟨h * 128 + (64 + i), by omega⟩)) = p ⟨i, by omega⟩ + p ⟨32 + i, by omega⟩ := by
  have e (r : Fin 128) : p r * spread (ix2 r ⟨h * 128 + (64 + i), by omega⟩)
      = (if r = ⟨i, by omega⟩ then p r else 0) + (if r = ⟨32 + i, by omega⟩ then p r else 0) := by
    rw [spread_at]
    simp only [Fin.ext_iff]
    by_cases h1 : r.val = i.val
    · rw [if_pos ⟨by omega, by omega⟩, if_pos h1, if_neg (by omega), mul_one, add_zero]
    · by_cases h2 : r.val = 32 + i.val
      · rw [if_pos ⟨by omega, by omega⟩, if_neg h1, if_pos h2, mul_one, zero_add]
      · rw [if_neg (by omega), if_neg h1, if_neg h2, mul_zero, add_zero]
  unfold Proj.lin
  simp only [e, Finset.sum_add_distrib, Finset.sum_ite_eq', Finset.mem_univ, if_true]

theorem lin_spread_nope (p : Fin 128 → EReal) (h : Fin 4) (i : Fin 64) :
    Proj.lin p (fun r => spread (ix2 r ⟨h * 128 + i, by omega⟩)) = 0 := by
  refine Finset.sum_eq_zero fun r _ => ?_
  dsimp only
  rw [spread_at, if_neg (by dsimp only; omega), mul_zero]

theorem lin_spread_pad (p : Fin 128 → EReal) (h : Fin 4) (i : Fin 32) :
    Proj.lin p (fun r => spread (ix2 r ⟨h * 128 + (96 + i), by omega⟩)) = 0 := by
  refine Finset.sum_eq_zero fun r _ => ?_
  dsimp only
  rw [spread_at, if_neg (by dsimp only; omega), mul_zero]

end Cert.InprojIdeal.Proj
-- ==== Proof.ProjHost.lean ====
module

public import proofs.«01_k».proof.Proof.Gen.InprojIdeal.Frame
public import proofs.«01_k».proof.Proof.ProjPure
public import proofs.«01_k».proof.Proof.ProjTable
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! Each array the host prepares is the table of that name, and which block each grid point reads. -/
namespace Cert.InprojIdeal.Proj
open Cert.InprojIdeal Cert.InprojIdeal.Gen Cert.K

theorem idx : ∀ t : Fin cfg0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val % 2, 0] ∧ win0_12.index t = ![t.val % 2, 0] ∧ win0_13.index t = ![t.val % 2, 0]
    ∧ win0_14.index t = ![t.val, 0] ∧ win0_15.index t = ![t.val, 0] ∧ win0_16.index t = ![t.val, 0] ∧ win0_17.index t = ![t.val, 0]
    ∧ win0_18.index t = ![t.val / 2, 0, t.val % 2] ∧ win0_19.index t = ![t.val, 0] ∧ win0_20.index t = ![t.val, 0] ∧ win0_21.index t = ![t.val, 0]
    ∧ t.val < 16 :=
  (by decide +kernel : ∀ t : Fin grid0.N, _)

variable (m : (ℓ : Loc nD τ sig) → Buf (Elt Ideal) ℓ) (c : Dev nD) (t : Fin cfg0.N)

theorem V_v30 : V m c main_v30 = lanes (fill64 0x3F800000#32) (twice (Host.cos angles)) fill32 := by
  simp only [V, hostOps0, hostOps0_1, hostOps0_2, hostOps0_3, hostOps0_4, hostOps0_5, hostOps0_6, List.flatten_cons, List.flatten_nil, List.append_nil, List.cons_append, List.nil_append]
  after_results
  rfl
theorem V_v36 : V m c main_v36 = lanes (fill64 0x00000000#32) (twice (Host.sin angles)) fill32 := by
  simp only [V, hostOps0, hostOps0_1, hostOps0_2, hostOps0_3, hostOps0_4, hostOps0_5, hostOps0_6, List.flatten_cons, List.flatten_nil, List.append_nil, List.cons_append, List.nil_append]
  after_results
  rfl
theorem V_v38 : V m c main_v38 = keys (twice (Host.cos angles)) (twice (Host.sin angles)) (fill64 0x00000000#32) := by
  simp only [V, hostOps0, hostOps0_1, hostOps0_2, hostOps0_3, hostOps0_4, hostOps0_5, hostOps0_6, List.flatten_cons, List.flatten_nil, List.append_nil, List.cons_append, List.nil_append]
  after_results
  rfl
theorem V_v71 : V m c main_v71 = (truncf .bf16 (wqa (heads (m ((c : Thread nD τ).loc main_arg5))) none32) bitsLt_bf16_f32 : FVec Ideal S256x512 .bf16) := by
  simp only [V, hostOps0, hostOps0_1, hostOps0_2, hostOps0_3, hostOps0_4, hostOps0_5, hostOps0_6, List.flatten_cons, List.flatten_nil, List.append_nil, List.cons_append, List.nil_append]
  after_results
  rfl
theorem V_v72 : V m c main_v72 = (truncf .bf16 (wqb (swapped (headPe (heads (m ((c : Thread nD τ).loc main_arg5))))) none64 none32) bitsLt_bf16_f32 : FVec Ideal S256x512 .bf16) := by
  simp only [V, hostOps0, hostOps0_1, hostOps0_2, hostOps0_3, hostOps0_4, hostOps0_5, hostOps0_6, List.flatten_cons, List.flatten_nil, List.append_nil, List.cons_append, List.nil_append]
  after_results
  rfl
theorem V_v73 : V m c main_v73 = (truncf .bf16 (wk (kvHeads (m ((c : Thread nD τ).loc main_arg7))) noKey) bitsLt_bf16_f32 : FVec Ideal S128x512 .bf16) := by
  simp only [V, hostOps0, hostOps0_1, hostOps0_2, hostOps0_3, hostOps0_4, hostOps0_5, hostOps0_6, List.flatten_cons, List.flatten_nil, List.append_nil, List.cons_append, List.nil_append]
  after_results
  rfl
theorem V_v74 : V m c main_v74 = (truncf .bf16 (wv (kvHeads (m ((c : Thread nD τ).loc main_arg7)))) bitsLt_bf16_f32 : FVec Ideal S256x128 .bf16) := by
  simp only [V, hostOps0, hostOps0_1, hostOps0_2, hostOps0_3, hostOps0_4, hostOps0_5, hostOps0_6, List.flatten_cons, List.flatten_nil, List.append_nil, List.cons_append, List.nil_append]
  after_results
  rfl
set_option maxHeartbeats 4000000 in
theorem V_v75 : V m c main_v75 = (truncf .bf16 spread bitsLt_bf16_f32 : FVec Ideal S128x512 .bf16) := by
  simp only [V, hostOps0, hostOps0_1, hostOps0_2, hostOps0_3, hostOps0_4, hostOps0_5, hostOps0_6, List.flatten_cons, List.flatten_nil, List.append_nil, List.cons_append, List.nil_append]
  after_results
  rfl
theorem V_v76 : V m c main_v76 = shapeCast S1x1024 (m ((c : Thread nD τ).loc main_arg1)) shapeCasts_S1024_S1x1024 := by
  simp only [V, hostOps0, hostOps0_1, hostOps0_2, hostOps0_3, hostOps0_4, hostOps0_5, hostOps0_6, List.flatten_cons, List.flatten_nil, List.append_nil, List.cons_append, List.nil_append]
  after_results
  rfl
theorem V_v77 : V m c main_v77 = shapeCast S1x256 (m ((c : Thread nD τ).loc main_arg4)) shapeCasts_S256_S1x256 := by
  simp only [V, hostOps0, hostOps0_1, hostOps0_2, hostOps0_3, hostOps0_4, hostOps0_5, hostOps0_6, List.flatten_cons, List.flatten_nil, List.append_nil, List.cons_append, List.nil_append]
  after_results
  rfl
theorem V_v78 : V m c main_v78 = shapeCast S1x128 (m ((c : Thread nD τ).loc main_arg6)) shapeCasts_S128_S1x128 := by
  simp only [V, hostOps0, hostOps0_1, hostOps0_2, hostOps0_3, hostOps0_4, hostOps0_5, hostOps0_6, List.flatten_cons, List.flatten_nil, List.append_nil, List.cons_append, List.nil_append]
  after_results
  rfl
end Cert.InprojIdeal.Proj
-- ==== Proof.ProjRefPure.lean ====
module

public import proofs.«01_k».proof.Proof.Gen.InprojRefIdeal.Read
public import proofs.«01_k».proof.Proof.ProjSpec
public import Idealize.ShloMosaic.Lib.Pointwise

@[expose] public section

set_option maxRecDepth 16384

noncomputable section
open Idealize.ShloMosaic Idealize.ShloMosaic.TcCoe Idealize.SL.Sem

/-! The input projection's reference, read at an index. -/
namespace Cert.InprojRefIdeal.Proj
open Cert.InprojRefIdeal Cert.InprojRefIdeal.Gen Cert.InprojRefIdeal.Read Cert.K

variable (a0 : FVec Ideal S16384x1024 .f32) (a1 : FVec Ideal S1024 .f32) (a2 : FVec Ideal S1536x1024 .bf16)
  (a3 : FVec Ideal S768x1024 .bf16) (a4 : FVec Ideal S256 .f32) (a5 : FVec Ideal S256x384 .f32)
  (a6 : FVec Ideal S128 .f32) (a7 : FVec Ideal S128x512 .f32)

theorem v12_at (t : Fin 16384) (j : Fin 1024) : val_main_v12 (F := Ideal) a0 a1 (ix2 t j)
    = Proj.norm (Ideal.ofBits .f32 0x44800000#32) (fun k => a0 (ix2 t k)) (fun k => a1 (ix1 k)) j := by
  simp only [val_main_v12_apply, val_main_v11_apply, val_main_v10_apply, val_main_v9_apply, val_main_v8_apply, val_main_v7_apply,
    val_main_v6_apply, val_main_v5_apply, val_main_v4_apply, val_main_v3_apply, val_main_v2_apply, val_main_v1_apply, val_main_v0_apply,
    val_main_cst_apply, val_main_cst_0_apply, val_main_cst_1_apply]
  rw [Ideal.ofBits_def, Ideal.ofBits_zero_f32, zero_add]
  have e1 (k : Fin 1024) : idx_main_v1 (idx_main_v2 (idx_main_v8 (ix2 t j))) k = ix2 t k := by idx_ext
  have e2 : idx_main_v10 (idx_main_v11 (ix2 t j)) = ix1 j := by idx_ext
  simp only [e1, e2]
  rfl

/-- One token's projection at one column of the first weights, of the second weights. -/
abbrev U (t : Fin 16384) (o : Fin 1536) : EReal :=
  Proj.proj (fun k => a0 (ix2 t k)) (fun k => a1 (ix1 k)) (fun k => a2 (ix2 o k))
abbrev UN (t : Fin 16384) (o : Fin 768) : EReal :=
  Proj.proj (fun k => a0 (ix2 t k)) (fun k => a1 (ix1 k)) (fun k => a3 (ix2 o k))

theorem v16_at (t : Fin 16384) (o : Fin 1440) : val_main_v16 (F := Ideal) a0 a1 a2 (ix2 t o) = U a0 a1 a2 t ⟨o, by omega⟩ := by
  rw [val_main_v16_apply]
  simp only [val_main_v15_apply, val_main_v14_apply, val_main_v13_apply]
  have e1 (x : Fin 1024) : lidx_main_v16 (ix2 t o) x = ix2 t x := by idx_ext
  have e2 (x : Fin 1024) : idx_main_v13 (idx_main_v15 (ridx_main_v16 (ix2 t o) x)) = ix2 ⟨o, by omega⟩ x := by idx_ext
  simp only [e1, e2, v12_at]
  rfl

theorem v19_at (t : Fin 16384) (o : Fin 768) : val_main_v19 (F := Ideal) a0 a1 a3 (ix2 t o) = UN a0 a1 a3 t o := by
  rw [val_main_v19_apply]
  simp only [val_main_v18_apply, val_main_v17_apply]
  have e1 (x : Fin 1024) : lidx_main_v19 (ix2 t o) x = ix2 t x := by idx_ext
  have e2 (x : Fin 1024) : idx_main_v18 (ridx_main_v19 (ix2 t o) x) = ix2 o x := by idx_ext
  simp only [e1, e2, v12_at]
  rfl

theorem v127_at (t : Fin 16384) (o : Fin 768) : val_main_v127 (F := Ideal) a0 a1 a2 (ix2 t o) = U a0 a1 a2 t ⟨o, by omega⟩ := by
  rw [val_main_v127_apply]
  have e : idx_main_v127 (ix2 t o) = ix2 t ⟨o, by omega⟩ := by idx_ext
  rw [e, v16_at]

theorem v128_at (t : Fin 16384) (o : Fin 256) : val_main_v128 (F := Ideal) a0 a1 a2 (ix2 t o) = U a0 a1 a2 t ⟨768 + o, by omega⟩ := by
  rw [val_main_v128_apply]
  have e : idx_main_v128 (ix2 t o) = ix2 t ⟨768 + o, by omega⟩ := by idx_ext
  rw [e, v16_at]

theorem v132_at (t : Fin 16384) (o : Fin 256) : val_main_v132 (F := Ideal) a0 a1 a3 (ix2 t o)
    = UN a0 a1 a3 t ⟨o, by omega⟩ * Ideal.ofBits .f32 0x3E38AA3B#32 := by
  simp only [val_main_v132_apply, val_main_v126_apply, val_main_v125_apply, val_main_v124_apply]
  have e : idx_main_v124 (ix2 t o) = ix2 t ⟨o, by omega⟩ := by idx_ext
  rw [e, v19_at]
  rfl

theorem v134_at (t : Fin 16384) (o : Fin 256) : val_main_v134 (F := Ideal) a0 a1 a3 (ix2 t o) = UN a0 a1 a3 t ⟨256 + o, by omega⟩ := by
  simp only [val_main_v134_apply, val_main_v133_apply]
  have e : idx_main_v133 (ix2 t o) = ix2 t ⟨256 + o, by omega⟩ := by idx_ext
  rw [e, v19_at]
  rfl

theorem v136_at (t : Fin 16384) (o : Fin 256) : val_main_v136 (F := Ideal) a0 a1 a3 (ix2 t o) = UN a0 a1 a3 t ⟨512 + o, by omega⟩ := by
  simp only [val_main_v136_apply, val_main_v135_apply]
  have e : idx_main_v135 (ix2 t o) = ix2 t ⟨512 + o, by omega⟩ := by idx_ext
  rw [e, v19_at]
  rfl

theorem v38_at (s : Fin 2048) (i : Fin 16) : val_main_v38 (F := Ideal) (ix2 s i) = Proj.angle (BitVec.ofNat 32 s) (BitVec.ofNat 32 i) := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_cst_2, val_main_cst_3,
    val_main_cst_4, val_main_cst_5]
  rfl

theorem v39_at (s : Fin 2048) (i : Fin 16) : val_main_v39 (F := Ideal) (ix2 s i) = Proj.ct s i := by
  rw [val_main_v39_apply, v38_at]; rfl
theorem v40_at (s : Fin 2048) (i : Fin 16) : val_main_v40 (F := Ideal) (ix2 s i) = Proj.st s i := by
  rw [val_main_v40_apply, v38_at]; rfl

/-- The queries' columns before rotation, the keys' and values' columns. -/
abbrev Q (t : Fin 16384) (j : Fin 384) : EReal :=
  Proj.low (Ideal.ofBits .f32 0x43800000#32) (fun k => a0 (ix2 t k)) (fun k => a1 (ix1 k)) (fun o k => a2 (ix2 ⟨1024 + o, by omega⟩ k))
    (fun k => a4 (ix1 k)) (fun k => a5 (ix2 k j))
abbrev KV (t : Fin 16384) (j : Fin 512) : EReal :=
  Proj.low (Ideal.ofBits .f32 0x43000000#32) (fun k => a0 (ix2 t k)) (fun k => a1 (ix1 k)) (fun o k => a2 (ix2 ⟨1280 + o, by omega⟩ k))
    (fun k => a6 (ix1 k)) (fun k => a7 (ix2 k j))

theorem v20_at (t : Fin 16384) (o : Fin 256) : val_main_v20 (F := Ideal) a0 a1 a2 (ix2 t o) = U a0 a1 a2 t ⟨1024 + o, by omega⟩ := by
  rw [val_main_v20_apply]
  have e : idx_main_v20 (ix2 t o) = ix2 t ⟨1024 + o, by omega⟩ := by idx_ext
  rw [e, v16_at]
theorem v21_at (t : Fin 16384) (o : Fin 128) : val_main_v21 (F := Ideal) a0 a1 a2 (ix2 t o) = U a0 a1 a2 t ⟨1280 + o, by omega⟩ := by
  rw [val_main_v21_apply]
  have e : idx_main_v21 (ix2 t o) = ix2 t ⟨1280 + o, by omega⟩ := by idx_ext
  rw [e, v16_at]
theorem v22_at (t : Fin 16384) (o : Fin 32) : val_main_v22 (F := Ideal) a0 a1 a2 (ix2 t o) = U a0 a1 a2 t ⟨1408 + o, by omega⟩ := by
  rw [val_main_v22_apply]
  have e : idx_main_v22 (ix2 t o) = ix2 t ⟨1408 + o, by omega⟩ := by idx_ext
  rw [e, v16_at]

theorem v53_at (t : Fin 16384) (j : Fin 256) : val_main_v53 (F := Ideal) a0 a1 a2 a4 (ix2 t j)
    = Proj.norm (Ideal.ofBits .f32 0x43800000#32) (fun k : Fin 256 => U a0 a1 a2 t ⟨1024 + k, by omega⟩) (fun k => a4 (ix1 k)) j := by
  simp only [val_main_v53_apply, val_main_v52_apply, val_main_v51_apply, val_main_v50_apply, val_main_v49_apply, val_main_v48_apply,
    val_main_v47_apply, val_main_v46_apply, val_main_v45_apply, val_main_v44_apply, val_main_v43_apply, val_main_v42_apply, val_main_v41_apply,
    val_main_cst_6_apply, val_main_cst_7_apply, val_main_cst_8_apply]
  rw [Ideal.ofBits_def, Ideal.ofBits_zero_f32, zero_add]
  have e1 (k : Fin 256) : idx_main_v42 (idx_main_v43 (idx_main_v49 (ix2 t j))) k = ix2 t k := by idx_ext
  have e2 : idx_main_v51 (idx_main_v52 (ix2 t j)) = ix1 j := by idx_ext
  simp only [e1, e2, v20_at]
  rfl

theorem v90_at (t : Fin 16384) (j : Fin 128) : val_main_v90 (F := Ideal) a0 a1 a2 a6 (ix2 t j)
    = Proj.norm (Ideal.ofBits .f32 0x43000000#32) (fun k : Fin 128 => U a0 a1 a2 t ⟨1280 + k, by omega⟩) (fun k => a6 (ix1 k)) j := by
  simp only [val_main_v90_apply, val_main_v89_apply, val_main_v88_apply, val_main_v87_apply, val_main_v86_apply, val_main_v85_apply,
    val_main_v84_apply, val_main_v83_apply, val_main_v82_apply, val_main_v81_apply, val_main_v80_apply, val_main_v79_apply, val_main_v78_apply,
    val_main_cst_9_apply, val_main_cst_10_apply, val_main_cst_11_apply]
  rw [Ideal.ofBits_def, Ideal.ofBits_zero_f32, zero_add]
  have e1 (k : Fin 128) : idx_main_v79 (idx_main_v80 (idx_main_v86 (ix2 t j))) k = ix2 t k := by idx_ext
  have e2 : idx_main_v88 (idx_main_v89 (ix2 t j)) = ix1 j := by idx_ext
  simp only [e1, e2, v21_at]
  rfl

theorem v54_at (t : Fin 16384) (j : Fin 384) : val_main_v54 (F := Ideal) a0 a1 a2 a4 a5 (ix2 t j) = Q a0 a1 a2 a4 a5 t j := by
  rw [val_main_v54_apply]
  have e1 (x : Fin 256) : lidx_main_v54 (ix2 t j) x = ix2 t x := by idx_ext
  have e2 (x : Fin 256) : ridx_main_v54 (ix2 t j) x = ix2 x j := by idx_ext
  simp only [e1, e2, v53_at]
  rfl

theorem v91_at (t : Fin 16384) (j : Fin 512) : val_main_v91 (F := Ideal) a0 a1 a2 a6 a7 (ix2 t j) = KV a0 a1 a2 a6 a7 t j := by
  rw [val_main_v91_apply]
  have e1 (x : Fin 128) : lidx_main_v91 (ix2 t j) x = ix2 t x := by idx_ext
  have e2 (x : Fin 128) : ridx_main_v91 (ix2 t j) x = ix2 x j := by idx_ext
  simp only [e1, e2, v90_at]
  rfl

/-! The queries, head by head and lane by lane. -/
section Lanes
variable (b : Fin 8) (s : Fin 2048) (h : Fin 4)

/-- The token at a batch's position. -/
abbrev tok : Fin 16384 := ⟨b * 2048 + s, by omega⟩

theorem v55_at (j : Fin 96) : val_main_v55 (F := Ideal) a0 a1 a2 a4 a5 (ix4 b s h j) = Q a0 a1 a2 a4 a5 (tok b s) ⟨h * 96 + j, by omega⟩ := by
  rw [val_main_v55_apply]
  have e : idx_main_v55 (ix4 b s h j) = ix2 (tok b s) ⟨h * 96 + j, by omega⟩ := by idx_ext
  rw [e, v54_at]

theorem v92_at (j : Fin 128) : val_main_v92 (F := Ideal) a0 a1 a2 a6 a7 (ix4 b s h j) = KV a0 a1 a2 a6 a7 (tok b s) ⟨h * 128 + j, by omega⟩ := by
  rw [val_main_v92_apply]
  have e : idx_main_v92 (ix4 b s h j) = ix2 (tok b s) ⟨h * 128 + j, by omega⟩ := by idx_ext
  rw [e, v91_at]

theorem v56_at (j : Fin 64) : val_main_v56 (F := Ideal) a0 a1 a2 a4 a5 (ix4 b s h j) = Q a0 a1 a2 a4 a5 (tok b s) ⟨h * 96 + j, by omega⟩ := by
  rw [val_main_v56_apply]
  have e : idx_main_v56 (ix4 b s h j) = ix4 b s h ⟨j, by omega⟩ := by idx_ext
  rw [e, v55_at]

theorem v60_at (i : Fin 16) : val_main_v60 (F := Ideal) a0 a1 a2 a4 a5 (ix4 b s h i) = Q a0 a1 a2 a4 a5 (tok b s) ⟨h * 96 + (64 + i), by omega⟩ := by
  rw [val_main_v60_apply, val_main_v57_apply]
  have e : idx_main_v57 (idx_main_v60 (ix4 b s h i)) = ix4 b s h ⟨64 + i, by omega⟩ := by idx_ext
  rw [e, v55_at]

theorem v61_at (i : Fin 16) : val_main_v61 (F := Ideal) a0 a1 a2 a4 a5 (ix4 b s h i) = Q a0 a1 a2 a4 a5 (tok b s) ⟨h * 96 + (80 + i), by omega⟩ := by
  rw [val_main_v61_apply, val_main_v57_apply]
  have e : idx_main_v57 (idx_main_v61 (ix4 b s h i)) = ix4 b s h ⟨80 + i, by omega⟩ := by idx_ext
  rw [e, v55_at]

theorem v68_at (i : Fin 16) : val_main_v68 (F := Ideal) a0 a1 a2 a4 a5 (ix4 b s h i)
    = Q a0 a1 a2 a4 a5 (tok b s) ⟨h * 96 + (64 + i), by omega⟩ * Proj.ct s i - Q a0 a1 a2 a4 a5 (tok b s) ⟨h * 96 + (80 + i), by omega⟩ * Proj.st s i := by
  simp only [val_main_v68_apply, val_main_v67_apply, val_main_v64_apply, val_main_v63_apply, val_main_v62_apply, val_main_v66_apply, val_main_v65_apply,
    val_main_v58_apply, val_main_v59_apply]
  have e1 : idx_main_v58 (idx_main_v62 (idx_main_v63 (ix4 b s h i))) = ix2 s i := by idx_ext
  have e2 : idx_main_v59 (idx_main_v65 (idx_main_v66 (ix4 b s h i))) = ix2 s i := by idx_ext
  rw [e1, e2, v60_at, v61_at, v39_at, v40_at]
  rfl

theorem v75_at (i : Fin 16) : val_main_v75 (F := Ideal) a0 a1 a2 a4 a5 (ix4 b s h i)
    = Q a0 a1 a2 a4 a5 (tok b s) ⟨h * 96 + (80 + i), by omega⟩ * Proj.ct s i + Q a0 a1 a2 a4 a5 (tok b s) ⟨h * 96 + (64 + i), by omega⟩ * Proj.st s i := by
  simp only [val_main_v75_apply, val_main_v74_apply, val_main_v71_apply, val_main_v70_apply, val_main_v69_apply, val_main_v73_apply, val_main_v72_apply,
    val_main_v58_apply, val_main_v59_apply]
  have e1 : idx_main_v58 (idx_main_v69 (idx_main_v70 (ix4 b s h i))) = ix2 s i := by idx_ext
  have e2 : idx_main_v59 (idx_main_v72 (idx_main_v73 (ix4 b s h i))) = ix2 s i := by idx_ext
  rw [e1, e2, v60_at, v61_at, v39_at, v40_at]
  rfl

section Cat
variable (p : FVec Ideal S8x2048x4x16 .f32) (p' : FVec Ideal S8x2048x4x16 .f32) (n : FVec Ideal S8x2048x4x64 .f32) (r : FVec Ideal S8x2048x4x32 .f32)
  (w : FVec Ideal S8x2048x4x96 .f32) (z : FVec Ideal S_ .f32)

theorem half_lo (i : Fin 16) : concatenate S8x2048x4x32 3 [⟨S8x2048x4x16, p⟩, ⟨S8x2048x4x16, p'⟩] concatenates_S8x2048x4x16_S8x2048x4x16_S8x2048x4x32_d3
    (ix4 b s h ⟨i, by omega⟩) = p (ix4 b s h i) := by pointwise []
theorem half_hi (i : Fin 16) : concatenate S8x2048x4x32 3 [⟨S8x2048x4x16, p⟩, ⟨S8x2048x4x16, p'⟩] concatenates_S8x2048x4x16_S8x2048x4x16_S8x2048x4x32_d3
    (ix4 b s h ⟨16 + i, by omega⟩) = p' (ix4 b s h i) := by pointwise []
theorem head_lo (i : Fin 64) : concatenate S8x2048x4x96 3 [⟨S8x2048x4x64, n⟩, ⟨S8x2048x4x32, r⟩] concatenates_S8x2048x4x64_S8x2048x4x32_S8x2048x4x96_d3
    (ix4 b s h ⟨i, by omega⟩) = n (ix4 b s h i) := by pointwise []
theorem head_hi (i : Fin 32) : concatenate S8x2048x4x96 3 [⟨S8x2048x4x64, n⟩, ⟨S8x2048x4x32, r⟩] concatenates_S8x2048x4x64_S8x2048x4x32_S8x2048x4x96_d3
    (ix4 b s h ⟨64 + i, by omega⟩) = r (ix4 b s h i) := by pointwise []
theorem pad_lo (i : Fin 96) : pad S8x2048x4x128 ![0, 0, 0, 0] ![0, 0, 0, 32] ![0, 0, 0, 0] w z pads_S8x2048x4x96_S8x2048x4x128_000_000_000_0320 h_S_
    (ix4 b s h ⟨i, by omega⟩) = w (ix4 b s h i) := by pointwise []
theorem pad_hi (i : Fin 32) : pad S8x2048x4x128 ![0, 0, 0, 0] ![0, 0, 0, 32] ![0, 0, 0, 0] w z pads_S8x2048x4x96_S8x2048x4x128_000_000_000_0320 h_S_
    (ix4 b s h ⟨96 + i, by omega⟩) = z (Shape.Idx.first h_S_) := by pointwise []
end Cat

/-! The third result's lanes: those without position, the two halves of the rotated ones, the empty ones. -/

theorem v76_lo (i : Fin 16) : val_main_v76 (F := Ideal) a0 a1 a2 a4 a5 (ix4 b s h ⟨i, by omega⟩) = val_main_v68 (F := Ideal) a0 a1 a2 a4 a5 (ix4 b s h i) :=
  half_lo b s h _ _ i
theorem v76_hi (i : Fin 16) : val_main_v76 (F := Ideal) a0 a1 a2 a4 a5 (ix4 b s h ⟨16 + i, by omega⟩) = val_main_v75 (F := Ideal) a0 a1 a2 a4 a5 (ix4 b s h i) :=
  half_hi b s h _ _ i
theorem v77_lo (i : Fin 64) : val_main_v77 (F := Ideal) a0 a1 a2 a4 a5 (ix4 b s h ⟨i, by omega⟩) = val_main_v56 (F := Ideal) a0 a1 a2 a4 a5 (ix4 b s h i) :=
  head_lo b s h _ _ i
theorem v77_hi (i : Fin 32) : val_main_v77 (F := Ideal) a0 a1 a2 a4 a5 (ix4 b s h ⟨64 + i, by omega⟩) = val_main_v76 (F := Ideal) a0 a1 a2 a4 a5 (ix4 b s h i) :=
  head_hi b s h _ _ i

theorem v129_of (l : Fin 128) : val_main_v129 (F := Ideal) a0 a1 a2 a4 a5 (ix2 (tok b s) ⟨h * 128 + l, by omega⟩)
    = val_main_v117 (F := Ideal) a0 a1 a2 a4 a5 (ix4 b s h l) := by
  rw [val_main_v129_apply, val_main_v118_apply]
  have e : idx_main_v118 (ix2 (tok b s) ⟨h * 128 + l, by omega⟩) = ix4 b s h l := by idx_ext
  rw [e]
  rfl

theorem v117_lo (l : Fin 96) : val_main_v117 (F := Ideal) a0 a1 a2 a4 a5 (ix4 b s h ⟨l, by omega⟩)
    = val_main_v77 (F := Ideal) a0 a1 a2 a4 a5 (ix4 b s h l) * Proj.factor := by
  refine (pad_lo b s h _ _ l).trans ?_
  rw [val_main_v116_apply, val_main_v115_apply]
  rfl

theorem q_nope (i : Fin 64) : val_main_v129 (F := Ideal) a0 a1 a2 a4 a5 (ix2 (tok b s) ⟨h * 128 + i, by omega⟩)
    = Q a0 a1 a2 a4 a5 (tok b s) ⟨h * 96 + i, by omega⟩ * Proj.factor :=
  (v129_of a0 a1 a2 a4 a5 b s h ⟨i, by omega⟩).trans ((v117_lo a0 a1 a2 a4 a5 b s h ⟨i, by omega⟩).trans
    (congrArg (· * Proj.factor) ((v77_lo a0 a1 a2 a4 a5 b s h i).trans (v56_at a0 a1 a2 a4 a5 b s h i))))

theorem q_lo (i : Fin 16) : val_main_v129 (F := Ideal) a0 a1 a2 a4 a5 (ix2 (tok b s) ⟨h * 128 + (64 + i), by omega⟩)
    = (Q a0 a1 a2 a4 a5 (tok b s) ⟨h * 96 + (64 + i), by omega⟩ * Proj.ct s i
      - Q a0 a1 a2 a4 a5 (tok b s) ⟨h * 96 + (80 + i), by omega⟩ * Proj.st s i) * Proj.factor :=
  (v129_of a0 a1 a2 a4 a5 b s h ⟨64 + i, by omega⟩).trans ((v117_lo a0 a1 a2 a4 a5 b s h ⟨64 + i, by omega⟩).trans
    (congrArg (· * Proj.factor) ((v77_hi a0 a1 a2 a4 a5 b s h ⟨i, by omega⟩).trans
      ((v76_lo a0 a1 a2 a4 a5 b s h i).trans (v68_at a0 a1 a2 a4 a5 b s h i)))))

theorem q_hi (i : Fin 16) : val_main_v129 (F := Ideal) a0 a1 a2 a4 a5 (ix2 (tok b s) ⟨h * 128 + (80 + i), by omega⟩)
    = (Q a0 a1 a2 a4 a5 (tok b s) ⟨h * 96 + (80 + i), by omega⟩ * Proj.ct s i
      + Q a0 a1 a2 a4 a5 (tok b s) ⟨h * 96 + (64 + i), by omega⟩ * Proj.st s i) * Proj.factor := by
  have e : (⟨h * 128 + (80 + i), by omega⟩ : Fin 512) = ⟨h * 128 + (64 + (16 + i)), by omega⟩ := Fin.ext (by dsimp only; omega)
  rw [e]
  exact (v129_of a0 a1 a2 a4 a5 b s h ⟨64 + (16 + i), by omega⟩).trans ((v117_lo a0 a1 a2 a4 a5 b s h ⟨64 + (16 + i), by omega⟩).trans
    (congrArg (· * Proj.factor) ((v77_hi a0 a1 a2 a4 a5 b s h ⟨16 + i, by omega⟩).trans
      ((v76_hi a0 a1 a2 a4 a5 b s h i).trans (v75_at a0 a1 a2 a4 a5 b s h i)))))

theorem fill0 : val_main_call0_v0 (F := Ideal) (Shape.Idx.first h_S_) = 0 := by
  rw [val_main_call0_v0_apply]
  show ((((0#32 : BitVec 32).toInt : ℤ) : ℝ) : EReal) = 0
  simp
theorem fill1 : val_main_call1_v0 (F := Ideal) (Shape.Idx.first h_S_) = 0 := by
  rw [val_main_call1_v0_apply]
  show ((((0#32 : BitVec 32).toInt : ℤ) : ℝ) : EReal) = 0
  simp

theorem q_pad (i : Fin 32) : val_main_v129 (F := Ideal) a0 a1 a2 a4 a5 (ix2 (tok b s) ⟨h * 128 + (96 + i), by omega⟩) = 0 :=
  (v129_of a0 a1 a2 a4 a5 b s h ⟨96 + i, by omega⟩).trans ((pad_hi b s h _ _ i).trans fill0)

/-! The fourth result's lanes. -/

theorem v111_at (j : Fin 64) : val_main_v111 (F := Ideal) a0 a1 a2 a6 a7 (ix4 b s h j) = KV a0 a1 a2 a6 a7 (tok b s) ⟨h * 128 + j, by omega⟩ := by
  rw [val_main_v111_apply]
  have e : idx_main_v111 (ix4 b s h j) = ix4 b s h ⟨j, by omega⟩ := by idx_ext
  rw [e, v92_at]

theorem v102_at (i : Fin 16) : val_main_v102 (F := Ideal) a0 a1 a2 (ix3 b s i)
    = U a0 a1 a2 (tok b s) ⟨1408 + i, by omega⟩ * Proj.ct s i - U a0 a1 a2 (tok b s) ⟨1424 + i, by omega⟩ * Proj.st s i := by
  simp only [val_main_v102_apply, val_main_v101_apply, val_main_v100_apply, val_main_v99_apply, val_main_v98_apply, val_main_v97_apply, val_main_v96_apply,
    val_main_v95_apply, val_main_v94_apply, val_main_v93_apply]
  have e1 : idx_main_v96 (idx_main_v97 (ix3 b s i)) = ix2 s i := by idx_ext
  have e2 : idx_main_v99 (idx_main_v100 (ix3 b s i)) = ix2 s i := by idx_ext
  have e3 : idx_main_v93 (idx_main_v94 (ix3 b s i)) = ix2 (tok b s) ⟨i, by omega⟩ := by idx_ext
  have e4 : idx_main_v93 (idx_main_v95 (ix3 b s i)) = ix2 (tok b s) ⟨16 + i, by omega⟩ := by idx_ext
  rw [e1, e2, e3, e4, v22_at, v22_at, v39_at, v40_at]
  have e5 : (⟨1408 + (16 + i.val), by omega⟩ : Fin 1536) = ⟨1424 + i, by omega⟩ := Fin.ext (by dsimp only; omega)
  exact congrArg (fun o => U a0 a1 a2 (tok b s) ⟨1408 + i, by omega⟩ * Proj.ct s i - U a0 a1 a2 (tok b s) o * Proj.st s i) e5

theorem v109_at (i : Fin 16) : val_main_v109 (F := Ideal) a0 a1 a2 (ix3 b s i)
    = U a0 a1 a2 (tok b s) ⟨1424 + i, by omega⟩ * Proj.ct s i + U a0 a1 a2 (tok b s) ⟨1408 + i, by omega⟩ * Proj.st s i := by
  simp only [val_main_v109_apply, val_main_v108_apply, val_main_v107_apply, val_main_v106_apply, val_main_v105_apply, val_main_v104_apply, val_main_v103_apply,
    val_main_v95_apply, val_main_v94_apply, val_main_v93_apply]
  have e1 : idx_main_v103 (idx_main_v104 (ix3 b s i)) = ix2 s i := by idx_ext
  have e2 : idx_main_v106 (idx_main_v107 (ix3 b s i)) = ix2 s i := by idx_ext
  have e3 : idx_main_v93 (idx_main_v94 (ix3 b s i)) = ix2 (tok b s) ⟨i, by omega⟩ := by idx_ext
  have e4 : idx_main_v93 (idx_main_v95 (ix3 b s i)) = ix2 (tok b s) ⟨16 + i, by omega⟩ := by idx_ext
  rw [e1, e2, e3, e4, v22_at, v22_at, v39_at, v40_at]
  have e5 : (⟨1408 + (16 + i.val), by omega⟩ : Fin 1536) = ⟨1424 + i, by omega⟩ := Fin.ext (by dsimp only; omega)
  exact congrArg (fun o => U a0 a1 a2 (tok b s) o * Proj.ct s i + U a0 a1 a2 (tok b s) ⟨1408 + i, by omega⟩ * Proj.st s i) e5

section Cat3
variable (p p' : FVec Ideal S8x2048x16 .f32)
theorem pair_lo (i : Fin 16) : concatenate S8x2048x32 2 [⟨S8x2048x16, p⟩, ⟨S8x2048x16, p'⟩] concatenates_S8x2048x16_S8x2048x16_S8x2048x32_d2
    (ix3 b s ⟨i, by omega⟩) = p (ix3 b s i) := by pointwise []
theorem pair_hi (i : Fin 16) : concatenate S8x2048x32 2 [⟨S8x2048x16, p⟩, ⟨S8x2048x16, p'⟩] concatenates_S8x2048x16_S8x2048x16_S8x2048x32_d2
    (ix3 b s ⟨16 + i, by omega⟩) = p' (ix3 b s i) := by pointwise []
end Cat3

theorem v113_at (i : Fin 32) : val_main_v113 (F := Ideal) a0 a1 a2 (ix4 b s h i) = val_main_v110 (F := Ideal) a0 a1 a2 (ix3 b s i) := by
  rw [val_main_v113_apply, val_main_v112_apply]
  have e : idx_main_v112 (idx_main_v113 (ix4 b s h i)) = ix3 b s i := by idx_ext
  rw [e]

theorem v130_of (l : Fin 128) : val_main_v130 (F := Ideal) a0 a1 a2 a6 a7 (ix2 (tok b s) ⟨h * 128 + l, by omega⟩)
    = val_main_v119 (F := Ideal) a0 a1 a2 a6 a7 (ix4 b s h l) := by
  rw [val_main_v130_apply, val_main_v120_apply]
  have e : idx_main_v120 (ix2 (tok b s) ⟨h * 128 + l, by omega⟩) = ix4 b s h l := by idx_ext
  rw [e]
  rfl

theorem k_nope (i : Fin 64) : val_main_v130 (F := Ideal) a0 a1 a2 a6 a7 (ix2 (tok b s) ⟨h * 128 + i, by omega⟩)
    = KV a0 a1 a2 a6 a7 (tok b s) ⟨h * 128 + i, by omega⟩ :=
  (v130_of a0 a1 a2 a6 a7 b s h ⟨i, by omega⟩).trans ((pad_lo b s h _ _ ⟨i, by omega⟩).trans
    ((head_lo b s h _ _ i).trans (v111_at a0 a1 a2 a6 a7 b s h i)))

theorem k_lo (i : Fin 16) : val_main_v130 (F := Ideal) a0 a1 a2 a6 a7 (ix2 (tok b s) ⟨h * 128 + (64 + i), by omega⟩)
    = U a0 a1 a2 (tok b s) ⟨1408 + i, by omega⟩ * Proj.ct s i - U a0 a1 a2 (tok b s) ⟨1424 + i, by omega⟩ * Proj.st s i :=
  (v130_of a0 a1 a2 a6 a7 b s h ⟨64 + i, by omega⟩).trans ((pad_lo b s h _ _ ⟨64 + i, by omega⟩).trans
    ((head_hi b s h _ _ ⟨i, by omega⟩).trans ((v113_at a0 a1 a2 b s h ⟨i, by omega⟩).trans
      ((pair_lo b s _ _ i).trans (v102_at a0 a1 a2 b s i)))))

theorem k_hi (i : Fin 16) : val_main_v130 (F := Ideal) a0 a1 a2 a6 a7 (ix2 (tok b s) ⟨h * 128 + (80 + i), by omega⟩)
    = U a0 a1 a2 (tok b s) ⟨1424 + i, by omega⟩ * Proj.ct s i + U a0 a1 a2 (tok b s) ⟨1408 + i, by omega⟩ * Proj.st s i := by
  have e : (⟨h * 128 + (80 + i), by omega⟩ : Fin 512) = ⟨h * 128 + (64 + (16 + i)), by omega⟩ := Fin.ext (by dsimp only; omega)
  rw [e]
  exact (v130_of a0 a1 a2 a6 a7 b s h ⟨64 + (16 + i), by omega⟩).trans ((pad_lo b s h _ _ ⟨64 + (16 + i), by omega⟩).trans
    ((head_hi b s h _ _ ⟨16 + i, by omega⟩).trans ((v113_at a0 a1 a2 b s h ⟨16 + i, by omega⟩).trans
      ((pair_hi b s _ _ i).trans (v109_at a0 a1 a2 b s i)))))

theorem k_pad (i : Fin 32) : val_main_v130 (F := Ideal) a0 a1 a2 a6 a7 (ix2 (tok b s) ⟨h * 128 + (96 + i), by omega⟩) = 0 :=
  (v130_of a0 a1 a2 a6 a7 b s h ⟨96 + i, by omega⟩).trans ((pad_hi b s h _ _ i).trans fill1)

/-- The fifth result: the values, their columns along the rows. -/
theorem v131_at (d : Fin 64) : val_main_v131 (F := Ideal) a0 a1 a2 a6 a7 (ix3 b ⟨h * 64 + d, by omega⟩ s)
    = KV a0 a1 a2 a6 a7 (tok b s) ⟨h * 128 + (64 + d), by omega⟩ := by
  rw [val_main_v131_apply, val_main_v123_apply, val_main_v122_apply, val_main_v121_apply]
  have e : idx_main_v121 (idx_main_v122 (idx_main_v123 (ix3 b ⟨h * 64 + d, by omega⟩ s))) = ix4 b s h ⟨64 + d, by omega⟩ := by idx_ext
  rw [e, v92_at]
  rfl

end Lanes
end Cert.InprojRefIdeal.Proj
-- ==== Proof.ProjValue.lean ====
module

public import proofs.«01_k».proof.Proof.ProjHost
public import proofs.«01_k».proof.Proof.ProjRefPure

@[expose] public section

set_option maxRecDepth 16384

noncomputable section
open Idealize.ShloMosaic Idealize.ShloMosaic.TcCoe Idealize.SL.Sem
open Idealize.ShloMosaic.Pipeline (Dat)

/-! The input projection's eight result arrays are the reference's. -/
namespace Cert.InprojIdeal.Proj
open Cert.InprojIdeal Cert.InprojIdeal.Gen Cert.K
open Cert.InprojRefIdeal.Proj (U UN Q KV tok)

theorem row_cast1024 (x : FVec Ideal S1024 .f32) (k : Fin 1024) : shapeCast S1x1024 x shapeCasts_S1024_S1x1024 (ix2 0 k) = x (ix1 k) := by
  pointwise []
theorem row_cast256 (x : FVec Ideal S256 .f32) (k : Fin 256) : shapeCast S1x256 x shapeCasts_S256_S1x256 (ix2 0 k) = x (ix1 k) := by
  pointwise []
theorem row_cast128 (x : FVec Ideal S128 .f32) (k : Fin 128) : shapeCast S1x128 x shapeCasts_S128_S1x128 (ix2 0 k) = x (ix1 k) := by
  pointwise []

theorem whole0 (x : Vec Ideal S1024x1024 .f32) : View.ld x r0_0 = x := by
  funext i; idx_vars i; pointwise [r0_0]
theorem whole1 (x : Vec Ideal S1x1024 .f32) : View.ld x r0_1 = x := by
  funext i; idx_vars i; pointwise [r0_1]
  exact congrArg (fun j => x (ix2 j i1)) (Subsingleton.elim _ _)
theorem whole2 (x : Vec Ideal S1536x1024 .bf16) : View.ld x r0_2 = x := by
  funext i; idx_vars i; pointwise [r0_2]
theorem whole8 (x : Vec Ideal S1x128 .f32) : View.ld x r0_8 = x := by
  funext i; idx_vars i; pointwise [r0_8]
  exact congrArg (fun j => x (ix2 j i1)) (Subsingleton.elim _ _)

variable (m : (ℓ : Loc nD τ sig) → Buf (Elt Ideal) ℓ) (c : Dev nD) (t : Fin cfg0.N)

theorem t_lt : t.val < 16 := (idx t).2.2.2.2.2.2.2.2.2.2.2.2.2.2.2.2.2.2.2.2.2.2

/-- The batch of a grid point, and the position of a row of its block. -/
abbrev bt : Fin 8 := ⟨t.val / 2, by have := t_lt t; omega⟩
abbrev sr (r : Fin 1024) : Fin 2048 := ⟨t.val % 2 * 1024 + r, by omega⟩

theorem at0 (r k : Fin 1024) : iblk m c 0 t (ix2 r k) = m ((c : Thread nD τ).loc main_arg0) (ix2 (tok (bt t) (sr t r)) k) := by
  have := t_lt t
  blk_ext [iblk, V, idx t]
theorem at2 (o : Fin 1536) (k : Fin 1024) : iblk m c 2 t (ix2 o k) = m ((c : Thread nD τ).loc main_arg2) (ix2 o k) := by
  blk_ext [iblk, V, idx t]
theorem at3 (o : Fin 768) (k : Fin 1024) : iblk m c 3 t (ix2 o k) = m ((c : Thread nD τ).loc main_arg3) (ix2 o k) := by
  blk_ext [iblk, V, idx t]
theorem at1 (k : Fin 1024) : iblk m c 1 t (ix2 0 k) = m ((c : Thread nD τ).loc main_arg1) (ix1 k) := by
  have e : iblk m c 1 t (ix2 0 k) = V m c main_v76 (ix2 0 k) := congrArg (V m c main_v76) (by blk_ext [idx t])
  rw [e, V_v76]
  exact row_cast1024 _ k
theorem at4 (k : Fin 256) : iblk m c 4 t (ix2 0 k) = m ((c : Thread nD τ).loc main_arg4) (ix1 k) := by
  have e : iblk m c 4 t (ix2 0 k) = V m c main_v77 (ix2 0 k) := congrArg (V m c main_v77) (by blk_ext [idx t])
  rw [e, V_v77]
  exact row_cast256 _ k
theorem at7 (k : Fin 128) : iblk m c 7 t (ix2 0 k) = m ((c : Thread nD τ).loc main_arg6) (ix1 k) := by
  have e : iblk m c 7 t (ix2 0 k) = V m c main_v78 (ix2 0 k) := congrArg (V m c main_v78) (by blk_ext [idx t])
  rw [e, V_v78]
  exact row_cast128 _ k
theorem at5 (k : Fin 256) (j : Fin 512) : iblk m c 5 t (ix2 k j) = V m c main_v71 (ix2 k j) :=
  congrArg (V m c main_v71) (by blk_ext [idx t])
theorem at6 (k : Fin 256) (j : Fin 512) : iblk m c 6 t (ix2 k j) = V m c main_v72 (ix2 k j) :=
  congrArg (V m c main_v72) (by blk_ext [idx t])
theorem at8 (k : Fin 128) (j : Fin 512) : iblk m c 8 t (ix2 k j) = V m c main_v73 (ix2 k j) :=
  congrArg (V m c main_v73) (by blk_ext [idx t])
theorem at9 (k : Fin 256) (j : Fin 128) : iblk m c 9 t (ix2 k j) = V m c main_v74 (ix2 k j) :=
  congrArg (V m c main_v74) (by blk_ext [idx t])
theorem at10 (k : Fin 128) (j : Fin 512) : iblk m c 10 t (ix2 k j) = V m c main_v75 (ix2 k j) :=
  congrArg (V m c main_v75) (by blk_ext [idx t])
theorem at11 (r : Fin 1024) (j : Fin 512) : iblk m c 11 t (ix2 r j) = V m c main_v30 (ix2 (sr t r) j) :=
  congrArg (V m c main_v30) (by blk_ext [idx t])
theorem at12 (r : Fin 1024) (j : Fin 512) : iblk m c 12 t (ix2 r j) = V m c main_v36 (ix2 (sr t r) j) :=
  congrArg (V m c main_v36) (by blk_ext [idx t])
theorem at13 (r : Fin 1024) (j : Fin 128) : iblk m c 13 t (ix2 r j) = V m c main_v38 (ix2 (sr t r) j) :=
  congrArg (V m c main_v38) (by blk_ext [idx t])
abbrev REF127 : FVec Ideal S16384x768 .f32 := Cert.InprojRefIdeal.Read.val_main_v127 (F := Ideal)
  (m ((c : Thread nD τ).loc main_arg0)) (m ((c : Thread nD τ).loc main_arg1)) (m ((c : Thread nD τ).loc main_arg2))
abbrev REF128 : FVec Ideal S16384x256 .f32 := Cert.InprojRefIdeal.Read.val_main_v128 (F := Ideal)
  (m ((c : Thread nD τ).loc main_arg0)) (m ((c : Thread nD τ).loc main_arg1)) (m ((c : Thread nD τ).loc main_arg2))
abbrev REF129 : FVec Ideal S16384x512 .bf16 := Cert.InprojRefIdeal.Read.val_main_v129 (F := Ideal)
  (m ((c : Thread nD τ).loc main_arg0)) (m ((c : Thread nD τ).loc main_arg1)) (m ((c : Thread nD τ).loc main_arg2)) (m ((c : Thread nD τ).loc main_arg4)) (m ((c : Thread nD τ).loc main_arg5))
abbrev REF130 : FVec Ideal S16384x512 .bf16 := Cert.InprojRefIdeal.Read.val_main_v130 (F := Ideal)
  (m ((c : Thread nD τ).loc main_arg0)) (m ((c : Thread nD τ).loc main_arg1)) (m ((c : Thread nD τ).loc main_arg2)) (m ((c : Thread nD τ).loc main_arg6)) (m ((c : Thread nD τ).loc main_arg7))
abbrev REF131 : FVec Ideal S8x256x2048 .bf16 := Cert.InprojRefIdeal.Read.val_main_v131 (F := Ideal)
  (m ((c : Thread nD τ).loc main_arg0)) (m ((c : Thread nD τ).loc main_arg1)) (m ((c : Thread nD τ).loc main_arg2)) (m ((c : Thread nD τ).loc main_arg6)) (m ((c : Thread nD τ).loc main_arg7))
abbrev REF132 : FVec Ideal S16384x256 .bf16 := Cert.InprojRefIdeal.Read.val_main_v132 (F := Ideal)
  (m ((c : Thread nD τ).loc main_arg0)) (m ((c : Thread nD τ).loc main_arg1)) (m ((c : Thread nD τ).loc main_arg3))
abbrev REF134 : FVec Ideal S16384x256 .bf16 := Cert.InprojRefIdeal.Read.val_main_v134 (F := Ideal)
  (m ((c : Thread nD τ).loc main_arg0)) (m ((c : Thread nD τ).loc main_arg1)) (m ((c : Thread nD τ).loc main_arg3))
abbrev REF136 : FVec Ideal S16384x256 .bf16 := Cert.InprojRefIdeal.Read.val_main_v136 (F := Ideal)
  (m ((c : Thread nD τ).loc main_arg0)) (m ((c : Thread nD τ).loc main_arg1)) (m ((c : Thread nD τ).loc main_arg3))

/-- The projected row's columns, the queries' columns and the keys' and values' columns at a row of a block, from the arrays of core `c`. -/
abbrev UA (r : Fin 1024) (o : Fin 1536) : EReal := U (m ((c : Thread nD τ).loc main_arg0)) (m ((c : Thread nD τ).loc main_arg1)) (m ((c : Thread nD τ).loc main_arg2)) (tok (bt t) (sr t r)) o
abbrev UNA (r : Fin 1024) (o : Fin 768) : EReal := UN (m ((c : Thread nD τ).loc main_arg0)) (m ((c : Thread nD τ).loc main_arg1)) (m ((c : Thread nD τ).loc main_arg3)) (tok (bt t) (sr t r)) o
abbrev QA (r : Fin 1024) (j : Fin 384) : EReal := Q (m ((c : Thread nD τ).loc main_arg0)) (m ((c : Thread nD τ).loc main_arg1)) (m ((c : Thread nD τ).loc main_arg2)) (m ((c : Thread nD τ).loc main_arg4)) (m ((c : Thread nD τ).loc main_arg5)) (tok (bt t) (sr t r)) j
abbrev KVA (r : Fin 1024) (j : Fin 512) : EReal := KV (m ((c : Thread nD τ).loc main_arg0)) (m ((c : Thread nD τ).loc main_arg1)) (m ((c : Thread nD τ).loc main_arg2)) (m ((c : Thread nD τ).loc main_arg6)) (m ((c : Thread nD τ).loc main_arg7)) (tok (bt t) (sr t r)) j

theorem u_at (r : Fin 1024) (o : Fin 1536) : k0_pay8 (F := Ideal) (iblk m c 0 t) (iblk m c 1 t) (iblk m c 2 t) (ix2 r o) = UA m c t r o := by
  refine (pay8_at _ _ _ r o).trans ?_
  unfold UA U
  congr 1
  · exact funext fun k => at0 m c t r k
  · exact funext fun k => at1 m c t k
  · exact funext fun k => at2 m c t o k

theorem un_at (r : Fin 1024) (o : Fin 768) : k0_pay3 (F := Ideal) (k0_pay7 (iblk m c 0 t) (iblk m c 1 t)) (iblk m c 3 t) (ix2 r o) = UNA m c t r o := by
  refine (pay3_at _ _ _ r o).trans ?_
  unfold UNA UN
  congr 1
  · exact funext fun k => at0 m c t r k
  · exact funext fun k => at1 m c t k
  · exact funext fun k => at3 m c t o k

/-- The two low-rank rows, normed. -/
abbrev cq (r : Fin 1024) (k : Fin 256) : EReal :=
  Proj.norm (Ideal.ofBits .f32 0x43800000#32) (fun k : Fin 256 => UA m c t r ⟨1024 + k, by omega⟩) (fun k => m ((c : Thread nD τ).loc main_arg4) (ix1 k)) k
abbrev ckv (r : Fin 1024) (k : Fin 128) : EReal :=
  Proj.norm (Ideal.ofBits .f32 0x43000000#32) (fun k : Fin 128 => UA m c t r ⟨1280 + k, by omega⟩) (fun k => m ((c : Thread nD τ).loc main_arg6) (ix1 k)) k

theorem cq_at (r : Fin 1024) (k : Fin 256) : k0_pay11 (F := Ideal) (iblk m c 0 t) (iblk m c 1 t) (iblk m c 2 t) (iblk m c 4 t) (ix2 r k) = cq m c t r k := by
  refine (pay11_at _ _ _ _ r k).trans ?_
  unfold cq
  congr 1
  · exact funext fun k => u_at m c t r _
  · exact funext fun k => at4 m c t k

theorem ckv_at (r : Fin 1024) (k : Fin 128) : k0_pay13 (F := Ideal) (k0_pay8 (iblk m c 0 t) (iblk m c 1 t) (iblk m c 2 t)) (iblk m c 7 t) (ix2 r k) = ckv m c t r k := by
  refine (pay13_at _ _ r k).trans ?_
  unfold ckv
  congr 1
  · exact funext fun k => u_at m c t r _
  · exact funext fun k => at7 m c t k

theorem cos_at (s : Fin 2048) (i : Fin 16) : Host.cos (F := Ideal) angles (ix2 s i) = Proj.ct s i := congrArg Ideal.cos (angles_at s i)
theorem sin_at (s : Fin 2048) (i : Fin 16) : Host.sin (F := Ideal) angles (ix2 s i) = Proj.st s i := congrArg Ideal.sin (angles_at s i)

theorem one64 (s : Fin 2048) (i : Fin 64) : fill64 0x3F800000#32 (ix2 s i) = 1 := by pointwise [fill64]
theorem zero64 (s : Fin 2048) (i : Fin 64) : fill64 0x00000000#32 (ix2 s i) = 0 := by pointwise [fill64]
theorem zero32 (s : Fin 2048) (i : Fin 32) : fill32 (ix2 s i) = 0 := by pointwise [fill32]
theorem none32_at (k : Fin 256) (h : Fin 4) (i : Fin 32) : none32 (ix3 k h i) = 0 := by pointwise [none32]
theorem none64_at (k : Fin 256) (h : Fin 4) (i : Fin 64) : none64 (ix3 k h i) = 0 := by pointwise [none64]
theorem noKey_at (k : Fin 128) (h : Fin 4) (i : Fin 64) : noKey (ix3 k h i) = 0 := by pointwise [noKey]

/-! The tables' lanes at a head. -/
section Lane
variable (r : Fin 1024) (h : Fin 4)

theorem c_nope (i : Fin 64) : (iblk m c 11 t (ix2 r ⟨h * 128 + i, by omega⟩) : EReal) = Proj.factor := by
  rw [at11, V_v30]
  exact (lanes_nope _ _ _ _ h i).trans ((congrArg (· * Proj.factor) (one64 _ i)).trans (one_mul _))
theorem c_lo (i : Fin 16) : (iblk m c 11 t (ix2 r ⟨h * 128 + (64 + i), by omega⟩) : EReal) = Proj.ct (sr t r) i * Proj.factor := by
  rw [at11, V_v30]
  exact (lanes_pe _ _ _ _ h ⟨i, by omega⟩).trans (congrArg (· * Proj.factor) ((twice_lo _ _ i).trans (cos_at _ i)))
theorem c_hi (i : Fin 16) : (iblk m c 11 t (ix2 r ⟨h * 128 + (64 + (16 + i)), by omega⟩) : EReal) = Proj.ct (sr t r) i * Proj.factor := by
  rw [at11, V_v30]
  exact (lanes_pe _ _ _ _ h ⟨16 + i, by omega⟩).trans (congrArg (· * Proj.factor) ((twice_hi _ _ i).trans (cos_at _ i)))
theorem s_nope (i : Fin 64) : (iblk m c 12 t (ix2 r ⟨h * 128 + i, by omega⟩) : EReal) = (0 : EReal) := by
  rw [at12, V_v36]
  exact (lanes_nope _ _ _ _ h i).trans ((congrArg (· * Proj.factor) (zero64 _ i)).trans (zero_mul _))
theorem s_lo (i : Fin 16) : (iblk m c 12 t (ix2 r ⟨h * 128 + (64 + i), by omega⟩) : EReal) = Proj.st (sr t r) i * Proj.factor := by
  rw [at12, V_v36]
  exact (lanes_pe _ _ _ _ h ⟨i, by omega⟩).trans (congrArg (· * Proj.factor) ((twice_lo _ _ i).trans (sin_at _ i)))
theorem s_hi (i : Fin 16) : (iblk m c 12 t (ix2 r ⟨h * 128 + (64 + (16 + i)), by omega⟩) : EReal) = Proj.st (sr t r) i * Proj.factor := by
  rw [at12, V_v36]
  exact (lanes_pe _ _ _ _ h ⟨16 + i, by omega⟩).trans (congrArg (· * Proj.factor) ((twice_hi _ _ i).trans (sin_at _ i)))
theorem c_pad (i : Fin 32) : (iblk m c 11 t (ix2 r ⟨h * 128 + (96 + i), by omega⟩) : EReal) = (0 : EReal) := by
  rw [at11, V_v30]
  exact (lanes_pad _ _ _ _ h i).trans ((congrArg (· * Proj.factor) (zero32 _ i)).trans (zero_mul _))
theorem s_pad (i : Fin 32) : (iblk m c 12 t (ix2 r ⟨h * 128 + (96 + i), by omega⟩) : EReal) = (0 : EReal) := by
  rw [at12, V_v36]
  exact (lanes_pad _ _ _ _ h i).trans ((congrArg (· * Proj.factor) (zero32 _ i)).trans (zero_mul _))

theorem a_nope (k : Fin 256) (i : Fin 64) : (iblk m c 5 t (ix2 k ⟨h * 128 + i, by omega⟩) : EReal) = m ((c : Thread nD τ).loc main_arg5) (ix2 k ⟨h * 96 + i, by omega⟩) := by
  rw [at5, V_v71]
  exact (wqa_nope _ _ k h i).trans (heads_at _ k h ⟨i, by omega⟩)
theorem a_pe (k : Fin 256) (i : Fin 32) : (iblk m c 5 t (ix2 k ⟨h * 128 + (64 + i), by omega⟩) : EReal) = m ((c : Thread nD τ).loc main_arg5) (ix2 k ⟨h * 96 + (64 + i), by omega⟩) := by
  rw [at5, V_v71]
  exact (wqa_pe _ _ k h i).trans (heads_at _ k h ⟨64 + i, by omega⟩)
theorem b_lo (k : Fin 256) (i : Fin 16) : (iblk m c 6 t (ix2 k ⟨h * 128 + (64 + i), by omega⟩) : EReal) = Neg.neg (α := EReal) (m ((c : Thread nD τ).loc main_arg5) (ix2 k ⟨h * 96 + (64 + (16 + i)), by omega⟩)) := by
  rw [at6, V_v72]
  exact (wqb_pe _ _ _ k h ⟨i, by omega⟩).trans ((swapped_lo _ k h i).trans (congrArg (fun x : EReal => -x)
    ((headPe_at _ k h ⟨16 + i, by omega⟩).trans (heads_at _ k h ⟨64 + (16 + i), by omega⟩))))
theorem b_hi (k : Fin 256) (i : Fin 16) : (iblk m c 6 t (ix2 k ⟨h * 128 + (64 + (16 + i)), by omega⟩) : EReal) = m ((c : Thread nD τ).loc main_arg5) (ix2 k ⟨h * 96 + (64 + i), by omega⟩) := by
  rw [at6, V_v72]
  exact (wqb_pe _ _ _ k h ⟨16 + i, by omega⟩).trans ((swapped_hi _ k h i).trans
    ((headPe_at _ k h ⟨i, by omega⟩).trans (heads_at _ k h ⟨64 + i, by omega⟩)))

theorem k_nope_at (k : Fin 128) (i : Fin 64) : (iblk m c 8 t (ix2 k ⟨h * 128 + i, by omega⟩) : EReal) = m ((c : Thread nD τ).loc main_arg7) (ix2 k ⟨h * 128 + i, by omega⟩) := by
  rw [at8, V_v73]
  exact (wk_nope _ _ k h i).trans (kvHeads_at _ k h ⟨i, by omega⟩)
theorem k_rest_at (k : Fin 128) (i : Fin 64) : (iblk m c 8 t (ix2 k ⟨h * 128 + (64 + i), by omega⟩) : EReal) = (0 : EReal) := by
  rw [at8, V_v73]
  exact (wk_rest _ _ k h i).trans (noKey_at k h i)
theorem v_at (k : Fin 128) (d : Fin 64) : (iblk m c 9 t (ix2 ⟨h * 64 + d, by omega⟩ k) : EReal) = m ((c : Thread nD τ).loc main_arg7) (ix2 k ⟨h * 128 + (64 + d), by omega⟩) := by
  rw [at9, V_v74]
  exact (wv_at _ k h d).trans (kvHeads_at _ k h ⟨64 + d, by omega⟩)
theorem e_at (k : Fin 128) (j : Fin 512) : iblk m c 10 t (ix2 k j) = spread (ix2 k j) := by
  rw [at10, V_v75]
  rfl

theorem kc_lo (i : Fin 16) : (iblk m c 13 t (ix2 r ⟨i, by omega⟩) : EReal) = Proj.ct (sr t r) i := by
  rw [at13, V_v38]
  exact (keys_cos _ _ _ _ ⟨i, by omega⟩).trans ((twice_lo _ _ i).trans (cos_at _ i))
theorem kc_hi (i : Fin 16) : (iblk m c 13 t (ix2 r ⟨16 + i, by omega⟩) : EReal) = Proj.ct (sr t r) i := by
  rw [at13, V_v38]
  exact (keys_cos _ _ _ _ ⟨16 + i, by omega⟩).trans ((twice_hi _ _ i).trans (cos_at _ i))
theorem ks_lo (i : Fin 16) : (iblk m c 13 t (ix2 r ⟨32 + i, by omega⟩) : EReal) = Proj.st (sr t r) i := by
  rw [at13, V_v38]
  exact (keys_sin _ _ _ _ ⟨i, by omega⟩).trans ((twice_lo _ _ i).trans (sin_at _ i))
theorem ks_hi (i : Fin 16) : (iblk m c 13 t (ix2 r ⟨32 + (16 + i), by omega⟩) : EReal) = Proj.st (sr t r) i := by
  rw [at13, V_v38]
  exact (keys_sin _ _ _ _ ⟨16 + i, by omega⟩).trans ((twice_hi _ _ i).trans (sin_at _ i))
end Lane

/-- What the precondition says of the arguments: they hold numbers, and the first weights' last rows are the position rows, rotated. -/
structure Num : Prop where
  n0 : ∀ i, IsNum (m ((c : Thread nD τ).loc main_arg0) i)
  n1 : ∀ i, IsNum (m ((c : Thread nD τ).loc main_arg1) i)
  n2 : ∀ i, IsNum (m ((c : Thread nD τ).loc main_arg2) i)
  n4 : ∀ i, IsNum (m ((c : Thread nD τ).loc main_arg4) i)
  n5 : ∀ i, IsNum (m ((c : Thread nD τ).loc main_arg5) i)
  lo : ∀ (i : Fin 16) (k : Fin 1024), (m ((c : Thread nD τ).loc main_arg2)) (ix2 ⟨1440 + i, by omega⟩ k) = Neg.neg (α := EReal) ((m ((c : Thread nD τ).loc main_arg2)) (ix2 ⟨1424 + i, by omega⟩ k))
  hi : ∀ (i : Fin 16) (k : Fin 1024), (m ((c : Thread nD τ).loc main_arg2)) (ix2 ⟨1456 + i, by omega⟩ k) = (m ((c : Thread nD τ).loc main_arg2)) (ix2 ⟨1408 + i, by omega⟩ k)

variable {m c}
theorem num_u (n : Num m c) (r : Fin 1024) (o : Fin 1536) : IsNum (UA m c t r o) :=
  Proj.num_lin (fun k => Proj.num_norm Merge.bits_1024 (by norm_num) (fun _ => n.n0 _) (fun _ => n.n1 _) k) fun _ => n.n2 _
theorem num_cq (n : Num m c) (r : Fin 1024) (k : Fin 256) : IsNum (cq m c t r k) :=
  Proj.num_norm Proj.bits_256 (by norm_num) (fun _ => num_u t n r _) (fun _ => n.n4 _) k
theorem num_q (n : Num m c) (r : Fin 1024) (j : Fin 384) : IsNum (QA m c t r j) :=
  Proj.num_lin (num_cq t n r) fun _ => n.n5 _

theorem u_lo (n : Num m c) (r : Fin 1024) (i : Fin 16) : UA m c t r ⟨1440 + i, by omega⟩ = -UA m c t r ⟨1424 + i, by omega⟩ := by
  refine Eq.trans ?_ (Proj.lin_neg (fun k => Proj.num_norm Merge.bits_1024 (by norm_num) (fun _ => n.n0 _) (fun _ => n.n1 _) k) (fun _ => n.n2 _))
  exact congrArg (Proj.lin _) (funext fun k => n.lo i k)
theorem u_hi (n : Num m c) (r : Fin 1024) (i : Fin 16) : UA m c t r ⟨1456 + i, by omega⟩ = UA m c t r ⟨1408 + i, by omega⟩ :=
  congrArg (Proj.lin _) (funext fun k => n.hi i k)
variable (m c)

/-- A block of queries at a row and a lane. -/
abbrev blkQ (r : Fin 1024) (j : Fin 512) : EReal := k0_pay12 (F := Ideal)
  (k0_pay11 (iblk m c 0 t) (iblk m c 1 t) (iblk m c 2 t) (iblk m c 4 t)) (iblk m c 5 t) (iblk m c 11 t) (iblk m c 6 t) (iblk m c 12 t) (ix2 r j)

theorem blkQ_at (r : Fin 1024) (j : Fin 512) : blkQ m c t r j
    = Proj.lin (cq m c t r) (fun k => iblk m c 5 t (ix2 k j)) * iblk m c 11 t (ix2 r j)
      + Proj.lin (cq m c t r) (fun k => iblk m c 6 t (ix2 k j)) * iblk m c 12 t (ix2 r j) := by
  refine (pay12_at _ _ _ _ _ r j).trans ?_
  rw [show (fun k => k0_pay11 (F := Ideal) (iblk m c 0 t) (iblk m c 1 t) (iblk m c 2 t) (iblk m c 4 t) (ix2 r k)) = cq m c t r from funext (cq_at m c t r)]

section
variable (r : Fin 1024) (h : Fin 4)
theorem blkQ_nope (i : Fin 64) : blkQ m c t r ⟨h * 128 + i, by omega⟩ = QA m c t r ⟨h * 96 + i, by omega⟩ * Proj.factor := by
  rw [blkQ_at, c_nope, s_nope, mul_zero, add_zero]
  exact congrArg (fun w => Proj.lin (cq m c t r) w * Proj.factor) (funext fun k => a_nope m c t h k i)

theorem blkQ_lo (n : Num m c) (i : Fin 16) : blkQ m c t r ⟨h * 128 + (64 + i), by omega⟩
    = (QA m c t r ⟨h * 96 + (64 + i), by omega⟩ * Proj.ct (sr t r) i - QA m c t r ⟨h * 96 + (80 + i), by omega⟩ * Proj.st (sr t r) i) * Proj.factor := by
  rw [blkQ_at, c_lo, s_lo]
  have ea : Proj.lin (cq m c t r) (fun k => iblk m c 5 t (ix2 k ⟨h * 128 + (64 + i), by omega⟩)) = QA m c t r ⟨h * 96 + (64 + i), by omega⟩ :=
    congrArg (Proj.lin _) (funext fun k => a_pe m c t h k ⟨i, by omega⟩)
  have eb : Proj.lin (cq m c t r) (fun k => iblk m c 6 t (ix2 k ⟨h * 128 + (64 + i), by omega⟩)) = -QA m c t r ⟨h * 96 + (64 + (16 + i)), by omega⟩ :=
    (congrArg (Proj.lin _) (funext fun k => b_lo m c t h k i)).trans (Proj.lin_neg (num_cq t n r) fun _ => n.n5 _)
  have ej : (⟨h * 96 + (64 + (16 + i.val)), by omega⟩ : Fin 384) = ⟨h * 96 + (80 + i), by omega⟩ := Fin.ext (by dsimp only; omega)
  rw [ea, eb, ej]
  exact Proj.rope_lo (num_q t n r _) (num_q t n r _) (Proj.num_ct _ _) (Proj.num_st _ _) Proj.num_factor

theorem blkQ_hi (n : Num m c) (i : Fin 16) : blkQ m c t r ⟨h * 128 + (80 + i), by omega⟩
    = (QA m c t r ⟨h * 96 + (80 + i), by omega⟩ * Proj.ct (sr t r) i + QA m c t r ⟨h * 96 + (64 + i), by omega⟩ * Proj.st (sr t r) i) * Proj.factor := by
  have el : (⟨h * 128 + (80 + i.val), by omega⟩ : Fin 512) = ⟨h * 128 + (64 + (16 + i)), by omega⟩ := Fin.ext (by dsimp only; omega)
  rw [el, blkQ_at, c_hi, s_hi]
  have ea : Proj.lin (cq m c t r) (fun k => iblk m c 5 t (ix2 k ⟨h * 128 + (64 + (16 + i)), by omega⟩)) = QA m c t r ⟨h * 96 + (64 + (16 + i)), by omega⟩ :=
    congrArg (Proj.lin _) (funext fun k => a_pe m c t h k ⟨16 + i, by omega⟩)
  have eb : Proj.lin (cq m c t r) (fun k => iblk m c 6 t (ix2 k ⟨h * 128 + (64 + (16 + i)), by omega⟩)) = QA m c t r ⟨h * 96 + (64 + i), by omega⟩ :=
    congrArg (Proj.lin _) (funext fun k => b_hi m c t h k i)
  have ej : (⟨h * 96 + (64 + (16 + i.val)), by omega⟩ : Fin 384) = ⟨h * 96 + (80 + i), by omega⟩ := Fin.ext (by dsimp only; omega)
  rw [ea, eb, ej]
  exact Proj.rope_hi (num_q t n r _) (num_q t n r _) (Proj.num_ct _ _) (Proj.num_st _ _) Proj.num_factor

theorem blkQ_pad (i : Fin 32) : blkQ m c t r ⟨h * 128 + (96 + i), by omega⟩ = 0 := by
  rw [blkQ_at, c_pad, s_pad, mul_zero, mul_zero, add_zero]
end

/-- A lane number is a head and one of four kinds of lane of it. -/
theorem lane_cases (P : Fin 512 → Prop) (h0 : ∀ (h : Fin 4) (i : Fin 64), P ⟨h * 128 + i, by omega⟩)
    (h1 : ∀ (h : Fin 4) (i : Fin 16), P ⟨h * 128 + (64 + i), by omega⟩) (h2 : ∀ (h : Fin 4) (i : Fin 16), P ⟨h * 128 + (80 + i), by omega⟩)
    (h3 : ∀ (h : Fin 4) (i : Fin 32), P ⟨h * 128 + (96 + i), by omega⟩) (j : Fin 512) : P j := by
  by_cases l0 : j.val % 128 < 64
  · have := h0 ⟨j.val / 128, by omega⟩ ⟨j.val % 128, l0⟩
    rwa [show (⟨j.val / 128 * 128 + j.val % 128, by omega⟩ : Fin 512) = j from Fin.ext (by dsimp only; omega)] at this
  by_cases l1 : j.val % 128 < 80
  · have := h1 ⟨j.val / 128, by omega⟩ ⟨j.val % 128 - 64, by omega⟩
    rwa [show (⟨j.val / 128 * 128 + (64 + (j.val % 128 - 64)), by omega⟩ : Fin 512) = j from Fin.ext (by dsimp only; omega)] at this
  by_cases l2 : j.val % 128 < 96
  · have := h2 ⟨j.val / 128, by omega⟩ ⟨j.val % 128 - 80, by omega⟩
    rwa [show (⟨j.val / 128 * 128 + (80 + (j.val % 128 - 80)), by omega⟩ : Fin 512) = j from Fin.ext (by dsimp only; omega)] at this
  · have := h3 ⟨j.val / 128, by omega⟩ ⟨j.val % 128 - 96, by omega⟩
    rwa [show (⟨j.val / 128 * 128 + (96 + (j.val % 128 - 96)), by omega⟩ : Fin 512) = j from Fin.ext (by dsimp only; omega)] at this

theorem q_eq (n : Num m c) (r : Fin 1024) (j : Fin 512) : blkQ m c t r j = REF129 m c (ix2 (tok (bt t) (sr t r)) j) := by
  revert j
  refine lane_cases _ (fun h i => ?_) (fun h i => ?_) (fun h i => ?_) (fun h i => ?_)
  · exact (blkQ_nope m c t r h i).trans (Cert.InprojRefIdeal.Proj.q_nope _ _ _ _ _ _ _ h i).symm
  · exact (blkQ_lo m c t r h n i).trans (Cert.InprojRefIdeal.Proj.q_lo _ _ _ _ _ _ _ h i).symm
  · exact (blkQ_hi m c t r h n i).trans (Cert.InprojRefIdeal.Proj.q_hi _ _ _ _ _ _ _ h i).symm
  · exact (blkQ_pad m c t r h i).trans (Cert.InprojRefIdeal.Proj.q_pad _ _ _ _ _ _ _ h i).symm

/-- A block of keys at a row and a lane. -/
abbrev blkK (r : Fin 1024) (j : Fin 512) : EReal := k0_pay1 (F := Ideal)
  (k0_pay13 (k0_pay8 (iblk m c 0 t) (iblk m c 1 t) (iblk m c 2 t)) (iblk m c 7 t))
  (k0_pay14 (k0_pay8 (iblk m c 0 t) (iblk m c 1 t) (iblk m c 2 t)) (iblk m c 13 t)) (k0_pay15 (iblk m c 8 t)) (constant S1024x512 .f32 0x00000000#32) (iblk m c 10 t) (ix2 r j)

/-- The shared position lanes of a row before they are added. -/
abbrev kpe (r : Fin 1024) (k : Fin 128) : EReal := UA m c t r ⟨1408 + k, by omega⟩ * iblk m c 13 t (ix2 r k)

theorem blkK_at (r : Fin 1024) (j : Fin 512) : blkK m c t r j
    = Proj.lin (ckv m c t r) (fun k => iblk m c 8 t (ix2 k j)) + Proj.lin (kpe m c t r) (fun k => spread (ix2 k j)) := by
  refine (pay1_at _ _ _ _ r j).trans (congrArg₂ (fun x y : EReal => x + y) ?_ ?_)
  · unfold Proj.lin
    refine Finset.sum_congr rfl fun k _ => ?_
    dsimp only
    rw [ckv_at, pay15_at]
  · unfold Proj.lin
    refine Finset.sum_congr rfl fun k _ => ?_
    dsimp only
    rw [pay14_at, u_at, e_at]

section
variable (r : Fin 1024) (h : Fin 4)
theorem blkK_nope (i : Fin 64) : blkK m c t r ⟨h * 128 + i, by omega⟩ = KVA m c t r ⟨h * 128 + i, by omega⟩ := by
  rw [blkK_at, lin_spread_nope, add_zero]
  exact congrArg (Proj.lin _) (funext fun k => k_nope_at m c t h k i)

theorem rest_zero (i : Fin 64) : Proj.lin (ckv m c t r) (fun k => iblk m c 8 t (ix2 k ⟨h * 128 + (64 + i), by omega⟩)) = 0 :=
  (congrArg (Proj.lin _) (funext fun k => k_rest_at m c t h k i)).trans (Proj.lin_zero _)

theorem blkK_lo (n : Num m c) (i : Fin 16) : blkK m c t r ⟨h * 128 + (64 + i), by omega⟩
    = UA m c t r ⟨1408 + i, by omega⟩ * Proj.ct (sr t r) i - UA m c t r ⟨1424 + i, by omega⟩ * Proj.st (sr t r) i := by
  rw [blkK_at, rest_zero m c t r h ⟨i, by omega⟩, zero_add, lin_spread _ h ⟨i, by omega⟩]
  have e1 : kpe m c t r ⟨i, by omega⟩ = UA m c t r ⟨1408 + i, by omega⟩ * Proj.ct (sr t r) i := by
    unfold kpe; rw [kc_lo]
  have e2 : kpe m c t r ⟨32 + i, by omega⟩ = -UA m c t r ⟨1424 + i, by omega⟩ * Proj.st (sr t r) i := by
    unfold kpe
    rw [ks_lo, ← u_lo t n r i]
    exact congrArg (fun o => UA m c t r o * Proj.st (sr t r) i) (Fin.ext (by dsimp only; omega))
  refine (congrArg₂ (fun x y : EReal => x + y) e1 e2).trans ?_
  exact Proj.rope_key (num_u t n r _) (num_u t n r _) (Proj.num_ct _ _) (Proj.num_st _ _)

theorem blkK_hi (n : Num m c) (i : Fin 16) : blkK m c t r ⟨h * 128 + (80 + i), by omega⟩
    = UA m c t r ⟨1424 + i, by omega⟩ * Proj.ct (sr t r) i + UA m c t r ⟨1408 + i, by omega⟩ * Proj.st (sr t r) i := by
  have el : (⟨h * 128 + (80 + i.val), by omega⟩ : Fin 512) = ⟨h * 128 + (64 + (16 + i)), by omega⟩ := Fin.ext (by dsimp only; omega)
  rw [el, blkK_at, rest_zero m c t r h ⟨16 + i, by omega⟩, zero_add, lin_spread _ h ⟨16 + i, by omega⟩]
  have e1 : kpe m c t r ⟨16 + i, by omega⟩ = UA m c t r ⟨1424 + i, by omega⟩ * Proj.ct (sr t r) i := by
    unfold kpe
    rw [kc_hi]
    exact congrArg (fun o => UA m c t r o * Proj.ct (sr t r) i) (Fin.ext (by dsimp only; omega))
  have e2 : kpe m c t r ⟨32 + (16 + i), by omega⟩ = UA m c t r ⟨1408 + i, by omega⟩ * Proj.st (sr t r) i := by
    unfold kpe
    rw [ks_hi, ← u_hi t n r i]
    exact congrArg (fun o => UA m c t r o * Proj.st (sr t r) i) (Fin.ext (by dsimp only; omega))
  exact congrArg₂ (fun x y : EReal => x + y) e1 e2

theorem blkK_pad (i : Fin 32) : blkK m c t r ⟨h * 128 + (96 + i), by omega⟩ = 0 := by
  have el : (⟨h * 128 + (96 + i.val), by omega⟩ : Fin 512) = ⟨h * 128 + (64 + (32 + i)), by omega⟩ := Fin.ext (by dsimp only; omega)
  rw [blkK_at, lin_spread_pad, add_zero, el]
  exact rest_zero m c t r h ⟨32 + i, by omega⟩
end

theorem k_eq (n : Num m c) (r : Fin 1024) (j : Fin 512) : blkK m c t r j = REF130 m c (ix2 (tok (bt t) (sr t r)) j) := by
  revert j
  refine lane_cases _ (fun h i => ?_) (fun h i => ?_) (fun h i => ?_) (fun h i => ?_)
  · exact (blkK_nope m c t r h i).trans (Cert.InprojRefIdeal.Proj.k_nope _ _ _ _ _ _ _ h i).symm
  · exact (blkK_lo m c t r h n i).trans (Cert.InprojRefIdeal.Proj.k_lo _ _ _ _ _ _ _ h i).symm
  · exact (blkK_hi m c t r h n i).trans (Cert.InprojRefIdeal.Proj.k_hi _ _ _ _ _ _ _ h i).symm
  · exact (blkK_pad m c t r h i).trans (Cert.InprojRefIdeal.Proj.k_pad _ _ _ _ _ _ _ h i).symm

theorem v_eq (y : Fin 1) (d : Fin 256) (r : Fin 1024) : k0_pay2 (F := Ideal)
      (k0_pay13 (k0_pay8 (iblk m c 0 t) (iblk m c 1 t) (iblk m c 2 t)) (iblk m c 7 t)) (iblk m c 9 t) (ix3 y d r)
    = REF131 m c (ix3 (bt t) d (sr t r)) := by
  have key (h : Fin 4) (e : Fin 64) : k0_pay2 (F := Ideal)
      (k0_pay13 (k0_pay8 (iblk m c 0 t) (iblk m c 1 t) (iblk m c 2 t)) (iblk m c 7 t)) (iblk m c 9 t) (ix3 y ⟨h * 64 + e, by omega⟩ r)
      = REF131 m c (ix3 (bt t) ⟨h * 64 + e, by omega⟩ (sr t r)) := by
    refine Eq.trans ?_ (Cert.InprojRefIdeal.Proj.v131_at _ _ _ _ _ _ _ h e).symm
    refine (pay2_at _ _ y _ r).trans ?_
    unfold KV Proj.low Proj.lin
    refine Finset.sum_congr rfl fun k _ => ?_
    rw [ckv_at, v_at]
    exact mul_comm _ _
  have := key ⟨d.val / 64, by omega⟩ ⟨d.val % 64, by omega⟩
  rwa [show (⟨d.val / 64 * 64 + d.val % 64, by omega⟩ : Fin 256) = d from Fin.ext (by dsimp only; omega)] at this

theorem pay16_eq : k0_pay16 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) = k0_pay7 (iblk m c 0 t) (iblk m c 1 t) :=
  congrArg₂ k0_pay7 (whole0 _) (whole1 _)
theorem pay17_eq : k0_pay17 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) = k0_pay8 (iblk m c 0 t) (iblk m c 1 t) (iblk m c 2 t) :=
  (congrArg₂ (fun a b => k0_pay8 a b _) (whole0 _) (whole1 _)).trans (congrArg (k0_pay8 _ _) (whole2 _))
theorem pay18_eq : k0_pay18 (F := Ideal) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    = k0_pay13 (k0_pay8 (iblk m c 0 t) (iblk m c 1 t) (iblk m c 2 t)) (iblk m c 7 t) :=
  congrArg₂ k0_pay13 (pay17_eq m c t) (whole8 _)

theorem final14 : (dats m 0 c).arrAt 14 (cfgs 0).N = REF127 m c := by
  refine (dats m 0 c).arrAt_eq_of_covers 14 _ (by decide +kernel) fun t _ y => ?_
  blk_simp
  rw [after0_14]; frame_out
  idx_vars y
  have ht := t_lt t
  refine ((pay9_at _ _ _ y0 y1).trans (u_at m c t y0 _)).trans ?_
  refine (Cert.InprojRefIdeal.Proj.v127_at _ _ _ _ y1).symm.trans (congrArg (REF127 m c) ?_)
  blk_ext [idx t]
theorem final15 : (dats m 0 c).arrAt 15 (cfgs 0).N = REF128 m c := by
  refine (dats m 0 c).arrAt_eq_of_covers 15 _ (by decide +kernel) fun t _ y => ?_
  blk_simp
  rw [after0_15]; frame_out
  idx_vars y
  have ht := t_lt t
  refine ((pay10_at _ _ _ y0 y1).trans (u_at m c t y0 _)).trans ?_
  refine (Cert.InprojRefIdeal.Proj.v128_at _ _ _ _ y1).symm.trans (congrArg (REF128 m c) ?_)
  blk_ext [idx t]
theorem final16 (n : Num m c) : (dats m 0 c).arrAt 16 (cfgs 0).N = REF129 m c := by
  refine (dats m 0 c).arrAt_eq_of_covers 16 _ (by decide +kernel) fun t _ y => ?_
  blk_simp
  rw [after0_16]; frame_out
  idx_vars y
  have ht := t_lt t
  refine (q_eq m c t n y0 y1).trans (congrArg (REF129 m c) ?_)
  blk_ext [idx t]
theorem final17 (n : Num m c) : (dats m 0 c).arrAt 17 (cfgs 0).N = REF130 m c := by
  refine (dats m 0 c).arrAt_eq_of_covers 17 _ (by decide +kernel) fun t _ y => ?_
  blk_simp
  rw [after0_17]; frame_out
  idx_vars y
  have ht := t_lt t
  rw [pay17_eq, pay18_eq]
  refine (k_eq m c t n y0 y1).trans (congrArg (REF130 m c) ?_)
  blk_ext [idx t]
theorem final18 : (dats m 0 c).arrAt 18 (cfgs 0).N = REF131 m c := by
  refine (dats m 0 c).arrAt_eq_of_covers 18 _ (by decide +kernel) fun t _ y => ?_
  blk_simp
  rw [after0_18]; frame_out
  idx_vars y
  have ht := t_lt t
  rw [pay18_eq]
  refine (v_eq m c t y0 y1 y2).trans (congrArg (REF131 m c) ?_)
  blk_ext [idx t]
theorem final19 : (dats m 0 c).arrAt 19 (cfgs 0).N = REF132 m c := by
  refine (dats m 0 c).arrAt_eq_of_covers 19 _ (by decide +kernel) fun t _ y => ?_
  blk_simp
  rw [after0_19]; frame_out
  idx_vars y
  have ht := t_lt t
  rw [pay16_eq]
  refine ((pay4_at _ _ y0 y1).trans (congrArg (fun x : EReal => x * Ideal.ofBits .f32 0x3E38AA3B#32) (un_at m c t y0 _))).trans ?_
  refine (Cert.InprojRefIdeal.Proj.v132_at _ _ _ _ y1).symm.trans (congrArg (REF132 m c) ?_)
  blk_ext [idx t]
theorem final20 : (dats m 0 c).arrAt 20 (cfgs 0).N = REF134 m c := by
  refine (dats m 0 c).arrAt_eq_of_covers 20 _ (by decide +kernel) fun t _ y => ?_
  blk_simp
  rw [after0_20]; frame_out
  idx_vars y
  have ht := t_lt t
  rw [pay16_eq]
  refine ((pay5_at _ _ y0 y1).trans (un_at m c t y0 _)).trans ?_
  refine (Cert.InprojRefIdeal.Proj.v134_at _ _ _ _ y1).symm.trans (congrArg (REF134 m c) ?_)
  blk_ext [idx t]
theorem final21 : (dats m 0 c).arrAt 21 (cfgs 0).N = REF136 m c := by
  refine (dats m 0 c).arrAt_eq_of_covers 21 _ (by decide +kernel) fun t _ y => ?_
  blk_simp
  rw [after0_21]; frame_out
  idx_vars y
  have ht := t_lt t
  rw [pay16_eq]
  refine ((pay6_at _ _ y0 y1).trans (un_at m c t y0 _)).trans ?_
  refine (Cert.InprojRefIdeal.Proj.v136_at _ _ _ _ y1).symm.trans (congrArg (REF136 m c) ?_)
  blk_ext [idx t]
end Cert.InprojIdeal.Proj
-- ==== Proof.ProjClaims.lean ====
module

public import proofs.«01_k».proof.Defs
public import proofs.«01_k».proof.Proof.FiniteProj
public import proofs.«01_k».proof.Proof.ProjValue
public import proofs.«01_k».proof.Proof.Gen.Inproj.Frame
public import proofs.«01_k».proof.Proof.Gen.InprojIdeal.Frame
public import proofs.«01_k».proof.Proof.Gen.InprojIdeal.Value
public import proofs.«01_k».proof.Proof.Gen.InprojRefIdeal.Run
public import proofs.«01_k».proof.Proof.Gen.InprojRefIdeal.Read
public import Idealize.ShloMosaic.Adequacy
public import Idealize.ShloMosaic.Init
public import Idealize.ShloMosaic.Lib.Quiescent

@[expose] public section

noncomputable section
open Idealize.ShloMosaic Idealize.SL.Sem

/-! The claims about the input projection kernel. -/
namespace Cert.Proof.Inproj

theorem ref_frame : Cert.quiescent_InprojRefIdeal := by
  intro m g _
  exact (θ_run Cert.InprojRefIdeal.defs _ _).mono (fun r h => ⟨fun c => (h c).2.2.2.2.2.2.2.2, sem_eq_zero_of_no_sems (by decide) r.2⟩)
    (Cert.InprojRefIdeal.Value.run (F := Ideal) m g)

theorem ref_frame_pre : Cert.quiescent_InprojRefIdeal_pre_prepared_inproj := fun m g _ => ref_frame m g (by trivial)

set_option maxHeartbeats 1000000 in
theorem algebraic : Cert.algebraic_InprojIdeal_InprojRefIdeal_pre_prepared_inproj := by
  intro m g m' g' hpre hagree
  have hn (c : Dev Cert.InprojIdeal.nD) : Cert.InprojIdeal.Proj.Num m c := by
    obtain ⟨h0, h1, h2, h4, h5, lo, hi⟩ := Cert.K.prepared_inproj _ _ _ _ _ _ _ _ (hpre c)
    exact ⟨h0, h1, h2, h4, h5, lo, hi⟩
  refine ⟨fun c => Cert.InprojIdeal.Proj.REF127 m c, fun c => Cert.InprojIdeal.Proj.REF128 m c, fun c => Cert.InprojIdeal.Proj.REF129 m c, fun c => Cert.InprojIdeal.Proj.REF130 m c, fun c => Cert.InprojIdeal.Proj.REF131 m c, fun c => Cert.InprojIdeal.Proj.REF132 m c, fun c => Cert.InprojIdeal.Proj.REF134 m c, fun c => Cert.InprojIdeal.Proj.REF136 m c, ?_, ?_⟩
  · refine (θ_run Cert.InprojIdeal.defs _ _).mono (fun r h c => ?_) (Cert.InprojIdeal.Gen.run_main (F := Ideal) m g)
    exact ⟨(Cert.InprojIdeal.Value.post14 m r h c).trans (Cert.InprojIdeal.Proj.final14 m c), (Cert.InprojIdeal.Value.post15 m r h c).trans (Cert.InprojIdeal.Proj.final15 m c), (Cert.InprojIdeal.Value.post16 m r h c).trans (Cert.InprojIdeal.Proj.final16 m c (hn c)), (Cert.InprojIdeal.Value.post17 m r h c).trans (Cert.InprojIdeal.Proj.final17 m c (hn c)), (Cert.InprojIdeal.Value.post18 m r h c).trans (Cert.InprojIdeal.Proj.final18 m c), (Cert.InprojIdeal.Value.post19 m r h c).trans (Cert.InprojIdeal.Proj.final19 m c), (Cert.InprojIdeal.Value.post20 m r h c).trans (Cert.InprojIdeal.Proj.final20 m c), (Cert.InprojIdeal.Value.post21 m r h c).trans (Cert.InprojIdeal.Proj.final21 m c),
      Cert.InprojIdeal.Value.kept_main_arg0 m r h c, Cert.InprojIdeal.Value.kept_main_arg1 m r h c, Cert.InprojIdeal.Value.kept_main_arg2 m r h c, Cert.InprojIdeal.Value.kept_main_arg3 m r h c, Cert.InprojIdeal.Value.kept_main_arg4 m r h c, Cert.InprojIdeal.Value.kept_main_arg5 m r h c, Cert.InprojIdeal.Value.kept_main_arg6 m r h c, Cert.InprojIdeal.Value.kept_main_arg7 m r h c⟩
  · refine (θ_run Cert.InprojRefIdeal.defs _ _).mono (fun r h c => ?_) (Cert.InprojRefIdeal.Value.run (F := Ideal) m' g')
    obtain ⟨e0, e1, e2, e3, e4, e5, e6, e7⟩ := hagree c
    refine ⟨(h c).1.trans (Eq.trans (Cert.InprojRefIdeal.Read.val_main_v127_eq _ _ _) ?_),
      (h c).2.1.trans (Eq.trans (Cert.InprojRefIdeal.Read.val_main_v128_eq _ _ _) ?_),
      (h c).2.2.1.trans (Eq.trans (Cert.InprojRefIdeal.Read.val_main_v129_eq m' c) ?_),
      (h c).2.2.2.1.trans (Eq.trans (Cert.InprojRefIdeal.Read.val_main_v130_eq m' c) ?_),
      (h c).2.2.2.2.1.trans (Eq.trans (Cert.InprojRefIdeal.Read.val_main_v131_eq m' c) ?_),
      (h c).2.2.2.2.2.1.trans (Eq.trans (Cert.InprojRefIdeal.Read.val_main_v132_eq _ _ _) ?_),
      (h c).2.2.2.2.2.2.1.trans (Eq.trans (Cert.InprojRefIdeal.Read.val_main_v134_eq _ _ _) ?_),
      (h c).2.2.2.2.2.2.2.1.trans (Eq.trans (Cert.InprojRefIdeal.Read.val_main_v136_eq _ _ _) ?_),
      (h c).2.2.2.2.2.2.2.2⟩
    · rw [e0, e1, e2]
    · rw [e0, e1, e2]
    · rw [e0, e1, e2, e4, e5]
    · rw [e0, e1, e2, e6, e7]
    · rw [e0, e1, e2, e6, e7]
    · rw [e0, e1, e3]
    · rw [e0, e1, e3]
    · rw [e0, e1, e3]

end Cert.Proof.Inproj
-- ==== Proof.WeightsIdealRun.lean ====
/-
  The preparation of the input projection's weights, run by hand. The call stores the two whole outputs at the first
  grid point only and leaves them in place afterwards; it writes them back after the last point. At every point it
  stores a block of 512 gate rows.
-/
module

public import proofs.«01_k».proof.Proof.Gen.WeightsIdeal.Frame
public import proofs.«01_k».proof.Proof.Gen.WeightsIdeal.Skeleton
public import Idealize.ShloMosaic.Lib.Pipeline.Frame
public import Idealize.ShloMosaic.Lib.Pipeline.TableIdle
public import Idealize.ShloMosaic.Lib.Tactic
public import Idealize.ShloMosaic.Lib.Claim
public import Idealize.ShloMosaic.Lib.VecWindow
public import Idealize.ShloMosaic.Lib.Pointwise.Index

@[expose] public section

set_option maxRecDepth 16384

noncomputable section

namespace Cert.WeightsIdeal.Hand

open Cert.WeightsIdeal Cert.WeightsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What one point stores -/

theorem off1_eq : ∀ i : grid0.Coords, k0_off1 i = ![0, 2208 + 512 * (i 0).val, 0] := by decide +kernel
instance closedOff1 (i : grid0.Coords) : ClosedOff (k0_off1 i) := ⟨_, off1_eq i⟩

/-- The rows of the weights that each store reads. -/
abbrev rA : Rect S1x6304x1024 := Rect.unit (s := S1x6304x1024) ![0, 0, 0] S1x1440x1024.size inb_S1x6304x1024_S1x1440x1024_0_0_0
abbrev rB : Rect S1x6304x1024 := Rect.unit (s := S1x6304x1024) ![0, 1424, 0] S1x16x1024.size inb_S1x6304x1024_S1x16x1024_0_1424_0
abbrev rC : Rect S1x6304x1024 := Rect.unit (s := S1x6304x1024) ![0, 1408, 0] S1x16x1024.size inb_S1x6304x1024_S1x16x1024_0_1408_0
abbrev rN : Rect S1x6304x1024 := Rect.unit (s := S1x6304x1024) ![0, 1440, 0] S1x768x1024.size inb_S1x6304x1024_S1x768x1024_0_1440_0
abbrev rG (i : grid0.Coords) : Rect S1x6304x1024 := Rect.unit (s := S1x6304x1024) (k0_off1 i) S1x512x1024.size (k0_off1_inb i)

/-- The first output after its four stores over the contents `d`. -/
def putAll (d : Vec F S1536x1024 .bf16) (x : Vec F S1x6304x1024 .f32) : Vec F S1536x1024 .bf16 :=
  VecWindow.put (VecWindow.put (VecWindow.put (VecWindow.put d ![0, 0] S1440x1024.size (k0_pay1 (View.ld x rA)))
    ![1440, 0] S16x1024.size (k0_pay2 (View.ld x rB))) ![1456, 0] S16x1024.size (k0_pay3 (View.ld x rC)))
    ![1472, 0] S64x1024.size (k0_pay4 (F := F))

/-- One store hides what it covers. -/
theorem put_congr {s : Shape} {α : Type} (x x' : s.Idx → α) (off size : Fin s.rank → ℕ) (w : ((a : Fin s.rank) → Fin (size a)) → α) (y : s.Idx)
    (h : (∀ a, off a ≤ (y a).val ∧ (y a).val < off a + size a) ∨ x y = x' y) : VecWindow.put x off size w y = VecWindow.put x' off size w y := by
  unfold VecWindow.put
  by_cases hc : ∀ a, off a ≤ (y a).val ∧ (y a).val < off a + size a
  · rw [dif_pos hc, dif_pos hc]
  · rw [dif_neg hc, dif_neg hc]; exact h.resolve_left hc

/-- The four stores cover the output. -/
theorem putAll_eq (d d' : Vec F S1536x1024 .bf16) (x : Vec F S1x6304x1024 .f32) : putAll d x = putAll d' x := by
  funext y
  have h0 : (y 0).val < 1536 := (y 0).isLt
  have h1 : (y 1).val < 1024 := (y 1).isLt
  unfold putAll
  refine put_congr _ _ _ _ _ _ ?_
  by_cases c4 : 1472 ≤ (y 0).val
  · left; intro a
    match a with
    | ⟨0, _⟩ => show 1472 ≤ (y 0).val ∧ (y 0).val < 1472 + 64; omega
    | ⟨1, _⟩ => show 0 ≤ (y 1).val ∧ (y 1).val < 0 + 1024; omega
  right
  refine put_congr _ _ _ _ _ _ ?_
  by_cases c3 : 1456 ≤ (y 0).val
  · left; intro a
    match a with
    | ⟨0, _⟩ => show 1456 ≤ (y 0).val ∧ (y 0).val < 1456 + 16; omega
    | ⟨1, _⟩ => show 0 ≤ (y 1).val ∧ (y 1).val < 0 + 1024; omega
  right
  refine put_congr _ _ _ _ _ _ ?_
  by_cases c2 : 1440 ≤ (y 0).val
  · left; intro a
    match a with
    | ⟨0, _⟩ => show 1440 ≤ (y 0).val ∧ (y 0).val < 1440 + 16; omega
    | ⟨1, _⟩ => show 0 ≤ (y 1).val ∧ (y 1).val < 0 + 1024; omega
  right
  refine put_congr _ _ _ _ _ _ ?_
  left; intro a
  match a with
  | ⟨0, _⟩ => show 0 ≤ (y 0).val ∧ (y 0).val < 0 + 1440; omega
  | ⟨1, _⟩ => show 0 ≤ (y 1).val ∧ (y 1).val < 0 + 1024; omega

/-- The first output, over nothing. -/
def waOf (x : Vec F S1x6304x1024 .f32) : Vec F S1536x1024 .bf16 := putAll (broadcast S1536x1024 (Scalar.ofBits .bf16 0x0000#16)) x

/-! ## The body -/

set_option maxHeartbeats 1000000 in
/-- The body at the first point: all three outputs stored. -/
theorem sound_first (c : Dev nD) (E : Set ℕ) (i : grid0.Coords) (hc : k0_cond1 i = 1#1)
    (arg1 : Memref sig .tc .vmem S1x6304x1024 .f32) (harg1 : arg1.IsWhole) (arg2 : Memref sig .tc .vmem S1536x1024 .bf16) (harg2 : arg2.IsWhole)
    (arg3 : Memref sig .tc .vmem S768x1024 .bf16) (harg3 : arg3.IsWhole) (arg4 : Memref sig .tc .vmem S512x1024 .bf16) (harg4 : arg4.IsWhole)
    (x : Vec F S1x6304x1024 .f32) (K : PUnit → sProp 𝕄) :
    iprop(owns (c : Thread nD τ) arg1 fullShare x
        ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x ∗ owns (c : Thread nD τ) arg2 fullShare (waOf x)
              ∗ owns (c : Thread nD τ) arg3 fullShare (k0_pay5 (View.ld x rN))
              ∗ owns (c : Thread nD τ) arg4 fullShare (k0_pay6 (View.ld x (rG i)))) -∗ K ⟨⟩))
      ⊢ wp frame (wpE (defs₀ (F := F)) Variants.none c none) E (cc0_inproj_weights i arg1 harg1 arg2 harg2 arg3 harg3 arg4 harg4) K := by
  simp only [cc0_inproj_weights_eq_skeleton]; unfold cc0_inproj_weights_skel
  unfold owns
  iintro ⟨⟨%f1, %hf1, H1⟩, ⟨%d2, %f2, -, H2⟩, ⟨%d3, %f3, -, H3⟩, ⟨%d4, %f4, -, H4⟩, Hk⟩
  subst hf1
  sl_exec
  sl_step
  iapply Hk
  isplitl [H1]
  · iexists f1; isplitr; · ipureintro; rfl
    iexact H1
  isplitl [H2]
  · iexists _; isplitr
    swap; · iexact H2
    ipureintro
    unfold waOf
    rw [putAll_eq _ (arg2.view.read (Elt F) f2)]
    unfold putAll
    refine (View.read_writes_cons_put _ _ _ _ _ rfl).trans (congrArg (fun z => VecWindow.put z _ _ _) ?_)
    refine (View.read_writes_cons_put _ _ _ _ _ rfl).trans (congrArg (fun z => VecWindow.put z _ _ _) ?_)
    refine (View.read_writes_cons_put _ _ _ _ _ rfl).trans (congrArg (fun z => VecWindow.put z _ _ _) ?_)
    exact (View.read_writes_cons_put _ _ _ _ _ rfl)
  isplitl [H3]
  · iexists _; isplitr
    swap; · iexact H3
    ipureintro; rw [View.read_writes_full]; rfl
  iexists _; isplitr
  swap; · iexact H4
  ipureintro; rw [View.read_writes_full]; rfl

set_option maxHeartbeats 1000000 in
/-- The body at a later point: the gate rows alone. -/
theorem sound_later (c : Dev nD) (E : Set ℕ) (i : grid0.Coords) (hc : ¬ k0_cond1 i = 1#1)
    (arg1 : Memref sig .tc .vmem S1x6304x1024 .f32) (harg1 : arg1.IsWhole) (arg2 : Memref sig .tc .vmem S1536x1024 .bf16) (harg2 : arg2.IsWhole)
    (arg3 : Memref sig .tc .vmem S768x1024 .bf16) (harg3 : arg3.IsWhole) (arg4 : Memref sig .tc .vmem S512x1024 .bf16) (harg4 : arg4.IsWhole)
    (x : Vec F S1x6304x1024 .f32) (K : PUnit → sProp 𝕄) :
    iprop(owns (c : Thread nD τ) arg1 fullShare x ∗ (∃ d, owns (c : Thread nD τ) arg4 fullShare d)
        ∗ (iprop(owns (c : Thread nD τ) arg1 fullShare x ∗ owns (c : Thread nD τ) arg4 fullShare (k0_pay6 (View.ld x (rG i)))) -∗ K ⟨⟩))
      ⊢ wp frame (wpE (defs₀ (F := F)) Variants.none c none) E (cc0_inproj_weights i arg1 harg1 arg2 harg2 arg3 harg3 arg4 harg4) K := by
  simp only [cc0_inproj_weights_eq_skeleton]; unfold cc0_inproj_weights_skel
  unfold owns
  iintro ⟨⟨%f1, %hf1, H1⟩, ⟨%d4, %f4, -, H4⟩, Hk⟩
  subst hf1
  sl_exec
  sl_step
  iapply Hk
  isplitl [H1]
  · iexists f1; isplitr; · ipureintro; rfl
    iexact H1
  iexists _; isplitr
  swap; · iexact H4
  ipureintro; rw [View.read_writes_full]; rfl

/-! ## The proof data -/

theorem coords0 : ∀ t : Fin cfg0.N, ((grid0.coords t) 0).val = t.val := by decide +kernel
theorem cond_iff : ∀ t : Fin cfg0.N, k0_cond1 (grid0.coords t) = 1#1 ↔ t.val = 0 := by decide +kernel
theorem fresh_later1 : ∀ t : Fin cfg0.N, t.val ≠ 0 → cfg0.fresh 1 t.val = false := by decide +kernel
theorem fresh_later2 : ∀ t : Fin cfg0.N, t.val ≠ 0 → cfg0.fresh 2 t.val = false := by decide +kernel

/-- The two outputs stored at the first point. -/
def out1 (c : Dev nD) : Vec F S1536x1024 .bf16 := waOf (iblk m c 0 t0_0 : Vec F S1x6304x1024 .f32)
def out2 (c : Dev nD) : Vec F S768x1024 .bf16 := k0_pay5 (View.ld (iblk m c 0 t0_0 : Vec F S1x6304x1024 .f32) rN)
/-- The gate rows of point `t`. -/
def out3 (c : Dev nD) (t : Fin cfg0.N) : Vec F S512x1024 .bf16 := k0_pay6 (View.ld (iblk m c 0 t : Vec F S1x6304x1024 .f32) (rG (grid0.coords t)))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out1 m c
    | ⟨2, _⟩ => out2 m c
    | ⟨3, _⟩ => out3 m c t
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = out1 m c := by dsimp only [dats]
theorem after0_2 (c : Dev nD) (t : Fin cfg0.N) : (dats m 0 c).after 2 t = out2 m c := by dsimp only [dats]
theorem after0_3 (c : Dev nD) (t : Fin cfg0.N) : (dats m 0 c).after 3 t = out3 m c t := by dsimp only [dats]

theorem before0_0 (c : Dev nD) (t : Fin cfg0.N) (d) : (dats m 0 c).before 0 t d = iblk m c 0 t :=
  before0_0_of m (dats m 0 c) (A_eq m c 0) (after0_0 m c) t d
/-- At a later point the first two outputs still hold what the first point stored. -/
theorem before0_1 (c : Dev nD) (t : Fin cfg0.N) (ht : t.val ≠ 0) (d) : (dats m 0 c).before 1 t d = out1 m c := by
  rw [(dats m 0 c).before_out_traj 1 rfl (fun _ _ => rfl) (fun t _ _ _ => by rw [after0_1, after0_1]) t.val t rfl d, fresh_later1 t ht,
    if_neg Bool.false_ne_true, after0_1]
theorem before0_2 (c : Dev nD) (t : Fin cfg0.N) (ht : t.val ≠ 0) (d) : (dats m 0 c).before 2 t d = out2 m c := by
  rw [(dats m 0 c).before_out_traj 2 rfl (fun _ _ => rfl) (fun t _ _ _ => by rw [after0_2, after0_2]) t.val t rfl d, fresh_later2 t ht,
    if_neg Bool.false_ne_true, after0_2]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns: the first two outputs as `O1` and `O2`. -/
def bodyPost (c : Dev nD) (t : Fin cfg0.N) (O1 O2 : sProp 𝕄) : sProp 𝕄 :=
  iprop((dats m 0 c).Φ t.succ ∗ (dats m 0 c).owesAt () t.succ
    ∗ owns (c : Thread nD τ) (st0_0 t) fullShare ((dats m 0 c).after 0 t)
    ∗ O1 ∗ O2
    ∗ owns (c : Thread nD τ) (st0_3 t) fullShare ((dats m 0 c).after 3 t))

set_option maxHeartbeats 1000000 in
theorem sound_body_first (c : Dev nD) (t : Fin cfg0.N) (hc : k0_cond1 (grid0.coords t) = 1#1) :
    bodyPre m c t ⊢ wp frame (wpE (defs₀ (F := F)) Variants.none c none) Set.univ (bodyAt0 t)
      (fun _ => bodyPost m c t (owns (c : Thread nD τ) (st0_1 t) fullShare ((dats m 0 c).after 1 t))
        (owns (c : Thread nD τ) (st0_2 t) fullShare ((dats m 0 c).after 2 t))) := by
  obtain rfl : t = t0_0 := Fin.ext ((cond_iff t).mp hc)
  unfold bodyPre bodyPost bodyAt0
  simp only [before0_0]
  rw [show (dats m 0 c).Φ (Fin.succ t0_0) = Pipeline.ΦA spec0 c from rfl, show (dats m 0 c).Φ (Fin.castSucc t0_0) = Pipeline.ΦA spec0 c from rfl,
    show (dats m 0 c).owesAt () (Fin.succ t0_0) = (dats m 0 c).owesAt () (Fin.castSucc t0_0) from rfl,
    after0_0, after0_1, after0_2, after0_3]
  iintro ⟨Hg, Ho, ⟨%d0, H0⟩, ⟨%d1, H1⟩, ⟨%d2, H2⟩, ⟨%d3, H3⟩⟩
  iapply (sound_first c Set.univ (grid0.coords t0_0) hc _ _ _ _ _ _ _ _ (iblk m c 0 t0_0) _)
  isplitl [H0]; · iexact H0
  isplitl [H1]; · iexists _; iexact H1
  isplitl [H2]; · iexists _; iexact H2
  isplitl [H3]; · iexists _; iexact H3
  iintro ⟨H0, H1, H2, H3⟩
  isplitl [Hg]; · iexact Hg
  isplitl [Ho]; · iexact Ho
  isplitl [H0]; · iexact H0
  isplitl [H1]; · iexact H1
  isplitl [H2]; · iexact H2
  iexact H3

set_option maxHeartbeats 1000000 in
theorem sound_body_later (c : Dev nD) (t : Fin cfg0.N) (hc : ¬ k0_cond1 (grid0.coords t) = 1#1) :
    bodyPre m c t ⊢ wp frame (wpE (defs₀ (F := F)) Variants.none c none) Set.univ (bodyAt0 t)
      (fun _ => bodyPost m c t iprop(∃ d, owns (c : Thread nD τ) (st0_1 t) fullShare ((dats m 0 c).before 1 t d))
        iprop(∃ d, owns (c : Thread nD τ) (st0_2 t) fullShare ((dats m 0 c).before 2 t d))) := by
  unfold bodyPre bodyPost bodyAt0
  simp only [before0_0]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_3]
  iintro ⟨Hg, Ho, ⟨%d0, H0⟩, H1, H2, ⟨%d3, H3⟩⟩
  iapply (sound_later c Set.univ (grid0.coords t) hc _ _ _ _ _ _ _ _ (iblk m c 0 t) _)
  isplitl [H0]; · iexact H0
  isplitl [H3]; · iexists _; iexact H3
  iintro ⟨H0, H3⟩
  isplitl [Hg]; · iexact Hg
  isplitl [Ho]; · iexact Ho
  isplitl [H0]; · iexact H0
  isplitl [H1]; · iexact H1
  isplitl [H2]; · iexact H2
  iexact H3

/-- At the last point the buffers left in place are the ones written back. -/
theorem sound_body_last (c : Dev nD) (t : Fin cfg0.N) (hc : ¬ k0_cond1 (grid0.coords t) = 1#1) :
    bodyPre m c t ⊢ wp frame (wpE (defs₀ (F := F)) Variants.none c none) Set.univ (bodyAt0 t)
      (fun _ => bodyPost m c t (owns (c : Thread nD τ) (st0_1 t) fullShare ((dats m 0 c).after 1 t))
        (owns (c : Thread nD τ) (st0_2 t) fullShare ((dats m 0 c).after 2 t))) := by
  have ht : t.val ≠ 0 := fun h => hc ((cond_iff t).mpr h)
  refine triple_restated (sound_body_later m c t hc) rfl .rfl fun _ => ?_
  unfold bodyPost
  rw [after0_1, after0_2]
  simp only [before0_1 m c t ht, before0_2 m c t ht]
  iintro ⟨Hg, Ho, H0, ⟨%d1, H1⟩, ⟨%d2, H2⟩, H3⟩
  isplitl [Hg]; · iexact Hg
  isplitl [Ho]; · iexact Ho
  isplitl [H0]; · iexact H0
  isplitl [H1]; · iexact H1
  isplitl [H2]; · iexact H2
  iexact H3

/-- The body table's row at point `t`'s slots is the body there. -/
theorem defs₀_row (t : Fin cfg0.N) : defs₀ (F := F) .tc cfg0.body (cfg0.bodyArgs t (cfg0.slots t)) = bodyAt0 t := by
  unfold defs₀; rw [Defs.onTc_tc]

theorem idle_first (t : Fin cfg0.N) (hc : k0_cond1 (grid0.coords t) = 1#1) : cfg0.idle 1 (cfg0.grid.coords t) = false := by
  show (!(k0_cond1 (grid0.coords t) == 1#1)) = false
  simp [hc]
theorem idle_later (t : Fin cfg0.N) (hc : ¬ k0_cond1 (grid0.coords t) = 1#1) : cfg0.idle 1 (cfg0.grid.coords t) = true := by
  show (!(k0_cond1 (grid0.coords t) == 1#1)) = true
  simp [hc]
theorem flush_mid1 : ∀ t : Fin cfg0.N, ¬ t.val = 7 → (cfg0.win 1).flush t = false := by decide +kernel
theorem flush_mid2 : ∀ t : Fin cfg0.N, ¬ t.val = 7 → (cfg0.win 2).flush t = false := by decide +kernel
theorem flush_last1 : ∀ t : Fin cfg0.N, t.val = 7 → (cfg0.win 1).flush t = true := by decide +kernel
theorem flush_last2 : ∀ t : Fin cfg0.N, t.val = 7 → (cfg0.win 2).flush t = true := by decide +kernel

/-- The body obligation at every point. -/
theorem body_obligation (c : Dev nD) : BodyObligation (dats (F := F) m 0 c) (defs₀ (F := F)) Variants.none () Set.univ := fun t => by
  rw [bigSep_W0, bigSep_W0, defs₀_row]
  by_cases hc : k0_cond1 (grid0.coords t) = 1#1
  · refine triple_restated (sound_body_first m c t hc) rfl .rfl fun _ => ?_
    rw [idle_first t hc]
    exact .rfl
  · by_cases h7 : t.val = 7
    · refine triple_restated (sound_body_last m c t hc) rfl .rfl fun _ => ?_
      rw [idle_later t hc, flush_last1 t h7, flush_last2 t h7]
      exact .rfl
    · refine triple_restated (sound_body_later m c t hc) rfl .rfl fun _ => ?_
      rw [idle_later t hc, flush_mid1 t h7, flush_mid2 t h7]
      exact .rfl

/-! ## The run and the frame -/

set_option backward.isDefEq.respectTransparency.types false in
set_option maxHeartbeats 800000 in
/-- The launch ends, with every array as the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the launch ends, the argument as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_main m ρ)) ((θ_run defs _ _).mono (fun _ h => h.2) (run_main_quiescent m ρ))

end Cert.WeightsIdeal.Hand
-- ==== Proof.WeightsRefPure.lean ====
module

public import proofs.«01_k».proof.Proof.Gen.WeightsRefIdeal.Read
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem

/-! The reference's three arrays of weights, entry by entry. -/
namespace Cert.WeightsRefIdeal.Rows
open Cert.WeightsRefIdeal Cert.WeightsRefIdeal.Gen Cert.WeightsRefIdeal.Read

variable (a : Vec Ideal S2x1024x6304 .f32)

theorem v2_at (r : Fin 6304) (j : Fin 1024) : val_main_v2 (F := Ideal) a (ix2 r j) = a (ix3 0 j r) := by
  rw [val_main_v2_apply, val_main_v1_apply, val_main_v0_apply]
  refine congrArg a (funext fun b => Fin.ext ?_)
  match b with
  | ⟨0, _⟩ => rfl
  | ⟨1, _⟩ => show (j.val * 6304 + r.val) / 6304 % 1024 = j.val; omega
  | ⟨2, _⟩ => show (j.val * 6304 + r.val) % 6304 = r.val; omega

theorem v12_at (r : Fin 768) (j : Fin 1024) : val_main_v12 (F := Ideal) a (ix2 r j) = a (ix3 0 j ⟨1440 + r, by omega⟩) := by
  rw [val_main_v12_apply, val_main_v11_apply]
  exact v2_at a ⟨1440 + r, by omega⟩ j
theorem v14_at (r : Fin 4096) (j : Fin 1024) : val_main_v14 (F := Ideal) a (ix2 r j) = a (ix3 0 j ⟨2208 + r, by omega⟩) := by
  rw [val_main_v14_apply, val_main_v13_apply]
  exact v2_at a ⟨2208 + r, by omega⟩ j

section Cat
variable (p : FVec Ideal S1440x1024 .f32) (q q' : FVec Ideal S16x1024 .f32) (w : FVec Ideal S1472x1024 .f32) (z : FVec Ideal S_ .f32) (j : Fin 1024)

theorem cat_a (r : Fin 1440) : concatenate S1472x1024 0 [⟨S1440x1024, p⟩, ⟨S16x1024, q⟩, ⟨S16x1024, q'⟩] concatenates_S1440x1024_S16x1024_S16x1024_S1472x1024_d0
    (ix2 ⟨r, by omega⟩ j) = p (ix2 r j) := by pointwise []
theorem cat_b (r : Fin 16) : concatenate S1472x1024 0 [⟨S1440x1024, p⟩, ⟨S16x1024, q⟩, ⟨S16x1024, q'⟩] concatenates_S1440x1024_S16x1024_S16x1024_S1472x1024_d0
    (ix2 ⟨1440 + r, by omega⟩ j) = q (ix2 r j) := by pointwise []
theorem cat_c (r : Fin 16) : concatenate S1472x1024 0 [⟨S1440x1024, p⟩, ⟨S16x1024, q⟩, ⟨S16x1024, q'⟩] concatenates_S1440x1024_S16x1024_S16x1024_S1472x1024_d0
    (ix2 ⟨1456 + r, by omega⟩ j) = q' (ix2 r j) := by
  pointwise []
  have h1 : ¬ 1456 + r.val < 1440 := by omega
  have h2 : ¬ 1456 + r.val - 1440 < 16 := by omega
  rw [dif_neg h1, dif_neg h2]
  exact congrArg (fun i => q' (ix2 i j)) (Fin.ext (by show 1456 + r.val - 1440 - 16 = r.val; omega))
theorem pad_lo (r : Fin 1472) : pad S1536x1024 ![0, 0] ![64, 0] ![0, 0] w z pads_S1472x1024_S1536x1024_0640_000 h_S_
    (ix2 ⟨r, by omega⟩ j) = w (ix2 r j) := by pointwise []
theorem pad_hi (r : Fin 64) : pad S1536x1024 ![0, 0] ![64, 0] ![0, 0] w z pads_S1472x1024_S1536x1024_0640_000 h_S_
    (ix2 ⟨1472 + r, by omega⟩ j) = z (Shape.Idx.first h_S_) := by pointwise []
end Cat

theorem v10_a (r : Fin 1440) (j : Fin 1024) : val_main_v10 (F := Ideal) a (ix2 ⟨r, by omega⟩ j) = a (ix3 0 j ⟨r, by omega⟩) := by
  rw [val_main_v10_apply]
  refine (pad_lo _ _ j ⟨r, by omega⟩).trans ((cat_a _ _ _ j r).trans ?_)
  rw [val_main_v6_apply]
  exact v2_at a ⟨r, by omega⟩ j
theorem v10_b (r : Fin 16) (j : Fin 1024) : val_main_v10 (F := Ideal) a (ix2 ⟨1440 + r, by omega⟩ j)
    = Neg.neg (α := EReal) (a (ix3 0 j ⟨1424 + r, by omega⟩)) := by
  rw [val_main_v10_apply]
  refine (pad_lo _ _ j ⟨1440 + r, by omega⟩).trans ((cat_b _ _ _ j r).trans ?_)
  rw [val_main_v7_apply, val_main_v5_apply, val_main_v3_apply]
  refine congrArg (Neg.neg (α := EReal)) (Eq.trans (congrArg (val_main_v2 (F := Ideal) a) ?_) (v2_at a ⟨1424 + r, by omega⟩ j))
  funext b
  match b with
  | ⟨0, _⟩ => exact Fin.ext (by show 1408 + (16 + r.val) = 1424 + r.val; omega)
  | ⟨1, _⟩ => rfl
theorem v10_c (r : Fin 16) (j : Fin 1024) : val_main_v10 (F := Ideal) a (ix2 ⟨1456 + r, by omega⟩ j) = a (ix3 0 j ⟨1408 + r, by omega⟩) := by
  rw [val_main_v10_apply]
  refine (pad_lo _ _ j ⟨1456 + r, by omega⟩).trans ((cat_c _ _ _ j r).trans ?_)
  rw [val_main_v4_apply, val_main_v3_apply]
  exact v2_at a ⟨1408 + r, by omega⟩ j
theorem v10_d (r : Fin 64) (j : Fin 1024) : val_main_v10 (F := Ideal) a (ix2 ⟨1472 + r, by omega⟩ j) = (0 : EReal) := by
  rw [val_main_v10_apply]
  refine (pad_hi _ _ j r).trans ?_
  show (((0#32 : BitVec 32).toInt : ℝ) : EReal) = 0
  simp

end Cert.WeightsRefIdeal.Rows

end
-- ==== Proof.WeightsValue.lean ====
module

public import proofs.«01_k».proof.Proof.WeightsIdealRun
public import proofs.«01_k».proof.Proof.WeightsRefPure
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The three arrays of prepared weights are the reference's. -/
namespace Cert.WeightsIdeal.Rows
open Cert.WeightsIdeal Cert.WeightsIdeal.Gen Cert.WeightsIdeal.Hand

/-! ## The stores -/

theorem pay1_at (x : Vec Ideal S1x1440x1024 .f32) (r : Fin 1440) (j : Fin 1024) : k0_pay1 (F := Ideal) x (ix2 r j) = x (ix3 0 r j) := by
  pointwise [k0_pay1]
theorem pay2_at (x : Vec Ideal S1x16x1024 .f32) (r : Fin 16) (j : Fin 1024) : k0_pay2 (F := Ideal) x (ix2 r j) = Neg.neg (α := EReal) (x (ix3 0 r j)) := by
  have e : k0_pay2 (F := Ideal) x (ix2 r j) = Ideal.ofBits .f32 0x00000000#32 - shapeCast S16x1024 x shapeCasts_S1x16x1024_S16x1024 (ix2 r j) := rfl
  have e' : shapeCast S16x1024 x shapeCasts_S1x16x1024_S16x1024 (ix2 r j) = x (ix3 0 r j) := by pointwise []
  rw [e, e', Ideal.ofBits_zero_f32]
  exact zero_sub (x (ix3 0 r j) : EReal)
theorem pay3_at (x : Vec Ideal S1x16x1024 .f32) (r : Fin 16) (j : Fin 1024) : k0_pay3 (F := Ideal) x (ix2 r j) = x (ix3 0 r j) := by
  pointwise [k0_pay3]
theorem pay4_at (r : Fin 64) (j : Fin 1024) : k0_pay4 (F := Ideal) (ix2 r j) = (0 : EReal) := by
  have e : k0_pay4 (F := Ideal) (ix2 r j) = Ideal.ofBits .bf16 0x0000#16 := rfl
  rw [e]
  exact Ideal.ofBits_zero_bf16
theorem pay5_at (x : Vec Ideal S1x768x1024 .f32) (r : Fin 768) (j : Fin 1024) : k0_pay5 (F := Ideal) x (ix2 r j) = x (ix3 0 r j) := by
  pointwise [k0_pay5]
theorem pay6_at (x : Vec Ideal S1x512x1024 .f32) (r : Fin 512) (j : Fin 1024) : k0_pay6 (F := Ideal) x (ix2 r j) = x (ix3 0 r j) := by
  pointwise [k0_pay6]

section Loads
variable (x : Vec Ideal S1x6304x1024 .f32) (j : Fin 1024)
theorem ldA (r : Fin 1440) : View.ld x rA (ix3 0 r j) = x (ix3 0 ⟨r, by omega⟩ j) := by
  pointwise [rA]
  blk_ext []
theorem ldB (r : Fin 16) : View.ld x rB (ix3 0 r j) = x (ix3 0 ⟨1424 + r, by omega⟩ j) := by
  pointwise [rB]
  blk_ext []
theorem ldC (r : Fin 16) : View.ld x rC (ix3 0 r j) = x (ix3 0 ⟨1408 + r, by omega⟩ j) := by
  pointwise [rC]
  blk_ext []
theorem ldN (r : Fin 768) : View.ld x rN (ix3 0 r j) = x (ix3 0 ⟨1440 + r, by omega⟩ j) := by
  pointwise [rN]
  blk_ext []
theorem lt8 (t : Fin cfg0.N) : t.val < 8 := t.isLt.trans_eq N_0
theorem ldG (t : Fin cfg0.N) (r : Fin 512) : View.ld x (rG (grid0.coords t)) (ix3 0 r j)
    = x (ix3 0 ⟨2208 + (t.val * 512 + r), by have := lt8 t; omega⟩ j) := by
  have e1 : k0_off1 (grid0.coords t) = ![0, 2208 + 512 * t.val, 0] := by rw [off1_eq, coords0]
  show x (fun a => _) = x _
  refine congrArg x (funext fun a => Fin.ext ?_)
  refine (congrArg (· + 1 * ((ix3 (0 : Fin 1) r j) a).val) (congrFun e1 a)).trans ?_
  match a with
  | ⟨0, _⟩ => rfl
  | ⟨1, _⟩ => show 2208 + 512 * t.val + 1 * r.val = 2208 + (t.val * 512 + r.val); omega
  | ⟨2, _⟩ => show 0 + 1 * j.val = j.val; omega
end Loads

/-- A store of `n` rows from row `o` onward, read at one of them and at another row. -/
theorem put_in (x : Vec Ideal S1536x1024 .bf16) (o n : ℕ) (w : Vec Ideal ⟨2, ![n, 1024]⟩ .bf16) (r : Fin n) (j : Fin 1024) (h : o + r.val < 1536) :
    VecWindow.put x ![o, 0] ![n, 1024] w (ix2 ⟨o + r.val, h⟩ j) = w (ix2 r j) := by
  unfold VecWindow.put
  have hr := r.isLt
  have hj := j.isLt
  rw [dif_pos (fun a => match a with
    | ⟨0, _⟩ => by show o ≤ o + r.val ∧ o + r.val < o + n; omega
    | ⟨1, _⟩ => by show 0 ≤ j.val ∧ j.val < 0 + 1024; omega)]
  refine congrArg w (funext fun a => Fin.ext ?_)
  match a with
  | ⟨0, _⟩ => show o + r.val - o = r.val; omega
  | ⟨1, _⟩ => show j.val - 0 = j.val; omega
theorem put_out (x : Vec Ideal S1536x1024 .bf16) (o n : ℕ) (w : Vec Ideal ⟨2, ![n, 1024]⟩ .bf16) (r : Fin 1536) (j : Fin 1024) (h : r.val < o) :
    VecWindow.put x ![o, 0] ![n, 1024] w (ix2 r j) = x (ix2 r j) := by
  unfold VecWindow.put
  rw [dif_neg (fun hall => by
    have : o ≤ r.val := (hall (0 : Fin 2)).1
    omega)]

section Wa
variable (x : Vec Ideal S1x6304x1024 .f32) (j : Fin 1024)
theorem wa_a (r : Fin 1440) : waOf x (ix2 ⟨r, by omega⟩ j) = x (ix3 0 ⟨r, by omega⟩ j) := by
  unfold waOf putAll
  refine (put_out _ 1472 64 _ _ j (by show r.val < 1472; omega)).trans ((put_out _ 1456 16 _ _ j (by show r.val < 1456; omega)).trans
    ((put_out _ 1440 16 _ _ j (by show r.val < 1440; omega)).trans ?_))
  have e : (⟨r.val, by omega⟩ : Fin 1536) = ⟨0 + r.val, by omega⟩ := Fin.ext (Nat.zero_add _).symm
  rw [e]
  exact (put_in _ 0 1440 _ r j _).trans ((pay1_at _ r j).trans (ldA x j r))
theorem wa_b (r : Fin 16) : waOf x (ix2 ⟨1440 + r, by omega⟩ j) = Neg.neg (α := EReal) (x (ix3 0 ⟨1424 + r, by omega⟩ j)) := by
  unfold waOf putAll
  refine (put_out _ 1472 64 _ _ j (by show 1440 + r.val < 1472; omega)).trans ((put_out _ 1456 16 _ _ j (by show 1440 + r.val < 1456; omega)).trans
    ((put_in _ 1440 16 _ r j _).trans ((pay2_at _ r j).trans ?_)))
  exact congrArg (Neg.neg (α := EReal)) (ldB x j r)
theorem wa_c (r : Fin 16) : waOf x (ix2 ⟨1456 + r, by omega⟩ j) = x (ix3 0 ⟨1408 + r, by omega⟩ j) := by
  unfold waOf putAll
  exact (put_out _ 1472 64 _ _ j (by show 1456 + r.val < 1472; omega)).trans ((put_in _ 1456 16 _ r j _).trans ((pay3_at _ r j).trans (ldC x j r)))
theorem wa_d (r : Fin 64) : waOf x (ix2 ⟨1472 + r, by omega⟩ j) = (0 : EReal) := by
  unfold waOf putAll
  exact (put_in _ 1472 64 _ r j _).trans (pay4_at r j)
end Wa

/-! ## The windows -/

theorem idx : ∀ t : Fin cfg0.N, win0_0.index t = ![0, 0, 0] ∧ win0_1.index t = ![0, 0] ∧ win0_2.index t = ![0, 0] ∧ win0_3.index t = ![t.val, 0]
    ∧ t.val < 8 :=
  (by decide +kernel : ∀ t : Fin grid0.N, _)

variable (m : (ℓ : Loc nD τ sig) → Buf (Elt Ideal) ℓ) (c : Dev nD) (t : Fin cfg0.N)

theorem V_v0 : V m c main_v0 = transpose S2x6304x1024 [0, 2, 1] (m ((c : Thread nD τ).loc main_arg0)) transposes_S2x1024x6304_S2x6304x1024_0_2_1 := by
  simp only [V, hostOps0, List.flatten_cons, List.flatten_nil, List.append_nil, List.cons_append, List.nil_append]
  after_results

theorem swapped_at (x : FVec Ideal S2x1024x6304 .f32) (b : Fin 2) (r : Fin 6304) (j : Fin 1024) :
    transpose S2x6304x1024 [0, 2, 1] x transposes_S2x1024x6304_S2x6304x1024_0_2_1 (ix3 b r j) = x (ix3 b j r) := by pointwise []

/-- The whole block of weights, at every point. -/
theorem at0 (r : Fin 6304) (j : Fin 1024) : iblk m c 0 t (ix3 0 r j) = m ((c : Thread nD τ).loc main_arg0) (ix3 0 j r) := by
  have e : iblk m c 0 t (ix3 0 r j) = V m c main_v0 (ix3 0 r j) := congrArg (V m c main_v0) (by blk_ext [idx t])
  rw [e, V_v0]
  exact swapped_at _ _ _ _

/-- The reference's results at the array of core `c`. -/
abbrev REF10 : FVec Ideal S1536x1024 .bf16 := Cert.WeightsRefIdeal.Read.val_main_v10 (F := Ideal) (m ((c : Thread nD τ).loc main_arg0))
abbrev REF12 : FVec Ideal S768x1024 .bf16 := Cert.WeightsRefIdeal.Read.val_main_v12 (F := Ideal) (m ((c : Thread nD τ).loc main_arg0))
abbrev REF14 : FVec Ideal S4096x1024 .bf16 := Cert.WeightsRefIdeal.Read.val_main_v14 (F := Ideal) (m ((c : Thread nD τ).loc main_arg0))

theorem out1_at (r : Fin 1536) (j : Fin 1024) : out1 m c (ix2 r j) = REF10 m c (ix2 r j) := by
  unfold out1 REF10
  obtain ⟨r, hr⟩ := r
  by_cases ha : r < 1440
  · exact (wa_a _ j ⟨r, ha⟩).trans ((at0 m c _ _ _).trans (Cert.WeightsRefIdeal.Rows.v10_a _ ⟨r, ha⟩ j).symm)
  by_cases hb : r < 1456
  · obtain ⟨s, rfl⟩ := Nat.exists_eq_add_of_le (Nat.le_of_not_lt ha)
    exact (wa_b _ j ⟨s, by omega⟩).trans ((congrArg (Neg.neg (α := EReal)) (at0 m c _ _ _)).trans (Cert.WeightsRefIdeal.Rows.v10_b _ ⟨s, by omega⟩ j).symm)
  by_cases hc : r < 1472
  · obtain ⟨s, rfl⟩ := Nat.exists_eq_add_of_le (Nat.le_of_not_lt hb)
    exact (wa_c _ j ⟨s, by omega⟩).trans ((at0 m c _ _ _).trans (Cert.WeightsRefIdeal.Rows.v10_c _ ⟨s, by omega⟩ j).symm)
  · obtain ⟨s, rfl⟩ := Nat.exists_eq_add_of_le (Nat.le_of_not_lt hc)
    exact (wa_d _ j ⟨s, by omega⟩).trans (Cert.WeightsRefIdeal.Rows.v10_d _ ⟨s, by omega⟩ j).symm
theorem out2_at (r : Fin 768) (j : Fin 1024) : out2 m c (ix2 r j) = REF12 m c (ix2 r j) := by
  unfold out2 REF12
  exact (pay5_at _ r j).trans ((ldN _ j r).trans ((at0 m c _ _ _).trans (Cert.WeightsRefIdeal.Rows.v12_at _ r j).symm))
theorem out3_at (r : Fin 512) (j : Fin 1024) : out3 m c t (ix2 r j) = REF14 m c (ix2 ⟨t.val * 512 + r, by have := lt8 t; omega⟩ j) := by
  unfold out3 REF14
  exact (pay6_at _ r j).trans ((ldG _ j t r).trans ((at0 m c _ _ _).trans (Cert.WeightsRefIdeal.Rows.v14_at _ ⟨t.val * 512 + r, by have := lt8 t; omega⟩ j).symm))

/-- The result arrays at the end of the launch. -/
theorem final1 : (dats m 0 c).arrAt 1 (cfgs 0).N = REF10 m c := by
  refine (dats m 0 c).arrAt_eq_of_covers 1 _ (by decide +kernel) fun t _ y => ?_
  blk_simp
  rw [after0_1]
  idx_vars y
  refine (out1_at m c y0 y1).trans (congrArg (REF10 m c) ?_)
  blk_ext [idx t]
theorem final2 : (dats m 0 c).arrAt 2 (cfgs 0).N = REF12 m c := by
  refine (dats m 0 c).arrAt_eq_of_covers 2 _ (by decide +kernel) fun t _ y => ?_
  blk_simp
  rw [after0_2]
  idx_vars y
  refine (out2_at m c y0 y1).trans (congrArg (REF12 m c) ?_)
  blk_ext [idx t]
theorem final3 : (dats m 0 c).arrAt 3 (cfgs 0).N = REF14 m c := by
  refine (dats m 0 c).arrAt_eq_of_covers 3 _ (by decide +kernel) fun t _ y => ?_
  blk_simp
  rw [after0_3]
  idx_vars y
  refine (out3_at m c t y0 y1).trans (congrArg (REF14 m c) ?_)
  blk_ext [idx t]

end Cert.WeightsIdeal.Rows

end
-- ==== Proof.WeightsClaims.lean ====
module

public import proofs.«01_k».proof.Defs
public import proofs.«01_k».proof.Proof.WeightsRun
public import proofs.«01_k».proof.Proof.WeightsValue
public import proofs.«01_k».proof.Proof.Gen.WeightsRefIdeal.Run
public import proofs.«01_k».proof.Proof.Gen.WeightsRefIdeal.Read
public import Idealize.ShloMosaic.Adequacy
public import Idealize.ShloMosaic.Init
public import Idealize.ShloMosaic.Lib.Quiescent

@[expose] public section

noncomputable section
open Idealize.ShloMosaic Idealize.SL.Sem

/-! The claims about the preparation of the weights. -/
namespace Cert.Proof.Weights

theorem ref_frame : Cert.quiescent_WeightsRefIdeal := by
  intro m g _
  exact (θ_run Cert.WeightsRefIdeal.defs _ _).mono (fun r h => ⟨fun c => (h c).2.2.2, sem_eq_zero_of_no_sems (by decide) r.2⟩)
    (Cert.WeightsRefIdeal.Value.run (F := Ideal) m g)

set_option maxHeartbeats 1000000 in
theorem algebraic : Cert.algebraic_WeightsIdeal_WeightsRefIdeal := by
  intro m g m' g' hpre hagree
  refine ⟨fun c => Cert.WeightsIdeal.Rows.REF10 m c, fun c => Cert.WeightsIdeal.Rows.REF12 m c, fun c => Cert.WeightsIdeal.Rows.REF14 m c, ?_, ?_⟩
  · have hrun := Cert.WeightsIdeal.Hand.run_main (F := Ideal) m g
    refine (θ_run Cert.WeightsIdeal.defs _ _).mono (fun r h c => ⟨?_, ?_, ?_, h.2 c⟩)
      (θ_run_and hrun (Cert.WeightsIdeal.Gen.frame_of m g (Cert.WeightsIdeal.Hand.dats m) (Cert.WeightsIdeal.Hand.A_eq m) hrun))
    · exact ((h.1 c).1 1).trans (Cert.WeightsIdeal.Rows.final1 m c)
    · exact ((h.1 c).1 2).trans (Cert.WeightsIdeal.Rows.final2 m c)
    · exact ((h.1 c).1 3).trans (Cert.WeightsIdeal.Rows.final3 m c)
  · refine (θ_run Cert.WeightsRefIdeal.defs _ _).mono (fun r h c => ?_) (Cert.WeightsRefIdeal.Value.run (F := Ideal) m' g')
    have e0 := hagree c
    refine ⟨(h c).1.trans (Eq.trans (Cert.WeightsRefIdeal.Read.val_main_v10_eq _) ?_),
      (h c).2.1.trans (Eq.trans (Cert.WeightsRefIdeal.Read.val_main_v12_eq _) ?_),
      (h c).2.2.1.trans (Eq.trans (Cert.WeightsRefIdeal.Read.val_main_v14_eq _) ?_), (h c).2.2.2⟩
    · rw [e0]
    · rw [e0]
    · rw [e0]

end Cert.Proof.Weights

end
-- ==== Proof.FiniteFnet.lean ====
module

public import proofs.«01_k».proof.Defs
public import proofs.«01_k».proof.Proof.Finite
public import proofs.«01_k».proof.Proof.Gen.Pre_finite_fnet

@[expose] public section

noncomputable section
open Idealize.ShloMosaic

/-! The FNet branch's precondition read back. -/
namespace Cert.K
section Fnet
open Cert.Pre_finite_fnet

/-- The four flags of the precondition, each at its place. -/
theorem fnet_part (a2 a3 : FVec Ideal S256x256 .bf16) (p0 p1 : IVec S_ 1) (p2 : IVec S256x256 1) :
    fn_part1 (F := Ideal) a2 a3 p0 p1 p2 (ix1 0) = broadcastInDim S1 ![] Facts.bcast_S_S1 p0 (ix1 0)
    ∧ fn_part1 (F := Ideal) a2 a3 p0 p1 p2 (ix1 1) = broadcastInDim S1 ![] Facts.bcast_S_S1 p1 (ix1 0) := by
  refine ⟨?_, ?_⟩ <;> pointwise [fn_part1]

/-- Whether all of a channel table's entries are finite, of the two tests of each. -/
abbrev FALL (p : IVec S256x256 1) (a : FVec Ideal S256x256 .bf16) : IVec S_ 1 :=
  Host.reduce IntOp.andi (andi p (cmpf .ogt (extf (F := Ideal) .f32 a Facts.bitsLt_bf16_f32) (broadcastInDim S256x256 ![] Facts.bcast_S_S256x256 (constant S_ .f32 0xFF800000#32))))
    (constantI S_ 1 1#1) Facts.reducesTo_S256x256_S_d0_1 Facts.h_S_

theorem fnet_cos (a2 a3 : FVec Ideal S256x256 .bf16) (p0 p1 : IVec S_ 1) (p2 : IVec S256x256 1) :
    fn_part1 (F := Ideal) a2 a3 p0 p1 p2 (ix1 2) = broadcastInDim S1 ![] Facts.bcast_S_S1 (FALL p2 a2) (ix1 0) := by
  pointwise [fn_part1]
theorem fnet_sin (a2 a3 : FVec Ideal S256x256 .bf16) (p0 p1 : IVec S_ 1) (p2 : IVec S256x256 1) :
    fn_part1 (F := Ideal) a2 a3 p0 p1 p2 (ix1 3) = broadcastInDim S1 ![] Facts.bcast_S_S1
      (FALL (cmpf .olt (extf (F := Ideal) .f32 a3 Facts.bitsLt_bf16_f32) (broadcastInDim S256x256 ![] Facts.bcast_S_S256x256 (constant S_ .f32 0x7F800000#32))) a3) (ix1 0) := by
  pointwise [fn_part1]

theorem finite_fnet (a0 : FVec Ideal S16384x256 .f32) (a1 : FVec Ideal S1024x4096 .bf16) (a2 a3 : FVec Ideal S256x256 .bf16)
    (h : fn (F := Ideal) a0 a1 a2 a3 = fun _ => 1#1) :
    (∀ i, IsNum (a0 i)) ∧ (∀ i, IsNum (a1 i)) ∧ (∀ i, IsNum (a2 i)) ∧ (∀ i, IsNum (a3 i)) := by
  refine ⟨?_, ?_, ?_, ?_⟩
  · have h0 := congrFun h (ix1 0)
    unfold fn at h0
    dsimp only at h0
    rw [(fnet_part _ _ _ _ _).1, broadcastInDim] at h0
    exact finite_of_all a0 _ _ (fun _ => rfl) (fun _ => rfl) _ _ _ _ h0
  · have h0 := congrFun h (ix1 1)
    unfold fn at h0
    dsimp only at h0
    rw [(fnet_part _ _ _ _ _).2, broadcastInDim] at h0
    exact finite_of_all (extf .f32 a1 _) _ _ (fun _ => rfl) (fun _ => rfl) _ _ _ _ h0
  · have h0 := congrFun h (ix1 2)
    unfold fn at h0
    dsimp only at h0
    rw [fnet_cos, broadcastInDim] at h0
    exact finite_of_all (extf .f32 a2 _) _ _ (fun _ => rfl) (fun _ => rfl) _ _ _ _ h0
  · have h0 := congrFun h (ix1 3)
    unfold fn at h0
    dsimp only at h0
    rw [fnet_sin, broadcastInDim] at h0
    exact finite_of_all (extf .f32 a3 _) _ _ (fun _ => rfl) (fun _ => rfl) _ _ _ _ h0
end Fnet
end Cert.K
-- ==== Proof.FnetSpec.lean ====
module

public import proofs.«01_k».proof.Proof.Ereal

@[expose] public section

noncomputable section
open Idealize.ShloMosaic

/-! The FNet branch at one entry: two sums over the positions, split by halves and by parity. -/
namespace Cert.K.Fnet

/-- A token's channels against one column of a table. -/
def chan (x g : Fin 256 → EReal) : EReal := ∑ k, x k * g k

/-- The positions of one parity: cosines against the first array, sines against the second, negated. -/
def part (T : Fin 2048 → EReal) (c s : Fin 1024 → EReal) : EReal :=
  ∑ k : Fin 2048, T k * (if h : k.val < 1024 then c ⟨k, h⟩ else 0 - s ⟨k.val - 1024, by omega⟩)

/-- All positions: cosines against the first array less sines against the second. -/
def full (c s C S : Fin 2048 → EReal) : EReal := (∑ t, c t * C t) - ∑ t, s t * S t

section
variable {M : Type} [AddCommMonoid M]

theorem sum_halves (g : Fin 2048 → M) : ∑ k, g k = (∑ j : Fin 1024, g ⟨j, by omega⟩) + ∑ j : Fin 1024, g ⟨1024 + j, by omega⟩ := by
  exact Fin.sum_univ_add (a := 1024) (b := 1024) g

theorem sum_parity (g : Fin 2048 → M) : ∑ k, g k = (∑ j : Fin 1024, g ⟨2 * j, by omega⟩) + ∑ j : Fin 1024, g ⟨2 * j + 1, by omega⟩ := by
  rw [← Finset.sum_add_distrib, ← Equiv.sum_comp (finProdFinEquiv (m := 1024) (n := 2)) g, Fintype.sum_prod_type]
  refine Finset.sum_congr rfl fun j _ => ?_
  rw [Fin.sum_univ_two]
  refine congrArg₂ (· + ·) (congrArg g (Fin.ext ?_)) (congrArg g (Fin.ext ?_))
  · show 0 + 2 * j.val = 2 * j.val
    omega
  · show 1 + 2 * j.val = 2 * j.val + 1
    omega
end

theorem chan_num {x g : Fin 256 → EReal} (hx : ∀ k, IsNum (x k)) (hg : ∀ k, IsNum (g k)) : IsNum (chan x g) :=
  IsNum.sum _ _ fun k => (hx k).mul (hg k)

/-- One parity's positions are two sums over the halves, when all are numbers. -/
theorem part_eq (T : Fin 2048 → ℝ) (c s : Fin 1024 → ℝ) : part (fun k => (T k : EReal)) (fun j => (c j : EReal)) (fun j => (s j : EReal))
    = (((∑ j : Fin 1024, c j * T ⟨j, by omega⟩) - ∑ j : Fin 1024, s j * T ⟨1024 + j, by omega⟩ : ℝ) : EReal) := by
  have h1 : ∀ j : Fin 1024, (T ⟨j, by omega⟩ : EReal) * (if h : j.val < 1024 then (c ⟨j, h⟩ : EReal) else 0 - (s ⟨j.val - 1024, by omega⟩ : EReal))
      = ((c j * T ⟨j, by omega⟩ : ℝ) : EReal) := fun j => by
    rw [dif_pos j.isLt, mul_comm, EReal.coe_mul]
  have h2 : ∀ j : Fin 1024, (T ⟨1024 + j, by omega⟩ : EReal) * (if h : 1024 + j.val < 1024 then (c ⟨1024 + j.val, h⟩ : EReal) else 0 - (s ⟨1024 + j.val - 1024, by omega⟩ : EReal))
      = ((-(s j * T ⟨1024 + j, by omega⟩) : ℝ) : EReal) := fun j => by
    have e : (⟨1024 + j.val - 1024, by omega⟩ : Fin 1024) = j := Fin.ext (by show 1024 + j.val - 1024 = j.val; omega)
    rw [dif_neg (by omega), e, zero_sub, ← EReal.coe_neg, ← EReal.coe_mul]
    exact congrArg _ (by ring)
  unfold part
  rw [sum_halves]
  refine (congrArg₂ (· + ·) (Finset.sum_congr rfl fun j _ => h1 j) (Finset.sum_congr rfl fun j _ => h2 j)).trans ?_
  rw [← coe_sum, ← coe_sum, ← EReal.coe_add, Finset.sum_neg_distrib, sub_eq_add_neg]

section
variable (T0 T1 : Fin 2048 → EReal) (c s C S : Fin 2048 → EReal) (h0 : ∀ k, IsNum (T0 k)) (h1 : ∀ k, IsNum (T1 k))
  (hc : ∀ t, IsNum (c t)) (hs : ∀ t, IsNum (s t))
  (C0 : ∀ j : Fin 1024, C ⟨2 * j, by omega⟩ = T0 ⟨j, by omega⟩) (S0 : ∀ j : Fin 1024, S ⟨2 * j, by omega⟩ = T0 ⟨1024 + j, by omega⟩)
include h0 h1 hc hs C0 S0

/-- The lower half of the frequencies: the even positions' part plus the odd ones'. -/
theorem low_eq (C1 : ∀ j : Fin 1024, C ⟨2 * j + 1, by omega⟩ = T1 ⟨j, by omega⟩) (S1 : ∀ j : Fin 1024, S ⟨2 * j + 1, by omega⟩ = T1 ⟨1024 + j, by omega⟩) :
    part T0 (fun j => c ⟨2 * j, by omega⟩) (fun j => s ⟨2 * j, by omega⟩) + part T1 (fun j => c ⟨2 * j + 1, by omega⟩) (fun j => s ⟨2 * j + 1, by omega⟩)
      = full c s C S := by
  choose t0 e0 using h0
  choose t1 e1 using h1
  choose cc ec using hc
  choose ss es using hs
  obtain rfl : T0 = fun k => (t0 k : EReal) := funext e0
  obtain rfl : T1 = fun k => (t1 k : EReal) := funext e1
  obtain rfl : c = fun k => (cc k : EReal) := funext ec
  obtain rfl : s = fun k => (ss k : EReal) := funext es
  rw [part_eq, part_eq]
  unfold full
  rw [sum_parity, sum_parity]
  simp only [C0, S0, C1, S1, ← EReal.coe_mul, ← coe_sum, ← EReal.coe_add, ← EReal.coe_sub]
  exact congrArg _ (by ring)

/-- The upper half: the even positions' part less the odd ones'. -/
theorem high_eq (C1 : ∀ j : Fin 1024, C ⟨2 * j + 1, by omega⟩ = -T1 ⟨j, by omega⟩) (S1 : ∀ j : Fin 1024, S ⟨2 * j + 1, by omega⟩ = -T1 ⟨1024 + j, by omega⟩) :
    part T0 (fun j => c ⟨2 * j, by omega⟩) (fun j => s ⟨2 * j, by omega⟩) - part T1 (fun j => c ⟨2 * j + 1, by omega⟩) (fun j => s ⟨2 * j + 1, by omega⟩)
      = full c s C S := by
  choose t0 e0 using h0
  choose t1 e1 using h1
  choose cc ec using hc
  choose ss es using hs
  obtain rfl : T0 = fun k => (t0 k : EReal) := funext e0
  obtain rfl : T1 = fun k => (t1 k : EReal) := funext e1
  obtain rfl : c = fun k => (cc k : EReal) := funext ec
  obtain rfl : s = fun k => (ss k : EReal) := funext es
  rw [part_eq, part_eq]
  unfold full
  rw [sum_parity, sum_parity]
  simp only [C0, S0, C1, S1, ← EReal.coe_neg, ← EReal.coe_mul, ← coe_sum, ← EReal.coe_add, ← EReal.coe_sub]
  refine congrArg _ ?_
  simp only [mul_neg, Finset.sum_neg_distrib]
  ring
end

end Cert.K.Fnet
-- ==== Proof.FnetPure.lean ====
module

public import proofs.«01_k».proof.Proof.Gen.FnetIdeal.Skeleton
public import proofs.«01_k».proof.Proof.FnetSpec
public import Idealize.ShloMosaic.Lib.Pointwise

@[expose] public section

set_option maxRecDepth 16384

noncomputable section
open Idealize.ShloMosaic Idealize.ShloMosaic.TcCoe Idealize.SL.Sem

/-! The FNet kernel's arithmetic, read at an index. -/
namespace Cert.FnetIdeal.Wave
open Cert.FnetIdeal Cert.FnetIdeal.Gen Cert.K

/-- A token's channels from the two halves of the columns. -/
abbrev cols (v0 v1 : Vec Ideal S1024x128 .f32) (j : Fin 1024) (k : Fin 256) : EReal :=
  if h : k.val < 128 then v0 (ix2 j ⟨k, h⟩) else v1 (ix2 j ⟨k.val - 128, by omega⟩)

theorem cols_at (v0 v1 : Vec Ideal S1024x128 .f32) (j : Fin 1024) (k : Fin 256) :
    concatenate S1024x256 1 [⟨S1024x128, v0⟩, ⟨S1024x128, v1⟩] concatenates_S1024x128_S1024x128_S1024x256_d1 (ix2 j k) = cols v0 v1 j k := by
  pointwise []

theorem rows_at (p q : Vec Ideal S1024x256 .bf16) (k : Fin 2048) (c : Fin 256) :
    concatenate S2048x256 0 [⟨S1024x256, p⟩, ⟨S1024x256, q⟩] concatenates_S1024x256_S1024x256_S2048x256_d0 (ix2 k c)
      = if h : k.val < 1024 then p (ix2 ⟨k, h⟩ c) else q (ix2 ⟨k.val - 1024, by omega⟩ c) := by
  pointwise []

theorem mm_at (x : FVec Ideal S1024x256 .bf16) (g : FVec Ideal S256x256 .bf16) (j : Fin 1024) (c : Fin 256) :
    matmul dot_S1024x256_S256x256_S1024x256_1_0_0_1_n_n none x g (constant (F := Ideal) S1024x256 .f32 0x00000000#32) (ix2 j c)
      = Fnet.chan (fun k => x (ix2 j k)) (fun k => g (ix2 k c)) := by
  pointwise []
  rfl

theorem mmT_at (T : FVec Ideal S1024x2048 .bf16) (x : FVec Ideal S2048x256 .bf16) (f : Fin 1024) (c : Fin 256) :
    matmul dot_S1024x2048_S2048x256_S1024x256_1_0_0_1_n_n none T x (constant (F := Ideal) S1024x256 .f32 0x00000000#32) (ix2 f c)
      = ∑ k : Fin 2048, (T (ix2 f k) * x (ix2 k c) : EReal) := by
  pointwise []

/-- One parity's sums of the kernel. -/
theorem pay3_at (v0 v1 : Vec Ideal S1024x128 .f32) (g h : Vec Ideal S256x256 .bf16) (T : Vec Ideal S1024x2048 .bf16) (f : Fin 1024) (c : Fin 256) :
    k0_pay3 (F := Ideal) v0 v1 g h T (ix2 f c) = Fnet.part (fun k => T (ix2 f k)) (fun j => Fnet.chan (cols v0 v1 j) (fun k => g (ix2 k c)))
      (fun j => Fnet.chan (cols v0 v1 j) (fun k => h (ix2 k c))) := by
  refine (mmT_at T _ f c).trans (Finset.sum_congr rfl fun k _ => congrArg (fun x : EReal => T (ix2 f k) * x) ?_)
  refine (rows_at _ _ k c).trans ?_
  have hx : ∀ (G : Vec Ideal S256x256 .bf16) (j : Fin 1024), matmul dot_S1024x256_S256x256_S1024x256_1_0_0_1_n_n none
      (truncf (F := Ideal) .bf16 (concatenate S1024x256 1 [⟨S1024x128, v0⟩, ⟨S1024x128, v1⟩] concatenates_S1024x128_S1024x128_S1024x256_d1) bitsLt_bf16_f32) G
      (constant (F := Ideal) S1024x256 .f32 0x00000000#32) (ix2 j c) = Fnet.chan (cols v0 v1 j) (fun k => G (ix2 k c)) := fun G j =>
    (mm_at _ G j c).trans (congrArg (fun x => Fnet.chan x _) (funext fun k => cols_at v0 v1 j k))
  by_cases hk : k.val < 1024
  · rw [dif_pos hk, dif_pos hk]
    exact hx g ⟨k, hk⟩
  · rw [dif_neg hk, dif_neg hk]
    exact congrArg₂ (fun x y : EReal => x - y) Ideal.ofBits_zero_bf16 (hx h ⟨k.val - 1024, by omega⟩)

theorem pay4_eq (v0 v1 : Vec Ideal S1024x128 .f32) (g h : Vec Ideal S256x256 .bf16) (T : Vec Ideal S1024x2048 .bf16) :
    k0_pay4 (F := Ideal) v0 v1 g h T = k0_pay3 v0 v1 g h T := rfl

theorem pay1_at (x : FVec Ideal S1024x256 .f32) (i : S1024x256.Idx) : k0_pay1 (F := Ideal) x i = (x i * Ideal.ofBits .f32 0x3B3504F3#32 : EReal) := rfl
theorem pay2_at (x y : FVec Ideal S1024x256 .f32) (i : S1024x256.Idx) : k0_pay2 (F := Ideal) x y i = ((x i - y i) * Ideal.ofBits .f32 0x3B3504F3#32 : EReal) := rfl

end Cert.FnetIdeal.Wave
-- ==== Proof.FnetRefPure.lean ====
module

public import proofs.«01_k».proof.Proof.Gen.FnetRefIdeal.Read
public import proofs.«01_k».proof.Proof.FnetSpec
public import Idealize.ShloMosaic.Lib.Pointwise

@[expose] public section

set_option maxRecDepth 16384

noncomputable section
open Idealize.ShloMosaic Idealize.ShloMosaic.TcCoe Idealize.SL.Sem

/-! The FNet branch's reference, read at an index. -/
namespace Cert.FnetRefIdeal.Wave
open Cert.FnetRefIdeal Cert.FnetRefIdeal.Gen Cert.FnetRefIdeal.Read Cert.K

variable (a0 : FVec Ideal S16384x256 .f32) (a1 : FVec Ideal S1024x4096 .bf16) (a2 a3 : FVec Ideal S256x256 .bf16)

theorem v2_at (f j : Fin 1024) (r s : Fin 2) : val_main_v2 (F := Ideal) a1 (ix4 f r s j) = a1 (ix2 f ⟨r * 2048 + s * 1024 + j, by omega⟩) := by
  rw [val_main_v2_apply, val_main_v1_apply]
  have e : idx_main_v2 (ix4 f r s j) = ix2 f ⟨r * 2048 + s * 1024 + j, by omega⟩ := by idx_ext
  rw [e]; rfl

theorem v8_at (f j : Fin 1024) (s : Fin 2) : val_main_v8 (F := Ideal) a1 (ix4 f 0 s j) = val_main_v2 (F := Ideal) a1 (ix4 f 0 s j) := by
  rw [val_main_v8_apply, val_main_v4_apply, val_main_v3_apply]
  exact congrArg (val_main_v2 (F := Ideal) a1) (by idx_ext)

theorem v9_at (f j : Fin 1024) (s : Fin 2) : val_main_v9 (F := Ideal) a1 (ix4 f 0 s j) = Neg.neg (α := EReal) (val_main_v2 (F := Ideal) a1 (ix4 f 1 s j)) := by
  rw [val_main_v9_apply, val_main_v7_apply, val_main_v6_apply, val_main_v5_apply]
  exact congrArg (fun i => Neg.neg (α := EReal) (val_main_v2 (F := Ideal) a1 i)) (by idx_ext)

section Cat
variable (p q : FVec Ideal S1024x1x2x1024 .f32) (u v : FVec Ideal S1024x2x2x1024 .f32)
theorem even_at (f j : Fin 1024) (s : Fin 2) : concatenate S1024x2x2x1024 1 [⟨S1024x1x2x1024, p⟩, ⟨S1024x1x2x1024, q⟩] concatenates_S1024x1x2x1024_S1024x1x2x1024_S1024x2x2x1024_d1
    (ix4 f 0 s j) = p (ix4 f 0 s j) := by pointwise []
theorem odd_at (f j : Fin 1024) (s : Fin 2) : concatenate S1024x2x2x1024 1 [⟨S1024x1x2x1024, p⟩, ⟨S1024x1x2x1024, q⟩] concatenates_S1024x1x2x1024_S1024x1x2x1024_S1024x2x2x1024_d1
    (ix4 f 1 s j) = q (ix4 f 0 s j) := by pointwise []
theorem low_at (f j : Fin 1024) (r s : Fin 2) : concatenate S2048x2x2x1024 0 [⟨S1024x2x2x1024, u⟩, ⟨S1024x2x2x1024, v⟩] concatenates_S1024x2x2x1024_S1024x2x2x1024_S2048x2x2x1024_d0
    (ix4 ⟨f, by omega⟩ r s j) = u (ix4 f r s j) := by pointwise []
theorem high_at (f j : Fin 1024) (r s : Fin 2) : concatenate S2048x2x2x1024 0 [⟨S1024x2x2x1024, u⟩, ⟨S1024x2x2x1024, v⟩] concatenates_S1024x2x2x1024_S1024x2x2x1024_S2048x2x2x1024_d0
    (ix4 ⟨1024 + f, by omega⟩ r s j) = v (ix4 f r s j) := by pointwise []
end Cat

theorem v13_at (s : Fin 2) (f : Fin 2048) (j : Fin 1024) (r : Fin 2) : val_main_v13 (F := Ideal) a1 (ix3 s f ⟨2 * j + r, by omega⟩)
    = val_main_v11 (F := Ideal) a1 (ix4 f r s j) := by
  rw [val_main_v13_apply, val_main_v12_apply]
  exact congrArg (val_main_v11 (F := Ideal) a1) (by idx_ext)

theorem v11_low (f j : Fin 1024) (r s : Fin 2) : val_main_v11 (F := Ideal) a1 (ix4 ⟨f, by omega⟩ r s j) = a1 (ix2 f ⟨r * 2048 + s * 1024 + j, by omega⟩) :=
  (low_at _ _ f j r s).trans (v2_at a1 f j r s)
theorem v11_even (f j : Fin 1024) (s : Fin 2) : val_main_v11 (F := Ideal) a1 (ix4 ⟨1024 + f, by omega⟩ 0 s j) = a1 (ix2 f ⟨(0 : Fin 2) * 2048 + s * 1024 + j, by omega⟩) :=
  (high_at _ _ f j 0 s).trans ((even_at _ _ f j s).trans ((v8_at a1 f j s).trans (v2_at a1 f j 0 s)))
theorem v11_odd (f j : Fin 1024) (s : Fin 2) : val_main_v11 (F := Ideal) a1 (ix4 ⟨1024 + f, by omega⟩ 1 s j)
    = Neg.neg (α := EReal) (a1 (ix2 f ⟨(1 : Fin 2) * 2048 + s * 1024 + j, by omega⟩)) :=
  (high_at _ _ f j 1 s).trans ((odd_at _ _ f j s).trans ((v9_at a1 f j s).trans (congrArg (fun x => Neg.neg (α := EReal) x) (v2_at a1 f j 1 s))))

theorem v15_at (f t : Fin 2048) : val_main_v15 (F := Ideal) a1 (ix2 f t) = val_main_v13 (F := Ideal) a1 (ix3 0 f t) := by
  rw [val_main_v15_apply, val_main_v14_apply]
  exact congrArg (val_main_v13 (F := Ideal) a1) (by idx_ext)
theorem v21_at (f t : Fin 2048) : val_main_v21 (F := Ideal) a1 (ix2 f t) = val_main_v13 (F := Ideal) a1 (ix3 1 f t) := by
  rw [val_main_v21_apply, val_main_v20_apply]
  exact congrArg (val_main_v13 (F := Ideal) a1) (by idx_ext)

/-- The token at a batch's position. -/
abbrev tok (b : Fin 8) (t : Fin 2048) : Fin 16384 := ⟨b * 2048 + t, by omega⟩

theorem v17_at (b : Fin 8) (t : Fin 2048) (c : Fin 256) : val_main_v17 (F := Ideal) a0 a2 (ix3 b t c)
    = Fnet.chan (fun k => a0 (ix2 (tok b t) k)) (fun k => a2 (ix2 k c)) := by
  rw [val_main_v17_apply]
  refine Finset.sum_congr rfl fun k _ => ?_
  rw [val_main_v0_apply, val_main_v16_apply]
  have e1 : idx_main_v0 (lidx_main_v17 (ix3 b t c) k) = ix2 (tok b t) k := by idx_ext
  have e2 : ridx_main_v17 (ix3 b t c) k = ix2 k c := by idx_ext
  rw [e1, e2]; rfl
theorem v23_at (b : Fin 8) (t : Fin 2048) (c : Fin 256) : val_main_v23 (F := Ideal) a0 a3 (ix3 b t c)
    = Fnet.chan (fun k => a0 (ix2 (tok b t) k)) (fun k => a3 (ix2 k c)) := by
  rw [val_main_v23_apply]
  refine Finset.sum_congr rfl fun k _ => ?_
  rw [val_main_v0_apply, val_main_v22_apply]
  have e1 : idx_main_v0 (lidx_main_v23 (ix3 b t c) k) = ix2 (tok b t) k := by idx_ext
  have e2 : ridx_main_v23 (ix3 b t c) k = ix2 k c := by idx_ext
  rw [e1, e2]; rfl

/-- The result, at a batch, a frequency and a channel. -/
theorem v30_at (b : Fin 8) (f : Fin 2048) (c : Fin 256) : val_main_v30 (F := Ideal) a0 a1 a2 a3 (ix2 (tok b f) c)
    = Fnet.full (fun t => Fnet.chan (fun k => a0 (ix2 (tok b t) k)) (fun k => a2 (ix2 k c)))
        (fun t => Fnet.chan (fun k => a0 (ix2 (tok b t) k)) (fun k => a3 (ix2 k c)))
        (fun t => val_main_v13 (F := Ideal) a1 (ix3 0 f t)) (fun t => val_main_v13 (F := Ideal) a1 (ix3 1 f t))
      * Ideal.ofBits .f32 0x3B3504F3#32 := by
  have e : idx_main_v29 (ix2 (tok b f) c) = ix3 b f c := by idx_ext
  have e1 : idx_main_v19 (ix3 b f c) = ix3 b c f := by idx_ext
  have e2 : idx_main_v25 (ix3 b f c) = ix3 b c f := by idx_ext
  have h1 : val_main_v19 (F := Ideal) a0 a1 a2 (ix3 b f c) = ∑ t : Fin 2048, Fnet.chan (fun k => a0 (ix2 (tok b t) k)) (fun k => a2 (ix2 k c))
      * val_main_v13 (F := Ideal) a1 (ix3 0 f t) := by
    rw [val_main_v19_apply, e1, val_main_v18_apply]
    refine Finset.sum_congr rfl fun t _ => ?_
    have l : lidx_main_v18 (ix3 b c f) t = ix3 b t c := by idx_ext
    have r : ridx_main_v18 (ix3 b c f) t = ix2 f t := by idx_ext
    rw [l, r, v17_at, v15_at]
  have h2 : val_main_v25 (F := Ideal) a0 a1 a3 (ix3 b f c) = ∑ t : Fin 2048, Fnet.chan (fun k => a0 (ix2 (tok b t) k)) (fun k => a3 (ix2 k c))
      * val_main_v13 (F := Ideal) a1 (ix3 1 f t) := by
    rw [val_main_v25_apply, e2, val_main_v24_apply]
    refine Finset.sum_congr rfl fun t _ => ?_
    have l : lidx_main_v24 (ix3 b c f) t = ix3 b t c := by idx_ext
    have r : ridx_main_v24 (ix3 b c f) t = ix2 f t := by idx_ext
    rw [l, r, v23_at, v21_at]
  show val_main_v29 (F := Ideal) a0 a1 a2 a3 (ix2 (tok b f) c) = _
  rw [val_main_v29_apply, e, val_main_v28_apply, val_main_v26_apply, h1, h2]
  rfl

end Cert.FnetRefIdeal.Wave
-- ==== Proof.FnetValue.lean ====
module

public import proofs.«01_k».proof.Proof.FnetPure
public import proofs.«01_k».proof.Proof.FnetRefPure
public import proofs.«01_k».proof.Proof.Gen.FnetIdeal.Value
public import Idealize.ShloMosaic.Lib.Pipeline.ValueKit
public import Idealize.ShloMosaic.Lib.VecWindow
public import Idealize.ShloMosaic.Lib.Pointwise.Index

@[expose] public section

set_option maxRecDepth 16384

noncomputable section
open Idealize.ShloMosaic Idealize.ShloMosaic.TcCoe Idealize.SL.Sem
open Idealize.ShloMosaic.Pipeline (Dat)

/-! The FNet branch's result array is the reference's. -/
namespace Cert.FnetIdeal.Wave
open Cert.FnetIdeal Cert.FnetIdeal.Gen Cert.K

/-! ## The loads -/

/-- The positions of one parity of a block's columns, and the table's columns of one parity. -/
abbrev rE : LoadRect S2048x128 := ⟨![0, 0], S1024x128.size, ![2, 1], inb_S2048x128_S1024x128_0_0_s_2_1⟩
abbrev rO : LoadRect S2048x128 := ⟨![1, 0], S1024x128.size, ![2, 1], inb_S2048x128_S1024x128_1_0_s_2_1⟩
abbrev rG : LoadRect S256x256 := (Rect.unit (s := S256x256) ![0, 0] S256x256.size inb_S256x256_S256x256_0_0).toLoadRect
abbrev rT0 : LoadRect S1024x4096 := (Rect.unit (s := S1024x4096) ![0, 0] S1024x2048.size inb_S1024x4096_S1024x2048_0_0).toLoadRect
abbrev rT1 : LoadRect S1024x4096 := (Rect.unit (s := S1024x4096) ![0, 2048] S1024x2048.size inb_S1024x4096_S1024x2048_0_2048).toLoadRect

/-- The entries of an array a load reads. -/
def ld {s : Shape} {e : EltTy} (x : Vec Ideal s e) (r : LoadRect s) : Vec Ideal r.shape e := fun i => x (r.idx i)

section Loads
variable (x : Vec Ideal S2048x128 .f32) (g : Vec Ideal S256x256 .bf16) (T : Vec Ideal S1024x4096 .bf16)
theorem ldE (j : Fin 1024) (k : Fin 128) : ld x rE (ix2 j k) = x (ix2 ⟨2 * j, by omega⟩ k) := by
  refine congrArg x (funext fun a => Fin.ext ?_)
  match a with
  | ⟨0, _⟩ => show 0 + 2 * j.val = 2 * j.val; omega
  | ⟨1, _⟩ => show 0 + 1 * k.val = k.val; omega
theorem ldO (j : Fin 1024) (k : Fin 128) : ld x rO (ix2 j k) = x (ix2 ⟨2 * j + 1, by omega⟩ k) := by
  refine congrArg x (funext fun a => Fin.ext ?_)
  match a with
  | ⟨0, _⟩ => show 1 + 2 * j.val = 2 * j.val + 1; omega
  | ⟨1, _⟩ => show 0 + 1 * k.val = k.val; omega
theorem ldG : ld g rG = g := by
  funext i; idx_vars i
  refine congrArg g (funext fun a => Fin.ext ?_)
  match a with
  | ⟨0, _⟩ => show 0 + 1 * i0.val = i0.val; omega
  | ⟨1, _⟩ => show 0 + 1 * i1.val = i1.val; omega
theorem ldT0 (f : Fin 1024) (k : Fin 2048) : ld T rT0 (ix2 f k) = T (ix2 f ⟨k, by omega⟩) := by
  refine congrArg T (funext fun a => Fin.ext ?_)
  match a with
  | ⟨0, _⟩ => show 0 + 1 * f.val = f.val; omega
  | ⟨1, _⟩ => show 0 + 1 * k.val = k.val; omega
theorem ldT1 (f : Fin 1024) (k : Fin 2048) : ld T rT1 (ix2 f k) = T (ix2 f ⟨2048 + k, by omega⟩) := by
  refine congrArg T (funext fun a => Fin.ext ?_)
  match a with
  | ⟨0, _⟩ => show 0 + 1 * f.val = f.val; omega
  | ⟨1, _⟩ => show 2048 + 1 * k.val = 2048 + k.val; omega
end Loads

/-! ## The stores -/

theorem readAt_unread {s : Shape} {e : EltTy} (a : Memref sig .tc .vmem s e) (h : a.IsWhole) (r : LoadRect s) (x : Vec Ideal s e) :
    View.readAt (Elt Ideal) a.view r (h.unread x) = ld x r :=
  congrArg (fun y => ld y r) (h.read_unread x)

/-- A store of `n` rows from row `o` onward, read at one of them and at another row. -/
theorem put_in (x : Vec Ideal S2048x256 .bf16) (o n : ℕ) (w : Vec Ideal ⟨2, ![n, 256]⟩ .bf16) (r : Fin n) (j : Fin 256) (h : o + r.val < 2048) :
    VecWindow.put x ![o, 0] ![n, 256] w (ix2 ⟨o + r.val, h⟩ j) = w (ix2 r j) := by
  unfold VecWindow.put
  have hr := r.isLt
  have hj := j.isLt
  rw [dif_pos (fun a => match a with
    | ⟨0, _⟩ => by show o ≤ o + r.val ∧ o + r.val < o + n; omega
    | ⟨1, _⟩ => by show 0 ≤ j.val ∧ j.val < 0 + 256; omega)]
  refine congrArg w (funext fun a => Fin.ext ?_)
  match a with
  | ⟨0, _⟩ => show o + r.val - o = r.val; omega
  | ⟨1, _⟩ => show j.val - 0 = j.val; omega
theorem put_out (x : Vec Ideal S2048x256 .bf16) (o n : ℕ) (w : Vec Ideal ⟨2, ![n, 256]⟩ .bf16) (r : Fin 2048) (j : Fin 256) (h : r.val < o) :
    VecWindow.put x ![o, 0] ![n, 256] w (ix2 r j) = x (ix2 r j) := by
  unfold VecWindow.put
  rw [dif_neg (fun hall => by
    have : o ≤ r.val := (hall (0 : Fin 2)).1
    omega)]

/-- The sums over the positions of one parity, of a block's columns. -/
abbrev E (x0 x1 : Vec Ideal S2048x128 .f32) (T : Vec Ideal S1024x4096 .bf16) (g h : Vec Ideal S256x256 .bf16) : FVec Ideal S1024x256 .f32 :=
  k0_pay3 (ld x0 rE) (ld x1 rE) (ld g rG) (ld h rG) (ld T rT0)
abbrev O (x0 x1 : Vec Ideal S2048x128 .f32) (T : Vec Ideal S1024x4096 .bf16) (g h : Vec Ideal S256x256 .bf16) : FVec Ideal S1024x256 .f32 :=
  k0_pay3 (ld x0 rO) (ld x1 rO) (ld g rG) (ld h rG) (ld T rT1)

section Block
variable (c : Dev nD) (i : grid0.Coords) (arg1 : Memref sig .tc .vmem S2048x128 .f32) (harg1 : arg1.IsWhole) (arg2 : Memref sig .tc .vmem S2048x128 .f32) (harg2 : arg2.IsWhole)
  (arg3 : Memref sig .tc .vmem S1024x4096 .bf16) (harg3 : arg3.IsWhole) (arg4 : Memref sig .tc .vmem S256x256 .bf16) (harg4 : arg4.IsWhole)
  (arg5 : Memref sig .tc .vmem S256x256 .bf16) (harg5 : arg5.IsWhole) (arg6 : Memref sig .tc .vmem S2048x256 .bf16) (harg6 : arg6.IsWhole)
  (x0 : Vec Ideal S2048x128 .f32) (x1 : Vec Ideal S2048x128 .f32) (x2 : Vec Ideal S1024x4096 .bf16) (x3 : Vec Ideal S256x256 .bf16) (x4 : Vec Ideal S256x256 .bf16)

/-- The output block: two stores of its halves. -/
theorem out_eq : ∃ z, out0_A_5 c i arg1 harg1 arg2 harg2 arg3 harg3 arg4 harg4 arg5 harg5 arg6 harg6 x0 x1 x2 x3 x4
    = VecWindow.put (VecWindow.put z ![0, 0] ![1024, 256] (k0_pay1 (addf (E x0 x1 x2 x3 x4) (O x0 x1 x2 x3 x4))))
        ![1024, 0] ![1024, 256] (k0_pay2 (E x0 x1 x2 x3 x4) (O x0 x1 x2 x3 x4)) := by
  refine ⟨VO0_5.read (Elt Ideal) VO0_5.junk, ?_⟩
  unfold out0_A_5 kernelRun0_A
  dsimp only
  unfold kernelRun0_A.sl.r kernelRun0_A.sl.r_1 kernelRun0_A.sl.r_2
  simp only [readAt_unread]
  refine (View.read_writes_cons_put _ _ _ _ _ rfl).trans (congrArg (fun z => VecWindow.put z _ _ _) ?_)
  exact (View.read_writes_cons_put _ _ _ _ _ rfl)

theorem out_low (f : Fin 1024) (k : Fin 256) : out0_A_5 c i arg1 harg1 arg2 harg2 arg3 harg3 arg4 harg4 arg5 harg5 arg6 harg6 x0 x1 x2 x3 x4 (ix2 ⟨f, by omega⟩ k)
    = ((E x0 x1 x2 x3 x4 (ix2 f k) + O x0 x1 x2 x3 x4 (ix2 f k)) * Ideal.ofBits .f32 0x3B3504F3#32 : EReal) := by
  obtain ⟨z, hz⟩ := out_eq c i arg1 harg1 arg2 harg2 arg3 harg3 arg4 harg4 arg5 harg5 arg6 harg6 x0 x1 x2 x3 x4
  rw [hz]
  refine (put_out _ 1024 1024 _ _ k (by show f.val < 1024; omega)).trans ?_
  have e : (⟨f.val, by omega⟩ : Fin 2048) = ⟨0 + f.val, by omega⟩ := Fin.ext (Nat.zero_add _).symm
  rw [e]
  exact put_in _ 0 1024 _ f k _
theorem out_high (f : Fin 1024) (k : Fin 256) : out0_A_5 c i arg1 harg1 arg2 harg2 arg3 harg3 arg4 harg4 arg5 harg5 arg6 harg6 x0 x1 x2 x3 x4 (ix2 ⟨1024 + f, by omega⟩ k)
    = ((E x0 x1 x2 x3 x4 (ix2 f k) - O x0 x1 x2 x3 x4 (ix2 f k)) * Ideal.ofBits .f32 0x3B3504F3#32 : EReal) := by
  obtain ⟨z, hz⟩ := out_eq c i arg1 harg1 arg2 harg2 arg3 harg3 arg4 harg4 arg5 harg5 arg6 harg6 x0 x1 x2 x3 x4
  rw [hz]
  exact put_in _ 1024 1024 _ f k _
end Block

/-! ## The windows -/

theorem idx : ∀ t : Fin cfg0.N, win0_0.index t = ![t.val, 0] ∧ win0_1.index t = ![t.val, 1] ∧ win0_2.index t = ![0, 0] ∧ win0_3.index t = ![0, 0]
    ∧ win0_4.index t = ![0, 0] ∧ win0_5.index t = ![t.val, 0] ∧ t.val < 8 :=
  (by decide +kernel : ∀ t : Fin grid0.N, _)

variable (m : (ℓ : Loc nD τ sig) → Buf (Elt Ideal) ℓ) (c : Dev nD) (t : Fin cfg0.N)

/-- The batch of a grid point. -/
abbrev bt : Fin 8 := ⟨t.val, (idx t).2.2.2.2.2.2⟩

abbrev A0 : FVec Ideal S16384x256 .f32 := m ((c : Thread nD τ).loc main_arg0)
abbrev A1 : FVec Ideal S1024x4096 .bf16 := m ((c : Thread nD τ).loc main_arg1)
abbrev A2 : FVec Ideal S256x256 .bf16 := m ((c : Thread nD τ).loc main_arg2)
abbrev A3 : FVec Ideal S256x256 .bf16 := m ((c : Thread nD τ).loc main_arg3)

open Cert.FnetRefIdeal.Wave (tok)

theorem at0 (r : Fin 2048) (k : Fin 128) : iblk m c 0 t (ix2 r k) = A0 m c (ix2 (tok (bt t) r) ⟨k, by omega⟩) := by
  have := (idx t).2.2.2.2.2.2
  blk_ext [iblk, V, idx t]
theorem at1 (r : Fin 2048) (k : Fin 128) : iblk m c 1 t (ix2 r k) = A0 m c (ix2 (tok (bt t) r) ⟨128 + k, by omega⟩) := by
  have := (idx t).2.2.2.2.2.2
  blk_ext [iblk, V, idx t]
theorem at2 (f : Fin 1024) (k : Fin 4096) : iblk m c 2 t (ix2 f k) = A1 m c (ix2 f k) := by
  blk_ext [iblk, V, idx t]
theorem at3 (i k : Fin 256) : iblk m c 3 t (ix2 i k) = A2 m c (ix2 i k) := by
  blk_ext [iblk, V, idx t]
theorem at4 (i k : Fin 256) : iblk m c 4 t (ix2 i k) = A3 m c (ix2 i k) := by
  blk_ext [iblk, V, idx t]

/-- A token's channels against one column of a channel table. -/
abbrev XC (p : Fin 2048) (k : Fin 256) : EReal := Fnet.chan (fun i => A0 m c (ix2 (tok (bt t) p) i)) (fun i => A2 m c (ix2 i k))
abbrev XS (p : Fin 2048) (k : Fin 256) : EReal := Fnet.chan (fun i => A0 m c (ix2 (tok (bt t) p) i)) (fun i => A3 m c (ix2 i k))

theorem colsE (j : Fin 1024) : cols (ld (iblk m c 0 t) rE) (ld (iblk m c 1 t) rE) j = fun i => A0 m c (ix2 (tok (bt t) ⟨2 * j, by omega⟩) i) := by
  funext i
  by_cases h : i.val < 128
  · exact (dif_pos h).trans ((ldE _ j _).trans (at0 m c t _ _))
  · refine (dif_neg h).trans ((ldE _ j _).trans ((at1 m c t _ _).trans (congrArg (fun a => A0 m c (ix2 _ a)) (Fin.ext ?_))))
    show 128 + (i.val - 128) = i.val
    omega
theorem colsO (j : Fin 1024) : cols (ld (iblk m c 0 t) rO) (ld (iblk m c 1 t) rO) j = fun i => A0 m c (ix2 (tok (bt t) ⟨2 * j + 1, by omega⟩) i) := by
  funext i
  by_cases h : i.val < 128
  · exact (dif_pos h).trans ((ldO _ j _).trans (at0 m c t _ _))
  · refine (dif_neg h).trans ((ldO _ j _).trans ((at1 m c t _ _).trans (congrArg (fun a => A0 m c (ix2 _ a)) (Fin.ext ?_))))
    show 128 + (i.val - 128) = i.val
    omega

theorem E_at (f : Fin 1024) (k : Fin 256) : E (iblk m c 0 t) (iblk m c 1 t) (iblk m c 2 t) (iblk m c 3 t) (iblk m c 4 t) (ix2 f k)
    = Fnet.part (fun p => A1 m c (ix2 f ⟨p, by omega⟩)) (fun j => XC m c t ⟨2 * j, by omega⟩ k) (fun j => XS m c t ⟨2 * j, by omega⟩ k) := by
  refine (pay3_at _ _ _ _ _ f k).trans ?_
  rw [ldG, ldG]
  refine congr (congrArg₂ Fnet.part (funext fun p => ?_) (funext fun j => ?_)) (funext fun j => ?_)
  · exact (ldT0 _ f p).trans (at2 m c t f _)
  · exact congrArg₂ Fnet.chan (colsE m c t j) (funext fun i => at3 m c t i k)
  · exact congrArg₂ Fnet.chan (colsE m c t j) (funext fun i => at4 m c t i k)
theorem O_at (f : Fin 1024) (k : Fin 256) : O (iblk m c 0 t) (iblk m c 1 t) (iblk m c 2 t) (iblk m c 3 t) (iblk m c 4 t) (ix2 f k)
    = Fnet.part (fun p => A1 m c (ix2 f ⟨2048 + p, by omega⟩)) (fun j => XC m c t ⟨2 * j + 1, by omega⟩ k) (fun j => XS m c t ⟨2 * j + 1, by omega⟩ k) := by
  refine (pay3_at _ _ _ _ _ f k).trans ?_
  rw [ldG, ldG]
  refine congr (congrArg₂ Fnet.part (funext fun p => ?_) (funext fun j => ?_)) (funext fun j => ?_)
  · exact (ldT1 _ f p).trans (at2 m c t f _)
  · exact congrArg₂ Fnet.chan (colsO m c t j) (funext fun i => at3 m c t i k)
  · exact congrArg₂ Fnet.chan (colsO m c t j) (funext fun i => at4 m c t i k)

/-! ## The result -/

/-- Every argument is finite. -/
abbrev Num : Prop := (∀ i, IsNum (A0 m c i)) ∧ (∀ i, IsNum (A1 m c i)) ∧ (∀ i, IsNum (A2 m c i)) ∧ (∀ i, IsNum (A3 m c i))

abbrev REF : FVec Ideal S16384x256 .bf16 := Cert.FnetRefIdeal.Read.val_main_v30 (F := Ideal) (A0 m c) (A1 m c) (A2 m c) (A3 m c)

section Waves
open Cert.FnetRefIdeal.Wave
variable (a1 : FVec Ideal S1024x4096 .bf16) (s : Fin 2) (f j : Fin 1024)
theorem wave_low0 : Cert.FnetRefIdeal.Read.val_main_v13 (F := Ideal) a1 (ix3 s ⟨f, by omega⟩ ⟨2 * j, by omega⟩) = a1 (ix2 f ⟨s * 1024 + j, by omega⟩) :=
  (v13_at a1 s ⟨f, by omega⟩ j 0).trans ((v11_low a1 f j 0 s).trans (congrArg (fun a => a1 (ix2 f a)) (Fin.ext (by
    show 0 * 2048 + s.val * 1024 + j.val = s.val * 1024 + j.val; omega))))
theorem wave_low1 : Cert.FnetRefIdeal.Read.val_main_v13 (F := Ideal) a1 (ix3 s ⟨f, by omega⟩ ⟨2 * j + 1, by omega⟩) = a1 (ix2 f ⟨2048 + (s * 1024 + j), by omega⟩) :=
  (v13_at a1 s ⟨f, by omega⟩ j 1).trans ((v11_low a1 f j 1 s).trans (congrArg (fun a => a1 (ix2 f a)) (Fin.ext (by
    show 1 * 2048 + s.val * 1024 + j.val = 2048 + (s.val * 1024 + j.val); omega))))
theorem wave_high0 : Cert.FnetRefIdeal.Read.val_main_v13 (F := Ideal) a1 (ix3 s ⟨1024 + f, by omega⟩ ⟨2 * j, by omega⟩) = a1 (ix2 f ⟨s * 1024 + j, by omega⟩) :=
  (v13_at a1 s ⟨1024 + f, by omega⟩ j 0).trans ((v11_even a1 f j s).trans (congrArg (fun a => a1 (ix2 f a)) (Fin.ext (by
    show 0 * 2048 + s.val * 1024 + j.val = s.val * 1024 + j.val; omega))))
theorem wave_high1 : Cert.FnetRefIdeal.Read.val_main_v13 (F := Ideal) a1 (ix3 s ⟨1024 + f, by omega⟩ ⟨2 * j + 1, by omega⟩)
    = Neg.neg (α := EReal) (a1 (ix2 f ⟨2048 + (s * 1024 + j), by omega⟩)) :=
  (v13_at a1 s ⟨1024 + f, by omega⟩ j 1).trans ((v11_odd a1 f j s).trans (congrArg (fun a => Neg.neg (α := EReal) (a1 (ix2 f a))) (Fin.ext (by
    show 1 * 2048 + s.val * 1024 + j.val = 2048 + (s.val * 1024 + j.val); omega))))
end Waves

section Rows
variable (n : Num m c) (f : Fin 1024) (k : Fin 256)
include n

theorem low : outsAt0 m c t (ix2 ⟨f, by omega⟩ k) = REF m c (ix2 (tok (bt t) ⟨f, by omega⟩) k) := by
  refine (out_low _ _ _ _ _ _ _ _ _ _ _ _ _ _ _ _ _ _ _ f k).trans ?_
  rw [E_at, O_at]
  refine Eq.trans ?_ (Cert.FnetRefIdeal.Wave.v30_at _ _ _ _ (bt t) ⟨f, by omega⟩ k).symm
  refine congrArg (fun x : EReal => x * Ideal.ofBits .f32 0x3B3504F3#32) ?_
  refine Fnet.low_eq _ _ (fun p => XC m c t p k) (fun p => XS m c t p k) _ _ (fun p => n.2.1 _) (fun p => n.2.1 _)
    (fun p => Fnet.chan_num (fun i => n.1 _) (fun i => n.2.2.1 _)) (fun p => Fnet.chan_num (fun i => n.1 _) (fun i => n.2.2.2 _)) ?_ ?_ ?_ ?_ <;> intro j
  · exact (wave_low0 _ 0 f j).trans (congrArg (fun a => A1 m c (ix2 f a)) (Fin.ext (by show 0 * 1024 + j.val = j.val; omega)))
  · exact (wave_low0 _ 1 f j).trans (congrArg (fun a => A1 m c (ix2 f a)) (Fin.ext (by show 1 * 1024 + j.val = 1024 + j.val; omega)))
  · exact (wave_low1 _ 0 f j).trans (congrArg (fun a => A1 m c (ix2 f a)) (Fin.ext (by show 2048 + (0 * 1024 + j.val) = 2048 + j.val; omega)))
  · exact (wave_low1 _ 1 f j).trans (congrArg (fun a => A1 m c (ix2 f a)) (Fin.ext (by show 2048 + (1 * 1024 + j.val) = 2048 + (1024 + j.val); omega)))

theorem high : outsAt0 m c t (ix2 ⟨1024 + f, by omega⟩ k) = REF m c (ix2 (tok (bt t) ⟨1024 + f, by omega⟩) k) := by
  refine (out_high _ _ _ _ _ _ _ _ _ _ _ _ _ _ _ _ _ _ _ f k).trans ?_
  rw [E_at, O_at]
  refine Eq.trans ?_ (Cert.FnetRefIdeal.Wave.v30_at _ _ _ _ (bt t) ⟨1024 + f, by omega⟩ k).symm
  refine congrArg (fun x : EReal => x * Ideal.ofBits .f32 0x3B3504F3#32) ?_
  refine Fnet.high_eq _ _ (fun p => XC m c t p k) (fun p => XS m c t p k) _ _ (fun p => n.2.1 _) (fun p => n.2.1 _)
    (fun p => Fnet.chan_num (fun i => n.1 _) (fun i => n.2.2.1 _)) (fun p => Fnet.chan_num (fun i => n.1 _) (fun i => n.2.2.2 _)) ?_ ?_ ?_ ?_ <;> intro j
  · exact (wave_high0 _ 0 f j).trans (congrArg (fun a => A1 m c (ix2 f a)) (Fin.ext (by show 0 * 1024 + j.val = j.val; omega)))
  · exact (wave_high0 _ 1 f j).trans (congrArg (fun a => A1 m c (ix2 f a)) (Fin.ext (by show 1 * 1024 + j.val = 1024 + j.val; omega)))
  · exact (wave_high1 _ 0 f j).trans (congrArg (fun a => Neg.neg (α := EReal) (A1 m c (ix2 f a))) (Fin.ext (by show 2048 + (0 * 1024 + j.val) = 2048 + j.val; omega)))
  · exact (wave_high1 _ 1 f j).trans (congrArg (fun a => Neg.neg (α := EReal) (A1 m c (ix2 f a))) (Fin.ext (by show 2048 + (1 * 1024 + j.val) = 2048 + (1024 + j.val); omega)))
end Rows

/-- The whole result is the reference's. -/
theorem final5 (n : Num m c) : (dats m 0 c).arrAt 5 (cfgs 0).N = REF m c := by
  refine (dats m 0 c).arrAt_eq_of_covers 5 _ (by decide +kernel) fun t _ y => ?_
  blk_simp
  rw [after0_5]
  idx_vars y
  have ht := (idx t).2.2.2.2.2.2
  have key : outsAt0 m c t (ix2 y0 y1) = REF m c (ix2 (tok (bt t) y0) y1) := by
    by_cases h : y0.val < 1024
    · exact low m c t n ⟨y0, h⟩ y1
    · have hy := y0.isLt
      have e : y0 = ⟨1024 + (y0.val - 1024), by omega⟩ := Fin.ext (by show y0.val = 1024 + (y0.val - 1024); omega)
      rw [e]
      exact high m c t n ⟨y0.val - 1024, by omega⟩ y1
  refine key.trans (congrArg (REF m c) ?_)
  blk_ext [idx t]

end Cert.FnetIdeal.Wave
-- ==== Proof.FnetClaims.lean ====
module

public import proofs.«01_k».proof.Defs
public import proofs.«01_k».proof.Proof.FiniteFnet
public import proofs.«01_k».proof.Proof.FnetValue
public import proofs.«01_k».proof.Proof.Gen.Fnet.Frame
public import proofs.«01_k».proof.Proof.Gen.FnetIdeal.Frame
public import proofs.«01_k».proof.Proof.Gen.FnetIdeal.Value
public import proofs.«01_k».proof.Proof.Gen.FnetRefIdeal.Run
public import proofs.«01_k».proof.Proof.Gen.FnetRefIdeal.Read
public import Idealize.ShloMosaic.Adequacy
public import Idealize.ShloMosaic.Init
public import Idealize.ShloMosaic.Lib.Quiescent

@[expose] public section

noncomputable section
open Idealize.ShloMosaic Idealize.SL.Sem

/-! The claims about the FNet kernel. -/
namespace Cert.Proof.Fnet

theorem ref_frame : Cert.quiescent_FnetRefIdeal := by
  intro m g _
  exact (θ_run Cert.FnetRefIdeal.defs _ _).mono (fun r h => ⟨fun c => (h c).2, sem_eq_zero_of_no_sems (by decide) r.2⟩)
    (Cert.FnetRefIdeal.Value.run (F := Ideal) m g)

theorem ref_frame_pre : Cert.quiescent_FnetRefIdeal_pre_finite_fnet := fun m g _ => ref_frame m g (by trivial)

theorem algebraic : Cert.algebraic_FnetIdeal_FnetRefIdeal_pre_finite_fnet := by
  intro m g m' g' hpre hagree
  have hn (c : Dev Cert.FnetIdeal.nD) : Cert.FnetIdeal.Wave.Num m c := Cert.K.finite_fnet _ _ _ _ (hpre c)
  refine ⟨fun c => Cert.FnetIdeal.Wave.REF m c, ?_, ?_⟩
  · refine (θ_run Cert.FnetIdeal.defs _ _).mono (fun r h c => ?_) (Cert.FnetIdeal.Gen.run_main (F := Ideal) m g)
    exact ⟨(Cert.FnetIdeal.Value.post5 m r h c).trans (Cert.FnetIdeal.Wave.final5 m c (hn c)),
      Cert.FnetIdeal.Value.kept_main_arg0 m r h c, Cert.FnetIdeal.Value.kept_main_arg1 m r h c, Cert.FnetIdeal.Value.kept_main_arg2 m r h c, Cert.FnetIdeal.Value.kept_main_arg3 m r h c⟩
  · refine (θ_run Cert.FnetRefIdeal.defs _ _).mono (fun r h c => ?_) (Cert.FnetRefIdeal.Value.run (F := Ideal) m' g')
    obtain ⟨e0, e1, e2, e3⟩ := hagree c
    refine ⟨(h c).1.trans (Eq.trans (Cert.FnetRefIdeal.Read.val_main_v30_eq _ _ _ _) ?_), (h c).2⟩
    rw [e0, e1, e2, e3]

end Cert.Proof.Fnet
-- ==== Proof.TableSpec.lean ====
module

public import proofs.«01_k».proof.Proof.Ereal
public import Idealize.ShloMosaic.PureOps

@[expose] public section

noncomputable section
open Idealize.ShloMosaic

/-! Angles within one turn, their cosines and sines; the words that number frequencies and positions. -/
namespace Cert.K.Turn

abbrev S0 : Shape := ⟨0, ![]⟩

/-- The divisor that the remainder takes. -/
abbrev divisor (n : BitVec 32) : IVec S0 32 :=
  select (cmpi .eq (constantI S0 32 n) (constantI S0 32 0#32)) (constantI S0 32 1#32) (constantI S0 32 n)

/-- The remainder, of the divisor's sign. -/
abbrev remainder (s : Shape) (h : S0.BroadcastsInDim s (![] : Fin 0 → Fin s.rank)) (x : IVec s 32) (n : BitVec 32) : IVec s 32 :=
  select (andi (cmpi .ne (cmpi .slt (Host.remsi x (broadcastInDim s ![] h (divisor n))) (broadcastInDim s ![] h (constantI S0 32 0#32)))
      (broadcastInDim s ![] h (cmpi .slt (divisor n) (constantI S0 32 0#32))))
      (cmpi .ne (Host.remsi x (broadcastInDim s ![] h (divisor n))) (broadcastInDim s ![] h (constantI S0 32 0#32))))
    (addi (Host.remsi x (broadcastInDim s ![] h (divisor n))) (broadcastInDim s ![] h (divisor n)))
    (Host.remsi x (broadcastInDim s ![] h (divisor n)))

/-- The quotient, rounded down. -/
abbrev quotient (s : Shape) (h : S0.BroadcastsInDim s (![] : Fin 0 → Fin s.rank)) (x : IVec s 32) (n : BitVec 32) : IVec s 32 :=
  select (andi (cmpi .ne (signi x) (broadcastInDim s ![] h (signi (constantI S0 32 n))))
      (cmpi .ne (Host.remsi x (broadcastInDim s ![] h (constantI S0 32 n))) (broadcastInDim s ![] h (constantI S0 32 0#32))))
    (subi (Host.divsi x (broadcastInDim s ![] h (constantI S0 32 n))) (broadcastInDim s ![] h (constantI S0 32 1#32)))
    (Host.divsi x (broadcastInDim s ![] h (constantI S0 32 n)))

theorem b0 : S0.BroadcastsInDim S0 (![] : Fin 0 → Fin S0.rank) := by decide

/-- The two for one word. -/
def rem (x n : BitVec 32) : BitVec 32 := remainder S0 b0 (fun _ => x) n (fun a => a.elim0)
def quot (x n : BitVec 32) : BitVec 32 := quotient S0 b0 (fun _ => x) n (fun a => a.elim0)

theorem remainder_at (s : Shape) (h : S0.BroadcastsInDim s (![] : Fin 0 → Fin s.rank)) (x : IVec s 32) (n : BitVec 32) (i : s.Idx) :
    remainder s h x n i = rem (x i) n := rfl
theorem quotient_at (s : Shape) (h : S0.BroadcastsInDim s (![] : Fin 0 → Fin s.rank)) (x : IVec s 32) (n : BitVec 32) (i : s.Idx) :
    quotient s h x n i = quot (x i) n := rfl

theorem coarse : ∀ f : Fin 1024, quot (BitVec.ofNat 32 f) 64#32 * 64#32 = BitVec.ofNat 32 (f / 64) * 64#32 := by decide +kernel
theorem fine : ∀ f : Fin 1024, rem (BitVec.ofNat 32 f) 64#32 = BitVec.ofNat 32 (f % 64) := by decide +kernel
theorem is_sin : ∀ l : Fin 4096, Scalar.cmpi .eq (rem (quot (BitVec.ofNat 32 l) 1024#32) 2#32) 1#32 = if l.val / 1024 % 2 = 1 then 1#1 else 0#1 := by
  decide +kernel

/-- The angle of a frequency at a position, within one turn. -/
def turn (f t : BitVec 32) : EReal := (((rem (f * t) 2048#32).toInt : ℝ) : EReal) * Ideal.ofBits .f32 0x3B490FDB#32

theorem num_turn (f t : BitVec 32) : IsNum (turn f t) := by
  refine IsNum.mul ⟨_, rfl⟩ ?_
  exact ⟨_, by simp [Ideal.ofBits, Ideal.ieee, -EReal.coe_mul]; rfl⟩

theorem cos_add {a b : EReal} : IsNum a → IsNum b → Ideal.cos a * Ideal.cos b - Ideal.sin a * Ideal.sin b = Ideal.cos (a + b) := by
  rintro ⟨x, rfl⟩ ⟨y, rfl⟩
  have : Ideal.cos ((x : EReal) + y) = ((Real.cos (x + y) : ℝ) : EReal) := rfl
  rw [this, Real.cos_add]
  rfl
theorem sin_add {a b : EReal} : IsNum a → IsNum b → Ideal.cos a * Ideal.sin b - Ideal.sin a * -Ideal.cos b = Ideal.sin (a + b) := by
  rintro ⟨x, rfl⟩ ⟨y, rfl⟩
  have : Ideal.sin ((x : EReal) + y) = ((Real.sin (x + y) : ℝ) : EReal) := rfl
  rw [this, Real.sin_add, show Real.sin x * Real.cos y + Real.cos x * Real.sin y = Real.cos x * Real.sin y - Real.sin x * -Real.cos y by ring]
  rfl

/-- The table: the frequency's angle at a position, as the sum of two; cosines, then sines. -/
def angle (f : Fin 1024) (t : BitVec 32) : EReal := turn (BitVec.ofNat 32 (f / 64) * 64#32) t + turn (BitVec.ofNat 32 (f % 64)) t

end Cert.K.Turn
-- ==== Proof.TableArrays.lean ====
module

public import proofs.«01_k».proof.Proof.Gen.TableIdeal.Launch
public import proofs.«01_k».proof.Proof.TableSpec
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! The arrays the host prepares for the table call, and their entries. -/
namespace Cert.TableIdeal.Turns
open Cert.TableIdeal Cert.TableIdeal.Gen Cert.K

/-- The position of each column, and which columns hold sines. -/
def times : IVec S1x4096 32 :=
  shapeCast S1x4096 (concatenate S2x2048 1 [⟨S2x1024, transpose S2x1024 [1, 0] (shapeCast S1024x2 (iotaInDim S2048 32 0) shapeCasts_S2048_S1024x2) transposes_S1024x2_S2x1024_1_0⟩,
    ⟨S2x1024, transpose S2x1024 [1, 0] (shapeCast S1024x2 (iotaInDim S2048 32 0) shapeCasts_S2048_S1024x2) transposes_S1024x2_S2x1024_1_0⟩]
    concatenates_S2x1024_S2x1024_S2x2048_d1) shapeCasts_S2x2048_S1x4096
def isSin : IVec S1x4096 1 :=
  broadcastInDim S1x4096 ![1] bcast_S4096_S1x4096_1 (cmpi .eq (Turn.remainder S4096 bcast_S_S4096 (Turn.quotient S4096 bcast_S_S4096 (iotaInDim S4096 32 0) 1024#32) 2#32)
    (broadcastInDim S4096 ![] bcast_S_S4096 (constantI S_ 32 1#32)))

/-- The angles of the multiples of 64, and of the rests. -/
def coarse : FVec Ideal S16x4096 .f32 :=
  mulf (sitofp .f32 (Turn.remainder S16x4096 bcast_S_S16x4096 (muli (broadcastInDim S16x4096 ![0, 1] bcast_S16x1_S16x4096_0_1
      (muli (broadcastInDim S16x1 ![0] bcast_S16_S16x1_0 (iotaInDim S16 32 0)) (broadcastInDim S16x1 ![] bcast_S_S16x1 (constantI S_ 32 64#32))))
    (broadcastInDim S16x4096 ![0, 1] bcast_S1x4096_S16x4096_0_1 times)) 2048#32))
    (broadcastInDim S16x4096 ![] bcast_S_S16x4096 (constant S_ .f32 0x3B490FDB#32))
def fine : FVec Ideal S64x4096 .f32 :=
  mulf (sitofp .f32 (Turn.remainder S64x4096 bcast_S_S64x4096 (muli (broadcastInDim S64x4096 ![0, 1] bcast_S64x1_S64x4096_0_1
      (broadcastInDim S64x1 ![0] bcast_S64_S64x1_0 (iotaInDim S64 32 0)))
    (broadcastInDim S64x4096 ![0, 1] bcast_S1x4096_S64x4096_0_1 times)) 2048#32))
    (broadcastInDim S64x4096 ![] bcast_S_S64x4096 (constant S_ .f32 0x3B490FDB#32))

/-! Their entries. -/

/-- The position of a column. -/
abbrev pos (l : Fin 4096) : BitVec 32 := BitVec.ofNat 32 (l.val % 1024 * 2 + l.val / 2048)

theorem times_at (l : Fin 4096) : times (ix2 0 l) = pos l := by
  pointwise [times]
  split <;> exact congrArg (BitVec.ofNat 32) (by omega)
theorem isSin_at (l : Fin 4096) : isSin (ix2 0 l) = if l.val / 1024 % 2 = 1 then 1#1 else 0#1 :=
  (Eq.trans (by pointwise [isSin]; rfl) (Turn.is_sin l))
theorem coarse_at (a : Fin 16) (l : Fin 4096) : coarse (ix2 a l) = Turn.turn (BitVec.ofNat 32 a * 64#32) (times (ix2 0 l)) := by
  pointwise [coarse]
  rfl
theorem fine_at (b : Fin 64) (l : Fin 4096) : fine (ix2 b l) = Turn.turn (BitVec.ofNat 32 b) (times (ix2 0 l)) := by
  pointwise [fine]
  rfl

end Cert.TableIdeal.Turns
-- ==== Proof.TableRefRun.lean ====
module

public import proofs.«01_k».proof.Proof.Gen.TableRefIdeal
public import Idealize.ShloMosaic.Lib.StableHlo.Run

@[expose] public section

noncomputable section

namespace Cert.TableRefIdeal.Value

open Cert.TableRefIdeal Cert.TableRefIdeal.Gen Idealize.ShloMosaic Idealize.ShloMosaic.TcCoe Idealize.SL.Sem Idealize.ShloMosaic.StableHlo

variable {F : FTy → Type} [FloatOps F]

/-- The function of the operation that writes `main_v12`. -/
def fn_main_v12 : (⟨S1x1024, .i32⟩ : BufTy).Contents (Elt F) → (⟨S1x1024, .i32⟩ : BufTy).Contents (Elt F) → (⟨S2x1024, .i32⟩ : BufTy).Contents (Elt F) :=
  (fun a b => concatenate S2x1024 0 [⟨S1x1024, a⟩, ⟨S1x1024, b⟩] concatenates_S1x1024_S1x1024_S2x1024_d0)

/-- The function of the operation that writes `main_v40`. -/
def fn_main_v40 : (⟨S1024x2x1x1024, .f32⟩ : BufTy).Contents (Elt F) → (⟨S1024x2x1x1024, .f32⟩ : BufTy).Contents (Elt F) → (⟨S1024x2x2x1024, .f32⟩ : BufTy).Contents (Elt F) :=
  (fun a b => concatenate S1024x2x2x1024 2 [⟨S1024x2x1x1024, a⟩, ⟨S1024x2x1x1024, b⟩] concatenates_S1024x2x1x1024_S1024x2x1x1024_S1024x2x2x1024_d2)

/-- The reference's 130 operations, in order. -/
abbrev ops : List (HloOp τ sig (Elt F)) :=
  [ nullary main_v0 (iotaInDim S1024 32 0),
    nullary main_c (constantI S_ 32 2#32),
    unary main_c main_v1 (broadcastInDim S1024 ![] bcast_S_S1024 : (⟨S_, .i32⟩ : BufTy).Contents (Elt F) → (⟨S1024, .i32⟩ : BufTy).Contents (Elt F)),
    binary main_v1 main_v0 main_v2 (muli : (⟨S1024, .i32⟩ : BufTy).Contents (Elt F) → (⟨S1024, .i32⟩ : BufTy).Contents (Elt F) → (⟨S1024, .i32⟩ : BufTy).Contents (Elt F)),
    nullary main_c_0 (constantI S_ 32 0#32),
    unary main_c_0 main_v3 (broadcastInDim S1024 ![] bcast_S_S1024 : (⟨S_, .i32⟩ : BufTy).Contents (Elt F) → (⟨S1024, .i32⟩ : BufTy).Contents (Elt F)),
    binary main_v3 main_v2 main_v4 (addi : (⟨S1024, .i32⟩ : BufTy).Contents (Elt F) → (⟨S1024, .i32⟩ : BufTy).Contents (Elt F) → (⟨S1024, .i32⟩ : BufTy).Contents (Elt F)),
    nullary main_v5 (iotaInDim S1024 32 0),
    nullary main_c_1 (constantI S_ 32 2#32),
    unary main_c_1 main_v6 (broadcastInDim S1024 ![] bcast_S_S1024 : (⟨S_, .i32⟩ : BufTy).Contents (Elt F) → (⟨S1024, .i32⟩ : BufTy).Contents (Elt F)),
    binary main_v6 main_v5 main_v7 (muli : (⟨S1024, .i32⟩ : BufTy).Contents (Elt F) → (⟨S1024, .i32⟩ : BufTy).Contents (Elt F) → (⟨S1024, .i32⟩ : BufTy).Contents (Elt F)),
    nullary main_c_2 (constantI S_ 32 1#32),
    unary main_c_2 main_v8 (broadcastInDim S1024 ![] bcast_S_S1024 : (⟨S_, .i32⟩ : BufTy).Contents (Elt F) → (⟨S1024, .i32⟩ : BufTy).Contents (Elt F)),
    binary main_v8 main_v7 main_v9 (addi : (⟨S1024, .i32⟩ : BufTy).Contents (Elt F) → (⟨S1024, .i32⟩ : BufTy).Contents (Elt F) → (⟨S1024, .i32⟩ : BufTy).Contents (Elt F)),
    unary main_v4 main_v10 (broadcastInDim S1x1024 ![1] bcast_S1024_S1x1024_1 : (⟨S1024, .i32⟩ : BufTy).Contents (Elt F) → (⟨S1x1024, .i32⟩ : BufTy).Contents (Elt F)),
    unary main_v9 main_v11 (broadcastInDim S1x1024 ![1] bcast_S1024_S1x1024_1 : (⟨S1024, .i32⟩ : BufTy).Contents (Elt F) → (⟨S1x1024, .i32⟩ : BufTy).Contents (Elt F)),
    binary main_v10 main_v11 main_v12 (fn_main_v12 (F := F)),
    nullary main_v13 (iotaInDim S1024 32 0),
    unary main_v13 main_v14 (broadcastInDim S1024x1x1 ![0] bcast_S1024_S1024x1x1_0 : (⟨S1024, .i32⟩ : BufTy).Contents (Elt F) → (⟨S1024x1x1, .i32⟩ : BufTy).Contents (Elt F)),
    nullary main_c_3 (constantI S_ 32 64#32),
    TRef.unary (TRef.of (T := ⟨S_, .i32⟩) main_c_3) (TRef.of (T := ⟨S_, .i32⟩) main_call0_v0) id,
    TRef.unary (TRef.of (T := ⟨S_, .i32⟩) main_call0_v0) (TRef.of (T := ⟨S1024x1x1, .i32⟩) main_call0_v1) (broadcastInDim S1024x1x1 ![] bcast_S_S1024x1x1),
    TRef.binary (TRef.of (T := ⟨S1024x1x1, .i32⟩) main_v14) (TRef.of (T := ⟨S1024x1x1, .i32⟩) main_call0_v1) (TRef.of (T := ⟨S1024x1x1, .i32⟩) main_call0_v2) Host.divsi,
    TRef.unary (TRef.of (T := ⟨S1024x1x1, .i32⟩) main_v14) (TRef.of (T := ⟨S1024x1x1, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S1024x1x1, .i32⟩) main_call0_v5) (broadcastInDim S1024x1x1 ![] bcast_S_S1024x1x1),
    TRef.binary (TRef.of (T := ⟨S1024x1x1, .i32⟩) main_call0_v3) (TRef.of (T := ⟨S1024x1x1, .i32⟩) main_call0_v5) (TRef.of (T := ⟨S1024x1x1, .i1⟩) main_call0_v6) (cmpi .ne),
    TRef.unary (TRef.of (T := ⟨S_, .i32⟩) main_call0_v0) (TRef.of (T := ⟨S1024x1x1, .i32⟩) main_call0_v7) (broadcastInDim S1024x1x1 ![] bcast_S_S1024x1x1),
    TRef.binary (TRef.of (T := ⟨S1024x1x1, .i32⟩) main_v14) (TRef.of (T := ⟨S1024x1x1, .i32⟩) main_call0_v7) (TRef.of (T := ⟨S1024x1x1, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S1024x1x1, .i32⟩) main_call0_v9) (broadcastInDim S1024x1x1 ![] bcast_S_S1024x1x1),
    TRef.binary (TRef.of (T := ⟨S1024x1x1, .i32⟩) main_call0_v8) (TRef.of (T := ⟨S1024x1x1, .i32⟩) main_call0_v9) (TRef.of (T := ⟨S1024x1x1, .i1⟩) main_call0_v10) (cmpi .ne),
    TRef.binary (TRef.of (T := ⟨S1024x1x1, .i1⟩) main_call0_v6) (TRef.of (T := ⟨S1024x1x1, .i1⟩) main_call0_v10) (TRef.of (T := ⟨S1024x1x1, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S1024x1x1, .i32⟩) main_call0_v12) (broadcastInDim S1024x1x1 ![] bcast_S_S1024x1x1),
    TRef.binary (TRef.of (T := ⟨S1024x1x1, .i32⟩) main_call0_v2) (TRef.of (T := ⟨S1024x1x1, .i32⟩) main_call0_v12) (TRef.of (T := ⟨S1024x1x1, .i32⟩) main_call0_v13) subi,
    TRef.ternary (TRef.of (T := ⟨S1024x1x1, .i1⟩) main_call0_v11) (TRef.of (T := ⟨S1024x1x1, .i32⟩) main_call0_v13) (TRef.of (T := ⟨S1024x1x1, .i32⟩) main_call0_v2) (TRef.of (T := ⟨S1024x1x1, .i32⟩) main_v15) select,
    nullary main_c_4 (constantI S_ 32 64#32),
    unary main_c_4 main_v16 (broadcastInDim S1024x1x1 ![] bcast_S_S1024x1x1 : (⟨S_, .i32⟩ : BufTy).Contents (Elt F) → (⟨S1024x1x1, .i32⟩ : BufTy).Contents (Elt F)),
    binary main_v15 main_v16 main_v17 (muli : (⟨S1024x1x1, .i32⟩ : BufTy).Contents (Elt F) → (⟨S1024x1x1, .i32⟩ : BufTy).Contents (Elt F) → (⟨S1024x1x1, .i32⟩ : BufTy).Contents (Elt F)),
    unary main_v12 main_v18 (broadcastInDim S1x2x1024 ![1, 2] bcast_S2x1024_S1x2x1024_1_2 : (⟨S2x1024, .i32⟩ : BufTy).Contents (Elt F) → (⟨S1x2x1024, .i32⟩ : BufTy).Contents (Elt F)),
    unary main_v17 main_v19 (broadcastInDim S1024x2x1024 ![0, 1, 2] bcast_S1024x1x1_S1024x2x1024_0_1_2 : (⟨S1024x1x1, .i32⟩ : BufTy).Contents (Elt F) → (⟨S1024x2x1024, .i32⟩ : BufTy).Contents (Elt F)),
    unary main_v18 main_v20 (broadcastInDim S1024x2x1024 ![0, 1, 2] bcast_S1x2x1024_S1024x2x1024_0_1_2 : (⟨S1x2x1024, .i32⟩ : BufTy).Contents (Elt F) → (⟨S1024x2x1024, .i32⟩ : BufTy).Contents (Elt F)),
    binary main_v19 main_v20 main_v21 (muli : (⟨S1024x2x1024, .i32⟩ : BufTy).Contents (Elt F) → (⟨S1024x2x1024, .i32⟩ : BufTy).Contents (Elt F) → (⟨S1024x2x1024, .i32⟩ : BufTy).Contents (Elt F)),
    nullary main_c_5 (constantI S_ 32 2048#32),
    TRef.unary (TRef.of (T := ⟨S_, .i32⟩) main_c_5) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S1024x2x1024, .i32⟩) main_call1_v3) (broadcastInDim S1024x2x1024 ![] bcast_S_S1024x2x1024),
    TRef.binary (TRef.of (T := ⟨S1024x2x1024, .i32⟩) main_v21) (TRef.of (T := ⟨S1024x2x1024, .i32⟩) main_call1_v3) (TRef.of (T := ⟨S1024x2x1024, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S1024x2x1024, .i32⟩) main_call1_v5) (broadcastInDim S1024x2x1024 ![] bcast_S_S1024x2x1024),
    TRef.binary (TRef.of (T := ⟨S1024x2x1024, .i32⟩) main_call1_v4) (TRef.of (T := ⟨S1024x2x1024, .i32⟩) main_call1_v5) (TRef.of (T := ⟨S1024x2x1024, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S1024x2x1024, .i32⟩) main_call1_v7) (broadcastInDim S1024x2x1024 ![] bcast_S_S1024x2x1024),
    TRef.binary (TRef.of (T := ⟨S1024x2x1024, .i32⟩) main_call1_v4) (TRef.of (T := ⟨S1024x2x1024, .i32⟩) main_call1_v7) (TRef.of (T := ⟨S1024x2x1024, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S1024x2x1024, .i1⟩) main_call1_v10) (broadcastInDim S1024x2x1024 ![] bcast_S_S1024x2x1024),
    TRef.binary (TRef.of (T := ⟨S1024x2x1024, .i1⟩) main_call1_v8) (TRef.of (T := ⟨S1024x2x1024, .i1⟩) main_call1_v10) (TRef.of (T := ⟨S1024x2x1024, .i1⟩) main_call1_v11) (cmpi .ne),
    TRef.binary (TRef.of (T := ⟨S1024x2x1024, .i1⟩) main_call1_v11) (TRef.of (T := ⟨S1024x2x1024, .i1⟩) main_call1_v6) (TRef.of (T := ⟨S1024x2x1024, .i1⟩) main_call1_v12) andi,
    TRef.unary (TRef.of (T := ⟨S_, .i32⟩) main_call1_v2) (TRef.of (T := ⟨S1024x2x1024, .i32⟩) main_call1_v13) (broadcastInDim S1024x2x1024 ![] bcast_S_S1024x2x1024),
    TRef.binary (TRef.of (T := ⟨S1024x2x1024, .i32⟩) main_call1_v4) (TRef.of (T := ⟨S1024x2x1024, .i32⟩) main_call1_v13) (TRef.of (T := ⟨S1024x2x1024, .i32⟩) main_call1_v14) addi,
    TRef.ternary (TRef.of (T := ⟨S1024x2x1024, .i1⟩) main_call1_v12) (TRef.of (T := ⟨S1024x2x1024, .i32⟩) main_call1_v14) (TRef.of (T := ⟨S1024x2x1024, .i32⟩) main_call1_v4) (TRef.of (T := ⟨S1024x2x1024, .i32⟩) main_v22) select,
    unary main_v22 main_v23 (sitofp .f32 : (⟨S1024x2x1024, .i32⟩ : BufTy).Contents (Elt F) → (⟨S1024x2x1024, .f32⟩ : BufTy).Contents (Elt F)),
    nullary main_cst (constant S_ .f32 0x3B490FDB#32),
    unary main_cst main_v24 (broadcastInDim S1024x2x1024 ![] bcast_S_S1024x2x1024 : (⟨S_, .f32⟩ : BufTy).Contents (Elt F) → (⟨S1024x2x1024, .f32⟩ : BufTy).Contents (Elt F)),
    binary main_v23 main_v24 main_v25 (mulf : (⟨S1024x2x1024, .f32⟩ : BufTy).Contents (Elt F) → (⟨S1024x2x1024, .f32⟩ : BufTy).Contents (Elt F) → (⟨S1024x2x1024, .f32⟩ : BufTy).Contents (Elt F)),
    nullary main_c_6 (constantI S_ 32 64#32),
    TRef.unary (TRef.of (T := ⟨S_, .i32⟩) main_c_6) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S1024x1x1, .i32⟩) main_call2_v3) (broadcastInDim S1024x1x1 ![] bcast_S_S1024x1x1),
    TRef.binary (TRef.of (T := ⟨S1024x1x1, .i32⟩) main_v14) (TRef.of (T := ⟨S1024x1x1, .i32⟩) main_call2_v3) (TRef.of (T := ⟨S1024x1x1, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S1024x1x1, .i32⟩) main_call2_v5) (broadcastInDim S1024x1x1 ![] bcast_S_S1024x1x1),
    TRef.binary (TRef.of (T := ⟨S1024x1x1, .i32⟩) main_call2_v4) (TRef.of (T := ⟨S1024x1x1, .i32⟩) main_call2_v5) (TRef.of (T := ⟨S1024x1x1, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v7) (broadcastInDim S1024x1x1 ![] bcast_S_S1024x1x1),
    TRef.binary (TRef.of (T := ⟨S1024x1x1, .i32⟩) main_call2_v4) (TRef.of (T := ⟨S1024x1x1, .i32⟩) main_call2_v7) (TRef.of (T := ⟨S1024x1x1, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S1024x1x1, .i1⟩) main_call2_v10) (broadcastInDim S1024x1x1 ![] bcast_S_S1024x1x1),
    TRef.binary (TRef.of (T := ⟨S1024x1x1, .i1⟩) main_call2_v8) (TRef.of (T := ⟨S1024x1x1, .i1⟩) main_call2_v10) (TRef.of (T := ⟨S1024x1x1, .i1⟩) main_call2_v11) (cmpi .ne),
    TRef.binary (TRef.of (T := ⟨S1024x1x1, .i1⟩) main_call2_v11) (TRef.of (T := ⟨S1024x1x1, .i1⟩) main_call2_v6) (TRef.of (T := ⟨S1024x1x1, .i1⟩) main_call2_v12) andi,
    TRef.unary (TRef.of (T := ⟨S_, .i32⟩) main_call2_v2) (TRef.of (T := ⟨S1024x1x1, .i32⟩) main_call2_v13) (broadcastInDim S1024x1x1 ![] bcast_S_S1024x1x1),
    TRef.binary (TRef.of (T := ⟨S1024x1x1, .i32⟩) main_call2_v4) (TRef.of (T := ⟨S1024x1x1, .i32⟩) main_call2_v13) (TRef.of (T := ⟨S1024x1x1, .i32⟩) main_call2_v14) addi,
    TRef.ternary (TRef.of (T := ⟨S1024x1x1, .i1⟩) main_call2_v12) (TRef.of (T := ⟨S1024x1x1, .i32⟩) main_call2_v14) (TRef.of (T := ⟨S1024x1x1, .i32⟩) main_call2_v4) (TRef.of (T := ⟨S1024x1x1, .i32⟩) main_v26) select,
    unary main_v12 main_v27 (broadcastInDim S1x2x1024 ![1, 2] bcast_S2x1024_S1x2x1024_1_2 : (⟨S2x1024, .i32⟩ : BufTy).Contents (Elt F) → (⟨S1x2x1024, .i32⟩ : BufTy).Contents (Elt F)),
    unary main_v26 main_v28 (broadcastInDim S1024x2x1024 ![0, 1, 2] bcast_S1024x1x1_S1024x2x1024_0_1_2 : (⟨S1024x1x1, .i32⟩ : BufTy).Contents (Elt F) → (⟨S1024x2x1024, .i32⟩ : BufTy).Contents (Elt F)),
    unary main_v27 main_v29 (broadcastInDim S1024x2x1024 ![0, 1, 2] bcast_S1x2x1024_S1024x2x1024_0_1_2 : (⟨S1x2x1024, .i32⟩ : BufTy).Contents (Elt F) → (⟨S1024x2x1024, .i32⟩ : BufTy).Contents (Elt F)),
    binary main_v28 main_v29 main_v30 (muli : (⟨S1024x2x1024, .i32⟩ : BufTy).Contents (Elt F) → (⟨S1024x2x1024, .i32⟩ : BufTy).Contents (Elt F) → (⟨S1024x2x1024, .i32⟩ : BufTy).Contents (Elt F)),
    nullary main_c_7 (constantI S_ 32 2048#32),
    TRef.unary (TRef.of (T := ⟨S_, .i32⟩) main_c_7) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary (TRef.of (T := ⟨S_, .i32⟩) main_call3_v2) (TRef.of (T := ⟨S1024x2x1024, .i32⟩) main_call3_v3) (broadcastInDim S1024x2x1024 ![] bcast_S_S1024x2x1024),
    TRef.binary (TRef.of (T := ⟨S1024x2x1024, .i32⟩) main_v30) (TRef.of (T := ⟨S1024x2x1024, .i32⟩) main_call3_v3) (TRef.of (T := ⟨S1024x2x1024, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S1024x2x1024, .i32⟩) main_call3_v5) (broadcastInDim S1024x2x1024 ![] bcast_S_S1024x2x1024),
    TRef.binary (TRef.of (T := ⟨S1024x2x1024, .i32⟩) main_call3_v4) (TRef.of (T := ⟨S1024x2x1024, .i32⟩) main_call3_v5) (TRef.of (T := ⟨S1024x2x1024, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S1024x2x1024, .i32⟩) main_call3_v7) (broadcastInDim S1024x2x1024 ![] bcast_S_S1024x2x1024),
    TRef.binary (TRef.of (T := ⟨S1024x2x1024, .i32⟩) main_call3_v4) (TRef.of (T := ⟨S1024x2x1024, .i32⟩) main_call3_v7) (TRef.of (T := ⟨S1024x2x1024, .i1⟩) main_call3_v8) (cmpi .slt),
    TRef.nullary (TRef.of (T := ⟨S_, .i32⟩) main_call3_c_3) (constantI S_ 32 0#32),
    TRef.binary (TRef.of (T := ⟨S_, .i32⟩) main_call3_v2) (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S1024x2x1024, .i1⟩) main_call3_v10) (broadcastInDim S1024x2x1024 ![] bcast_S_S1024x2x1024),
    TRef.binary (TRef.of (T := ⟨S1024x2x1024, .i1⟩) main_call3_v8) (TRef.of (T := ⟨S1024x2x1024, .i1⟩) main_call3_v10) (TRef.of (T := ⟨S1024x2x1024, .i1⟩) main_call3_v11) (cmpi .ne),
    TRef.binary (TRef.of (T := ⟨S1024x2x1024, .i1⟩) main_call3_v11) (TRef.of (T := ⟨S1024x2x1024, .i1⟩) main_call3_v6) (TRef.of (T := ⟨S1024x2x1024, .i1⟩) main_call3_v12) andi,
    TRef.unary (TRef.of (T := ⟨S_, .i32⟩) main_call3_v2) (TRef.of (T := ⟨S1024x2x1024, .i32⟩) main_call3_v13) (broadcastInDim S1024x2x1024 ![] bcast_S_S1024x2x1024),
    TRef.binary (TRef.of (T := ⟨S1024x2x1024, .i32⟩) main_call3_v4) (TRef.of (T := ⟨S1024x2x1024, .i32⟩) main_call3_v13) (TRef.of (T := ⟨S1024x2x1024, .i32⟩) main_call3_v14) addi,
    TRef.ternary (TRef.of (T := ⟨S1024x2x1024, .i1⟩) main_call3_v12) (TRef.of (T := ⟨S1024x2x1024, .i32⟩) main_call3_v14) (TRef.of (T := ⟨S1024x2x1024, .i32⟩) main_call3_v4) (TRef.of (T := ⟨S1024x2x1024, .i32⟩) main_v31) select,
    unary main_v31 main_v32 (sitofp .f32 : (⟨S1024x2x1024, .i32⟩ : BufTy).Contents (Elt F) → (⟨S1024x2x1024, .f32⟩ : BufTy).Contents (Elt F)),
    nullary main_cst_8 (constant S_ .f32 0x3B490FDB#32),
    unary main_cst_8 main_v33 (broadcastInDim S1024x2x1024 ![] bcast_S_S1024x2x1024 : (⟨S_, .f32⟩ : BufTy).Contents (Elt F) → (⟨S1024x2x1024, .f32⟩ : BufTy).Contents (Elt F)),
    binary main_v32 main_v33 main_v34 (mulf : (⟨S1024x2x1024, .f32⟩ : BufTy).Contents (Elt F) → (⟨S1024x2x1024, .f32⟩ : BufTy).Contents (Elt F) → (⟨S1024x2x1024, .f32⟩ : BufTy).Contents (Elt F)),
    binary main_v25 main_v34 main_v35 (addf : (⟨S1024x2x1024, .f32⟩ : BufTy).Contents (Elt F) → (⟨S1024x2x1024, .f32⟩ : BufTy).Contents (Elt F) → (⟨S1024x2x1024, .f32⟩ : BufTy).Contents (Elt F)),
    unary main_v35 main_v36 (Host.cos : (⟨S1024x2x1024, .f32⟩ : BufTy).Contents (Elt F) → (⟨S1024x2x1024, .f32⟩ : BufTy).Contents (Elt F)),
    unary main_v35 main_v37 (Host.sin : (⟨S1024x2x1024, .f32⟩ : BufTy).Contents (Elt F) → (⟨S1024x2x1024, .f32⟩ : BufTy).Contents (Elt F)),
    unary main_v36 main_v38 (broadcastInDim S1024x2x1x1024 ![0, 1, 3] bcast_S1024x2x1024_S1024x2x1x1024_0_1_3 : (⟨S1024x2x1024, .f32⟩ : BufTy).Contents (Elt F) → (⟨S1024x2x1x1024, .f32⟩ : BufTy).Contents (Elt F)),
    unary main_v37 main_v39 (broadcastInDim S1024x2x1x1024 ![0, 1, 3] bcast_S1024x2x1024_S1024x2x1x1024_0_1_3 : (⟨S1024x2x1024, .f32⟩ : BufTy).Contents (Elt F) → (⟨S1024x2x1x1024, .f32⟩ : BufTy).Contents (Elt F)),
    binary main_v38 main_v39 main_v40 (fn_main_v40 (F := F)),
    reshape main_v40 main_v41 (rfl : (.f32 : EltTy) = .f32) shapeCasts_S1024x2x2x1024_S1024x4096,
    unary main_v41 main_v42 ((truncf .bf16 · bitsLt_bf16_f32) : (⟨S1024x4096, .f32⟩ : BufTy).Contents (Elt F) → (⟨S1024x4096, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., binary_bufs_sub .., unary_bufs_sub .., unary_bufs_sub .., unary_bufs_sub .., unary_bufs_sub .., binary_bufs_sub .., reshape_bufs_sub .., unary_bufs_sub ..⟩

set_option maxRecDepth 8192 in
/-- The result, composed of the operations. -/
def res_main_v42 (m : (ℓ : Loc nD τ sig) → Buf (Elt F) ℓ) (c : Dev nD) : Buf (Elt F) ((c.tc : Thread nD τ).loc main_v42) :=
  truncf .bf16 (shapeCast _ (concatenate S1024x2x2x1024 2 [⟨S1024x2x1x1024, (broadcastInDim S1024x2x1x1024 ![0, 1, 3] bcast_S1024x2x1024_S1024x2x1x1024_0_1_3 (Host.cos (addf (mulf (sitofp .f32 (select (andi (cmpi .ne (cmpi .slt (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32))) (broadcastInDim S1024x2x1024 ![] bcast_S_S1024x2x1024 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32)))) (addi (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (select (cmpi .eq (id (constantI S_ 32 2048#32)) (constantI S_ 32 0#32)) (constantI S_ 32 1#32) (id (constantI S_ 32 2048#32))))) (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))))) (broadcastInDim S1024x2x1024 ![] bcast_S_S1024x2x1024 (constant S_ .f32 0x3B490FDB#32))) (mulf (sitofp .f32 (select (andi (cmpi .ne (cmpi .slt (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32))) (broadcastInDim S1024x2x1024 ![] bcast_S_S1024x2x1024 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32)))) (addi (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (select (cmpi .eq (id (constantI S_ 32 2048#32)) (constantI S_ 32 0#32)) (constantI S_ 32 1#32) (id (constantI S_ 32 2048#32))))) (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))))) (broadcastInDim S1024x2x1024 ![] bcast_S_S1024x2x1024 (constant S_ .f32 0x3B490FDB#32))))))⟩, ⟨S1024x2x1x1024, (broadcastInDim S1024x2x1x1024 ![0, 1, 3] bcast_S1024x2x1024_S1024x2x1x1024_0_1_3 (Host.sin (addf (mulf (sitofp .f32 (select (andi (cmpi .ne (cmpi .slt (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32))) (broadcastInDim S1024x2x1024 ![] bcast_S_S1024x2x1024 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32)))) (addi (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (select (cmpi .eq (id (constantI S_ 32 2048#32)) (constantI S_ 32 0#32)) (constantI S_ 32 1#32) (id (constantI S_ 32 2048#32))))) (Host.remsi (muli (broadcastInDim S1024x2x1024 ![0, 1, 2] bcast_S1024x1x1_S1024x2x1024_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))))) (broadcastInDim S1024x2x1024 ![] bcast_S_S1024x2x1024 (constant S_ .f32 0x3B490FDB#32))) (mulf (sitofp .f32 (select (andi (cmpi .ne (cmpi .slt (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32))) (broadcastInDim S1024x2x1024 ![] bcast_S_S1024x2x1024 (cmpi .slt (select (cmpi .eq (id (constantI S_ 32 2048#32)) (constantI S_ 32 0#32)) (constantI S_ 32 1#32) (id (constantI S_ 32 2048#32))) (constantI S_ 32 0#32)))) (cmpi .ne (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (constantI S_ 32 0#32)))) (addi (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))) (broadcastInDim S1024x2x1024 ![] bcast_S_S1024x2x1024 (select (cmpi .eq (id (constantI S_ 32 2048#32)) (constantI S_ 32 0#32)) (constantI S_ 32 1#32) (id (constantI S_ 32 2048#32))))) (Host.remsi (muli (broadcastInDim S1024x2x1024 ![0, 1, 2] bcast_S1024x1x1_S1024x2x1024_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x2x1024 ![0, 1, 2] bcast_S1x2x1024_S1024x2x1024_0_1_2 (broadcastInDim S1x2x1024 ![1, 2] bcast_S2x1024_S1x2x1024_1_2 (concatenate S2x1024 0 [⟨S1x1024, (broadcastInDim S1x1024 ![1] bcast_S1024_S1x1024_1 (addi (broadcastInDim S1024 ![] bcast_S_S1024 (constantI S_ 32 0#32)) (muli (broadcastInDim S1024 ![] bcast_S_S1024 (constantI S_ 32 2#32)) (iotaInDim S1024 32 0))))⟩, ⟨S1x1024, (broadcastInDim S1x1024 ![1] bcast_S1024_S1x1024_1 (addi (broadcastInDim S1024 ![] bcast_S_S1024 (constantI S_ 32 1#32)) (muli (broadcastInDim S1024 ![] bcast_S_S1024 (constantI S_ 32 2#32)) (iotaInDim S1024 32 0))))⟩] concatenates_S1x1024_S1x1024_S2x1024_d0)))) (broadcastInDim S1024x2x1024 ![] bcast_S_S1024x2x1024 (select (cmpi .eq (id (constantI S_ 32 2048#32)) (constantI S_ 32 0#32)) (constantI S_ 32 1#32) (id (constantI S_ 32 2048#32))))))) (broadcastInDim S1024x2x1024 ![] bcast_S_S1024x2x1024 (constant S_ .f32 0x3B490FDB#32))))))⟩] concatenates_S1024x2x1x1024_S1024x2x1x1024_S1024x2x2x1024_d2) shapeCasts_S1024x2x2x1024_S1024x4096) bitsLt_bf16_f32

set_option maxRecDepth 8192 in
set_option maxHeartbeats 52000000 in
/-- Every run ends with the result that the operations compose to. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = res_main_v42 m c :=
  (θ_run defs _ _).mono (fun _ h c => (h c main_v42).trans (by simp only [ops, TRef.binary, TRef.nullary, TRef.ternary, TRef.unary, TRef.toBuf, TRef.ofBuf, cast_eq]; after_results_simp <;> rfl <;> (unfold res_main_v42; rfl)))
    (run_seq scopedRefs_eq scopedSems_eq defs main (fun _ => ops) main_eq (fun _ => ops_sub) m ρ)

end Cert.TableRefIdeal.Value

end
-- ==== Proof.TableRefRead.lean ====
module

public import proofs.«01_k».proof.Proof.TableRefRun
public import Idealize.ShloMosaic.Lib.Pipeline.Value

@[expose] public section

noncomputable section

namespace Cert.TableRefIdeal.Read

open Cert.TableRefIdeal Cert.TableRefIdeal.Gen Idealize.ShloMosaic Idealize.ShloMosaic.TcCoe Idealize.SL.Sem Idealize.ShloMosaic.StableHlo

variable {F : FTy → Type} [FloatOps F]

def val_main_v0 : (⟨S1024, .i32⟩ : BufTy).Contents (Elt F) :=
  iotaInDim S1024 32 0

def val_main_c : (⟨S_, .i32⟩ : BufTy).Contents (Elt F) :=
  constantI S_ 32 2#32

def val_main_v1 : (⟨S1024, .i32⟩ : BufTy).Contents (Elt F) :=
  broadcastInDim S1024 ![] bcast_S_S1024 (val_main_c (F := F))

def val_main_v2 : (⟨S1024, .i32⟩ : BufTy).Contents (Elt F) :=
  muli (val_main_v1 (F := F)) (val_main_v0 (F := F))

def val_main_c_0 : (⟨S_, .i32⟩ : BufTy).Contents (Elt F) :=
  constantI S_ 32 0#32

def val_main_v3 : (⟨S1024, .i32⟩ : BufTy).Contents (Elt F) :=
  broadcastInDim S1024 ![] bcast_S_S1024 (val_main_c_0 (F := F))

def val_main_v4 : (⟨S1024, .i32⟩ : BufTy).Contents (Elt F) :=
  addi (val_main_v3 (F := F)) (val_main_v2 (F := F))

def val_main_v5 : (⟨S1024, .i32⟩ : BufTy).Contents (Elt F) :=
  iotaInDim S1024 32 0

def val_main_c_1 : (⟨S_, .i32⟩ : BufTy).Contents (Elt F) :=
  constantI S_ 32 2#32

def val_main_v6 : (⟨S1024, .i32⟩ : BufTy).Contents (Elt F) :=
  broadcastInDim S1024 ![] bcast_S_S1024 (val_main_c_1 (F := F))

def val_main_v7 : (⟨S1024, .i32⟩ : BufTy).Contents (Elt F) :=
  muli (val_main_v6 (F := F)) (val_main_v5 (F := F))

def val_main_c_2 : (⟨S_, .i32⟩ : BufTy).Contents (Elt F) :=
  constantI S_ 32 1#32

def val_main_v8 : (⟨S1024, .i32⟩ : BufTy).Contents (Elt F) :=
  broadcastInDim S1024 ![] bcast_S_S1024 (val_main_c_2 (F := F))

def val_main_v9 : (⟨S1024, .i32⟩ : BufTy).Contents (Elt F) :=
  addi (val_main_v8 (F := F)) (val_main_v7 (F := F))

def val_main_v10 : (⟨S1x1024, .i32⟩ : BufTy).Contents (Elt F) :=
  broadcastInDim S1x1024 ![1] bcast_S1024_S1x1024_1 (val_main_v4 (F := F))

def val_main_v11 : (⟨S1x1024, .i32⟩ : BufTy).Contents (Elt F) :=
  broadcastInDim S1x1024 ![1] bcast_S1024_S1x1024_1 (val_main_v9 (F := F))

def val_main_v12 : (⟨S2x1024, .i32⟩ : BufTy).Contents (Elt F) :=
  concatenate S2x1024 0 [⟨S1x1024, (val_main_v10 (F := F))⟩, ⟨S1x1024, (val_main_v11 (F := F))⟩] concatenates_S1x1024_S1x1024_S2x1024_d0

def val_main_v13 : (⟨S1024, .i32⟩ : BufTy).Contents (Elt F) :=
  iotaInDim S1024 32 0

def val_main_v14 : (⟨S1024x1x1, .i32⟩ : BufTy).Contents (Elt F) :=
  broadcastInDim S1024x1x1 ![0] bcast_S1024_S1024x1x1_0 (val_main_v13 (F := F))

def val_main_c_3 : (⟨S_, .i32⟩ : BufTy).Contents (Elt F) :=
  constantI S_ 32 64#32

def val_main_call0_v0 : (⟨S_, .i32⟩ : BufTy).Contents (Elt F) :=
  id (val_main_c_3 (F := F))

def val_main_call0_v1 : (⟨S1024x1x1, .i32⟩ : BufTy).Contents (Elt F) :=
  broadcastInDim S1024x1x1 ![] bcast_S_S1024x1x1 (val_main_call0_v0 (F := F))

def val_main_call0_v2 : (⟨S1024x1x1, .i32⟩ : BufTy).Contents (Elt F) :=
  Host.divsi (val_main_v14 (F := F)) (val_main_call0_v1 (F := F))

def val_main_call0_v3 : (⟨S1024x1x1, .i32⟩ : BufTy).Contents (Elt F) :=
  signi (val_main_v14 (F := F))

def val_main_call0_v4 : (⟨S_, .i32⟩ : BufTy).Contents (Elt F) :=
  signi (val_main_call0_v0 (F := F))

def val_main_call0_v5 : (⟨S1024x1x1, .i32⟩ : BufTy).Contents (Elt F) :=
  broadcastInDim S1024x1x1 ![] bcast_S_S1024x1x1 (val_main_call0_v4 (F := F))

def val_main_call0_v6 : (⟨S1024x1x1, .i1⟩ : BufTy).Contents (Elt F) :=
  cmpi .ne (val_main_call0_v3 (F := F)) (val_main_call0_v5 (F := F))

def val_main_call0_v7 : (⟨S1024x1x1, .i32⟩ : BufTy).Contents (Elt F) :=
  broadcastInDim S1024x1x1 ![] bcast_S_S1024x1x1 (val_main_call0_v0 (F := F))

def val_main_call0_v8 : (⟨S1024x1x1, .i32⟩ : BufTy).Contents (Elt F) :=
  Host.remsi (val_main_v14 (F := F)) (val_main_call0_v7 (F := F))

def val_main_call0_c : (⟨S_, .i32⟩ : BufTy).Contents (Elt F) :=
  constantI S_ 32 0#32

def val_main_call0_v9 : (⟨S1024x1x1, .i32⟩ : BufTy).Contents (Elt F) :=
  broadcastInDim S1024x1x1 ![] bcast_S_S1024x1x1 (val_main_call0_c (F := F))

def val_main_call0_v10 : (⟨S1024x1x1, .i1⟩ : BufTy).Contents (Elt F) :=
  cmpi .ne (val_main_call0_v8 (F := F)) (val_main_call0_v9 (F := F))

def val_main_call0_v11 : (⟨S1024x1x1, .i1⟩ : BufTy).Contents (Elt F) :=
  andi (val_main_call0_v6 (F := F)) (val_main_call0_v10 (F := F))

def val_main_call0_c_0 : (⟨S_, .i32⟩ : BufTy).Contents (Elt F) :=
  constantI S_ 32 1#32

def val_main_call0_v12 : (⟨S1024x1x1, .i32⟩ : BufTy).Contents (Elt F) :=
  broadcastInDim S1024x1x1 ![] bcast_S_S1024x1x1 (val_main_call0_c_0 (F := F))

def val_main_call0_v13 : (⟨S1024x1x1, .i32⟩ : BufTy).Contents (Elt F) :=
  subi (val_main_call0_v2 (F := F)) (val_main_call0_v12 (F := F))

def val_main_v15 : (⟨S1024x1x1, .i32⟩ : BufTy).Contents (Elt F) :=
  select (val_main_call0_v11 (F := F)) (val_main_call0_v13 (F := F)) (val_main_call0_v2 (F := F))

def val_main_c_4 : (⟨S_, .i32⟩ : BufTy).Contents (Elt F) :=
  constantI S_ 32 64#32

def val_main_v16 : (⟨S1024x1x1, .i32⟩ : BufTy).Contents (Elt F) :=
  broadcastInDim S1024x1x1 ![] bcast_S_S1024x1x1 (val_main_c_4 (F := F))

def val_main_v17 : (⟨S1024x1x1, .i32⟩ : BufTy).Contents (Elt F) :=
  muli (val_main_v15 (F := F)) (val_main_v16 (F := F))

def val_main_v18 : (⟨S1x2x1024, .i32⟩ : BufTy).Contents (Elt F) :=
  broadcastInDim S1x2x1024 ![1, 2] bcast_S2x1024_S1x2x1024_1_2 (val_main_v12 (F := F))

def val_main_v19 : (⟨S1024x2x1024, .i32⟩ : BufTy).Contents (Elt F) :=
  broadcastInDim S1024x2x1024 ![0, 1, 2] bcast_S1024x1x1_S1024x2x1024_0_1_2 (val_main_v17 (F := F))

def val_main_v20 : (⟨S1024x2x1024, .i32⟩ : BufTy).Contents (Elt F) :=
  broadcastInDim S1024x2x1024 ![0, 1, 2] bcast_S1x2x1024_S1024x2x1024_0_1_2 (val_main_v18 (F := F))

def val_main_v21 : (⟨S1024x2x1024, .i32⟩ : BufTy).Contents (Elt F) :=
  muli (val_main_v19 (F := F)) (val_main_v20 (F := F))

def val_main_c_5 : (⟨S_, .i32⟩ : BufTy).Contents (Elt F) :=
  constantI S_ 32 2048#32

def val_main_call1_v0 : (⟨S_, .i32⟩ : BufTy).Contents (Elt F) :=
  id (val_main_c_5 (F := F))

def val_main_call1_c : (⟨S_, .i32⟩ : BufTy).Contents (Elt F) :=
  constantI S_ 32 0#32

def val_main_call1_v1 : (⟨S_, .i1⟩ : BufTy).Contents (Elt F) :=
  cmpi .eq (val_main_call1_v0 (F := F)) (val_main_call1_c (F := F))

def val_main_call1_c_0 : (⟨S_, .i32⟩ : BufTy).Contents (Elt F) :=
  constantI S_ 32 1#32

def val_main_call1_v2 : (⟨S_, .i32⟩ : BufTy).Contents (Elt F) :=
  select (val_main_call1_v1 (F := F)) (val_main_call1_c_0 (F := F)) (val_main_call1_v0 (F := F))

def val_main_call1_v3 : (⟨S1024x2x1024, .i32⟩ : BufTy).Contents (Elt F) :=
  broadcastInDim S1024x2x1024 ![] bcast_S_S1024x2x1024 (val_main_call1_v2 (F := F))

def val_main_call1_v4 : (⟨S1024x2x1024, .i32⟩ : BufTy).Contents (Elt F) :=
  Host.remsi (val_main_v21 (F := F)) (val_main_call1_v3 (F := F))

def val_main_call1_c_1 : (⟨S_, .i32⟩ : BufTy).Contents (Elt F) :=
  constantI S_ 32 0#32

def val_main_call1_v5 : (⟨S1024x2x1024, .i32⟩ : BufTy).Contents (Elt F) :=
  broadcastInDim S1024x2x1024 ![] bcast_S_S1024x2x1024 (val_main_call1_c_1 (F := F))

def val_main_call1_v6 : (⟨S1024x2x1024, .i1⟩ : BufTy).Contents (Elt F) :=
  cmpi .ne (val_main_call1_v4 (F := F)) (val_main_call1_v5 (F := F))

def val_main_call1_c_2 : (⟨S_, .i32⟩ : BufTy).Contents (Elt F) :=
  constantI S_ 32 0#32

def val_main_call1_v7 : (⟨S1024x2x1024, .i32⟩ : BufTy).Contents (Elt F) :=
  broadcastInDim S1024x2x1024 ![] bcast_S_S1024x2x1024 (val_main_call1_c_2 (F := F))

def val_main_call1_v8 : (⟨S1024x2x1024, .i1⟩ : BufTy).Contents (Elt F) :=
  cmpi .slt (val_main_call1_v4 (F := F)) (val_main_call1_v7 (F := F))

def val_main_call1_c_3 : (⟨S_, .i32⟩ : BufTy).Contents (Elt F) :=
  constantI S_ 32 0#32

def val_main_call1_v9 : (⟨S_, .i1⟩ : BufTy).Contents (Elt F) :=
  cmpi .slt (val_main_call1_v2 (F := F)) (val_main_call1_c_3 (F := F))

def val_main_call1_v10 : (⟨S1024x2x1024, .i1⟩ : BufTy).Contents (Elt F) :=
  broadcastInDim S1024x2x1024 ![] bcast_S_S1024x2x1024 (val_main_call1_v9 (F := F))

def val_main_call1_v11 : (⟨S1024x2x1024, .i1⟩ : BufTy).Contents (Elt F) :=
  cmpi .ne (val_main_call1_v8 (F := F)) (val_main_call1_v10 (F := F))

def val_main_call1_v12 : (⟨S1024x2x1024, .i1⟩ : BufTy).Contents (Elt F) :=
  andi (val_main_call1_v11 (F := F)) (val_main_call1_v6 (F := F))

def val_main_call1_v13 : (⟨S1024x2x1024, .i32⟩ : BufTy).Contents (Elt F) :=
  broadcastInDim S1024x2x1024 ![] bcast_S_S1024x2x1024 (val_main_call1_v2 (F := F))

def val_main_call1_v14 : (⟨S1024x2x1024, .i32⟩ : BufTy).Contents (Elt F) :=
  addi (val_main_call1_v4 (F := F)) (val_main_call1_v13 (F := F))

def val_main_v22 : (⟨S1024x2x1024, .i32⟩ : BufTy).Contents (Elt F) :=
  select (val_main_call1_v12 (F := F)) (val_main_call1_v14 (F := F)) (val_main_call1_v4 (F := F))

def val_main_v23 : (⟨S1024x2x1024, .f32⟩ : BufTy).Contents (Elt F) :=
  sitofp .f32 (val_main_v22 (F := F))

def val_main_cst : (⟨S_, .f32⟩ : BufTy).Contents (Elt F) :=
  constant S_ .f32 0x3B490FDB#32

def val_main_v24 : (⟨S1024x2x1024, .f32⟩ : BufTy).Contents (Elt F) :=
  broadcastInDim S1024x2x1024 ![] bcast_S_S1024x2x1024 (val_main_cst (F := F))

def val_main_v25 : (⟨S1024x2x1024, .f32⟩ : BufTy).Contents (Elt F) :=
  mulf (val_main_v23 (F := F)) (val_main_v24 (F := F))

def val_main_c_6 : (⟨S_, .i32⟩ : BufTy).Contents (Elt F) :=
  constantI S_ 32 64#32

def val_main_call2_v0 : (⟨S_, .i32⟩ : BufTy).Contents (Elt F) :=
  id (val_main_c_6 (F := F))

def val_main_call2_c : (⟨S_, .i32⟩ : BufTy).Contents (Elt F) :=
  constantI S_ 32 0#32

def val_main_call2_v1 : (⟨S_, .i1⟩ : BufTy).Contents (Elt F) :=
  cmpi .eq (val_main_call2_v0 (F := F)) (val_main_call2_c (F := F))

def val_main_call2_c_0 : (⟨S_, .i32⟩ : BufTy).Contents (Elt F) :=
  constantI S_ 32 1#32

def val_main_call2_v2 : (⟨S_, .i32⟩ : BufTy).Contents (Elt F) :=
  select (val_main_call2_v1 (F := F)) (val_main_call2_c_0 (F := F)) (val_main_call2_v0 (F := F))

def val_main_call2_v3 : (⟨S1024x1x1, .i32⟩ : BufTy).Contents (Elt F) :=
  broadcastInDim S1024x1x1 ![] bcast_S_S1024x1x1 (val_main_call2_v2 (F := F))

def val_main_call2_v4 : (⟨S1024x1x1, .i32⟩ : BufTy).Contents (Elt F) :=
  Host.remsi (val_main_v14 (F := F)) (val_main_call2_v3 (F := F))

def val_main_call2_c_1 : (⟨S_, .i32⟩ : BufTy).Contents (Elt F) :=
  constantI S_ 32 0#32

def val_main_call2_v5 : (⟨S1024x1x1, .i32⟩ : BufTy).Contents (Elt F) :=
  broadcastInDim S1024x1x1 ![] bcast_S_S1024x1x1 (val_main_call2_c_1 (F := F))

def val_main_call2_v6 : (⟨S1024x1x1, .i1⟩ : BufTy).Contents (Elt F) :=
  cmpi .ne (val_main_call2_v4 (F := F)) (val_main_call2_v5 (F := F))

def val_main_call2_c_2 : (⟨S_, .i32⟩ : BufTy).Contents (Elt F) :=
  constantI S_ 32 0#32

def val_main_call2_v7 : (⟨S1024x1x1, .i32⟩ : BufTy).Contents (Elt F) :=
  broadcastInDim S1024x1x1 ![] bcast_S_S1024x1x1 (val_main_call2_c_2 (F := F))

def val_main_call2_v8 : (⟨S1024x1x1, .i1⟩ : BufTy).Contents (Elt F) :=
  cmpi .slt (val_main_call2_v4 (F := F)) (val_main_call2_v7 (F := F))

def val_main_call2_c_3 : (⟨S_, .i32⟩ : BufTy).Contents (Elt F) :=
  constantI S_ 32 0#32

def val_main_call2_v9 : (⟨S_, .i1⟩ : BufTy).Contents (Elt F) :=
  cmpi .slt (val_main_call2_v2 (F := F)) (val_main_call2_c_3 (F := F))

def val_main_call2_v10 : (⟨S1024x1x1, .i1⟩ : BufTy).Contents (Elt F) :=
  broadcastInDim S1024x1x1 ![] bcast_S_S1024x1x1 (val_main_call2_v9 (F := F))

def val_main_call2_v11 : (⟨S1024x1x1, .i1⟩ : BufTy).Contents (Elt F) :=
  cmpi .ne (val_main_call2_v8 (F := F)) (val_main_call2_v10 (F := F))

def val_main_call2_v12 : (⟨S1024x1x1, .i1⟩ : BufTy).Contents (Elt F) :=
  andi (val_main_call2_v11 (F := F)) (val_main_call2_v6 (F := F))

def val_main_call2_v13 : (⟨S1024x1x1, .i32⟩ : BufTy).Contents (Elt F) :=
  broadcastInDim S1024x1x1 ![] bcast_S_S1024x1x1 (val_main_call2_v2 (F := F))

def val_main_call2_v14 : (⟨S1024x1x1, .i32⟩ : BufTy).Contents (Elt F) :=
  addi (val_main_call2_v4 (F := F)) (val_main_call2_v13 (F := F))

def val_main_v26 : (⟨S1024x1x1, .i32⟩ : BufTy).Contents (Elt F) :=
  select (val_main_call2_v12 (F := F)) (val_main_call2_v14 (F := F)) (val_main_call2_v4 (F := F))

def val_main_v27 : (⟨S1x2x1024, .i32⟩ : BufTy).Contents (Elt F) :=
  broadcastInDim S1x2x1024 ![1, 2] bcast_S2x1024_S1x2x1024_1_2 (val_main_v12 (F := F))

def val_main_v28 : (⟨S1024x2x1024, .i32⟩ : BufTy).Contents (Elt F) :=
  broadcastInDim S1024x2x1024 ![0, 1, 2] bcast_S1024x1x1_S1024x2x1024_0_1_2 (val_main_v26 (F := F))

def val_main_v29 : (⟨S1024x2x1024, .i32⟩ : BufTy).Contents (Elt F) :=
  broadcastInDim S1024x2x1024 ![0, 1, 2] bcast_S1x2x1024_S1024x2x1024_0_1_2 (val_main_v27 (F := F))

def val_main_v30 : (⟨S1024x2x1024, .i32⟩ : BufTy).Contents (Elt F) :=
  muli (val_main_v28 (F := F)) (val_main_v29 (F := F))

def val_main_c_7 : (⟨S_, .i32⟩ : BufTy).Contents (Elt F) :=
  constantI S_ 32 2048#32

def val_main_call3_v0 : (⟨S_, .i32⟩ : BufTy).Contents (Elt F) :=
  id (val_main_c_7 (F := F))

def val_main_call3_c : (⟨S_, .i32⟩ : BufTy).Contents (Elt F) :=
  constantI S_ 32 0#32

def val_main_call3_v1 : (⟨S_, .i1⟩ : BufTy).Contents (Elt F) :=
  cmpi .eq (val_main_call3_v0 (F := F)) (val_main_call3_c (F := F))

def val_main_call3_c_0 : (⟨S_, .i32⟩ : BufTy).Contents (Elt F) :=
  constantI S_ 32 1#32

def val_main_call3_v2 : (⟨S_, .i32⟩ : BufTy).Contents (Elt F) :=
  select (val_main_call3_v1 (F := F)) (val_main_call3_c_0 (F := F)) (val_main_call3_v0 (F := F))

def val_main_call3_v3 : (⟨S1024x2x1024, .i32⟩ : BufTy).Contents (Elt F) :=
  broadcastInDim S1024x2x1024 ![] bcast_S_S1024x2x1024 (val_main_call3_v2 (F := F))

def val_main_call3_v4 : (⟨S1024x2x1024, .i32⟩ : BufTy).Contents (Elt F) :=
  Host.remsi (val_main_v30 (F := F)) (val_main_call3_v3 (F := F))

def val_main_call3_c_1 : (⟨S_, .i32⟩ : BufTy).Contents (Elt F) :=
  constantI S_ 32 0#32

def val_main_call3_v5 : (⟨S1024x2x1024, .i32⟩ : BufTy).Contents (Elt F) :=
  broadcastInDim S1024x2x1024 ![] bcast_S_S1024x2x1024 (val_main_call3_c_1 (F := F))

def val_main_call3_v6 : (⟨S1024x2x1024, .i1⟩ : BufTy).Contents (Elt F) :=
  cmpi .ne (val_main_call3_v4 (F := F)) (val_main_call3_v5 (F := F))

def val_main_call3_c_2 : (⟨S_, .i32⟩ : BufTy).Contents (Elt F) :=
  constantI S_ 32 0#32

def val_main_call3_v7 : (⟨S1024x2x1024, .i32⟩ : BufTy).Contents (Elt F) :=
  broadcastInDim S1024x2x1024 ![] bcast_S_S1024x2x1024 (val_main_call3_c_2 (F := F))

def val_main_call3_v8 : (⟨S1024x2x1024, .i1⟩ : BufTy).Contents (Elt F) :=
  cmpi .slt (val_main_call3_v4 (F := F)) (val_main_call3_v7 (F := F))

def val_main_call3_c_3 : (⟨S_, .i32⟩ : BufTy).Contents (Elt F) :=
  constantI S_ 32 0#32

def val_main_call3_v9 : (⟨S_, .i1⟩ : BufTy).Contents (Elt F) :=
  cmpi .slt (val_main_call3_v2 (F := F)) (val_main_call3_c_3 (F := F))

def val_main_call3_v10 : (⟨S1024x2x1024, .i1⟩ : BufTy).Contents (Elt F) :=
  broadcastInDim S1024x2x1024 ![] bcast_S_S1024x2x1024 (val_main_call3_v9 (F := F))

def val_main_call3_v11 : (⟨S1024x2x1024, .i1⟩ : BufTy).Contents (Elt F) :=
  cmpi .ne (val_main_call3_v8 (F := F)) (val_main_call3_v10 (F := F))

def val_main_call3_v12 : (⟨S1024x2x1024, .i1⟩ : BufTy).Contents (Elt F) :=
  andi (val_main_call3_v11 (F := F)) (val_main_call3_v6 (F := F))

def val_main_call3_v13 : (⟨S1024x2x1024, .i32⟩ : BufTy).Contents (Elt F) :=
  broadcastInDim S1024x2x1024 ![] bcast_S_S1024x2x1024 (val_main_call3_v2 (F := F))

def val_main_call3_v14 : (⟨S1024x2x1024, .i32⟩ : BufTy).Contents (Elt F) :=
  addi (val_main_call3_v4 (F := F)) (val_main_call3_v13 (F := F))

def val_main_v31 : (⟨S1024x2x1024, .i32⟩ : BufTy).Contents (Elt F) :=
  select (val_main_call3_v12 (F := F)) (val_main_call3_v14 (F := F)) (val_main_call3_v4 (F := F))

def val_main_v32 : (⟨S1024x2x1024, .f32⟩ : BufTy).Contents (Elt F) :=
  sitofp .f32 (val_main_v31 (F := F))

def val_main_cst_8 : (⟨S_, .f32⟩ : BufTy).Contents (Elt F) :=
  constant S_ .f32 0x3B490FDB#32

def val_main_v33 : (⟨S1024x2x1024, .f32⟩ : BufTy).Contents (Elt F) :=
  broadcastInDim S1024x2x1024 ![] bcast_S_S1024x2x1024 (val_main_cst_8 (F := F))

def val_main_v34 : (⟨S1024x2x1024, .f32⟩ : BufTy).Contents (Elt F) :=
  mulf (val_main_v32 (F := F)) (val_main_v33 (F := F))

def val_main_v35 : (⟨S1024x2x1024, .f32⟩ : BufTy).Contents (Elt F) :=
  addf (val_main_v25 (F := F)) (val_main_v34 (F := F))

def val_main_v36 : (⟨S1024x2x1024, .f32⟩ : BufTy).Contents (Elt F) :=
  Host.cos (val_main_v35 (F := F))

def val_main_v37 : (⟨S1024x2x1024, .f32⟩ : BufTy).Contents (Elt F) :=
  Host.sin (val_main_v35 (F := F))

def val_main_v38 : (⟨S1024x2x1x1024, .f32⟩ : BufTy).Contents (Elt F) :=
  broadcastInDim S1024x2x1x1024 ![0, 1, 3] bcast_S1024x2x1024_S1024x2x1x1024_0_1_3 (val_main_v36 (F := F))

def val_main_v39 : (⟨S1024x2x1x1024, .f32⟩ : BufTy).Contents (Elt F) :=
  broadcastInDim S1024x2x1x1024 ![0, 1, 3] bcast_S1024x2x1024_S1024x2x1x1024_0_1_3 (val_main_v37 (F := F))

def val_main_v40 : (⟨S1024x2x2x1024, .f32⟩ : BufTy).Contents (Elt F) :=
  concatenate S1024x2x2x1024 2 [⟨S1024x2x1x1024, (val_main_v38 (F := F))⟩, ⟨S1024x2x1x1024, (val_main_v39 (F := F))⟩] concatenates_S1024x2x1x1024_S1024x2x1x1024_S1024x2x2x1024_d2

def val_main_v41 : (⟨S1024x4096, .f32⟩ : BufTy).Contents (Elt F) :=
  shapeCast _ (val_main_v40 (F := F)) shapeCasts_S1024x2x2x1024_S1024x4096

def val_main_v42 : (⟨S1024x4096, .bf16⟩ : BufTy).Contents (Elt F) :=
  truncf .bf16 (val_main_v41 (F := F)) bitsLt_bf16_f32

/-- The result of the run is the last stage. -/
theorem val_main_v42_eq (m : (ℓ : Loc nD τ sig) → Buf (Elt F) ℓ) (c : Dev nD) :
    Cert.TableRefIdeal.Value.res_main_v42 m c = val_main_v42 (F := F) := by
  unfold Cert.TableRefIdeal.Value.res_main_v42; rfl

end Cert.TableRefIdeal.Read

end
-- ==== Proof.TableRefPure.lean ====
module

public import proofs.«01_k».proof.Proof.TableRefRead
public import proofs.«01_k».proof.Proof.TableSpec
public import Idealize.ShloMosaic.Lib.Pointwise
public import Idealize.ShloMosaic.Lib.Pointwise.Index

@[expose] public section

set_option maxRecDepth 16384

noncomputable section
open Idealize.ShloMosaic Idealize.ShloMosaic.TcCoe Idealize.SL.Sem

/-! The reference's table at a frequency, a parity, cosine or sine, and a position of that parity. -/
namespace Cert.TableRefIdeal.Turns
open Cert.TableRefIdeal Cert.TableRefIdeal.Gen Cert.TableRefIdeal.Read Cert.K

theorem times_even (j : Fin 1024) : val_main_v12 (F := Ideal) (ix2 0 j) = BitVec.ofNat 32 (j.val * 2) := by
  pointwise [val_main_v12, val_main_v10, val_main_v4]
  have h : ∀ k : Fin 1024, 0#32 + 2#32 * BitVec.ofNat 32 k = BitVec.ofNat 32 (k.val * 2) := by decide +kernel
  exact h j
theorem times_odd (j : Fin 1024) : val_main_v12 (F := Ideal) (ix2 1 j) = BitVec.ofNat 32 (j.val * 2 + 1) := by
  pointwise [val_main_v12, val_main_v11, val_main_v9]
  have h : ∀ k : Fin 1024, 1#32 + 2#32 * BitVec.ofNat 32 k = BitVec.ofNat 32 (k.val * 2 + 1) := by decide +kernel
  exact h j

theorem v15_eq : val_main_v15 (F := Ideal) = Turn.quotient S1024x1x1 bcast_S_S1024x1x1 (val_main_v14 (F := Ideal)) 64#32 := rfl
theorem v22_eq : val_main_v22 (F := Ideal) = Turn.remainder S1024x2x1024 bcast_S_S1024x2x1024 (val_main_v21 (F := Ideal)) 2048#32 := rfl
theorem v26_eq : val_main_v26 (F := Ideal) = Turn.remainder S1024x1x1 bcast_S_S1024x1x1 (val_main_v14 (F := Ideal)) 64#32 := rfl
theorem v31_eq : val_main_v31 (F := Ideal) = Turn.remainder S1024x2x1024 bcast_S_S1024x2x1024 (val_main_v30 (F := Ideal)) 2048#32 := rfl
theorem v14_at (i : S1024x1x1.Idx) : val_main_v14 (F := Ideal) i = BitVec.ofNat 32 (i 0) := rfl

theorem v25_at (f : Fin 1024) (r : Fin 2) (j : Fin 1024) : val_main_v25 (F := Ideal) (ix3 f r j)
    = Turn.turn (Turn.quot (BitVec.ofNat 32 f) 64#32 * 64#32) (val_main_v12 (F := Ideal) (ix2 r j)) := by
  pointwise [val_main_v25, val_main_v23, v22_eq, Turn.remainder_at, val_main_v21, val_main_v20, val_main_v19, val_main_v18, val_main_v17, v15_eq, Turn.quotient_at]
  rfl
theorem v34_at (f : Fin 1024) (r : Fin 2) (j : Fin 1024) : val_main_v34 (F := Ideal) (ix3 f r j)
    = Turn.turn (Turn.rem (BitVec.ofNat 32 f) 64#32) (val_main_v12 (F := Ideal) (ix2 r j)) := by
  pointwise [val_main_v34, val_main_v32, v31_eq, Turn.remainder_at, val_main_v30, val_main_v29, val_main_v28, val_main_v27, v26_eq]
  rfl
theorem v35_at (f : Fin 1024) (r : Fin 2) (j : Fin 1024) : val_main_v35 (F := Ideal) (ix3 f r j) = Turn.angle f (val_main_v12 (F := Ideal) (ix2 r j)) :=
  congrArg₂ (fun x y : EReal => x + y) ((v25_at f r j).trans (congrArg (fun x => Turn.turn x _) (Turn.coarse f)))
    ((v34_at f r j).trans (congrArg (fun x => Turn.turn x _) (Turn.fine f)))

theorem v40_cos (f : Fin 1024) (r : Fin 2) (j : Fin 1024) : val_main_v40 (F := Ideal) (ix4 f r 0 j) = Ideal.cos (val_main_v35 (F := Ideal) (ix3 f r j)) := by
  pointwise [val_main_v40, val_main_v38]
  rfl
theorem v40_sin (f : Fin 1024) (r : Fin 2) (j : Fin 1024) : val_main_v40 (F := Ideal) (ix4 f r 1 j) = Ideal.sin (val_main_v35 (F := Ideal) (ix3 f r j)) := by
  pointwise [val_main_v40, val_main_v39]
  rfl
theorem v42_at (f : Fin 1024) (r s : Fin 2) (j : Fin 1024) : val_main_v42 (F := Ideal) (ix2 f ⟨r * 2048 + s * 1024 + j, by omega⟩)
    = val_main_v40 (F := Ideal) (ix4 f r s j) := by
  pointwise [val_main_v42, val_main_v41]

end Cert.TableRefIdeal.Turns
-- ==== Proof.TableBlock.lean ====
module

public import proofs.«01_k».proof.Proof.Gen.TableIdeal.Value
public import proofs.«01_k».proof.Proof.TableArrays
public import proofs.«01_k».proof.Proof.TableRefPure
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The table call: the stores of a grid point as one block, and the entries of the reference. -/
namespace Cert.TableIdeal.Turns
open Cert.TableIdeal Cert.TableIdeal.Gen Cert.K

/-! ## The reference's table -/

theorem ref_at (f : Fin 1024) (l : Fin 4096) : Cert.TableRefIdeal.Read.val_main_v42 (F := Ideal) (ix2 f l)
    = if l.val / 1024 % 2 = 1 then Ideal.sin (Turn.angle f (pos l)) else Ideal.cos (Turn.angle f (pos l)) := by
  have hl := l.isLt
  have e : l = ⟨l.val / 2048 * 2048 + l.val / 1024 % 2 * 1024 + l.val % 1024, by omega⟩ := Fin.ext (by
    show l.val = l.val / 2048 * 2048 + l.val / 1024 % 2 * 1024 + l.val % 1024; omega)
  have ht : Cert.TableRefIdeal.Read.val_main_v12 (F := Ideal) (ix2 ⟨l.val / 2048, by omega⟩ ⟨l.val % 1024, by omega⟩) = pos l := by
    by_cases h : l.val / 2048 = 0
    · have e' : (⟨l.val / 2048, by omega⟩ : Fin 2) = 0 := Fin.ext h
      rw [e']
      exact (Cert.TableRefIdeal.Turns.times_even _).trans (congrArg (BitVec.ofNat 32) (by show l.val % 1024 * 2 = _; omega))
    · have e' : (⟨l.val / 2048, by omega⟩ : Fin 2) = 1 := Fin.ext (by show l.val / 2048 = 1; omega)
      rw [e']
      exact (Cert.TableRefIdeal.Turns.times_odd _).trans (congrArg (BitVec.ofNat 32) (by show l.val % 1024 * 2 + 1 = _; omega))
  refine (congrArg (fun l => Cert.TableRefIdeal.Read.val_main_v42 (F := Ideal) (ix2 f l)) e).trans
    ((Cert.TableRefIdeal.Turns.v42_at f ⟨l.val / 2048, by omega⟩ ⟨l.val / 1024 % 2, by omega⟩ ⟨l.val % 1024, by omega⟩).trans ?_)
  by_cases h : l.val / 1024 % 2 = 1
  · have e' : (⟨l.val / 1024 % 2, by omega⟩ : Fin 2) = 1 := Fin.ext h
    rw [if_pos h, e']
    exact (Cert.TableRefIdeal.Turns.v40_sin _ _ _).trans (congrArg Ideal.sin ((Cert.TableRefIdeal.Turns.v35_at _ _ _).trans (congrArg (Turn.angle f) ht)))
  · have e' : (⟨l.val / 1024 % 2, by omega⟩ : Fin 2) = 0 := Fin.ext (by show l.val / 1024 % 2 = 0; omega)
    rw [if_neg h, e']
    exact (Cert.TableRefIdeal.Turns.v40_cos _ _ _).trans (congrArg Ideal.cos ((Cert.TableRefIdeal.Turns.v35_at _ _ _).trans (congrArg (Turn.angle f) ht)))

/-! ## The stores -/

section Stores
variable (x0 x1 : Vec Ideal S4x1x4096 .f32) (x2 x3 : Vec Ideal S64x4096 .f32)

/-- An entry of the block of slab `r` and row `b`. -/
def entry (r : Fin 4) (b : Fin 64) (l : Fin 4096) : EReal := x0 (ix3 r 0 l) * x2 (ix2 b l) - x1 (ix3 r 0 l) * x3 (ix2 b l)

theorem ldT (x : Vec Ideal S64x4096 .f32) (b : Fin 64) (l : Fin 4096) : View.ld x r0_0 (ix2 b l) = x (ix2 b l) := by
  pointwise [r0_0]
  blk_ext []
theorem ld1 (x : Vec Ideal S4x1x4096 .f32) (l : Fin 4096) : View.ld x r0_1 (ix3 0 0 l) = x (ix3 0 0 l) := by
  pointwise [r0_1]
  blk_ext []
theorem ld3 (x : Vec Ideal S4x1x4096 .f32) (l : Fin 4096) : View.ld x r0_3 (ix3 0 0 l) = x (ix3 1 0 l) := by
  pointwise [r0_3]
  blk_ext []
theorem ld5 (x : Vec Ideal S4x1x4096 .f32) (l : Fin 4096) : View.ld x r0_5 (ix3 0 0 l) = x (ix3 2 0 l) := by
  pointwise [r0_5]
  blk_ext []
theorem ld7 (x : Vec Ideal S4x1x4096 .f32) (l : Fin 4096) : View.ld x r0_7 (ix3 0 0 l) = x (ix3 3 0 l) := by
  pointwise [r0_7]
  blk_ext []

theorem pay5_at (a c : Vec Ideal S64x4096 .f32) (p q : Vec Ideal S1x1x4096 .f32) (b : Fin 64) (l : Fin 4096) :
    k0_pay5 (F := Ideal) a c p q (ix2 b l) = (p (ix3 0 0 l) * a (ix2 b l) - q (ix3 0 0 l) * c (ix2 b l) : EReal) := by
  pointwise [k0_pay5, k0_pay3, k0_pay4]
theorem pay6_at (a c : Vec Ideal S64x4096 .f32) (p q : Vec Ideal S1x1x4096 .f32) (b : Fin 64) (l : Fin 4096) :
    k0_pay6 (F := Ideal) a c p q (ix2 b l) = (p (ix3 0 0 l) * a (ix2 b l) - q (ix3 0 0 l) * c (ix2 b l) : EReal) := by
  pointwise [k0_pay6, k0_pay3, k0_pay4]
theorem pay1_at (a c : Vec Ideal S64x4096 .f32) (p q : Vec Ideal S1x1x4096 .f32) (b : Fin 64) (l : Fin 4096) :
    k0_pay1 (F := Ideal) (k0_pay4 c) (k0_pay7 a p) q (ix2 b l) = (p (ix3 0 0 l) * a (ix2 b l) - q (ix3 0 0 l) * c (ix2 b l) : EReal) := by
  pointwise [k0_pay1, k0_pay7, k0_pay3, k0_pay4]
theorem pay2_at (a c : Vec Ideal S64x4096 .f32) (p q : Vec Ideal S1x1x4096 .f32) (b : Fin 64) (l : Fin 4096) :
    k0_pay2 (F := Ideal) (k0_pay3 a) (k0_pay4 c) p q (ix2 b l) = (p (ix3 0 0 l) * a (ix2 b l) - q (ix3 0 0 l) * c (ix2 b l) : EReal) := by
  pointwise [k0_pay2, k0_pay3, k0_pay4]

/-- The block, at each index. -/
def block (y : S256x4096.Idx) : EReal :=
  entry x0 x1 x2 x3 ⟨(y 0).val / 64, by have : (y 0).val < 256 := (y 0).isLt; omega⟩ ⟨(y 0).val % 64, by omega⟩ (y 1)

theorem block_at (r : Fin 4) (b : Fin 64) (l : Fin 4096) (y : S256x4096.Idx) (h0 : (y 0).val = r.val * 64 + b.val) (h1 : (y 1).val = l.val) :
    entry x0 x1 x2 x3 r b l = block x0 x1 x2 x3 y := by
  unfold block
  have e0 : r = ⟨(y 0).val / 64, by omega⟩ := Fin.ext (by show r.val = (y 0).val / 64; omega)
  have e1 : b = ⟨(y 0).val % 64, by omega⟩ := Fin.ext (by show b.val = (y 0).val % 64; omega)
  have e2 : l = y 1 := Fin.ext h1.symm
  rw [← e0, ← e1, ← e2]

theorem out_eq (y : S256x4096.Idx) : out0_4 (F := Ideal) x0 x1 x2 x3 y = block x0 x1 x2 x3 y := by
  unfold_out out0_4
  refine View.canon_eq_of_allAt _ y _ (cover0_4 _ _ _ _ y) ?_
  refine View.allAt_cons _ _ _ (fun x hx => ?_) (View.allAt_cons _ _ _ (fun x hx => ?_) (View.allAt_cons _ _ _ (fun x hx => ?_)
    (View.allAt_cons _ _ _ (fun x hx => ?_) (fun p hp => absurd hp List.not_mem_nil)))) <;> subst hx <;> idx_vars x
  · refine (pay2_at _ _ _ _ x0 x1).trans ?_
    rw [ldT, ldT, ld7, ld7]
    exact block_at _ _ _ _ 3 x0 x1 _ (by show 192 + 1 * x0.val = 3 * 64 + x0.val; omega) (by show 0 + 1 * x1.val = x1.val; omega)
  · refine (pay1_at _ _ _ _ x0 x1).trans ?_
    rw [ldT, ldT, ld5, ld5]
    exact block_at _ _ _ _ 2 x0 x1 _ (by show 128 + 1 * x0.val = 2 * 64 + x0.val; omega) (by show 0 + 1 * x1.val = x1.val; omega)
  · refine (pay6_at _ _ _ _ x0 x1).trans ?_
    rw [ldT, ldT, ld3, ld3]
    exact block_at _ _ _ _ 1 x0 x1 _ (by show 64 + 1 * x0.val = 1 * 64 + x0.val; omega) (by show 0 + 1 * x1.val = x1.val; omega)
  · refine (pay5_at _ _ _ _ x0 x1).trans ?_
    rw [ldT, ldT, ld1, ld1]
    exact block_at _ _ _ _ 0 x0 x1 _ (by show 0 + 1 * x0.val = 0 * 64 + x0.val; omega) (by show 0 + 1 * x1.val = x1.val; omega)
end Stores

end Cert.TableIdeal.Turns
-- ==== Proof.TableHostA.lean ====
module

public import proofs.«01_k».proof.Proof.Gen.TableIdeal.Frame
public import proofs.«01_k».proof.Proof.TableArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.TableIdeal.Turns
open Cert.TableIdeal Cert.TableIdeal.Gen Cert.K

variable (m : (ℓ : Loc nD τ sig) → Buf (Elt Ideal) ℓ) (c : Dev nD)

set_option maxHeartbeats 4000000
theorem V_v25 : V m c main_v25 = broadcastInDim S16x1x4096 ![0, 2] bcast_S16x4096_S16x1x4096_0_2 (Host.cos coarse) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.TableIdeal.Turns
-- ==== Proof.TableHostB.lean ====
module

public import proofs.«01_k».proof.Proof.Gen.TableIdeal.Frame
public import proofs.«01_k».proof.Proof.TableArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.TableIdeal.Turns
open Cert.TableIdeal Cert.TableIdeal.Gen Cert.K

variable (m : (ℓ : Loc nD τ sig) → Buf (Elt Ideal) ℓ) (c : Dev nD)

set_option maxHeartbeats 4000000
theorem V_v34 : V m c main_v34 = broadcastInDim S16x1x4096 ![0, 2] bcast_S16x4096_S16x1x4096_0_2 (Host.sin coarse) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.TableIdeal.Turns
-- ==== Proof.TableHostC.lean ====
module

public import proofs.«01_k».proof.Proof.Gen.TableIdeal.Frame
public import proofs.«01_k».proof.Proof.TableArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.TableIdeal.Turns
open Cert.TableIdeal Cert.TableIdeal.Gen Cert.K

variable (m : (ℓ : Loc nD τ sig) → Buf (Elt Ideal) ℓ) (c : Dev nD)

set_option maxHeartbeats 4000000
theorem V_v51 : V m c main_v51 = select (broadcastInDim S64x4096 ![0, 1] bcast_S1x4096_S64x4096_0_1 isSin) (Host.sin fine) (Host.cos fine) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.TableIdeal.Turns
-- ==== Proof.TableHostD.lean ====
module

public import proofs.«01_k».proof.Proof.Gen.TableIdeal.Frame
public import proofs.«01_k».proof.Proof.TableArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.TableIdeal.Turns
open Cert.TableIdeal Cert.TableIdeal.Gen Cert.K

variable (m : (ℓ : Loc nD τ sig) → Buf (Elt Ideal) ℓ) (c : Dev nD)

set_option maxHeartbeats 4000000
theorem V_v69 : V m c main_v69 = select (broadcastInDim S64x4096 ![0, 1] bcast_S1x4096_S64x4096_0_1 isSin) (Host.negf (Host.cos fine)) (Host.sin fine) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.TableIdeal.Turns
-- ==== Proof.TableValue.lean ====
module

public import proofs.«01_k».proof.Proof.TableBlock
public import proofs.«01_k».proof.Proof.TableHostA
public import proofs.«01_k».proof.Proof.TableHostB
public import proofs.«01_k».proof.Proof.TableHostC
public import proofs.«01_k».proof.Proof.TableHostD
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The table is the reference's. -/
namespace Cert.TableIdeal.Turns
open Cert.TableIdeal Cert.TableIdeal.Gen Cert.K

/-! ## The windows -/

theorem idx : ∀ t : Fin cfg0.N, win0_0.index t = ![t.val, 0, 0] ∧ win0_1.index t = ![t.val, 0, 0] ∧ win0_2.index t = ![0, 0] ∧ win0_3.index t = ![0, 0]
    ∧ win0_4.index t = ![t.val, 0] ∧ t.val < 4 :=
  (by decide +kernel : ∀ t : Fin grid0.N, _)

variable (m : (ℓ : Loc nD τ sig) → Buf (Elt Ideal) ℓ) (c : Dev nD) (t : Fin cfg0.N)

theorem lt4 : t.val < 4 := (idx t).2.2.2.2.2

theorem at0 (r : Fin 4) (l : Fin 4096) : iblk m c 0 t (ix3 r 0 l) = Ideal.cos (coarse (ix2 ⟨t.val * 4 + r, by have := lt4 t; omega⟩ l)) := by
  have := lt4 t
  have e : iblk m c 0 t (ix3 r 0 l) = V m c main_v25 (ix3 ⟨t.val * 4 + r, by omega⟩ 0 l) := congrArg (V m c main_v25) (by blk_ext [idx t])
  rw [e, V_v25]
  pointwise []
theorem at1 (r : Fin 4) (l : Fin 4096) : iblk m c 1 t (ix3 r 0 l) = Ideal.sin (coarse (ix2 ⟨t.val * 4 + r, by have := lt4 t; omega⟩ l)) := by
  have := lt4 t
  have e : iblk m c 1 t (ix3 r 0 l) = V m c main_v34 (ix3 ⟨t.val * 4 + r, by omega⟩ 0 l) := congrArg (V m c main_v34) (by blk_ext [idx t])
  rw [e, V_v34]
  pointwise []

theorem pick (x y : FVec Ideal S64x4096 .f32) (b : Fin 64) (l : Fin 4096) :
    select (broadcastInDim S64x4096 ![0, 1] bcast_S1x4096_S64x4096_0_1 isSin) x y (ix2 b l)
      = if l.val / 1024 % 2 = 1 then x (ix2 b l) else y (ix2 b l) := by
  have e : select (broadcastInDim S64x4096 ![0, 1] bcast_S1x4096_S64x4096_0_1 isSin) x y (ix2 b l)
      = if isSin (ix2 0 l) = 1#1 then x (ix2 b l) else y (ix2 b l) := by
    pointwise []
    rfl
  rw [e, isSin_at]
  by_cases h : l.val / 1024 % 2 = 1
  · rw [if_pos h, if_pos h, if_pos rfl]
  · rw [if_neg h, if_neg h, if_neg (by decide)]

theorem at2 (b : Fin 64) (l : Fin 4096) : iblk m c 2 t (ix2 b l)
    = if l.val / 1024 % 2 = 1 then Ideal.sin (fine (ix2 b l)) else Ideal.cos (fine (ix2 b l)) := by
  have e : iblk m c 2 t (ix2 b l) = V m c main_v51 (ix2 b l) := congrArg (V m c main_v51) (by blk_ext [idx t])
  rw [e, V_v51]
  exact pick _ _ b l
theorem at3 (b : Fin 64) (l : Fin 4096) : iblk m c 3 t (ix2 b l)
    = if l.val / 1024 % 2 = 1 then -Ideal.cos (fine (ix2 b l)) else Ideal.sin (fine (ix2 b l)) := by
  have e : iblk m c 3 t (ix2 b l) = V m c main_v69 (ix2 b l) := congrArg (V m c main_v69) (by blk_ext [idx t])
  rw [e, V_v69]
  exact pick _ _ b l

/-! ## The result -/

abbrev REF : FVec Ideal S1024x4096 .bf16 := Cert.TableRefIdeal.Read.val_main_v42 (F := Ideal)

theorem entry_eq (r : Fin 4) (b : Fin 64) (l : Fin 4096) :
    entry (iblk m c 0 t) (iblk m c 1 t) (iblk m c 2 t) (iblk m c 3 t) r b l
      = REF (ix2 ⟨t.val * 256 + (r.val * 64 + b.val), by have := lt4 t; omega⟩ l) := by
  have ht := lt4 t
  have hr := r.isLt
  have hb := b.isLt
  unfold entry
  rw [at0, at1, at2, at3]
  refine Eq.trans ?_ (ref_at _ _).symm
  have ea : coarse (ix2 ⟨t.val * 4 + r.val, by omega⟩ l) = Turn.turn (BitVec.ofNat 32 ((t.val * 256 + (r.val * 64 + b.val)) / 64) * 64#32) (pos l) := by
    rw [coarse_at, times_at]
    exact congrArg (fun n => Turn.turn (BitVec.ofNat 32 n * 64#32) (pos l)) (by show t.val * 4 + r.val = (t.val * 256 + (r.val * 64 + b.val)) / 64; omega)
  have eb : fine (ix2 b l) = Turn.turn (BitVec.ofNat 32 ((t.val * 256 + (r.val * 64 + b.val)) % 64)) (pos l) := by
    rw [fine_at, times_at]
    exact congrArg (fun n => Turn.turn (BitVec.ofNat 32 n) (pos l)) (by omega)
  rw [ea, eb]
  by_cases h : l.val / 1024 % 2 = 1
  · rw [if_pos h, if_pos h, if_pos h]
    exact Turn.sin_add (Turn.num_turn _ _) (Turn.num_turn _ _)
  · rw [if_neg h, if_neg h, if_neg h]
    exact Turn.cos_add (Turn.num_turn _ _) (Turn.num_turn _ _)

/-- The whole table is the reference's. -/
theorem final4 : (dats m 0 c).arrAt 4 (cfgs 0).N = REF := by
  refine (dats m 0 c).arrAt_eq_of_covers 4 _ (by decide +kernel) fun t _ y => ?_
  blk_simp
  rw [after0_4]
  idx_vars y
  have ht := lt4 t
  have hy := y0.isLt
  refine (out_eq _ _ _ _ _).trans ((entry_eq m c t ⟨y0.val / 64, by omega⟩ ⟨y0.val % 64, by omega⟩ y1).trans (congrArg REF ?_))
  have e : t.val * 256 + (y0.val / 64 * 64 + y0.val % 64) = t.val * 256 + y0.val := by omega
  blk_ext [idx t, e]

end Cert.TableIdeal.Turns
-- ==== Proof.TableClaims.lean ====
module

public import proofs.«01_k».proof.Defs
public import proofs.«01_k».proof.Proof.TableValue
public import proofs.«01_k».proof.Proof.Gen.Table.Frame
public import proofs.«01_k».proof.Proof.Gen.TableIdeal.Frame
public import proofs.«01_k».proof.Proof.Gen.TableIdeal.Value
public import Idealize.ShloMosaic.Adequacy
public import Idealize.ShloMosaic.Init
public import Idealize.ShloMosaic.Lib.Quiescent

@[expose] public section

noncomputable section
open Idealize.ShloMosaic Idealize.SL.Sem

/-! The claims about the kernel of the FNet branch's table. -/
namespace Cert.Proof.Table

theorem ref_frame : Cert.quiescent_TableRefIdeal := by
  intro m g _
  exact (θ_run Cert.TableRefIdeal.defs _ _).mono (fun r h => ⟨fun c => trivial, sem_eq_zero_of_no_sems (by decide) r.2⟩)
    (Cert.TableRefIdeal.Value.run (F := Ideal) m g)

theorem algebraic : Cert.algebraic_TableIdeal_TableRefIdeal := by
  intro m g m' g' hpre hagree
  refine ⟨fun c => Cert.TableIdeal.Turns.REF, ?_, ?_⟩
  · refine (θ_run Cert.TableIdeal.defs _ _).mono (fun r h c => ?_) (Cert.TableIdeal.Gen.run_main (F := Ideal) m g)
    exact (Cert.TableIdeal.Value.post4 m r h c).trans (Cert.TableIdeal.Turns.final4 m c)
  · refine (θ_run Cert.TableRefIdeal.defs _ _).mono (fun r h c => ?_) (Cert.TableRefIdeal.Value.run (F := Ideal) m' g')
    exact (h c).trans (Cert.TableRefIdeal.Read.val_main_v42_eq m' c)

end Cert.Proof.Table
-- ==== Proof.ConvSpec.lean ====
module

public import proofs.«01_k».proof.Proof.TableSpec
public import Idealize.ShloMosaic.PureOps

@[expose] public section

noncomputable section
open Idealize.ShloMosaic

/-! Angles within one turn of 4096 points. -/
namespace Cert.K.Turn

theorem is_sin4 : ∀ l : Fin 4096, Scalar.cmpi .eq (rem (quot (BitVec.ofNat 32 l) 512#32) 2#32) 1#32 = if l.val / 512 % 2 = 1 then 1#1 else 0#1 := by
  decide +kernel

/-- The angle of a frequency at a position, within one turn. -/
def turn4 (f t : BitVec 32) : EReal := (((rem (f * t) 4096#32).toInt : ℝ) : EReal) * Ideal.ofBits .f32 0x3AC90FDB#32

theorem num_turn4 (f t : BitVec 32) : IsNum (turn4 f t) := by
  refine IsNum.mul ⟨_, rfl⟩ ?_
  exact ⟨_, by simp [Ideal.ofBits, Ideal.ieee, -EReal.coe_mul]; rfl⟩

/-- The frequency's angle at a position, as the sum of two. -/
def angle4 (f : Fin 1024) (t : BitVec 32) : EReal := turn4 (BitVec.ofNat 32 (f / 64) * 64#32) t + turn4 (BitVec.ofNat 32 (f % 64)) t

end Cert.K.Turn
-- ==== Proof.ConvArrays.lean ====
module

public import proofs.«01_k».proof.Proof.Gen.ConvIdeal.Launch
public import proofs.«01_k».proof.Proof.ConvSpec
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! The arrays the host prepares for the Hyena branch's table call, and their entries. -/
namespace Cert.ConvIdeal.Turns
open Cert.ConvIdeal Cert.ConvIdeal.Gen Cert.K

/-- The position of each column, and which columns hold sines. -/
def times : IVec S1x4096 32 :=
  shapeCast S1x4096 (concatenate S4x1024 1 [⟨S4x512, transpose S4x512 [1, 0] (shapeCast S512x4 (iotaInDim S2048 32 0) shapeCasts_S2048_S512x4) transposes_S512x4_S4x512_1_0⟩,
    ⟨S4x512, transpose S4x512 [1, 0] (shapeCast S512x4 (iotaInDim S2048 32 0) shapeCasts_S2048_S512x4) transposes_S512x4_S4x512_1_0⟩]
    concatenates_S4x512_S4x512_S4x1024_d1) shapeCasts_S4x1024_S1x4096
def isSin : IVec S1x4096 1 :=
  broadcastInDim S1x4096 ![1] bcast_S4096_S1x4096_1 (cmpi .eq (Turn.remainder S4096 bcast_S_S4096 (Turn.quotient S4096 bcast_S_S4096 (iotaInDim S4096 32 0) 512#32) 2#32)
    (broadcastInDim S4096 ![] bcast_S_S4096 (constantI S_ 32 1#32)))

/-- The angles of the multiples of 64, and of the rests. -/
def coarse : FVec Ideal S16x4096 .f32 :=
  mulf (sitofp .f32 (Turn.remainder S16x4096 bcast_S_S16x4096 (muli (broadcastInDim S16x4096 ![0, 1] bcast_S16x1_S16x4096_0_1
      (muli (broadcastInDim S16x1 ![0] bcast_S16_S16x1_0 (iotaInDim S16 32 0)) (broadcastInDim S16x1 ![] bcast_S_S16x1 (constantI S_ 32 64#32))))
    (broadcastInDim S16x4096 ![0, 1] bcast_S1x4096_S16x4096_0_1 times)) 4096#32))
    (broadcastInDim S16x4096 ![] bcast_S_S16x4096 (constant S_ .f32 0x3AC90FDB#32))
def fine : FVec Ideal S64x4096 .f32 :=
  mulf (sitofp .f32 (Turn.remainder S64x4096 bcast_S_S64x4096 (muli (broadcastInDim S64x4096 ![0, 1] bcast_S64x1_S64x4096_0_1
      (broadcastInDim S64x1 ![0] bcast_S64_S64x1_0 (iotaInDim S64 32 0)))
    (broadcastInDim S64x4096 ![0, 1] bcast_S1x4096_S64x4096_0_1 times)) 4096#32))
    (broadcastInDim S64x4096 ![] bcast_S_S64x4096 (constant S_ .f32 0x3AC90FDB#32))

/-! Their entries. -/

/-- The position of a column. -/
abbrev pos (l : Fin 4096) : BitVec 32 := BitVec.ofNat 32 (l.val % 512 * 4 + l.val / 1024)

theorem times_at (l : Fin 4096) : times (ix2 0 l) = pos l := by
  pointwise [times]
  split <;> exact congrArg (BitVec.ofNat 32) (by omega)
theorem isSin_at (l : Fin 4096) : isSin (ix2 0 l) = if l.val / 512 % 2 = 1 then 1#1 else 0#1 :=
  (Eq.trans (by pointwise [isSin]; rfl) (Turn.is_sin4 l))
theorem coarse_at (a : Fin 16) (l : Fin 4096) : coarse (ix2 a l) = Turn.turn4 (BitVec.ofNat 32 a * 64#32) (times (ix2 0 l)) := by
  pointwise [coarse]
  rfl
theorem fine_at (b : Fin 64) (l : Fin 4096) : fine (ix2 b l) = Turn.turn4 (BitVec.ofNat 32 b) (times (ix2 0 l)) := by
  pointwise [fine]
  rfl

end Cert.ConvIdeal.Turns
-- ==== Proof.ConvRefRun.lean ====
module

public import proofs.«01_k».proof.Proof.Gen.ConvRefIdeal
public import Idealize.ShloMosaic.Lib.StableHlo.Run

@[expose] public section

noncomputable section

namespace Cert.ConvRefIdeal.Value

open Cert.ConvRefIdeal Cert.ConvRefIdeal.Gen Idealize.ShloMosaic Idealize.ShloMosaic.TcCoe Idealize.SL.Sem Idealize.ShloMosaic.StableHlo

variable {F : FTy → Type} [FloatOps F]

/-- The function of the operation that writes `main_v30`. -/
def fn_main_v30 : (⟨S1024x4x1x512, .f32⟩ : BufTy).Contents (Elt F) → (⟨S1024x4x1x512, .f32⟩ : BufTy).Contents (Elt F) → (⟨S1024x4x2x512, .f32⟩ : BufTy).Contents (Elt F) :=
  (fun a b => concatenate S1024x4x2x512 2 [⟨S1024x4x1x512, a⟩, ⟨S1024x4x1x512, b⟩] concatenates_S1024x4x1x512_S1024x4x1x512_S1024x4x2x512_d2)

/-- The reference's 116 operations, in order. -/
abbrev ops : List (HloOp τ sig (Elt F)) :=
  [ nullary main_v0 (iotaInDim S2048 32 0),
    reshape main_v0 main_v1 (rfl : (.i32 : EltTy) = .i32) shapeCasts_S2048_S512x4,
    unary main_v1 main_v2 ((transpose S4x512 [1, 0] · transposes_S512x4_S4x512_1_0) : (⟨S512x4, .i32⟩ : BufTy).Contents (Elt F) → (⟨S4x512, .i32⟩ : BufTy).Contents (Elt F)),
    nullary main_v3 (iotaInDim S1024 32 0),
    unary main_v3 main_v4 (broadcastInDim S1024x1x1 ![0] bcast_S1024_S1024x1x1_0 : (⟨S1024, .i32⟩ : BufTy).Contents (Elt F) → (⟨S1024x1x1, .i32⟩ : BufTy).Contents (Elt F)),
    nullary main_c (constantI S_ 32 64#32),
    TRef.unary (TRef.of (T := ⟨S_, .i32⟩) main_c) (TRef.of (T := ⟨S_, .i32⟩) main_call0_v0) id,
    TRef.unary (TRef.of (T := ⟨S_, .i32⟩) main_call0_v0) (TRef.of (T := ⟨S1024x1x1, .i32⟩) main_call0_v1) (broadcastInDim S1024x1x1 ![] bcast_S_S1024x1x1),
    TRef.binary (TRef.of (T := ⟨S1024x1x1, .i32⟩) main_v4) (TRef.of (T := ⟨S1024x1x1, .i32⟩) main_call0_v1) (TRef.of (T := ⟨S1024x1x1, .i32⟩) main_call0_v2) Host.divsi,
    TRef.unary (TRef.of (T := ⟨S1024x1x1, .i32⟩) main_v4) (TRef.of (T := ⟨S1024x1x1, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S1024x1x1, .i32⟩) main_call0_v5) (broadcastInDim S1024x1x1 ![] bcast_S_S1024x1x1),
    TRef.binary (TRef.of (T := ⟨S1024x1x1, .i32⟩) main_call0_v3) (TRef.of (T := ⟨S1024x1x1, .i32⟩) main_call0_v5) (TRef.of (T := ⟨S1024x1x1, .i1⟩) main_call0_v6) (cmpi .ne),
    TRef.unary (TRef.of (T := ⟨S_, .i32⟩) main_call0_v0) (TRef.of (T := ⟨S1024x1x1, .i32⟩) main_call0_v7) (broadcastInDim S1024x1x1 ![] bcast_S_S1024x1x1),
    TRef.binary (TRef.of (T := ⟨S1024x1x1, .i32⟩) main_v4) (TRef.of (T := ⟨S1024x1x1, .i32⟩) main_call0_v7) (TRef.of (T := ⟨S1024x1x1, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S1024x1x1, .i32⟩) main_call0_v9) (broadcastInDim S1024x1x1 ![] bcast_S_S1024x1x1),
    TRef.binary (TRef.of (T := ⟨S1024x1x1, .i32⟩) main_call0_v8) (TRef.of (T := ⟨S1024x1x1, .i32⟩) main_call0_v9) (TRef.of (T := ⟨S1024x1x1, .i1⟩) main_call0_v10) (cmpi .ne),
    TRef.binary (TRef.of (T := ⟨S1024x1x1, .i1⟩) main_call0_v6) (TRef.of (T := ⟨S1024x1x1, .i1⟩) main_call0_v10) (TRef.of (T := ⟨S1024x1x1, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S1024x1x1, .i32⟩) main_call0_v12) (broadcastInDim S1024x1x1 ![] bcast_S_S1024x1x1),
    TRef.binary (TRef.of (T := ⟨S1024x1x1, .i32⟩) main_call0_v2) (TRef.of (T := ⟨S1024x1x1, .i32⟩) main_call0_v12) (TRef.of (T := ⟨S1024x1x1, .i32⟩) main_call0_v13) subi,
    TRef.ternary (TRef.of (T := ⟨S1024x1x1, .i1⟩) main_call0_v11) (TRef.of (T := ⟨S1024x1x1, .i32⟩) main_call0_v13) (TRef.of (T := ⟨S1024x1x1, .i32⟩) main_call0_v2) (TRef.of (T := ⟨S1024x1x1, .i32⟩) main_v5) select,
    nullary main_c_0 (constantI S_ 32 64#32),
    unary main_c_0 main_v6 (broadcastInDim S1024x1x1 ![] bcast_S_S1024x1x1 : (⟨S_, .i32⟩ : BufTy).Contents (Elt F) → (⟨S1024x1x1, .i32⟩ : BufTy).Contents (Elt F)),
    binary main_v5 main_v6 main_v7 (muli : (⟨S1024x1x1, .i32⟩ : BufTy).Contents (Elt F) → (⟨S1024x1x1, .i32⟩ : BufTy).Contents (Elt F) → (⟨S1024x1x1, .i32⟩ : BufTy).Contents (Elt F)),
    unary main_v2 main_v8 (broadcastInDim S1x4x512 ![1, 2] bcast_S4x512_S1x4x512_1_2 : (⟨S4x512, .i32⟩ : BufTy).Contents (Elt F) → (⟨S1x4x512, .i32⟩ : BufTy).Contents (Elt F)),
    unary main_v7 main_v9 (broadcastInDim S1024x4x512 ![0, 1, 2] bcast_S1024x1x1_S1024x4x512_0_1_2 : (⟨S1024x1x1, .i32⟩ : BufTy).Contents (Elt F) → (⟨S1024x4x512, .i32⟩ : BufTy).Contents (Elt F)),
    unary main_v8 main_v10 (broadcastInDim S1024x4x512 ![0, 1, 2] bcast_S1x4x512_S1024x4x512_0_1_2 : (⟨S1x4x512, .i32⟩ : BufTy).Contents (Elt F) → (⟨S1024x4x512, .i32⟩ : BufTy).Contents (Elt F)),
    binary main_v9 main_v10 main_v11 (muli : (⟨S1024x4x512, .i32⟩ : BufTy).Contents (Elt F) → (⟨S1024x4x512, .i32⟩ : BufTy).Contents (Elt F) → (⟨S1024x4x512, .i32⟩ : BufTy).Contents (Elt F)),
    nullary main_c_1 (constantI S_ 32 4096#32),
    TRef.unary (TRef.of (T := ⟨S_, .i32⟩) main_c_1) (TRef.of (T := ⟨S_, .i32⟩) main_call1_v0) id,
    TRef.nullary (TRef.of (T := ⟨S_, .i32⟩) main_call1_c) (constantI S_ 32 0#32),
    TRef.binary (TRef.of (T := ⟨S_, .i32⟩) main_call1_v0) (TRef.of (T := ⟨S_, .i32⟩) main_call1_c) (TRef.of (T := ⟨S_, .i1⟩) main_call1_v1) (cmpi .eq),
    TRef.nullary (TRef.of (T := ⟨S_, .i32⟩) main_call1_c_0) (constantI S_ 32 1#32),
    TRef.ternary (TRef.of (T := ⟨S_, .i1⟩) main_call1_v1) (TRef.of (T := ⟨S_, .i32⟩) main_call1_c_0) (TRef.of (T := ⟨S_, .i32⟩) main_call1_v0) (TRef.of (T := ⟨S_, .i32⟩) main_call1_v2) select,
    TRef.unary (TRef.of (T := ⟨S_, .i32⟩) main_call1_v2) (TRef.of (T := ⟨S1024x4x512, .i32⟩) main_call1_v3) (broadcastInDim S1024x4x512 ![] bcast_S_S1024x4x512),
    TRef.binary (TRef.of (T := ⟨S1024x4x512, .i32⟩) main_v11) (TRef.of (T := ⟨S1024x4x512, .i32⟩) main_call1_v3) (TRef.of (T := ⟨S1024x4x512, .i32⟩) main_call1_v4) Host.remsi,
    TRef.nullary (TRef.of (T := ⟨S_, .i32⟩) main_call1_c_1) (constantI S_ 32 0#32),
    TRef.unary (TRef.of (T := ⟨S_, .i32⟩) main_call1_c_1) (TRef.of (T := ⟨S1024x4x512, .i32⟩) main_call1_v5) (broadcastInDim S1024x4x512 ![] bcast_S_S1024x4x512),
    TRef.binary (TRef.of (T := ⟨S1024x4x512, .i32⟩) main_call1_v4) (TRef.of (T := ⟨S1024x4x512, .i32⟩) main_call1_v5) (TRef.of (T := ⟨S1024x4x512, .i1⟩) main_call1_v6) (cmpi .ne),
    TRef.nullary (TRef.of (T := ⟨S_, .i32⟩) main_call1_c_2) (constantI S_ 32 0#32),
    TRef.unary (TRef.of (T := ⟨S_, .i32⟩) main_call1_c_2) (TRef.of (T := ⟨S1024x4x512, .i32⟩) main_call1_v7) (broadcastInDim S1024x4x512 ![] bcast_S_S1024x4x512),
    TRef.binary (TRef.of (T := ⟨S1024x4x512, .i32⟩) main_call1_v4) (TRef.of (T := ⟨S1024x4x512, .i32⟩) main_call1_v7) (TRef.of (T := ⟨S1024x4x512, .i1⟩) main_call1_v8) (cmpi .slt),
    TRef.nullary (TRef.of (T := ⟨S_, .i32⟩) main_call1_c_3) (constantI S_ 32 0#32),
    TRef.binary (TRef.of (T := ⟨S_, .i32⟩) main_call1_v2) (TRef.of (T := ⟨S_, .i32⟩) main_call1_c_3) (TRef.of (T := ⟨S_, .i1⟩) main_call1_v9) (cmpi .slt),
    TRef.unary (TRef.of (T := ⟨S_, .i1⟩) main_call1_v9) (TRef.of (T := ⟨S1024x4x512, .i1⟩) main_call1_v10) (broadcastInDim S1024x4x512 ![] bcast_S_S1024x4x512),
    TRef.binary (TRef.of (T := ⟨S1024x4x512, .i1⟩) main_call1_v8) (TRef.of (T := ⟨S1024x4x512, .i1⟩) main_call1_v10) (TRef.of (T := ⟨S1024x4x512, .i1⟩) main_call1_v11) (cmpi .ne),
    TRef.binary (TRef.of (T := ⟨S1024x4x512, .i1⟩) main_call1_v11) (TRef.of (T := ⟨S1024x4x512, .i1⟩) main_call1_v6) (TRef.of (T := ⟨S1024x4x512, .i1⟩) main_call1_v12) andi,
    TRef.unary (TRef.of (T := ⟨S_, .i32⟩) main_call1_v2) (TRef.of (T := ⟨S1024x4x512, .i32⟩) main_call1_v13) (broadcastInDim S1024x4x512 ![] bcast_S_S1024x4x512),
    TRef.binary (TRef.of (T := ⟨S1024x4x512, .i32⟩) main_call1_v4) (TRef.of (T := ⟨S1024x4x512, .i32⟩) main_call1_v13) (TRef.of (T := ⟨S1024x4x512, .i32⟩) main_call1_v14) addi,
    TRef.ternary (TRef.of (T := ⟨S1024x4x512, .i1⟩) main_call1_v12) (TRef.of (T := ⟨S1024x4x512, .i32⟩) main_call1_v14) (TRef.of (T := ⟨S1024x4x512, .i32⟩) main_call1_v4) (TRef.of (T := ⟨S1024x4x512, .i32⟩) main_v12) select,
    unary main_v12 main_v13 (sitofp .f32 : (⟨S1024x4x512, .i32⟩ : BufTy).Contents (Elt F) → (⟨S1024x4x512, .f32⟩ : BufTy).Contents (Elt F)),
    nullary main_cst (constant S_ .f32 0x3AC90FDB#32),
    unary main_cst main_v14 (broadcastInDim S1024x4x512 ![] bcast_S_S1024x4x512 : (⟨S_, .f32⟩ : BufTy).Contents (Elt F) → (⟨S1024x4x512, .f32⟩ : BufTy).Contents (Elt F)),
    binary main_v13 main_v14 main_v15 (mulf : (⟨S1024x4x512, .f32⟩ : BufTy).Contents (Elt F) → (⟨S1024x4x512, .f32⟩ : BufTy).Contents (Elt F) → (⟨S1024x4x512, .f32⟩ : BufTy).Contents (Elt F)),
    nullary main_c_2 (constantI S_ 32 64#32),
    TRef.unary (TRef.of (T := ⟨S_, .i32⟩) main_c_2) (TRef.of (T := ⟨S_, .i32⟩) main_call2_v0) id,
    TRef.nullary (TRef.of (T := ⟨S_, .i32⟩) main_call2_c) (constantI S_ 32 0#32),
    TRef.binary (TRef.of (T := ⟨S_, .i32⟩) main_call2_v0) (TRef.of (T := ⟨S_, .i32⟩) main_call2_c) (TRef.of (T := ⟨S_, .i1⟩) main_call2_v1) (cmpi .eq),
    TRef.nullary (TRef.of (T := ⟨S_, .i32⟩) main_call2_c_0) (constantI S_ 32 1#32),
    TRef.ternary (TRef.of (T := ⟨S_, .i1⟩) main_call2_v1) (TRef.of (T := ⟨S_, .i32⟩) main_call2_c_0) (TRef.of (T := ⟨S_, .i32⟩) main_call2_v0) (TRef.of (T := ⟨S_, .i32⟩) main_call2_v2) select,
    TRef.unary (TRef.of (T := ⟨S_, .i32⟩) main_call2_v2) (TRef.of (T := ⟨S1024x1x1, .i32⟩) main_call2_v3) (broadcastInDim S1024x1x1 ![] bcast_S_S1024x1x1),
    TRef.binary (TRef.of (T := ⟨S1024x1x1, .i32⟩) main_v4) (TRef.of (T := ⟨S1024x1x1, .i32⟩) main_call2_v3) (TRef.of (T := ⟨S1024x1x1, .i32⟩) main_call2_v4) Host.remsi,
    TRef.nullary (TRef.of (T := ⟨S_, .i32⟩) main_call2_c_1) (constantI S_ 32 0#32),
    TRef.unary (TRef.of (T := ⟨S_, .i32⟩) main_call2_c_1) (TRef.of (T := ⟨S1024x1x1, .i32⟩) main_call2_v5) (broadcastInDim S1024x1x1 ![] bcast_S_S1024x1x1),
    TRef.binary (TRef.of (T := ⟨S1024x1x1, .i32⟩) main_call2_v4) (TRef.of (T := ⟨S1024x1x1, .i32⟩) main_call2_v5) (TRef.of (T := ⟨S1024x1x1, .i1⟩) main_call2_v6) (cmpi .ne),
    TRef.nullary (TRef.of (T := ⟨S_, .i32⟩) main_call2_c_2) (constantI S_ 32 0#32),
    TRef.unary (TRef.of (T := ⟨S_, .i32⟩) main_call2_c_2) (TRef.of (T := ⟨S1024x1x1, .i32⟩) main_call2_v7) (broadcastInDim S1024x1x1 ![] bcast_S_S1024x1x1),
    TRef.binary (TRef.of (T := ⟨S1024x1x1, .i32⟩) main_call2_v4) (TRef.of (T := ⟨S1024x1x1, .i32⟩) main_call2_v7) (TRef.of (T := ⟨S1024x1x1, .i1⟩) main_call2_v8) (cmpi .slt),
    TRef.nullary (TRef.of (T := ⟨S_, .i32⟩) main_call2_c_3) (constantI S_ 32 0#32),
    TRef.binary (TRef.of (T := ⟨S_, .i32⟩) main_call2_v2) (TRef.of (T := ⟨S_, .i32⟩) main_call2_c_3) (TRef.of (T := ⟨S_, .i1⟩) main_call2_v9) (cmpi .slt),
    TRef.unary (TRef.of (T := ⟨S_, .i1⟩) main_call2_v9) (TRef.of (T := ⟨S1024x1x1, .i1⟩) main_call2_v10) (broadcastInDim S1024x1x1 ![] bcast_S_S1024x1x1),
    TRef.binary (TRef.of (T := ⟨S1024x1x1, .i1⟩) main_call2_v8) (TRef.of (T := ⟨S1024x1x1, .i1⟩) main_call2_v10) (TRef.of (T := ⟨S1024x1x1, .i1⟩) main_call2_v11) (cmpi .ne),
    TRef.binary (TRef.of (T := ⟨S1024x1x1, .i1⟩) main_call2_v11) (TRef.of (T := ⟨S1024x1x1, .i1⟩) main_call2_v6) (TRef.of (T := ⟨S1024x1x1, .i1⟩) main_call2_v12) andi,
    TRef.unary (TRef.of (T := ⟨S_, .i32⟩) main_call2_v2) (TRef.of (T := ⟨S1024x1x1, .i32⟩) main_call2_v13) (broadcastInDim S1024x1x1 ![] bcast_S_S1024x1x1),
    TRef.binary (TRef.of (T := ⟨S1024x1x1, .i32⟩) main_call2_v4) (TRef.of (T := ⟨S1024x1x1, .i32⟩) main_call2_v13) (TRef.of (T := ⟨S1024x1x1, .i32⟩) main_call2_v14) addi,
    TRef.ternary (TRef.of (T := ⟨S1024x1x1, .i1⟩) main_call2_v12) (TRef.of (T := ⟨S1024x1x1, .i32⟩) main_call2_v14) (TRef.of (T := ⟨S1024x1x1, .i32⟩) main_call2_v4) (TRef.of (T := ⟨S1024x1x1, .i32⟩) main_v16) select,
    unary main_v2 main_v17 (broadcastInDim S1x4x512 ![1, 2] bcast_S4x512_S1x4x512_1_2 : (⟨S4x512, .i32⟩ : BufTy).Contents (Elt F) → (⟨S1x4x512, .i32⟩ : BufTy).Contents (Elt F)),
    unary main_v16 main_v18 (broadcastInDim S1024x4x512 ![0, 1, 2] bcast_S1024x1x1_S1024x4x512_0_1_2 : (⟨S1024x1x1, .i32⟩ : BufTy).Contents (Elt F) → (⟨S1024x4x512, .i32⟩ : BufTy).Contents (Elt F)),
    unary main_v17 main_v19 (broadcastInDim S1024x4x512 ![0, 1, 2] bcast_S1x4x512_S1024x4x512_0_1_2 : (⟨S1x4x512, .i32⟩ : BufTy).Contents (Elt F) → (⟨S1024x4x512, .i32⟩ : BufTy).Contents (Elt F)),
    binary main_v18 main_v19 main_v20 (muli : (⟨S1024x4x512, .i32⟩ : BufTy).Contents (Elt F) → (⟨S1024x4x512, .i32⟩ : BufTy).Contents (Elt F) → (⟨S1024x4x512, .i32⟩ : BufTy).Contents (Elt F)),
    nullary main_c_3 (constantI S_ 32 4096#32),
    TRef.unary (TRef.of (T := ⟨S_, .i32⟩) main_c_3) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary (TRef.of (T := ⟨S_, .i32⟩) main_call3_v2) (TRef.of (T := ⟨S1024x4x512, .i32⟩) main_call3_v3) (broadcastInDim S1024x4x512 ![] bcast_S_S1024x4x512),
    TRef.binary (TRef.of (T := ⟨S1024x4x512, .i32⟩) main_v20) (TRef.of (T := ⟨S1024x4x512, .i32⟩) main_call3_v3) (TRef.of (T := ⟨S1024x4x512, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S1024x4x512, .i32⟩) main_call3_v5) (broadcastInDim S1024x4x512 ![] bcast_S_S1024x4x512),
    TRef.binary (TRef.of (T := ⟨S1024x4x512, .i32⟩) main_call3_v4) (TRef.of (T := ⟨S1024x4x512, .i32⟩) main_call3_v5) (TRef.of (T := ⟨S1024x4x512, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S1024x4x512, .i32⟩) main_call3_v7) (broadcastInDim S1024x4x512 ![] bcast_S_S1024x4x512),
    TRef.binary (TRef.of (T := ⟨S1024x4x512, .i32⟩) main_call3_v4) (TRef.of (T := ⟨S1024x4x512, .i32⟩) main_call3_v7) (TRef.of (T := ⟨S1024x4x512, .i1⟩) main_call3_v8) (cmpi .slt),
    TRef.nullary (TRef.of (T := ⟨S_, .i32⟩) main_call3_c_3) (constantI S_ 32 0#32),
    TRef.binary (TRef.of (T := ⟨S_, .i32⟩) main_call3_v2) (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S1024x4x512, .i1⟩) main_call3_v10) (broadcastInDim S1024x4x512 ![] bcast_S_S1024x4x512),
    TRef.binary (TRef.of (T := ⟨S1024x4x512, .i1⟩) main_call3_v8) (TRef.of (T := ⟨S1024x4x512, .i1⟩) main_call3_v10) (TRef.of (T := ⟨S1024x4x512, .i1⟩) main_call3_v11) (cmpi .ne),
    TRef.binary (TRef.of (T := ⟨S1024x4x512, .i1⟩) main_call3_v11) (TRef.of (T := ⟨S1024x4x512, .i1⟩) main_call3_v6) (TRef.of (T := ⟨S1024x4x512, .i1⟩) main_call3_v12) andi,
    TRef.unary (TRef.of (T := ⟨S_, .i32⟩) main_call3_v2) (TRef.of (T := ⟨S1024x4x512, .i32⟩) main_call3_v13) (broadcastInDim S1024x4x512 ![] bcast_S_S1024x4x512),
    TRef.binary (TRef.of (T := ⟨S1024x4x512, .i32⟩) main_call3_v4) (TRef.of (T := ⟨S1024x4x512, .i32⟩) main_call3_v13) (TRef.of (T := ⟨S1024x4x512, .i32⟩) main_call3_v14) addi,
    TRef.ternary (TRef.of (T := ⟨S1024x4x512, .i1⟩) main_call3_v12) (TRef.of (T := ⟨S1024x4x512, .i32⟩) main_call3_v14) (TRef.of (T := ⟨S1024x4x512, .i32⟩) main_call3_v4) (TRef.of (T := ⟨S1024x4x512, .i32⟩) main_v21) select,
    unary main_v21 main_v22 (sitofp .f32 : (⟨S1024x4x512, .i32⟩ : BufTy).Contents (Elt F) → (⟨S1024x4x512, .f32⟩ : BufTy).Contents (Elt F)),
    nullary main_cst_4 (constant S_ .f32 0x3AC90FDB#32),
    unary main_cst_4 main_v23 (broadcastInDim S1024x4x512 ![] bcast_S_S1024x4x512 : (⟨S_, .f32⟩ : BufTy).Contents (Elt F) → (⟨S1024x4x512, .f32⟩ : BufTy).Contents (Elt F)),
    binary main_v22 main_v23 main_v24 (mulf : (⟨S1024x4x512, .f32⟩ : BufTy).Contents (Elt F) → (⟨S1024x4x512, .f32⟩ : BufTy).Contents (Elt F) → (⟨S1024x4x512, .f32⟩ : BufTy).Contents (Elt F)),
    binary main_v15 main_v24 main_v25 (addf : (⟨S1024x4x512, .f32⟩ : BufTy).Contents (Elt F) → (⟨S1024x4x512, .f32⟩ : BufTy).Contents (Elt F) → (⟨S1024x4x512, .f32⟩ : BufTy).Contents (Elt F)),
    unary main_v25 main_v26 (Host.cos : (⟨S1024x4x512, .f32⟩ : BufTy).Contents (Elt F) → (⟨S1024x4x512, .f32⟩ : BufTy).Contents (Elt F)),
    unary main_v25 main_v27 (Host.sin : (⟨S1024x4x512, .f32⟩ : BufTy).Contents (Elt F) → (⟨S1024x4x512, .f32⟩ : BufTy).Contents (Elt F)),
    unary main_v26 main_v28 (broadcastInDim S1024x4x1x512 ![0, 1, 3] bcast_S1024x4x512_S1024x4x1x512_0_1_3 : (⟨S1024x4x512, .f32⟩ : BufTy).Contents (Elt F) → (⟨S1024x4x1x512, .f32⟩ : BufTy).Contents (Elt F)),
    unary main_v27 main_v29 (broadcastInDim S1024x4x1x512 ![0, 1, 3] bcast_S1024x4x512_S1024x4x1x512_0_1_3 : (⟨S1024x4x512, .f32⟩ : BufTy).Contents (Elt F) → (⟨S1024x4x1x512, .f32⟩ : BufTy).Contents (Elt F)),
    binary main_v28 main_v29 main_v30 (fn_main_v30 (F := F)),
    reshape main_v30 main_v31 (rfl : (.f32 : EltTy) = .f32) shapeCasts_S1024x4x2x512_S1024x4096,
    unary main_v31 main_v32 ((truncf .bf16 · bitsLt_bf16_f32) : (⟨S1024x4096, .f32⟩ : BufTy).Contents (Elt F) → (⟨S1024x4096, .bf16⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., reshape_bufs_sub .., unary_bufs_sub .., nullary_bufs_sub .., unary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., unary_bufs_sub .., binary_bufs_sub .., binary_bufs_sub .., unary_bufs_sub .., unary_bufs_sub .., unary_bufs_sub .., unary_bufs_sub .., binary_bufs_sub .., reshape_bufs_sub .., unary_bufs_sub ..⟩

set_option maxRecDepth 8192 in
/-- The result, composed of the operations. -/
def res_main_v32 (m : (ℓ : Loc nD τ sig) → Buf (Elt F) ℓ) (c : Dev nD) : Buf (Elt F) ((c.tc : Thread nD τ).loc main_v32) :=
  truncf .bf16 (shapeCast _ (concatenate S1024x4x2x512 2 [⟨S1024x4x1x512, (broadcastInDim S1024x4x1x512 ![0, 1, 3] bcast_S1024x4x512_S1024x4x1x512_0_1_3 (Host.cos (addf (mulf (sitofp .f32 (select (andi (cmpi .ne (cmpi .slt (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32))) (broadcastInDim S1024x4x512 ![] bcast_S_S1024x4x512 (cmpi .slt (select (cmpi .eq (id (constantI S_ 32 4096#32)) (constantI S_ 32 0#32)) (constantI S_ 32 1#32) (id (constantI S_ 32 4096#32))) (constantI S_ 32 0#32)))) (cmpi .ne (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32)))) (addi (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (select (cmpi .eq (id (constantI S_ 32 4096#32)) (constantI S_ 32 0#32)) (constantI S_ 32 1#32) (id (constantI S_ 32 4096#32))))) (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))))) (broadcastInDim S1024x4x512 ![] bcast_S_S1024x4x512 (constant S_ .f32 0x3AC90FDB#32))) (mulf (sitofp .f32 (select (andi (cmpi .ne (cmpi .slt (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32))) (broadcastInDim S1024x4x512 ![] bcast_S_S1024x4x512 (cmpi .slt (select (cmpi .eq (id (constantI S_ 32 4096#32)) (constantI S_ 32 0#32)) (constantI S_ 32 1#32) (id (constantI S_ 32 4096#32))) (constantI S_ 32 0#32)))) (cmpi .ne (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32)))) (addi (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (select (cmpi .eq (id (constantI S_ 32 4096#32)) (constantI S_ 32 0#32)) (constantI S_ 32 1#32) (id (constantI S_ 32 4096#32))))) (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))))) (broadcastInDim S1024x4x512 ![] bcast_S_S1024x4x512 (constant S_ .f32 0x3AC90FDB#32))))))⟩, ⟨S1024x4x1x512, (broadcastInDim S1024x4x1x512 ![0, 1, 3] bcast_S1024x4x512_S1024x4x1x512_0_1_3 (Host.sin (addf (mulf (sitofp .f32 (select (andi (cmpi .ne (cmpi .slt (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32))) (broadcastInDim S1024x4x512 ![] bcast_S_S1024x4x512 (cmpi .slt (select (cmpi .eq (id (constantI S_ 32 4096#32)) (constantI S_ 32 0#32)) (constantI S_ 32 1#32) (id (constantI S_ 32 4096#32))) (constantI S_ 32 0#32)))) (cmpi .ne (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32)))) (addi (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (select (cmpi .eq (id (constantI S_ 32 4096#32)) (constantI S_ 32 0#32)) (constantI S_ 32 1#32) (id (constantI S_ 32 4096#32))))) (Host.remsi (muli (broadcastInDim S1024x4x512 ![0, 1, 2] bcast_S1024x1x1_S1024x4x512_0_1_2 (muli (select (andi (cmpi .ne (signi (broadcastInDim S1024x1x1 ![0] bcast_S1024_S1024x1x1_0 (iotaInDim S1024 32 0))) (broadcastInDim S1024x1x1 ![] bcast_S_S1024x1x1 (signi (id (constantI S_ 32 64#32))))) (cmpi .ne (Host.remsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 0#32)))) (subi (Host.divsi (broadcastInDim S1024x1x1 ![0] bcast_S1024_S1024x1x1_0 (iotaInDim S1024 32 0)) (broadcastInDim S1024x1x1 ![] bcast_S_S1024x1x1 (id (constantI S_ 32 64#32)))) (broadcastInDim S1024x1x1 ![] bcast_S_S1024x1x1 (constantI S_ 32 1#32))) (Host.divsi (broadcastInDim S1024x1x1 ![0] bcast_S1024_S1024x1x1_0 (iotaInDim S1024 32 0)) (broadcastInDim S1024x1x1 ![] bcast_S_S1024x1x1 (id (constantI S_ 32 64#32))))) (broadcastInDim S1024x1x1 ![] bcast_S_S1024x1x1 (constantI S_ 32 64#32)))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))))) (broadcastInDim S1024x4x512 ![] bcast_S_S1024x4x512 (constant S_ .f32 0x3AC90FDB#32))) (mulf (sitofp .f32 (select (andi (cmpi .ne (cmpi .slt (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32))) (broadcastInDim S1024x4x512 ![] bcast_S_S1024x4x512 (cmpi .slt (select (cmpi .eq (id (constantI S_ 32 4096#32)) (constantI S_ 32 0#32)) (constantI S_ 32 1#32) (id (constantI S_ 32 4096#32))) (constantI S_ 32 0#32)))) (cmpi .ne (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (constantI S_ 32 0#32)))) (addi (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))) (broadcastInDim S1024x4x512 ![] bcast_S_S1024x4x512 (select (cmpi .eq (id (constantI S_ 32 4096#32)) (constantI S_ 32 0#32)) (constantI S_ 32 1#32) (id (constantI S_ 32 4096#32))))) (Host.remsi (muli (broadcastInDim S1024x4x512 ![0, 1, 2] bcast_S1024x1x1_S1024x4x512_0_1_2 (select (andi (cmpi .ne (cmpi .slt (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32))) (broadcastInDim S1024x1x1 ![] bcast_S_S1024x1x1 (cmpi .slt (select (cmpi .eq (id (constantI S_ 32 64#32)) (constantI S_ 32 0#32)) (constantI S_ 32 1#32) (id (constantI S_ 32 64#32))) (constantI S_ 32 0#32)))) (cmpi .ne (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (constantI S_ 32 0#32)))) (addi (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))) (broadcastInDim S1024x1x1 ![] bcast_S_S1024x1x1 (select (cmpi .eq (id (constantI S_ 32 64#32)) (constantI S_ 32 0#32)) (constantI S_ 32 1#32) (id (constantI S_ 32 64#32))))) (Host.remsi (broadcastInDim S1024x1x1 ![0] bcast_S1024_S1024x1x1_0 (iotaInDim S1024 32 0)) (broadcastInDim S1024x1x1 ![] bcast_S_S1024x1x1 (select (cmpi .eq (id (constantI S_ 32 64#32)) (constantI S_ 32 0#32)) (constantI S_ 32 1#32) (id (constantI S_ 32 64#32))))))) (broadcastInDim S1024x4x512 ![0, 1, 2] bcast_S1x4x512_S1024x4x512_0_1_2 (broadcastInDim S1x4x512 ![1, 2] bcast_S4x512_S1x4x512_1_2 (transpose S4x512 [1, 0] (shapeCast _ (iotaInDim S2048 32 0) shapeCasts_S2048_S512x4) transposes_S512x4_S4x512_1_0)))) (broadcastInDim S1024x4x512 ![] bcast_S_S1024x4x512 (select (cmpi .eq (id (constantI S_ 32 4096#32)) (constantI S_ 32 0#32)) (constantI S_ 32 1#32) (id (constantI S_ 32 4096#32))))))) (broadcastInDim S1024x4x512 ![] bcast_S_S1024x4x512 (constant S_ .f32 0x3AC90FDB#32))))))⟩] concatenates_S1024x4x1x512_S1024x4x1x512_S1024x4x2x512_d2) shapeCasts_S1024x4x2x512_S1024x4096) bitsLt_bf16_f32

set_option maxRecDepth 8192 in
set_option maxHeartbeats 46400000 in
/-- Every run ends with the result that the operations compose to. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = res_main_v32 m c :=
  (θ_run defs _ _).mono (fun _ h c => (h c main_v32).trans (by simp only [ops, TRef.binary, TRef.nullary, TRef.ternary, TRef.unary, TRef.toBuf, TRef.ofBuf, cast_eq]; after_results_simp <;> rfl <;> (unfold res_main_v32; rfl)))
    (run_seq scopedRefs_eq scopedSems_eq defs main (fun _ => ops) main_eq (fun _ => ops_sub) m ρ)

end Cert.ConvRefIdeal.Value

end
-- ==== Proof.ConvRefRead.lean ====
module

public import proofs.«01_k».proof.Proof.ConvRefRun
public import Idealize.ShloMosaic.Lib.Pipeline.Value

@[expose] public section

noncomputable section

namespace Cert.ConvRefIdeal.Read

open Cert.ConvRefIdeal Cert.ConvRefIdeal.Gen Idealize.ShloMosaic Idealize.ShloMosaic.TcCoe Idealize.SL.Sem Idealize.ShloMosaic.StableHlo

variable {F : FTy → Type} [FloatOps F]

def val_main_v0 : (⟨S2048, .i32⟩ : BufTy).Contents (Elt F) :=
  iotaInDim S2048 32 0

def val_main_v1 : (⟨S512x4, .i32⟩ : BufTy).Contents (Elt F) :=
  shapeCast _ (val_main_v0 (F := F)) shapeCasts_S2048_S512x4

def val_main_v2 : (⟨S4x512, .i32⟩ : BufTy).Contents (Elt F) :=
  transpose S4x512 [1, 0] (val_main_v1 (F := F)) transposes_S512x4_S4x512_1_0

def val_main_v3 : (⟨S1024, .i32⟩ : BufTy).Contents (Elt F) :=
  iotaInDim S1024 32 0

def val_main_v4 : (⟨S1024x1x1, .i32⟩ : BufTy).Contents (Elt F) :=
  broadcastInDim S1024x1x1 ![0] bcast_S1024_S1024x1x1_0 (val_main_v3 (F := F))

def val_main_c : (⟨S_, .i32⟩ : BufTy).Contents (Elt F) :=
  constantI S_ 32 64#32

def val_main_call0_v0 : (⟨S_, .i32⟩ : BufTy).Contents (Elt F) :=
  id (val_main_c (F := F))

def val_main_call0_v1 : (⟨S1024x1x1, .i32⟩ : BufTy).Contents (Elt F) :=
  broadcastInDim S1024x1x1 ![] bcast_S_S1024x1x1 (val_main_call0_v0 (F := F))

def val_main_call0_v2 : (⟨S1024x1x1, .i32⟩ : BufTy).Contents (Elt F) :=
  Host.divsi (val_main_v4 (F := F)) (val_main_call0_v1 (F := F))

def val_main_call0_v3 : (⟨S1024x1x1, .i32⟩ : BufTy).Contents (Elt F) :=
  signi (val_main_v4 (F := F))

def val_main_call0_v4 : (⟨S_, .i32⟩ : BufTy).Contents (Elt F) :=
  signi (val_main_call0_v0 (F := F))

def val_main_call0_v5 : (⟨S1024x1x1, .i32⟩ : BufTy).Contents (Elt F) :=
  broadcastInDim S1024x1x1 ![] bcast_S_S1024x1x1 (val_main_call0_v4 (F := F))

def val_main_call0_v6 : (⟨S1024x1x1, .i1⟩ : BufTy).Contents (Elt F) :=
  cmpi .ne (val_main_call0_v3 (F := F)) (val_main_call0_v5 (F := F))

def val_main_call0_v7 : (⟨S1024x1x1, .i32⟩ : BufTy).Contents (Elt F) :=
  broadcastInDim S1024x1x1 ![] bcast_S_S1024x1x1 (val_main_call0_v0 (F := F))

def val_main_call0_v8 : (⟨S1024x1x1, .i32⟩ : BufTy).Contents (Elt F) :=
  Host.remsi (val_main_v4 (F := F)) (val_main_call0_v7 (F := F))

def val_main_call0_c : (⟨S_, .i32⟩ : BufTy).Contents (Elt F) :=
  constantI S_ 32 0#32

def val_main_call0_v9 : (⟨S1024x1x1, .i32⟩ : BufTy).Contents (Elt F) :=
  broadcastInDim S1024x1x1 ![] bcast_S_S1024x1x1 (val_main_call0_c (F := F))

def val_main_call0_v10 : (⟨S1024x1x1, .i1⟩ : BufTy).Contents (Elt F) :=
  cmpi .ne (val_main_call0_v8 (F := F)) (val_main_call0_v9 (F := F))

def val_main_call0_v11 : (⟨S1024x1x1, .i1⟩ : BufTy).Contents (Elt F) :=
  andi (val_main_call0_v6 (F := F)) (val_main_call0_v10 (F := F))

def val_main_call0_c_0 : (⟨S_, .i32⟩ : BufTy).Contents (Elt F) :=
  constantI S_ 32 1#32

def val_main_call0_v12 : (⟨S1024x1x1, .i32⟩ : BufTy).Contents (Elt F) :=
  broadcastInDim S1024x1x1 ![] bcast_S_S1024x1x1 (val_main_call0_c_0 (F := F))

def val_main_call0_v13 : (⟨S1024x1x1, .i32⟩ : BufTy).Contents (Elt F) :=
  subi (val_main_call0_v2 (F := F)) (val_main_call0_v12 (F := F))

def val_main_v5 : (⟨S1024x1x1, .i32⟩ : BufTy).Contents (Elt F) :=
  select (val_main_call0_v11 (F := F)) (val_main_call0_v13 (F := F)) (val_main_call0_v2 (F := F))

def val_main_c_0 : (⟨S_, .i32⟩ : BufTy).Contents (Elt F) :=
  constantI S_ 32 64#32

def val_main_v6 : (⟨S1024x1x1, .i32⟩ : BufTy).Contents (Elt F) :=
  broadcastInDim S1024x1x1 ![] bcast_S_S1024x1x1 (val_main_c_0 (F := F))

def val_main_v7 : (⟨S1024x1x1, .i32⟩ : BufTy).Contents (Elt F) :=
  muli (val_main_v5 (F := F)) (val_main_v6 (F := F))

def val_main_v8 : (⟨S1x4x512, .i32⟩ : BufTy).Contents (Elt F) :=
  broadcastInDim S1x4x512 ![1, 2] bcast_S4x512_S1x4x512_1_2 (val_main_v2 (F := F))

def val_main_v9 : (⟨S1024x4x512, .i32⟩ : BufTy).Contents (Elt F) :=
  broadcastInDim S1024x4x512 ![0, 1, 2] bcast_S1024x1x1_S1024x4x512_0_1_2 (val_main_v7 (F := F))

def val_main_v10 : (⟨S1024x4x512, .i32⟩ : BufTy).Contents (Elt F) :=
  broadcastInDim S1024x4x512 ![0, 1, 2] bcast_S1x4x512_S1024x4x512_0_1_2 (val_main_v8 (F := F))

def val_main_v11 : (⟨S1024x4x512, .i32⟩ : BufTy).Contents (Elt F) :=
  muli (val_main_v9 (F := F)) (val_main_v10 (F := F))

def val_main_c_1 : (⟨S_, .i32⟩ : BufTy).Contents (Elt F) :=
  constantI S_ 32 4096#32

def val_main_call1_v0 : (⟨S_, .i32⟩ : BufTy).Contents (Elt F) :=
  id (val_main_c_1 (F := F))

def val_main_call1_c : (⟨S_, .i32⟩ : BufTy).Contents (Elt F) :=
  constantI S_ 32 0#32

def val_main_call1_v1 : (⟨S_, .i1⟩ : BufTy).Contents (Elt F) :=
  cmpi .eq (val_main_call1_v0 (F := F)) (val_main_call1_c (F := F))

def val_main_call1_c_0 : (⟨S_, .i32⟩ : BufTy).Contents (Elt F) :=
  constantI S_ 32 1#32

def val_main_call1_v2 : (⟨S_, .i32⟩ : BufTy).Contents (Elt F) :=
  select (val_main_call1_v1 (F := F)) (val_main_call1_c_0 (F := F)) (val_main_call1_v0 (F := F))

def val_main_call1_v3 : (⟨S1024x4x512, .i32⟩ : BufTy).Contents (Elt F) :=
  broadcastInDim S1024x4x512 ![] bcast_S_S1024x4x512 (val_main_call1_v2 (F := F))

def val_main_call1_v4 : (⟨S1024x4x512, .i32⟩ : BufTy).Contents (Elt F) :=
  Host.remsi (val_main_v11 (F := F)) (val_main_call1_v3 (F := F))

def val_main_call1_c_1 : (⟨S_, .i32⟩ : BufTy).Contents (Elt F) :=
  constantI S_ 32 0#32

def val_main_call1_v5 : (⟨S1024x4x512, .i32⟩ : BufTy).Contents (Elt F) :=
  broadcastInDim S1024x4x512 ![] bcast_S_S1024x4x512 (val_main_call1_c_1 (F := F))

def val_main_call1_v6 : (⟨S1024x4x512, .i1⟩ : BufTy).Contents (Elt F) :=
  cmpi .ne (val_main_call1_v4 (F := F)) (val_main_call1_v5 (F := F))

def val_main_call1_c_2 : (⟨S_, .i32⟩ : BufTy).Contents (Elt F) :=
  constantI S_ 32 0#32

def val_main_call1_v7 : (⟨S1024x4x512, .i32⟩ : BufTy).Contents (Elt F) :=
  broadcastInDim S1024x4x512 ![] bcast_S_S1024x4x512 (val_main_call1_c_2 (F := F))

def val_main_call1_v8 : (⟨S1024x4x512, .i1⟩ : BufTy).Contents (Elt F) :=
  cmpi .slt (val_main_call1_v4 (F := F)) (val_main_call1_v7 (F := F))

def val_main_call1_c_3 : (⟨S_, .i32⟩ : BufTy).Contents (Elt F) :=
  constantI S_ 32 0#32

def val_main_call1_v9 : (⟨S_, .i1⟩ : BufTy).Contents (Elt F) :=
  cmpi .slt (val_main_call1_v2 (F := F)) (val_main_call1_c_3 (F := F))

def val_main_call1_v10 : (⟨S1024x4x512, .i1⟩ : BufTy).Contents (Elt F) :=
  broadcastInDim S1024x4x512 ![] bcast_S_S1024x4x512 (val_main_call1_v9 (F := F))

def val_main_call1_v11 : (⟨S1024x4x512, .i1⟩ : BufTy).Contents (Elt F) :=
  cmpi .ne (val_main_call1_v8 (F := F)) (val_main_call1_v10 (F := F))

def val_main_call1_v12 : (⟨S1024x4x512, .i1⟩ : BufTy).Contents (Elt F) :=
  andi (val_main_call1_v11 (F := F)) (val_main_call1_v6 (F := F))

def val_main_call1_v13 : (⟨S1024x4x512, .i32⟩ : BufTy).Contents (Elt F) :=
  broadcastInDim S1024x4x512 ![] bcast_S_S1024x4x512 (val_main_call1_v2 (F := F))

def val_main_call1_v14 : (⟨S1024x4x512, .i32⟩ : BufTy).Contents (Elt F) :=
  addi (val_main_call1_v4 (F := F)) (val_main_call1_v13 (F := F))

def val_main_v12 : (⟨S1024x4x512, .i32⟩ : BufTy).Contents (Elt F) :=
  select (val_main_call1_v12 (F := F)) (val_main_call1_v14 (F := F)) (val_main_call1_v4 (F := F))

def val_main_v13 : (⟨S1024x4x512, .f32⟩ : BufTy).Contents (Elt F) :=
  sitofp .f32 (val_main_v12 (F := F))

def val_main_cst : (⟨S_, .f32⟩ : BufTy).Contents (Elt F) :=
  constant S_ .f32 0x3AC90FDB#32

def val_main_v14 : (⟨S1024x4x512, .f32⟩ : BufTy).Contents (Elt F) :=
  broadcastInDim S1024x4x512 ![] bcast_S_S1024x4x512 (val_main_cst (F := F))

def val_main_v15 : (⟨S1024x4x512, .f32⟩ : BufTy).Contents (Elt F) :=
  mulf (val_main_v13 (F := F)) (val_main_v14 (F := F))

def val_main_c_2 : (⟨S_, .i32⟩ : BufTy).Contents (Elt F) :=
  constantI S_ 32 64#32

def val_main_call2_v0 : (⟨S_, .i32⟩ : BufTy).Contents (Elt F) :=
  id (val_main_c_2 (F := F))

def val_main_call2_c : (⟨S_, .i32⟩ : BufTy).Contents (Elt F) :=
  constantI S_ 32 0#32

def val_main_call2_v1 : (⟨S_, .i1⟩ : BufTy).Contents (Elt F) :=
  cmpi .eq (val_main_call2_v0 (F := F)) (val_main_call2_c (F := F))

def val_main_call2_c_0 : (⟨S_, .i32⟩ : BufTy).Contents (Elt F) :=
  constantI S_ 32 1#32

def val_main_call2_v2 : (⟨S_, .i32⟩ : BufTy).Contents (Elt F) :=
  select (val_main_call2_v1 (F := F)) (val_main_call2_c_0 (F := F)) (val_main_call2_v0 (F := F))

def val_main_call2_v3 : (⟨S1024x1x1, .i32⟩ : BufTy).Contents (Elt F) :=
  broadcastInDim S1024x1x1 ![] bcast_S_S1024x1x1 (val_main_call2_v2 (F := F))

def val_main_call2_v4 : (⟨S1024x1x1, .i32⟩ : BufTy).Contents (Elt F) :=
  Host.remsi (val_main_v4 (F := F)) (val_main_call2_v3 (F := F))

def val_main_call2_c_1 : (⟨S_, .i32⟩ : BufTy).Contents (Elt F) :=
  constantI S_ 32 0#32

def val_main_call2_v5 : (⟨S1024x1x1, .i32⟩ : BufTy).Contents (Elt F) :=
  broadcastInDim S1024x1x1 ![] bcast_S_S1024x1x1 (val_main_call2_c_1 (F := F))

def val_main_call2_v6 : (⟨S1024x1x1, .i1⟩ : BufTy).Contents (Elt F) :=
  cmpi .ne (val_main_call2_v4 (F := F)) (val_main_call2_v5 (F := F))

def val_main_call2_c_2 : (⟨S_, .i32⟩ : BufTy).Contents (Elt F) :=
  constantI S_ 32 0#32

def val_main_call2_v7 : (⟨S1024x1x1, .i32⟩ : BufTy).Contents (Elt F) :=
  broadcastInDim S1024x1x1 ![] bcast_S_S1024x1x1 (val_main_call2_c_2 (F := F))

def val_main_call2_v8 : (⟨S1024x1x1, .i1⟩ : BufTy).Contents (Elt F) :=
  cmpi .slt (val_main_call2_v4 (F := F)) (val_main_call2_v7 (F := F))

def val_main_call2_c_3 : (⟨S_, .i32⟩ : BufTy).Contents (Elt F) :=
  constantI S_ 32 0#32

def val_main_call2_v9 : (⟨S_, .i1⟩ : BufTy).Contents (Elt F) :=
  cmpi .slt (val_main_call2_v2 (F := F)) (val_main_call2_c_3 (F := F))

def val_main_call2_v10 : (⟨S1024x1x1, .i1⟩ : BufTy).Contents (Elt F) :=
  broadcastInDim S1024x1x1 ![] bcast_S_S1024x1x1 (val_main_call2_v9 (F := F))

def val_main_call2_v11 : (⟨S1024x1x1, .i1⟩ : BufTy).Contents (Elt F) :=
  cmpi .ne (val_main_call2_v8 (F := F)) (val_main_call2_v10 (F := F))

def val_main_call2_v12 : (⟨S1024x1x1, .i1⟩ : BufTy).Contents (Elt F) :=
  andi (val_main_call2_v11 (F := F)) (val_main_call2_v6 (F := F))

def val_main_call2_v13 : (⟨S1024x1x1, .i32⟩ : BufTy).Contents (Elt F) :=
  broadcastInDim S1024x1x1 ![] bcast_S_S1024x1x1 (val_main_call2_v2 (F := F))

def val_main_call2_v14 : (⟨S1024x1x1, .i32⟩ : BufTy).Contents (Elt F) :=
  addi (val_main_call2_v4 (F := F)) (val_main_call2_v13 (F := F))

def val_main_v16 : (⟨S1024x1x1, .i32⟩ : BufTy).Contents (Elt F) :=
  select (val_main_call2_v12 (F := F)) (val_main_call2_v14 (F := F)) (val_main_call2_v4 (F := F))

def val_main_v17 : (⟨S1x4x512, .i32⟩ : BufTy).Contents (Elt F) :=
  broadcastInDim S1x4x512 ![1, 2] bcast_S4x512_S1x4x512_1_2 (val_main_v2 (F := F))

def val_main_v18 : (⟨S1024x4x512, .i32⟩ : BufTy).Contents (Elt F) :=
  broadcastInDim S1024x4x512 ![0, 1, 2] bcast_S1024x1x1_S1024x4x512_0_1_2 (val_main_v16 (F := F))

def val_main_v19 : (⟨S1024x4x512, .i32⟩ : BufTy).Contents (Elt F) :=
  broadcastInDim S1024x4x512 ![0, 1, 2] bcast_S1x4x512_S1024x4x512_0_1_2 (val_main_v17 (F := F))

def val_main_v20 : (⟨S1024x4x512, .i32⟩ : BufTy).Contents (Elt F) :=
  muli (val_main_v18 (F := F)) (val_main_v19 (F := F))

def val_main_c_3 : (⟨S_, .i32⟩ : BufTy).Contents (Elt F) :=
  constantI S_ 32 4096#32

def val_main_call3_v0 : (⟨S_, .i32⟩ : BufTy).Contents (Elt F) :=
  id (val_main_c_3 (F := F))

def val_main_call3_c : (⟨S_, .i32⟩ : BufTy).Contents (Elt F) :=
  constantI S_ 32 0#32

def val_main_call3_v1 : (⟨S_, .i1⟩ : BufTy).Contents (Elt F) :=
  cmpi .eq (val_main_call3_v0 (F := F)) (val_main_call3_c (F := F))

def val_main_call3_c_0 : (⟨S_, .i32⟩ : BufTy).Contents (Elt F) :=
  constantI S_ 32 1#32

def val_main_call3_v2 : (⟨S_, .i32⟩ : BufTy).Contents (Elt F) :=
  select (val_main_call3_v1 (F := F)) (val_main_call3_c_0 (F := F)) (val_main_call3_v0 (F := F))

def val_main_call3_v3 : (⟨S1024x4x512, .i32⟩ : BufTy).Contents (Elt F) :=
  broadcastInDim S1024x4x512 ![] bcast_S_S1024x4x512 (val_main_call3_v2 (F := F))

def val_main_call3_v4 : (⟨S1024x4x512, .i32⟩ : BufTy).Contents (Elt F) :=
  Host.remsi (val_main_v20 (F := F)) (val_main_call3_v3 (F := F))

def val_main_call3_c_1 : (⟨S_, .i32⟩ : BufTy).Contents (Elt F) :=
  constantI S_ 32 0#32

def val_main_call3_v5 : (⟨S1024x4x512, .i32⟩ : BufTy).Contents (Elt F) :=
  broadcastInDim S1024x4x512 ![] bcast_S_S1024x4x512 (val_main_call3_c_1 (F := F))

def val_main_call3_v6 : (⟨S1024x4x512, .i1⟩ : BufTy).Contents (Elt F) :=
  cmpi .ne (val_main_call3_v4 (F := F)) (val_main_call3_v5 (F := F))

def val_main_call3_c_2 : (⟨S_, .i32⟩ : BufTy).Contents (Elt F) :=
  constantI S_ 32 0#32

def val_main_call3_v7 : (⟨S1024x4x512, .i32⟩ : BufTy).Contents (Elt F) :=
  broadcastInDim S1024x4x512 ![] bcast_S_S1024x4x512 (val_main_call3_c_2 (F := F))

def val_main_call3_v8 : (⟨S1024x4x512, .i1⟩ : BufTy).Contents (Elt F) :=
  cmpi .slt (val_main_call3_v4 (F := F)) (val_main_call3_v7 (F := F))

def val_main_call3_c_3 : (⟨S_, .i32⟩ : BufTy).Contents (Elt F) :=
  constantI S_ 32 0#32

def val_main_call3_v9 : (⟨S_, .i1⟩ : BufTy).Contents (Elt F) :=
  cmpi .slt (val_main_call3_v2 (F := F)) (val_main_call3_c_3 (F := F))

def val_main_call3_v10 : (⟨S1024x4x512, .i1⟩ : BufTy).Contents (Elt F) :=
  broadcastInDim S1024x4x512 ![] bcast_S_S1024x4x512 (val_main_call3_v9 (F := F))

def val_main_call3_v11 : (⟨S1024x4x512, .i1⟩ : BufTy).Contents (Elt F) :=
  cmpi .ne (val_main_call3_v8 (F := F)) (val_main_call3_v10 (F := F))

def val_main_call3_v12 : (⟨S1024x4x512, .i1⟩ : BufTy).Contents (Elt F) :=
  andi (val_main_call3_v11 (F := F)) (val_main_call3_v6 (F := F))

def val_main_call3_v13 : (⟨S1024x4x512, .i32⟩ : BufTy).Contents (Elt F) :=
  broadcastInDim S1024x4x512 ![] bcast_S_S1024x4x512 (val_main_call3_v2 (F := F))

def val_main_call3_v14 : (⟨S1024x4x512, .i32⟩ : BufTy).Contents (Elt F) :=
  addi (val_main_call3_v4 (F := F)) (val_main_call3_v13 (F := F))

def val_main_v21 : (⟨S1024x4x512, .i32⟩ : BufTy).Contents (Elt F) :=
  select (val_main_call3_v12 (F := F)) (val_main_call3_v14 (F := F)) (val_main_call3_v4 (F := F))

def val_main_v22 : (⟨S1024x4x512, .f32⟩ : BufTy).Contents (Elt F) :=
  sitofp .f32 (val_main_v21 (F := F))

def val_main_cst_4 : (⟨S_, .f32⟩ : BufTy).Contents (Elt F) :=
  constant S_ .f32 0x3AC90FDB#32

def val_main_v23 : (⟨S1024x4x512, .f32⟩ : BufTy).Contents (Elt F) :=
  broadcastInDim S1024x4x512 ![] bcast_S_S1024x4x512 (val_main_cst_4 (F := F))

def val_main_v24 : (⟨S1024x4x512, .f32⟩ : BufTy).Contents (Elt F) :=
  mulf (val_main_v22 (F := F)) (val_main_v23 (F := F))

def val_main_v25 : (⟨S1024x4x512, .f32⟩ : BufTy).Contents (Elt F) :=
  addf (val_main_v15 (F := F)) (val_main_v24 (F := F))

def val_main_v26 : (⟨S1024x4x512, .f32⟩ : BufTy).Contents (Elt F) :=
  Host.cos (val_main_v25 (F := F))

def val_main_v27 : (⟨S1024x4x512, .f32⟩ : BufTy).Contents (Elt F) :=
  Host.sin (val_main_v25 (F := F))

def val_main_v28 : (⟨S1024x4x1x512, .f32⟩ : BufTy).Contents (Elt F) :=
  broadcastInDim S1024x4x1x512 ![0, 1, 3] bcast_S1024x4x512_S1024x4x1x512_0_1_3 (val_main_v26 (F := F))

def val_main_v29 : (⟨S1024x4x1x512, .f32⟩ : BufTy).Contents (Elt F) :=
  broadcastInDim S1024x4x1x512 ![0, 1, 3] bcast_S1024x4x512_S1024x4x1x512_0_1_3 (val_main_v27 (F := F))

def val_main_v30 : (⟨S1024x4x2x512, .f32⟩ : BufTy).Contents (Elt F) :=
  concatenate S1024x4x2x512 2 [⟨S1024x4x1x512, (val_main_v28 (F := F))⟩, ⟨S1024x4x1x512, (val_main_v29 (F := F))⟩] concatenates_S1024x4x1x512_S1024x4x1x512_S1024x4x2x512_d2

def val_main_v31 : (⟨S1024x4096, .f32⟩ : BufTy).Contents (Elt F) :=
  shapeCast _ (val_main_v30 (F := F)) shapeCasts_S1024x4x2x512_S1024x4096

def val_main_v32 : (⟨S1024x4096, .bf16⟩ : BufTy).Contents (Elt F) :=
  truncf .bf16 (val_main_v31 (F := F)) bitsLt_bf16_f32

/-- The result of the run is the last stage. -/
theorem val_main_v32_eq (m : (ℓ : Loc nD τ sig) → Buf (Elt F) ℓ) (c : Dev nD) :
    Cert.ConvRefIdeal.Value.res_main_v32 m c = val_main_v32 (F := F) := by
  unfold Cert.ConvRefIdeal.Value.res_main_v32; rfl

end Cert.ConvRefIdeal.Read

end
-- ==== Proof.ConvRefPure.lean ====
module

public import proofs.«01_k».proof.Proof.ConvRefRead
public import proofs.«01_k».proof.Proof.ConvSpec
public import Idealize.ShloMosaic.Lib.Pointwise
public import Idealize.ShloMosaic.Lib.Pointwise.Index

@[expose] public section

set_option maxRecDepth 16384

noncomputable section
open Idealize.ShloMosaic Idealize.ShloMosaic.TcCoe Idealize.SL.Sem

/-! The reference's table at a frequency, a rest modulo 4, cosine or sine, and a position of that rest. -/
namespace Cert.ConvRefIdeal.Turns
open Cert.ConvRefIdeal Cert.ConvRefIdeal.Gen Cert.ConvRefIdeal.Read Cert.K

theorem times_at (r : Fin 4) (j : Fin 512) : val_main_v2 (F := Ideal) (ix2 r j) = BitVec.ofNat 32 (j.val * 4 + r.val) := by
  pointwise [val_main_v2, val_main_v1, val_main_v0]

theorem v5_eq : val_main_v5 (F := Ideal) = Turn.quotient S1024x1x1 bcast_S_S1024x1x1 (val_main_v4 (F := Ideal)) 64#32 := rfl
theorem v12_eq : val_main_v12 (F := Ideal) = Turn.remainder S1024x4x512 bcast_S_S1024x4x512 (val_main_v11 (F := Ideal)) 4096#32 := rfl
theorem v16_eq : val_main_v16 (F := Ideal) = Turn.remainder S1024x1x1 bcast_S_S1024x1x1 (val_main_v4 (F := Ideal)) 64#32 := rfl
theorem v21_eq : val_main_v21 (F := Ideal) = Turn.remainder S1024x4x512 bcast_S_S1024x4x512 (val_main_v20 (F := Ideal)) 4096#32 := rfl
theorem v4_at (i : S1024x1x1.Idx) : val_main_v4 (F := Ideal) i = BitVec.ofNat 32 (i 0) := rfl

theorem v15_at (f : Fin 1024) (r : Fin 4) (j : Fin 512) : val_main_v15 (F := Ideal) (ix3 f r j)
    = Turn.turn4 (Turn.quot (BitVec.ofNat 32 f) 64#32 * 64#32) (val_main_v2 (F := Ideal) (ix2 r j)) := by
  pointwise [val_main_v15, val_main_v13, v12_eq, Turn.remainder_at, val_main_v11, val_main_v10, val_main_v9, val_main_v8, val_main_v7, v5_eq, Turn.quotient_at]
  rfl
theorem v24_at (f : Fin 1024) (r : Fin 4) (j : Fin 512) : val_main_v24 (F := Ideal) (ix3 f r j)
    = Turn.turn4 (Turn.rem (BitVec.ofNat 32 f) 64#32) (val_main_v2 (F := Ideal) (ix2 r j)) := by
  pointwise [val_main_v24, val_main_v22, v21_eq, Turn.remainder_at, val_main_v20, val_main_v19, val_main_v18, val_main_v17, v16_eq]
  rfl
theorem v25_at (f : Fin 1024) (r : Fin 4) (j : Fin 512) : val_main_v25 (F := Ideal) (ix3 f r j) = Turn.angle4 f (val_main_v2 (F := Ideal) (ix2 r j)) :=
  congrArg₂ (fun x y : EReal => x + y) ((v15_at f r j).trans (congrArg (fun x => Turn.turn4 x _) (Turn.coarse f)))
    ((v24_at f r j).trans (congrArg (fun x => Turn.turn4 x _) (Turn.fine f)))

theorem v30_cos (f : Fin 1024) (r : Fin 4) (j : Fin 512) : val_main_v30 (F := Ideal) (ix4 f r 0 j) = Ideal.cos (val_main_v25 (F := Ideal) (ix3 f r j)) := by
  pointwise [val_main_v30, val_main_v28]
  rfl
theorem v30_sin (f : Fin 1024) (r : Fin 4) (j : Fin 512) : val_main_v30 (F := Ideal) (ix4 f r 1 j) = Ideal.sin (val_main_v25 (F := Ideal) (ix3 f r j)) := by
  pointwise [val_main_v30, val_main_v29]
  rfl
theorem v32_at (f : Fin 1024) (r : Fin 4) (s : Fin 2) (j : Fin 512) : val_main_v32 (F := Ideal) (ix2 f ⟨r * 1024 + s * 512 + j, by omega⟩)
    = val_main_v30 (F := Ideal) (ix4 f r s j) := by
  pointwise [val_main_v32, val_main_v31]

end Cert.ConvRefIdeal.Turns
-- ==== Proof.ConvBlock.lean ====
module

public import proofs.«01_k».proof.Proof.Gen.ConvIdeal.Value
public import proofs.«01_k».proof.Proof.ConvArrays
public import proofs.«01_k».proof.Proof.ConvRefPure
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The table call of the Hyena branch: the stores of a grid point as one block, and the entries of the reference. -/
namespace Cert.ConvIdeal.Turns
open Cert.ConvIdeal Cert.ConvIdeal.Gen Cert.K

/-! ## The reference's table -/

theorem ref_at (f : Fin 1024) (l : Fin 4096) : Cert.ConvRefIdeal.Read.val_main_v32 (F := Ideal) (ix2 f l)
    = if l.val / 512 % 2 = 1 then Ideal.sin (Turn.angle4 f (pos l)) else Ideal.cos (Turn.angle4 f (pos l)) := by
  have hl := l.isLt
  have e : l = ⟨l.val / 1024 * 1024 + l.val / 512 % 2 * 512 + l.val % 512, by omega⟩ := Fin.ext (by
    show l.val = l.val / 1024 * 1024 + l.val / 512 % 2 * 512 + l.val % 512; omega)
  have ht : Cert.ConvRefIdeal.Read.val_main_v2 (F := Ideal) (ix2 ⟨l.val / 1024, by omega⟩ ⟨l.val % 512, by omega⟩) = pos l :=
    Cert.ConvRefIdeal.Turns.times_at _ _
  refine (congrArg (fun l => Cert.ConvRefIdeal.Read.val_main_v32 (F := Ideal) (ix2 f l)) e).trans
    ((Cert.ConvRefIdeal.Turns.v32_at f ⟨l.val / 1024, by omega⟩ ⟨l.val / 512 % 2, by omega⟩ ⟨l.val % 512, by omega⟩).trans ?_)
  by_cases h : l.val / 512 % 2 = 1
  · have e' : (⟨l.val / 512 % 2, by omega⟩ : Fin 2) = 1 := Fin.ext h
    rw [if_pos h, e']
    exact (Cert.ConvRefIdeal.Turns.v30_sin _ _ _).trans (congrArg Ideal.sin ((Cert.ConvRefIdeal.Turns.v25_at _ _ _).trans (congrArg (Turn.angle4 f) ht)))
  · have e' : (⟨l.val / 512 % 2, by omega⟩ : Fin 2) = 0 := Fin.ext (by show l.val / 512 % 2 = 0; omega)
    rw [if_neg h, e']
    exact (Cert.ConvRefIdeal.Turns.v30_cos _ _ _).trans (congrArg Ideal.cos ((Cert.ConvRefIdeal.Turns.v25_at _ _ _).trans (congrArg (Turn.angle4 f) ht)))

/-! ## The stores -/

section Stores
variable (x0 x1 : Vec Ideal S4x1x4096 .f32) (x2 x3 : Vec Ideal S64x4096 .f32)

/-- An entry of the block of slab `r` and row `b`. -/
def entry (r : Fin 4) (b : Fin 64) (l : Fin 4096) : EReal := x0 (ix3 r 0 l) * x2 (ix2 b l) - x1 (ix3 r 0 l) * x3 (ix2 b l)

theorem ldT (x : Vec Ideal S64x4096 .f32) (b : Fin 64) (l : Fin 4096) : View.ld x r0_0 (ix2 b l) = x (ix2 b l) := by
  pointwise [r0_0]
  blk_ext []
theorem ld1 (x : Vec Ideal S4x1x4096 .f32) (l : Fin 4096) : View.ld x r0_1 (ix3 0 0 l) = x (ix3 0 0 l) := by
  pointwise [r0_1]
  blk_ext []
theorem ld3 (x : Vec Ideal S4x1x4096 .f32) (l : Fin 4096) : View.ld x r0_3 (ix3 0 0 l) = x (ix3 1 0 l) := by
  pointwise [r0_3]
  blk_ext []
theorem ld5 (x : Vec Ideal S4x1x4096 .f32) (l : Fin 4096) : View.ld x r0_5 (ix3 0 0 l) = x (ix3 2 0 l) := by
  pointwise [r0_5]
  blk_ext []
theorem ld7 (x : Vec Ideal S4x1x4096 .f32) (l : Fin 4096) : View.ld x r0_7 (ix3 0 0 l) = x (ix3 3 0 l) := by
  pointwise [r0_7]
  blk_ext []

theorem pay5_at (a c : Vec Ideal S64x4096 .f32) (p q : Vec Ideal S1x1x4096 .f32) (b : Fin 64) (l : Fin 4096) :
    k0_pay5 (F := Ideal) a c p q (ix2 b l) = (p (ix3 0 0 l) * a (ix2 b l) - q (ix3 0 0 l) * c (ix2 b l) : EReal) := by
  pointwise [k0_pay5, k0_pay3, k0_pay4]
theorem pay6_at (a c : Vec Ideal S64x4096 .f32) (p q : Vec Ideal S1x1x4096 .f32) (b : Fin 64) (l : Fin 4096) :
    k0_pay6 (F := Ideal) a c p q (ix2 b l) = (p (ix3 0 0 l) * a (ix2 b l) - q (ix3 0 0 l) * c (ix2 b l) : EReal) := by
  pointwise [k0_pay6, k0_pay3, k0_pay4]
theorem pay1_at (a c : Vec Ideal S64x4096 .f32) (p q : Vec Ideal S1x1x4096 .f32) (b : Fin 64) (l : Fin 4096) :
    k0_pay1 (F := Ideal) (k0_pay4 c) (k0_pay7 a p) q (ix2 b l) = (p (ix3 0 0 l) * a (ix2 b l) - q (ix3 0 0 l) * c (ix2 b l) : EReal) := by
  pointwise [k0_pay1, k0_pay7, k0_pay3, k0_pay4]
theorem pay2_at (a c : Vec Ideal S64x4096 .f32) (p q : Vec Ideal S1x1x4096 .f32) (b : Fin 64) (l : Fin 4096) :
    k0_pay2 (F := Ideal) (k0_pay3 a) (k0_pay4 c) p q (ix2 b l) = (p (ix3 0 0 l) * a (ix2 b l) - q (ix3 0 0 l) * c (ix2 b l) : EReal) := by
  pointwise [k0_pay2, k0_pay3, k0_pay4]

/-- The block, at each index. -/
def block (y : S256x4096.Idx) : EReal :=
  entry x0 x1 x2 x3 ⟨(y 0).val / 64, by have : (y 0).val < 256 := (y 0).isLt; omega⟩ ⟨(y 0).val % 64, by omega⟩ (y 1)

theorem block_at (r : Fin 4) (b : Fin 64) (l : Fin 4096) (y : S256x4096.Idx) (h0 : (y 0).val = r.val * 64 + b.val) (h1 : (y 1).val = l.val) :
    entry x0 x1 x2 x3 r b l = block x0 x1 x2 x3 y := by
  unfold block
  have e0 : r = ⟨(y 0).val / 64, by omega⟩ := Fin.ext (by show r.val = (y 0).val / 64; omega)
  have e1 : b = ⟨(y 0).val % 64, by omega⟩ := Fin.ext (by show b.val = (y 0).val % 64; omega)
  have e2 : l = y 1 := Fin.ext h1.symm
  rw [← e0, ← e1, ← e2]

theorem out_eq (y : S256x4096.Idx) : out0_4 (F := Ideal) x0 x1 x2 x3 y = block x0 x1 x2 x3 y := by
  unfold_out out0_4
  refine View.canon_eq_of_allAt _ y _ (cover0_4 _ _ _ _ y) ?_
  refine View.allAt_cons _ _ _ (fun x hx => ?_) (View.allAt_cons _ _ _ (fun x hx => ?_) (View.allAt_cons _ _ _ (fun x hx => ?_)
    (View.allAt_cons _ _ _ (fun x hx => ?_) (fun p hp => absurd hp List.not_mem_nil)))) <;> subst hx <;> idx_vars x
  · refine (pay2_at _ _ _ _ x0 x1).trans ?_
    rw [ldT, ldT, ld7, ld7]
    exact block_at _ _ _ _ 3 x0 x1 _ (by show 192 + 1 * x0.val = 3 * 64 + x0.val; omega) (by show 0 + 1 * x1.val = x1.val; omega)
  · refine (pay1_at _ _ _ _ x0 x1).trans ?_
    rw [ldT, ldT, ld5, ld5]
    exact block_at _ _ _ _ 2 x0 x1 _ (by show 128 + 1 * x0.val = 2 * 64 + x0.val; omega) (by show 0 + 1 * x1.val = x1.val; omega)
  · refine (pay6_at _ _ _ _ x0 x1).trans ?_
    rw [ldT, ldT, ld3, ld3]
    exact block_at _ _ _ _ 1 x0 x1 _ (by show 64 + 1 * x0.val = 1 * 64 + x0.val; omega) (by show 0 + 1 * x1.val = x1.val; omega)
  · refine (pay5_at _ _ _ _ x0 x1).trans ?_
    rw [ldT, ldT, ld1, ld1]
    exact block_at _ _ _ _ 0 x0 x1 _ (by show 0 + 1 * x0.val = 0 * 64 + x0.val; omega) (by show 0 + 1 * x1.val = x1.val; omega)
end Stores

end Cert.ConvIdeal.Turns
-- ==== Proof.ConvHostA.lean ====
module

public import proofs.«01_k».proof.Proof.Gen.ConvIdeal.Frame
public import proofs.«01_k».proof.Proof.ConvArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.ConvIdeal.Turns
open Cert.ConvIdeal Cert.ConvIdeal.Gen Cert.K

variable (m : (ℓ : Loc nD τ sig) → Buf (Elt Ideal) ℓ) (c : Dev nD)

set_option maxHeartbeats 4000000
theorem V_v25 : V m c main_v25 = broadcastInDim S16x1x4096 ![0, 2] bcast_S16x4096_S16x1x4096_0_2 (Host.cos coarse) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.ConvIdeal.Turns
-- ==== Proof.ConvHostB.lean ====
module

public import proofs.«01_k».proof.Proof.Gen.ConvIdeal.Frame
public import proofs.«01_k».proof.Proof.ConvArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.ConvIdeal.Turns
open Cert.ConvIdeal Cert.ConvIdeal.Gen Cert.K

variable (m : (ℓ : Loc nD τ sig) → Buf (Elt Ideal) ℓ) (c : Dev nD)

set_option maxHeartbeats 4000000
theorem V_v34 : V m c main_v34 = broadcastInDim S16x1x4096 ![0, 2] bcast_S16x4096_S16x1x4096_0_2 (Host.sin coarse) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.ConvIdeal.Turns
-- ==== Proof.ConvHostC.lean ====
module

public import proofs.«01_k».proof.Proof.Gen.ConvIdeal.Frame
public import proofs.«01_k».proof.Proof.ConvArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.ConvIdeal.Turns
open Cert.ConvIdeal Cert.ConvIdeal.Gen Cert.K

variable (m : (ℓ : Loc nD τ sig) → Buf (Elt Ideal) ℓ) (c : Dev nD)

set_option maxHeartbeats 4000000
theorem V_v51 : V m c main_v51 = select (broadcastInDim S64x4096 ![0, 1] bcast_S1x4096_S64x4096_0_1 isSin) (Host.sin fine) (Host.cos fine) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.ConvIdeal.Turns
-- ==== Proof.ConvHostD.lean ====
module

public import proofs.«01_k».proof.Proof.Gen.ConvIdeal.Frame
public import proofs.«01_k».proof.Proof.ConvArrays
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem

/-! Each array the host prepares for the table call is the one of that name. -/
namespace Cert.ConvIdeal.Turns
open Cert.ConvIdeal Cert.ConvIdeal.Gen Cert.K

variable (m : (ℓ : Loc nD τ sig) → Buf (Elt Ideal) ℓ) (c : Dev nD)

set_option maxHeartbeats 4000000
theorem V_v69 : V m c main_v69 = select (broadcastInDim S64x4096 ![0, 1] bcast_S1x4096_S64x4096_0_1 isSin) (Host.negf (Host.cos fine)) (Host.sin fine) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append]
  after_results
  rfl

end Cert.ConvIdeal.Turns
-- ==== Proof.ConvValue.lean ====
module

public import proofs.«01_k».proof.Proof.ConvBlock
public import proofs.«01_k».proof.Proof.ConvHostA
public import proofs.«01_k».proof.Proof.ConvHostB
public import proofs.«01_k».proof.Proof.ConvHostC
public import proofs.«01_k».proof.Proof.ConvHostD
public import Idealize.ShloMosaic.Lib.Pointwise
public import Idealize.ShloMosaic.Lib.Pipeline.ValueKit

@[expose] public section

set_option maxRecDepth 16384

noncomputable section
open Idealize.ShloMosaic Idealize.ShloMosaic.TcCoe Idealize.SL.Sem
open Idealize.ShloMosaic.Pipeline (Dat)

/-! The Hyena branch's table is the reference's. -/
namespace Cert.ConvIdeal.Turns
open Cert.ConvIdeal Cert.ConvIdeal.Gen Cert.K

/-! ## The windows -/

theorem idx : ∀ t : Fin cfg0.N, win0_0.index t = ![t.val, 0, 0] ∧ win0_1.index t = ![t.val, 0, 0] ∧ win0_2.index t = ![0, 0] ∧ win0_3.index t = ![0, 0]
    ∧ win0_4.index t = ![t.val, 0] ∧ t.val < 4 :=
  (by decide +kernel : ∀ t : Fin grid0.N, _)

variable (m : (ℓ : Loc nD τ sig) → Buf (Elt Ideal) ℓ) (c : Dev nD) (t : Fin cfg0.N)

theorem lt4 : t.val < 4 := (idx t).2.2.2.2.2

theorem at0 (r : Fin 4) (l : Fin 4096) : iblk m c 0 t (ix3 r 0 l) = Ideal.cos (coarse (ix2 ⟨t.val * 4 + r, by have := lt4 t; omega⟩ l)) := by
  have := lt4 t
  have e : iblk m c 0 t (ix3 r 0 l) = V m c main_v25 (ix3 ⟨t.val * 4 + r, by omega⟩ 0 l) := congrArg (V m c main_v25) (by blk_ext [idx t])
  rw [e, V_v25]
  pointwise []
theorem at1 (r : Fin 4) (l : Fin 4096) : iblk m c 1 t (ix3 r 0 l) = Ideal.sin (coarse (ix2 ⟨t.val * 4 + r, by have := lt4 t; omega⟩ l)) := by
  have := lt4 t
  have e : iblk m c 1 t (ix3 r 0 l) = V m c main_v34 (ix3 ⟨t.val * 4 + r, by omega⟩ 0 l) := congrArg (V m c main_v34) (by blk_ext [idx t])
  rw [e, V_v34]
  pointwise []

theorem pick (x y : FVec Ideal S64x4096 .f32) (b : Fin 64) (l : Fin 4096) :
    select (broadcastInDim S64x4096 ![0, 1] bcast_S1x4096_S64x4096_0_1 isSin) x y (ix2 b l)
      = if l.val / 512 % 2 = 1 then x (ix2 b l) else y (ix2 b l) := by
  have e : select (broadcastInDim S64x4096 ![0, 1] bcast_S1x4096_S64x4096_0_1 isSin) x y (ix2 b l)
      = if isSin (ix2 0 l) = 1#1 then x (ix2 b l) else y (ix2 b l) := by
    pointwise []
    rfl
  rw [e, isSin_at]
  by_cases h : l.val / 512 % 2 = 1
  · rw [if_pos h, if_pos h, if_pos rfl]
  · rw [if_neg h, if_neg h, if_neg (by decide)]

theorem at2 (b : Fin 64) (l : Fin 4096) : iblk m c 2 t (ix2 b l)
    = if l.val / 512 % 2 = 1 then Ideal.sin (fine (ix2 b l)) else Ideal.cos (fine (ix2 b l)) := by
  have e : iblk m c 2 t (ix2 b l) = V m c main_v51 (ix2 b l) := congrArg (V m c main_v51) (by blk_ext [idx t])
  rw [e, V_v51]
  exact pick _ _ b l
theorem at3 (b : Fin 64) (l : Fin 4096) : iblk m c 3 t (ix2 b l)
    = if l.val / 512 % 2 = 1 then -Ideal.cos (fine (ix2 b l)) else Ideal.sin (fine (ix2 b l)) := by
  have e : iblk m c 3 t (ix2 b l) = V m c main_v69 (ix2 b l) := congrArg (V m c main_v69) (by blk_ext [idx t])
  rw [e, V_v69]
  exact pick _ _ b l

/-! ## The result -/

abbrev REF : FVec Ideal S1024x4096 .bf16 := Cert.ConvRefIdeal.Read.val_main_v32 (F := Ideal)

theorem entry_eq (r : Fin 4) (b : Fin 64) (l : Fin 4096) :
    entry (iblk m c 0 t) (iblk m c 1 t) (iblk m c 2 t) (iblk m c 3 t) r b l
      = REF (ix2 ⟨t.val * 256 + (r.val * 64 + b.val), by have := lt4 t; omega⟩ l) := by
  have ht := lt4 t
  have hr := r.isLt
  have hb := b.isLt
  unfold entry
  rw [at0, at1, at2, at3]
  refine Eq.trans ?_ (ref_at _ _).symm
  have ea : coarse (ix2 ⟨t.val * 4 + r.val, by omega⟩ l) = Turn.turn4 (BitVec.ofNat 32 ((t.val * 256 + (r.val * 64 + b.val)) / 64) * 64#32) (pos l) := by
    rw [coarse_at, times_at]
    exact congrArg (fun n => Turn.turn4 (BitVec.ofNat 32 n * 64#32) (pos l)) (by show t.val * 4 + r.val = (t.val * 256 + (r.val * 64 + b.val)) / 64; omega)
  have eb : fine (ix2 b l) = Turn.turn4 (BitVec.ofNat 32 ((t.val * 256 + (r.val * 64 + b.val)) % 64)) (pos l) := by
    rw [fine_at, times_at]
    exact congrArg (fun n => Turn.turn4 (BitVec.ofNat 32 n) (pos l)) (by omega)
  rw [ea, eb]
  by_cases h : l.val / 512 % 2 = 1
  · rw [if_pos h, if_pos h, if_pos h]
    exact Turn.sin_add (Turn.num_turn4 _ _) (Turn.num_turn4 _ _)
  · rw [if_neg h, if_neg h, if_neg h]
    exact Turn.cos_add (Turn.num_turn4 _ _) (Turn.num_turn4 _ _)

/-- The whole table is the reference's. -/
theorem final4 : (dats m 0 c).arrAt 4 (cfgs 0).N = REF := by
  refine (dats m 0 c).arrAt_eq_of_covers 4 _ (by decide +kernel) fun t _ y => ?_
  blk_simp
  rw [after0_4]
  idx_vars y
  have ht := lt4 t
  have hy := y0.isLt
  refine (out_eq _ _ _ _ _).trans ((entry_eq m c t ⟨y0.val / 64, by omega⟩ ⟨y0.val % 64, by omega⟩ y1).trans (congrArg REF ?_))
  have e : t.val * 256 + (y0.val / 64 * 64 + y0.val % 64) = t.val * 256 + y0.val := by omega
  blk_ext [idx t, e]

end Cert.ConvIdeal.Turns
-- ==== Proof.ConvClaims.lean ====
module

public import proofs.«01_k».proof.Defs
public import proofs.«01_k».proof.Proof.ConvValue
public import proofs.«01_k».proof.Proof.Gen.Conv.Frame
public import proofs.«01_k».proof.Proof.Gen.ConvIdeal.Frame
public import proofs.«01_k».proof.Proof.Gen.ConvIdeal.Value
public import Idealize.ShloMosaic.Adequacy
public import Idealize.ShloMosaic.Init
public import Idealize.ShloMosaic.Lib.Quiescent

@[expose] public section

noncomputable section
open Idealize.ShloMosaic Idealize.SL.Sem

/-! The claims about the kernel of the Hyena branch's table. -/
namespace Cert.Proof.Conv

theorem ref_frame : Cert.quiescent_ConvRefIdeal := by
  intro m g _
  exact (θ_run Cert.ConvRefIdeal.defs _ _).mono (fun r h => ⟨fun c => trivial, sem_eq_zero_of_no_sems (by decide) r.2⟩)
    (Cert.ConvRefIdeal.Value.run (F := Ideal) m g)

theorem algebraic : Cert.algebraic_ConvIdeal_ConvRefIdeal := by
  intro m g m' g' hpre hagree
  refine ⟨fun c => Cert.ConvIdeal.Turns.REF, ?_, ?_⟩
  · refine (θ_run Cert.ConvIdeal.defs _ _).mono (fun r h c => ?_) (Cert.ConvIdeal.Gen.run_main (F := Ideal) m g)
    exact (Cert.ConvIdeal.Value.post4 m r h c).trans (Cert.ConvIdeal.Turns.final4 m c)
  · refine (θ_run Cert.ConvRefIdeal.defs _ _).mono (fun r h c => ?_) (Cert.ConvRefIdeal.Value.run (F := Ideal) m' g')
    exact (h c).trans (Cert.ConvRefIdeal.Read.val_main_v32_eq m' c)

end Cert.Proof.Conv
-- ==== Proof.lean ====
/- The claims, assembled. -/
module

public import proofs.«01_k».proof.Defs
public import proofs.«01_k».proof.Proof.Gen.Mla
public import proofs.«01_k».proof.Proof.Gen.MlaIdeal
public import proofs.«01_k».proof.Proof.Gen.MlaRefIdeal
public import proofs.«01_k».proof.Proof.Gen.Merge
public import proofs.«01_k».proof.Proof.Gen.MergeIdeal
public import proofs.«01_k».proof.Proof.Gen.MergeRefIdeal
public import proofs.«01_k».proof.Proof.Gen.Experts
public import proofs.«01_k».proof.Proof.Gen.ExpertsIdeal
public import proofs.«01_k».proof.Proof.Gen.ExpertsRefIdeal
public import proofs.«01_k».proof.Proof.Gen.Pre_finite_qk
public import proofs.«01_k».proof.Proof.Gen.Pre_finite_merge
public import proofs.«01_k».proof.Proof.Gen.Inproj
public import proofs.«01_k».proof.Proof.Gen.InprojIdeal
public import proofs.«01_k».proof.Proof.Gen.InprojRefIdeal
public import proofs.«01_k».proof.Proof.Gen.Pre_prepared_inproj
public import proofs.«01_k».proof.Proof.Gen.Fnet
public import proofs.«01_k».proof.Proof.Gen.FnetIdeal
public import proofs.«01_k».proof.Proof.Gen.FnetRefIdeal
public import proofs.«01_k».proof.Proof.Gen.Pre_finite_fnet
public import proofs.«01_k».proof.Proof.Gen.Fnet.Frame
public import proofs.«01_k».proof.Proof.Gen.FnetIdeal.Frame
public import proofs.«01_k».proof.Proof.Gen.FnetIdeal.Value
public import proofs.«01_k».proof.Proof.Gen.FnetIdeal.Skeleton
public import proofs.«01_k».proof.Proof.Gen.FnetRefIdeal.Run
public import proofs.«01_k».proof.Proof.Gen.FnetRefIdeal.Read
public import proofs.«01_k».proof.Proof.Gen.Weights
public import proofs.«01_k».proof.Proof.Gen.WeightsIdeal
public import proofs.«01_k».proof.Proof.Gen.WeightsRefIdeal
public import proofs.«01_k».proof.Proof.Gen.Weights.Frame
public import proofs.«01_k».proof.Proof.Gen.Weights.Skeleton
public import proofs.«01_k».proof.Proof.Gen.WeightsIdeal.Frame
public import proofs.«01_k».proof.Proof.Gen.WeightsIdeal.Skeleton
public import proofs.«01_k».proof.Proof.Gen.WeightsRefIdeal.Run
public import proofs.«01_k».proof.Proof.Gen.WeightsRefIdeal.Read
public import proofs.«01_k».proof.Proof.Gen.Conv
public import proofs.«01_k».proof.Proof.Gen.ConvIdeal
public import proofs.«01_k».proof.Proof.Gen.ConvRefIdeal
public import proofs.«01_k».proof.Proof.Gen.Table
public import proofs.«01_k».proof.Proof.Gen.TableIdeal
public import proofs.«01_k».proof.Proof.Gen.TableRefIdeal
public import proofs.«01_k».proof.Proof.MlaClaims
public import proofs.«01_k».proof.Proof.MergeClaims
public import proofs.«01_k».proof.Proof.ExpertsClaims
public import proofs.«01_k».proof.Proof.ProjClaims
public import proofs.«01_k».proof.Proof.WeightsClaims
public import proofs.«01_k».proof.Proof.FnetClaims
public import proofs.«01_k».proof.Proof.TableClaims
public import proofs.«01_k».proof.Proof.ConvClaims
public import Idealize.ShloMosaic.Adequacy
public import Idealize.ShloMosaic.Init

@[expose] public section

noncomputable section

namespace Cert.Proof

open Idealize.ShloMosaic Idealize.SL.Sem

theorem claim : Cert.Claim :=
  ⟨Cert.Mla.Gen.facts, Cert.MlaIdeal.Gen.facts, Cert.MlaRefIdeal.Gen.facts, Cert.Merge.Gen.facts, Cert.MergeIdeal.Gen.facts,
    Cert.MergeRefIdeal.Gen.facts, Cert.Experts.Gen.facts, Cert.ExpertsIdeal.Gen.facts, Cert.ExpertsRefIdeal.Gen.facts,
    Cert.Inproj.Gen.facts, Cert.InprojIdeal.Gen.facts, Cert.InprojRefIdeal.Gen.facts,
    Cert.Weights.Gen.facts, Cert.WeightsIdeal.Gen.facts, Cert.WeightsRefIdeal.Gen.facts,
    Cert.Fnet.Gen.facts, Cert.FnetIdeal.Gen.facts, Cert.FnetRefIdeal.Gen.facts,
    Cert.Table.Gen.facts, Cert.TableIdeal.Gen.facts, Cert.TableRefIdeal.Gen.facts,
    Cert.Conv.Gen.facts, Cert.ConvIdeal.Gen.facts, Cert.ConvRefIdeal.Gen.facts,
    Cert.Pre_finite_qk.Gen.facts, Cert.Pre_finite_merge.Gen.facts, Cert.Pre_prepared_inproj.Gen.facts, Cert.Pre_finite_fnet.Gen.facts,
    fun m ρ _ => Cert.Mla.Gen.frame m ρ, fun m ρ _ => Cert.MlaIdeal.Gen.frame m ρ, fun m ρ _ => Cert.MlaIdeal.Gen.frame m ρ,
    Mla.ref_frame, Mla.ref_frame_pre,
    fun m ρ _ => Cert.Merge.Gen.frame m ρ, fun m ρ _ => Cert.MergeIdeal.Gen.frame m ρ, fun m ρ _ => Cert.MergeIdeal.Gen.frame m ρ,
    Merge.ref_frame, Merge.ref_frame_pre,
    fun m ρ _ => Cert.Experts.Hand.frame m ρ, fun m ρ _ => Cert.ExpertsIdeal.Hand.frame m ρ, Experts.ref_frame,
    fun m ρ _ => Cert.Inproj.Gen.frame m ρ, fun m ρ _ => Cert.InprojIdeal.Gen.frame m ρ, fun m ρ _ => Cert.InprojIdeal.Gen.frame m ρ,
    Inproj.ref_frame, Inproj.ref_frame_pre,
    fun m ρ _ => Cert.Weights.Hand.frame m ρ, fun m ρ _ => Cert.WeightsIdeal.Hand.frame m ρ, Weights.ref_frame,
    fun m ρ _ => Cert.Fnet.Gen.frame m ρ, fun m ρ _ => Cert.FnetIdeal.Gen.frame m ρ, fun m ρ _ => Cert.FnetIdeal.Gen.frame m ρ,
    Fnet.ref_frame, Fnet.ref_frame_pre,
    fun m ρ _ => Cert.Table.Gen.frame m ρ, fun m ρ _ => Cert.TableIdeal.Gen.frame m ρ, Table.ref_frame,
    fun m ρ _ => Cert.Conv.Gen.frame m ρ, fun m ρ _ => Cert.ConvIdeal.Gen.frame m ρ, Conv.ref_frame,
    trivial, Mla.algebraic, trivial, Merge.algebraic, trivial, Experts.algebraic, trivial, Inproj.algebraic,
    trivial, Weights.algebraic, trivial, Fnet.algebraic, trivial, Table.algebraic,
    trivial, Conv.algebraic⟩

end Cert.Proof

end
